-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FfnSampleKernel (m : (ℓ : Loc Cert.FfnSampleKernel.nD Cert.FfnSampleKernel.τ Cert.FfnSampleKernel.sig) → Buf (Elt Bits) ℓ) : Prop :=
  True

def Pre_FfnSampleKernelIdeal (m : (ℓ : Loc Cert.FfnSampleKernelIdeal.nD Cert.FfnSampleKernelIdeal.τ Cert.FfnSampleKernelIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_ProjSampleKernel (m : (ℓ : Loc Cert.ProjSampleKernel.nD Cert.ProjSampleKernel.τ Cert.ProjSampleKernel.sig) → Buf (Elt Bits) ℓ) : Prop :=
  True

def Pre_ProjSampleKernelIdeal (m : (ℓ : Loc Cert.ProjSampleKernelIdeal.nD Cert.ProjSampleKernelIdeal.τ Cert.ProjSampleKernelIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_MergeSampleKernel (m : (ℓ : Loc Cert.MergeSampleKernel.nD Cert.MergeSampleKernel.τ Cert.MergeSampleKernel.sig) → Buf (Elt Bits) ℓ) : Prop :=
  True

def Pre_MergeSampleKernelIdeal (m : (ℓ : Loc Cert.MergeSampleKernelIdeal.nD Cert.MergeSampleKernelIdeal.τ Cert.MergeSampleKernelIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_CompressKernel (m : (ℓ : Loc Cert.CompressKernel.nD Cert.CompressKernel.τ Cert.CompressKernel.sig) → Buf (Elt Bits) ℓ) : Prop :=
  True

def Pre_CompressKernelIdeal (m : (ℓ : Loc Cert.CompressKernelIdeal.nD Cert.CompressKernelIdeal.τ Cert.CompressKernelIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_FfnSampleKernel [hFfnSampleKernel : Cert.FfnSampleKernel.Facts] : Prop :=
  ∀ (m : (ℓ : Loc Cert.FfnSampleKernel.nD Cert.FfnSampleKernel.τ Cert.FfnSampleKernel.sig) → Buf (Elt Bits) ℓ) (g : Dev Cert.FfnSampleKernel.nD → PrngReg), Pre_FfnSampleKernel m →
    θ_run (Cert.FfnSampleKernel.defs (F := Bits)) (onTc (τ := Cert.FfnSampleKernel.τ) (Cert.FfnSampleKernel.main (F := Bits))) ⟨m, fun _ => 0, g⟩ (fun r => (∀ c : Dev Cert.FfnSampleKernel.nD,
      r.2.mem ((c.tc : Thread Cert.FfnSampleKernel.nD Cert.FfnSampleKernel.τ).loc Cert.FfnSampleKernel.main_arg0) = m ((c.tc : Thread Cert.FfnSampleKernel.nD Cert.FfnSampleKernel.τ).loc Cert.FfnSampleKernel.main_arg0)
      ∧ r.2.mem ((c.tc : Thread Cert.FfnSampleKernel.nD Cert.FfnSampleKernel.τ).loc Cert.FfnSampleKernel.main_arg1) = m ((c.tc : Thread Cert.FfnSampleKernel.nD Cert.FfnSampleKernel.τ).loc Cert.FfnSampleKernel.main_arg1)
      ∧ r.2.mem ((c.tc : Thread Cert.FfnSampleKernel.nD Cert.FfnSampleKernel.τ).loc Cert.FfnSampleKernel.main_arg2) = m ((c.tc : Thread Cert.FfnSampleKernel.nD Cert.FfnSampleKernel.τ).loc Cert.FfnSampleKernel.main_arg2)
      ∧ r.2.mem ((c.tc : Thread Cert.FfnSampleKernel.nD Cert.FfnSampleKernel.τ).loc Cert.FfnSampleKernel.main_arg3) = m ((c.tc : Thread Cert.FfnSampleKernel.nD Cert.FfnSampleKernel.τ).loc Cert.FfnSampleKernel.main_arg3)
      ∧ r.2.mem ((c.tc : Thread Cert.FfnSampleKernel.nD Cert.FfnSampleKernel.τ).loc Cert.FfnSampleKernel.main_arg4) = m ((c.tc : Thread Cert.FfnSampleKernel.nD Cert.FfnSampleKernel.τ).loc Cert.FfnSampleKernel.main_arg4)
      ∧ r.2.mem ((c.tc : Thread Cert.FfnSampleKernel.nD Cert.FfnSampleKernel.τ).loc Cert.FfnSampleKernel.main_arg5) = m ((c.tc : Thread Cert.FfnSampleKernel.nD Cert.FfnSampleKernel.τ).loc Cert.FfnSampleKernel.main_arg5))
      ∧ r.2.sem = fun _ => 0)

def quiescent_FfnSampleKernelIdeal [hFfnSampleKernelIdeal : Cert.FfnSampleKernelIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg), Pre_FfnSampleKernelIdeal m →
    θ_run (Cert.FfnSampleKernelIdeal.defs (F := Ideal)) (onTc (τ := Cert.FfnSampleKernelIdeal.τ) (Cert.FfnSampleKernelIdeal.main (F := Ideal))) ⟨m, fun _ => 0, g⟩ (fun r => (∀ c : Dev Cert.FfnSampleKernelIdeal.nD,
      r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
      ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
      ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
      ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
      ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
      ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5))
      ∧ r.2.sem = fun _ => 0)

def quiescent_ProjSampleKernel [hProjSampleKernel : Cert.ProjSampleKernel.Facts] : Prop :=
  ∀ (m : (ℓ : Loc Cert.ProjSampleKernel.nD Cert.ProjSampleKernel.τ Cert.ProjSampleKernel.sig) → Buf (Elt Bits) ℓ) (g : Dev Cert.ProjSampleKernel.nD → PrngReg), Pre_ProjSampleKernel m →
    θ_run (Cert.ProjSampleKernel.defs (F := Bits)) (onTc (τ := Cert.ProjSampleKernel.τ) (Cert.ProjSampleKernel.main (F := Bits))) ⟨m, fun _ => 0, g⟩ (fun r => (∀ c : Dev Cert.ProjSampleKernel.nD,
      r.2.mem ((c.tc : Thread Cert.ProjSampleKernel.nD Cert.ProjSampleKernel.τ).loc Cert.ProjSampleKernel.main_arg0) = m ((c.tc : Thread Cert.ProjSampleKernel.nD Cert.ProjSampleKernel.τ).loc Cert.ProjSampleKernel.main_arg0)
      ∧ r.2.mem ((c.tc : Thread Cert.ProjSampleKernel.nD Cert.ProjSampleKernel.τ).loc Cert.ProjSampleKernel.main_arg1) = m ((c.tc : Thread Cert.ProjSampleKernel.nD Cert.ProjSampleKernel.τ).loc Cert.ProjSampleKernel.main_arg1)
      ∧ r.2.mem ((c.tc : Thread Cert.ProjSampleKernel.nD Cert.ProjSampleKernel.τ).loc Cert.ProjSampleKernel.main_arg2) = m ((c.tc : Thread Cert.ProjSampleKernel.nD Cert.ProjSampleKernel.τ).loc Cert.ProjSampleKernel.main_arg2)
      ∧ r.2.mem ((c.tc : Thread Cert.ProjSampleKernel.nD Cert.ProjSampleKernel.τ).loc Cert.ProjSampleKernel.main_arg3) = m ((c.tc : Thread Cert.ProjSampleKernel.nD Cert.ProjSampleKernel.τ).loc Cert.ProjSampleKernel.main_arg3))
      ∧ r.2.sem = fun _ => 0)

def quiescent_ProjSampleKernelIdeal [hProjSampleKernelIdeal : Cert.ProjSampleKernelIdeal.Facts] : Prop :=
  ∀ (m : (ℓ : Loc Cert.ProjSampleKernelIdeal.nD Cert.ProjSampleKernelIdeal.τ Cert.ProjSampleKernelIdeal.sig) → Buf (Elt Ideal) ℓ) (g : Dev Cert.ProjSampleKernelIdeal.nD → PrngReg), Pre_ProjSampleKernelIdeal m →
    θ_run (Cert.ProjSampleKernelIdeal.defs (F := Ideal)) (onTc (τ := Cert.ProjSampleKernelIdeal.τ) (Cert.ProjSampleKernelIdeal.main (F := Ideal))) ⟨m, fun _ => 0, g⟩ (fun r => (∀ c : Dev Cert.ProjSampleKernelIdeal.nD,
      r.2.mem ((c.tc : Thread Cert.ProjSampleKernelIdeal.nD Cert.ProjSampleKernelIdeal.τ).loc Cert.ProjSampleKernelIdeal.main_arg0) = m ((c.tc : Thread Cert.ProjSampleKernelIdeal.nD Cert.ProjSampleKernelIdeal.τ).loc Cert.ProjSampleKernelIdeal.main_arg0)
      ∧ r.2.mem ((c.tc : Thread Cert.ProjSampleKernelIdeal.nD Cert.ProjSampleKernelIdeal.τ).loc Cert.ProjSampleKernelIdeal.main_arg1) = m ((c.tc : Thread Cert.ProjSampleKernelIdeal.nD Cert.ProjSampleKernelIdeal.τ).loc Cert.ProjSampleKernelIdeal.main_arg1)
      ∧ r.2.mem ((c.tc : Thread Cert.ProjSampleKernelIdeal.nD Cert.ProjSampleKernelIdeal.τ).loc Cert.ProjSampleKernelIdeal.main_arg2) = m ((c.tc : Thread Cert.ProjSampleKernelIdeal.nD Cert.ProjSampleKernelIdeal.τ).loc Cert.ProjSampleKernelIdeal.main_arg2)
      ∧ r.2.mem ((c.tc : Thread Cert.ProjSampleKernelIdeal.nD Cert.ProjSampleKernelIdeal.τ).loc Cert.ProjSampleKernelIdeal.main_arg3) = m ((c.tc : Thread Cert.ProjSampleKernelIdeal.nD Cert.ProjSampleKernelIdeal.τ).loc Cert.ProjSampleKernelIdeal.main_arg3))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3))
      ∧ r.2.sem = fun _ => 0)

def quiescent_MergeSampleKernel [hMergeSampleKernel : Cert.MergeSampleKernel.Facts] : Prop :=
  ∀ (m : (ℓ : Loc Cert.MergeSampleKernel.nD Cert.MergeSampleKernel.τ Cert.MergeSampleKernel.sig) → Buf (Elt Bits) ℓ) (g : Dev Cert.MergeSampleKernel.nD → PrngReg), Pre_MergeSampleKernel m →
    θ_run (Cert.MergeSampleKernel.defs (F := Bits)) (onTc (τ := Cert.MergeSampleKernel.τ) (Cert.MergeSampleKernel.main (F := Bits))) ⟨m, fun _ => 0, g⟩ (fun r => (∀ c : Dev Cert.MergeSampleKernel.nD,
      r.2.mem ((c.tc : Thread Cert.MergeSampleKernel.nD Cert.MergeSampleKernel.τ).loc Cert.MergeSampleKernel.main_arg0) = m ((c.tc : Thread Cert.MergeSampleKernel.nD Cert.MergeSampleKernel.τ).loc Cert.MergeSampleKernel.main_arg0)
      ∧ r.2.mem ((c.tc : Thread Cert.MergeSampleKernel.nD Cert.MergeSampleKernel.τ).loc Cert.MergeSampleKernel.main_arg1) = m ((c.tc : Thread Cert.MergeSampleKernel.nD Cert.MergeSampleKernel.τ).loc Cert.MergeSampleKernel.main_arg1)
      ∧ r.2.mem ((c.tc : Thread Cert.MergeSampleKernel.nD Cert.MergeSampleKernel.τ).loc Cert.MergeSampleKernel.main_arg2) = m ((c.tc : Thread Cert.MergeSampleKernel.nD Cert.MergeSampleKernel.τ).loc Cert.MergeSampleKernel.main_arg2)
      ∧ r.2.mem ((c.tc : Thread Cert.MergeSampleKernel.nD Cert.MergeSampleKernel.τ).loc Cert.MergeSampleKernel.main_arg3) = m ((c.tc : Thread Cert.MergeSampleKernel.nD Cert.MergeSampleKernel.τ).loc Cert.MergeSampleKernel.main_arg3)
      ∧ r.2.mem ((c.tc : Thread Cert.MergeSampleKernel.nD Cert.MergeSampleKernel.τ).loc Cert.MergeSampleKernel.main_arg4) = m ((c.tc : Thread Cert.MergeSampleKernel.nD Cert.MergeSampleKernel.τ).loc Cert.MergeSampleKernel.main_arg4)
      ∧ r.2.mem ((c.tc : Thread Cert.MergeSampleKernel.nD Cert.MergeSampleKernel.τ).loc Cert.MergeSampleKernel.main_arg5) = m ((c.tc : Thread Cert.MergeSampleKernel.nD Cert.MergeSampleKernel.τ).loc Cert.MergeSampleKernel.main_arg5)
      ∧ r.2.mem ((c.tc : Thread Cert.MergeSampleKernel.nD Cert.MergeSampleKernel.τ).loc Cert.MergeSampleKernel.main_arg6) = m ((c.tc : Thread Cert.MergeSampleKernel.nD Cert.MergeSampleKernel.τ).loc Cert.MergeSampleKernel.main_arg6)
      ∧ r.2.mem ((c.tc : Thread Cert.MergeSampleKernel.nD Cert.MergeSampleKernel.τ).loc Cert.MergeSampleKernel.main_arg7) = m ((c.tc : Thread Cert.MergeSampleKernel.nD Cert.MergeSampleKernel.τ).loc Cert.MergeSampleKernel.main_arg7)
      ∧ r.2.mem ((c.tc : Thread Cert.MergeSampleKernel.nD Cert.MergeSampleKernel.τ).loc Cert.MergeSampleKernel.main_arg8) = m ((c.tc : Thread Cert.MergeSampleKernel.nD Cert.MergeSampleKernel.τ).loc Cert.MergeSampleKernel.main_arg8))
      ∧ r.2.sem = fun _ => 0)

def quiescent_MergeSampleKernelIdeal [hMergeSampleKernelIdeal : Cert.MergeSampleKernelIdeal.Facts] : Prop :=
  ∀ (m : (ℓ : Loc Cert.MergeSampleKernelIdeal.nD Cert.MergeSampleKernelIdeal.τ Cert.MergeSampleKernelIdeal.sig) → Buf (Elt Ideal) ℓ) (g : Dev Cert.MergeSampleKernelIdeal.nD → PrngReg), Pre_MergeSampleKernelIdeal m →
    θ_run (Cert.MergeSampleKernelIdeal.defs (F := Ideal)) (onTc (τ := Cert.MergeSampleKernelIdeal.τ) (Cert.MergeSampleKernelIdeal.main (F := Ideal))) ⟨m, fun _ => 0, g⟩ (fun r => (∀ c : Dev Cert.MergeSampleKernelIdeal.nD,
      r.2.mem ((c.tc : Thread Cert.MergeSampleKernelIdeal.nD Cert.MergeSampleKernelIdeal.τ).loc Cert.MergeSampleKernelIdeal.main_arg0) = m ((c.tc : Thread Cert.MergeSampleKernelIdeal.nD Cert.MergeSampleKernelIdeal.τ).loc Cert.MergeSampleKernelIdeal.main_arg0)
      ∧ r.2.mem ((c.tc : Thread Cert.MergeSampleKernelIdeal.nD Cert.MergeSampleKernelIdeal.τ).loc Cert.MergeSampleKernelIdeal.main_arg1) = m ((c.tc : Thread Cert.MergeSampleKernelIdeal.nD Cert.MergeSampleKernelIdeal.τ).loc Cert.MergeSampleKernelIdeal.main_arg1)
      ∧ r.2.mem ((c.tc : Thread Cert.MergeSampleKernelIdeal.nD Cert.MergeSampleKernelIdeal.τ).loc Cert.MergeSampleKernelIdeal.main_arg2) = m ((c.tc : Thread Cert.MergeSampleKernelIdeal.nD Cert.MergeSampleKernelIdeal.τ).loc Cert.MergeSampleKernelIdeal.main_arg2)
      ∧ r.2.mem ((c.tc : Thread Cert.MergeSampleKernelIdeal.nD Cert.MergeSampleKernelIdeal.τ).loc Cert.MergeSampleKernelIdeal.main_arg3) = m ((c.tc : Thread Cert.MergeSampleKernelIdeal.nD Cert.MergeSampleKernelIdeal.τ).loc Cert.MergeSampleKernelIdeal.main_arg3)
      ∧ r.2.mem ((c.tc : Thread Cert.MergeSampleKernelIdeal.nD Cert.MergeSampleKernelIdeal.τ).loc Cert.MergeSampleKernelIdeal.main_arg4) = m ((c.tc : Thread Cert.MergeSampleKernelIdeal.nD Cert.MergeSampleKernelIdeal.τ).loc Cert.MergeSampleKernelIdeal.main_arg4)
      ∧ r.2.mem ((c.tc : Thread Cert.MergeSampleKernelIdeal.nD Cert.MergeSampleKernelIdeal.τ).loc Cert.MergeSampleKernelIdeal.main_arg5) = m ((c.tc : Thread Cert.MergeSampleKernelIdeal.nD Cert.MergeSampleKernelIdeal.τ).loc Cert.MergeSampleKernelIdeal.main_arg5)
      ∧ r.2.mem ((c.tc : Thread Cert.MergeSampleKernelIdeal.nD Cert.MergeSampleKernelIdeal.τ).loc Cert.MergeSampleKernelIdeal.main_arg6) = m ((c.tc : Thread Cert.MergeSampleKernelIdeal.nD Cert.MergeSampleKernelIdeal.τ).loc Cert.MergeSampleKernelIdeal.main_arg6)
      ∧ r.2.mem ((c.tc : Thread Cert.MergeSampleKernelIdeal.nD Cert.MergeSampleKernelIdeal.τ).loc Cert.MergeSampleKernelIdeal.main_arg7) = m ((c.tc : Thread Cert.MergeSampleKernelIdeal.nD Cert.MergeSampleKernelIdeal.τ).loc Cert.MergeSampleKernelIdeal.main_arg7)
      ∧ r.2.mem ((c.tc : Thread Cert.MergeSampleKernelIdeal.nD Cert.MergeSampleKernelIdeal.τ).loc Cert.MergeSampleKernelIdeal.main_arg8) = m ((c.tc : Thread Cert.MergeSampleKernelIdeal.nD Cert.MergeSampleKernelIdeal.τ).loc Cert.MergeSampleKernelIdeal.main_arg8))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7)
      ∧ r.2.mem ((c.tc : Thread Cert.MergeSampleReferenceIdeal.nD Cert.MergeSampleReferenceIdeal.τ).loc Cert.MergeSampleReferenceIdeal.main_arg8) = m ((c.tc : Thread Cert.MergeSampleReferenceIdeal.nD Cert.MergeSampleReferenceIdeal.τ).loc Cert.MergeSampleReferenceIdeal.main_arg8))
      ∧ r.2.sem = fun _ => 0)

def quiescent_CompressKernel [hCompressKernel : Cert.CompressKernel.Facts] : Prop :=
  ∀ (m : (ℓ : Loc Cert.CompressKernel.nD Cert.CompressKernel.τ Cert.CompressKernel.sig) → Buf (Elt Bits) ℓ) (g : Dev Cert.CompressKernel.nD → PrngReg), Pre_CompressKernel m →
    θ_run (Cert.CompressKernel.defs (F := Bits)) (onTc (τ := Cert.CompressKernel.τ) (Cert.CompressKernel.main (F := Bits))) ⟨m, fun _ => 0, g⟩ (fun r => (∀ c : Dev Cert.CompressKernel.nD,
      r.2.mem ((c.tc : Thread Cert.CompressKernel.nD Cert.CompressKernel.τ).loc Cert.CompressKernel.main_arg0) = m ((c.tc : Thread Cert.CompressKernel.nD Cert.CompressKernel.τ).loc Cert.CompressKernel.main_arg0)
      ∧ r.2.mem ((c.tc : Thread Cert.CompressKernel.nD Cert.CompressKernel.τ).loc Cert.CompressKernel.main_arg1) = m ((c.tc : Thread Cert.CompressKernel.nD Cert.CompressKernel.τ).loc Cert.CompressKernel.main_arg1)
      ∧ r.2.mem ((c.tc : Thread Cert.CompressKernel.nD Cert.CompressKernel.τ).loc Cert.CompressKernel.main_arg2) = m ((c.tc : Thread Cert.CompressKernel.nD Cert.CompressKernel.τ).loc Cert.CompressKernel.main_arg2)
      ∧ r.2.mem ((c.tc : Thread Cert.CompressKernel.nD Cert.CompressKernel.τ).loc Cert.CompressKernel.main_arg3) = m ((c.tc : Thread Cert.CompressKernel.nD Cert.CompressKernel.τ).loc Cert.CompressKernel.main_arg3)
      ∧ r.2.mem ((c.tc : Thread Cert.CompressKernel.nD Cert.CompressKernel.τ).loc Cert.CompressKernel.main_arg4) = m ((c.tc : Thread Cert.CompressKernel.nD Cert.CompressKernel.τ).loc Cert.CompressKernel.main_arg4)
      ∧ r.2.mem ((c.tc : Thread Cert.CompressKernel.nD Cert.CompressKernel.τ).loc Cert.CompressKernel.main_arg5) = m ((c.tc : Thread Cert.CompressKernel.nD Cert.CompressKernel.τ).loc Cert.CompressKernel.main_arg5)
      ∧ r.2.mem ((c.tc : Thread Cert.CompressKernel.nD Cert.CompressKernel.τ).loc Cert.CompressKernel.main_arg6) = m ((c.tc : Thread Cert.CompressKernel.nD Cert.CompressKernel.τ).loc Cert.CompressKernel.main_arg6))
      ∧ r.2.sem = fun _ => 0)

def quiescent_CompressKernelIdeal [hCompressKernelIdeal : Cert.CompressKernelIdeal.Facts] : Prop :=
  ∀ (m : (ℓ : Loc Cert.CompressKernelIdeal.nD Cert.CompressKernelIdeal.τ Cert.CompressKernelIdeal.sig) → Buf (Elt Ideal) ℓ) (g : Dev Cert.CompressKernelIdeal.nD → PrngReg), Pre_CompressKernelIdeal m →
    θ_run (Cert.CompressKernelIdeal.defs (F := Ideal)) (onTc (τ := Cert.CompressKernelIdeal.τ) (Cert.CompressKernelIdeal.main (F := Ideal))) ⟨m, fun _ => 0, g⟩ (fun r => (∀ c : Dev Cert.CompressKernelIdeal.nD,
      r.2.mem ((c.tc : Thread Cert.CompressKernelIdeal.nD Cert.CompressKernelIdeal.τ).loc Cert.CompressKernelIdeal.main_arg0) = m ((c.tc : Thread Cert.CompressKernelIdeal.nD Cert.CompressKernelIdeal.τ).loc Cert.CompressKernelIdeal.main_arg0)
      ∧ r.2.mem ((c.tc : Thread Cert.CompressKernelIdeal.nD Cert.CompressKernelIdeal.τ).loc Cert.CompressKernelIdeal.main_arg1) = m ((c.tc : Thread Cert.CompressKernelIdeal.nD Cert.CompressKernelIdeal.τ).loc Cert.CompressKernelIdeal.main_arg1)
      ∧ r.2.mem ((c.tc : Thread Cert.CompressKernelIdeal.nD Cert.CompressKernelIdeal.τ).loc Cert.CompressKernelIdeal.main_arg2) = m ((c.tc : Thread Cert.CompressKernelIdeal.nD Cert.CompressKernelIdeal.τ).loc Cert.CompressKernelIdeal.main_arg2)
      ∧ r.2.mem ((c.tc : Thread Cert.CompressKernelIdeal.nD Cert.CompressKernelIdeal.τ).loc Cert.CompressKernelIdeal.main_arg3) = m ((c.tc : Thread Cert.CompressKernelIdeal.nD Cert.CompressKernelIdeal.τ).loc Cert.CompressKernelIdeal.main_arg3)
      ∧ r.2.mem ((c.tc : Thread Cert.CompressKernelIdeal.nD Cert.CompressKernelIdeal.τ).loc Cert.CompressKernelIdeal.main_arg4) = m ((c.tc : Thread Cert.CompressKernelIdeal.nD Cert.CompressKernelIdeal.τ).loc Cert.CompressKernelIdeal.main_arg4)
      ∧ r.2.mem ((c.tc : Thread Cert.CompressKernelIdeal.nD Cert.CompressKernelIdeal.τ).loc Cert.CompressKernelIdeal.main_arg5) = m ((c.tc : Thread Cert.CompressKernelIdeal.nD Cert.CompressKernelIdeal.τ).loc Cert.CompressKernelIdeal.main_arg5)
      ∧ r.2.mem ((c.tc : Thread Cert.CompressKernelIdeal.nD Cert.CompressKernelIdeal.τ).loc Cert.CompressKernelIdeal.main_arg6) = m ((c.tc : Thread Cert.CompressKernelIdeal.nD Cert.CompressKernelIdeal.τ).loc Cert.CompressKernelIdeal.main_arg6))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v37) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v27_3)) (v1 : (c : Dev Cert.ProjKernelIdeal.nD) → Buf (Elt Ideal) ((c.tc : Thread Cert.ProjKernelIdeal.nD Cert.ProjKernelIdeal.τ).loc Cert.ProjKernelIdeal.main_v27_1)) (v2 : (c : Dev Cert.ProjKernelIdeal.nD) → Buf (Elt Ideal) ((c.tc : Thread Cert.ProjKernelIdeal.nD Cert.ProjKernelIdeal.τ).loc Cert.ProjKernelIdeal.main_v27_4)) (v3 : (c : Dev Cert.ProjKernelIdeal.nD) → Buf (Elt Ideal) ((c.tc : Thread Cert.ProjKernelIdeal.nD Cert.ProjKernelIdeal.τ).loc Cert.ProjKernelIdeal.main_v27_5)) (v4 : (c : Dev Cert.ProjKernelIdeal.nD) → Buf (Elt Ideal) ((c.tc : Thread Cert.ProjKernelIdeal.nD Cert.ProjKernelIdeal.τ).loc Cert.ProjKernelIdeal.main_v27_6)) (v5 : (c : Dev Cert.ProjKernelIdeal.nD) → Buf (Elt Ideal) ((c.tc : Thread Cert.ProjKernelIdeal.nD Cert.ProjKernelIdeal.τ).loc Cert.ProjKernelIdeal.main_v27_7)) (v6 : (c : Dev Cert.ProjKernelIdeal.nD) → Buf (Elt Ideal) ((c.tc : Thread Cert.ProjKernelIdeal.nD Cert.ProjKernelIdeal.τ).loc Cert.ProjKernelIdeal.main_v27_8)) (v7 : (c : Dev Cert.ProjKernelIdeal.nD) → Buf (Elt Ideal) ((c.tc : Thread Cert.ProjKernelIdeal.nD Cert.ProjKernelIdeal.τ).loc Cert.ProjKernelIdeal.main_v27_10)) (v8 : (c : Dev Cert.ProjKernelIdeal.nD) → Buf (Elt Ideal) ((c.tc : Thread Cert.ProjKernelIdeal.nD Cert.ProjKernelIdeal.τ).loc Cert.ProjKernelIdeal.main_v27_12)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v27_3) = v0 c
          ∧ r.2.mem ((c.tc : Thread Cert.ProjKernelIdeal.nD Cert.ProjKernelIdeal.τ).loc Cert.ProjKernelIdeal.main_v27_1) = v1 c
          ∧ r.2.mem ((c.tc : Thread Cert.ProjKernelIdeal.nD Cert.ProjKernelIdeal.τ).loc Cert.ProjKernelIdeal.main_v27_4) = v2 c
          ∧ r.2.mem ((c.tc : Thread Cert.ProjKernelIdeal.nD Cert.ProjKernelIdeal.τ).loc Cert.ProjKernelIdeal.main_v27_5) = v3 c
          ∧ r.2.mem ((c.tc : Thread Cert.ProjKernelIdeal.nD Cert.ProjKernelIdeal.τ).loc Cert.ProjKernelIdeal.main_v27_6) = v4 c
          ∧ r.2.mem ((c.tc : Thread Cert.ProjKernelIdeal.nD Cert.ProjKernelIdeal.τ).loc Cert.ProjKernelIdeal.main_v27_7) = v5 c
          ∧ r.2.mem ((c.tc : Thread Cert.ProjKernelIdeal.nD Cert.ProjKernelIdeal.τ).loc Cert.ProjKernelIdeal.main_v27_8) = v6 c
          ∧ r.2.mem ((c.tc : Thread Cert.ProjKernelIdeal.nD Cert.ProjKernelIdeal.τ).loc Cert.ProjKernelIdeal.main_v27_10) = v7 c
          ∧ r.2.mem ((c.tc : Thread Cert.ProjKernelIdeal.nD Cert.ProjKernelIdeal.τ).loc Cert.ProjKernelIdeal.main_v27_12) = v8 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v25) = v0 c
          ∧ r.2.mem ((c.tc : Thread Cert.ProjReferenceIdeal.nD Cert.ProjReferenceIdeal.τ).loc Cert.ProjReferenceIdeal.main_v19) = v1 c
          ∧ r.2.mem ((c.tc : Thread Cert.ProjReferenceIdeal.nD Cert.ProjReferenceIdeal.τ).loc Cert.ProjReferenceIdeal.main_v28) = v2 c
          ∧ r.2.mem ((c.tc : Thread Cert.ProjReferenceIdeal.nD Cert.ProjReferenceIdeal.τ).loc Cert.ProjReferenceIdeal.main_v31) = v3 c
          ∧ r.2.mem ((c.tc : Thread Cert.ProjReferenceIdeal.nD Cert.ProjReferenceIdeal.τ).loc Cert.ProjReferenceIdeal.main_v34) = v4 c
          ∧ r.2.mem ((c.tc : Thread Cert.ProjReferenceIdeal.nD Cert.ProjReferenceIdeal.τ).loc Cert.ProjReferenceIdeal.main_v36) = v5 c
          ∧ r.2.mem ((c.tc : Thread Cert.ProjReferenceIdeal.nD Cert.ProjReferenceIdeal.τ).loc Cert.ProjReferenceIdeal.main_v40) = v6 c
          ∧ r.2.mem ((c.tc : Thread Cert.ProjReferenceIdeal.nD Cert.ProjReferenceIdeal.τ).loc Cert.ProjReferenceIdeal.main_v46) = v7 c
          ∧ r.2.mem ((c.tc : Thread Cert.ProjReferenceIdeal.nD Cert.ProjReferenceIdeal.τ).loc Cert.ProjReferenceIdeal.main_v48) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_FfnSampleKernel_FfnSampleKernelIdeal : Prop :=
  True

def algebraic_FfnSampleKernelIdeal_FfnSampleReferenceIdeal [hFfnSampleKernelIdeal : Cert.FfnSampleKernelIdeal.Facts] [hFfnSampleReferenceIdeal : Cert.FfnSampleReferenceIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleKernelIdeal m →
    (∀ c : Dev Cert.FfnSampleKernelIdeal.nD,
      m' ((c.tc : Thread Cert.FfnSampleReferenceIdeal.nD Cert.FfnSampleReferenceIdeal.τ).loc Cert.FfnSampleReferenceIdeal.main_arg0) = m ((c.tc : Thread Cert.FfnSampleKernelIdeal.nD Cert.FfnSampleKernelIdeal.τ).loc Cert.FfnSampleKernelIdeal.main_arg0)
      ∧ m' ((c.tc : Thread Cert.FfnSampleReferenceIdeal.nD Cert.FfnSampleReferenceIdeal.τ).loc Cert.FfnSampleReferenceIdeal.main_arg1) = m ((c.tc : Thread Cert.FfnSampleKernelIdeal.nD Cert.FfnSampleKernelIdeal.τ).loc Cert.FfnSampleKernelIdeal.main_arg1)
      ∧ m' ((c.tc : Thread Cert.FfnSampleReferenceIdeal.nD Cert.FfnSampleReferenceIdeal.τ).loc Cert.FfnSampleReferenceIdeal.main_arg2) = m ((c.tc : Thread Cert.FfnSampleKernelIdeal.nD Cert.FfnSampleKernelIdeal.τ).loc Cert.FfnSampleKernelIdeal.main_arg2)
      ∧ m' ((c.tc : Thread Cert.FfnSampleReferenceIdeal.nD Cert.FfnSampleReferenceIdeal.τ).loc Cert.FfnSampleReferenceIdeal.main_arg3) = m ((c.tc : Thread Cert.FfnSampleKernelIdeal.nD Cert.FfnSampleKernelIdeal.τ).loc Cert.FfnSampleKernelIdeal.main_arg3)
      ∧ m' ((c.tc : Thread Cert.FfnSampleReferenceIdeal.nD Cert.FfnSampleReferenceIdeal.τ).loc Cert.FfnSampleReferenceIdeal.main_arg4) = m ((c.tc : Thread Cert.FfnSampleKernelIdeal.nD Cert.FfnSampleKernelIdeal.τ).loc Cert.FfnSampleKernelIdeal.main_arg4)
      ∧ m' ((c.tc : Thread Cert.FfnSampleReferenceIdeal.nD Cert.FfnSampleReferenceIdeal.τ).loc Cert.FfnSampleReferenceIdeal.main_arg5) = m ((c.tc : Thread Cert.FfnSampleKernelIdeal.nD Cert.FfnSampleKernelIdeal.τ).loc Cert.FfnSampleKernelIdeal.main_arg5)) →
    ∃ (v0 : (c : Dev Cert.FfnSampleKernelIdeal.nD) → Buf (Elt Ideal) ((c.tc : Thread Cert.FfnSampleKernelIdeal.nD Cert.FfnSampleKernelIdeal.τ).loc Cert.FfnSampleKernelIdeal.main_v5)),
      θ_run (Cert.FfnSampleKernelIdeal.defs (F := Ideal)) (onTc (τ := Cert.FfnSampleKernelIdeal.τ) (Cert.FfnSampleKernelIdeal.main (F := Ideal))) ⟨m, fun _ => 0, g⟩ (fun r => ∀ c : Dev Cert.FfnSampleKernelIdeal.nD,
          r.2.mem ((c.tc : Thread Cert.FfnSampleKernelIdeal.nD Cert.FfnSampleKernelIdeal.τ).loc Cert.FfnSampleKernelIdeal.main_v5) = v0 c
          ∧ r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
          ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
          ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
          ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
          ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
          ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v33) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5))

def preserves_ProjSampleKernel_ProjSampleKernelIdeal : Prop :=
  True

def algebraic_ProjSampleKernelIdeal_ProjSampleReferenceIdeal [hProjSampleKernelIdeal : Cert.ProjSampleKernelIdeal.Facts] [hProjSampleReferenceIdeal : Cert.ProjSampleReferenceIdeal.Facts] : Prop :=
  ∀ (m : (ℓ : Loc Cert.ProjSampleKernelIdeal.nD Cert.ProjSampleKernelIdeal.τ Cert.ProjSampleKernelIdeal.sig) → Buf (Elt Ideal) ℓ) (g : Dev Cert.ProjSampleKernelIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleKernelIdeal m →
    (∀ c : Dev Cert.ProjSampleKernelIdeal.nD,
      m' ((c.tc : Thread Cert.ProjSampleReferenceIdeal.nD Cert.ProjSampleReferenceIdeal.τ).loc Cert.ProjSampleReferenceIdeal.main_arg0) = m ((c.tc : Thread Cert.ProjSampleKernelIdeal.nD Cert.ProjSampleKernelIdeal.τ).loc Cert.ProjSampleKernelIdeal.main_arg0)
      ∧ m' ((c.tc : Thread Cert.ProjSampleReferenceIdeal.nD Cert.ProjSampleReferenceIdeal.τ).loc Cert.ProjSampleReferenceIdeal.main_arg1) = m ((c.tc : Thread Cert.ProjSampleKernelIdeal.nD Cert.ProjSampleKernelIdeal.τ).loc Cert.ProjSampleKernelIdeal.main_arg1)
      ∧ m' ((c.tc : Thread Cert.ProjSampleReferenceIdeal.nD Cert.ProjSampleReferenceIdeal.τ).loc Cert.ProjSampleReferenceIdeal.main_arg2) = m ((c.tc : Thread Cert.ProjSampleKernelIdeal.nD Cert.ProjSampleKernelIdeal.τ).loc Cert.ProjSampleKernelIdeal.main_arg2)
      ∧ m' ((c.tc : Thread Cert.ProjSampleReferenceIdeal.nD Cert.ProjSampleReferenceIdeal.τ).loc Cert.ProjSampleReferenceIdeal.main_arg3) = m ((c.tc : Thread Cert.ProjSampleKernelIdeal.nD Cert.ProjSampleKernelIdeal.τ).loc Cert.ProjSampleKernelIdeal.main_arg3)) →
    ∃ (v0 : (c : Dev Cert.ProjSampleKernelIdeal.nD) → Buf (Elt Ideal) ((c.tc : Thread Cert.ProjSampleKernelIdeal.nD Cert.ProjSampleKernelIdeal.τ).loc Cert.ProjSampleKernelIdeal.main_v27_3)) (v1 : (c : Dev Cert.ProjSampleKernelIdeal.nD) → Buf (Elt Ideal) ((c.tc : Thread Cert.ProjSampleKernelIdeal.nD Cert.ProjSampleKernelIdeal.τ).loc Cert.ProjSampleKernelIdeal.main_v27_4)) (v2 : (c : Dev Cert.ProjSampleKernelIdeal.nD) → Buf (Elt Ideal) ((c.tc : Thread Cert.ProjSampleKernelIdeal.nD Cert.ProjSampleKernelIdeal.τ).loc Cert.ProjSampleKernelIdeal.main_v27_5)) (v3 : (c : Dev Cert.ProjSampleKernelIdeal.nD) → Buf (Elt Ideal) ((c.tc : Thread Cert.ProjSampleKernelIdeal.nD Cert.ProjSampleKernelIdeal.τ).loc Cert.ProjSampleKernelIdeal.main_v27_6)) (v4 : (c : Dev Cert.ProjSampleKernelIdeal.nD) → Buf (Elt Ideal) ((c.tc : Thread Cert.ProjSampleKernelIdeal.nD Cert.ProjSampleKernelIdeal.τ).loc Cert.ProjSampleKernelIdeal.main_v27_7)) (v5 : (c : Dev Cert.ProjSampleKernelIdeal.nD) → Buf (Elt Ideal) ((c.tc : Thread Cert.ProjSampleKernelIdeal.nD Cert.ProjSampleKernelIdeal.τ).loc Cert.ProjSampleKernelIdeal.main_v27_8)) (v6 : (c : Dev Cert.ProjSampleKernelIdeal.nD) → Buf (Elt Ideal) ((c.tc : Thread Cert.ProjSampleKernelIdeal.nD Cert.ProjSampleKernelIdeal.τ).loc Cert.ProjSampleKernelIdeal.main_v27_10)) (v7 : (c : Dev Cert.ProjSampleKernelIdeal.nD) → Buf (Elt Ideal) ((c.tc : Thread Cert.ProjSampleKernelIdeal.nD Cert.ProjSampleKernelIdeal.τ).loc Cert.ProjSampleKernelIdeal.main_v27_12)) (v8 : (c : Dev Cert.ProjSampleKernelIdeal.nD) → Buf (Elt Ideal) ((c.tc : Thread Cert.ProjSampleKernelIdeal.nD Cert.ProjSampleKernelIdeal.τ).loc Cert.ProjSampleKernelIdeal.main_v32)),
      θ_run (Cert.ProjSampleKernelIdeal.defs (F := Ideal)) (onTc (τ := Cert.ProjSampleKernelIdeal.τ) (Cert.ProjSampleKernelIdeal.main (F := Ideal))) ⟨m, fun _ => 0, g⟩ (fun r => ∀ c : Dev Cert.ProjSampleKernelIdeal.nD,
          r.2.mem ((c.tc : Thread Cert.ProjSampleKernelIdeal.nD Cert.ProjSampleKernelIdeal.τ).loc Cert.ProjSampleKernelIdeal.main_v27_3) = v0 c
          ∧ r.2.mem ((c.tc : Thread Cert.ProjSampleKernelIdeal.nD Cert.ProjSampleKernelIdeal.τ).loc Cert.ProjSampleKernelIdeal.main_v27_4) = v1 c
          ∧ r.2.mem ((c.tc : Thread Cert.ProjSampleKernelIdeal.nD Cert.ProjSampleKernelIdeal.τ).loc Cert.ProjSampleKernelIdeal.main_v27_5) = v2 c
          ∧ r.2.mem ((c.tc : Thread Cert.ProjSampleKernelIdeal.nD Cert.ProjSampleKernelIdeal.τ).loc Cert.ProjSampleKernelIdeal.main_v27_6) = v3 c
          ∧ r.2.mem ((c.tc : Thread Cert.ProjSampleKernelIdeal.nD Cert.ProjSampleKernelIdeal.τ).loc Cert.ProjSampleKernelIdeal.main_v27_7) = v4 c
          ∧ r.2.mem ((c.tc : Thread Cert.ProjSampleKernelIdeal.nD Cert.ProjSampleKernelIdeal.τ).loc Cert.ProjSampleKernelIdeal.main_v27_8) = v5 c
          ∧ r.2.mem ((c.tc : Thread Cert.ProjSampleKernelIdeal.nD Cert.ProjSampleKernelIdeal.τ).loc Cert.ProjSampleKernelIdeal.main_v27_10) = v6 c
          ∧ r.2.mem ((c.tc : Thread Cert.ProjSampleKernelIdeal.nD Cert.ProjSampleKernelIdeal.τ).loc Cert.ProjSampleKernelIdeal.main_v27_12) = v7 c
          ∧ r.2.mem ((c.tc : Thread Cert.ProjSampleKernelIdeal.nD Cert.ProjSampleKernelIdeal.τ).loc Cert.ProjSampleKernelIdeal.main_v32) = v8 c
          ∧ r.2.mem ((c.tc : Thread Cert.ProjSampleKernelIdeal.nD Cert.ProjSampleKernelIdeal.τ).loc Cert.ProjSampleKernelIdeal.main_arg0) = m ((c.tc : Thread Cert.ProjSampleKernelIdeal.nD Cert.ProjSampleKernelIdeal.τ).loc Cert.ProjSampleKernelIdeal.main_arg0)
          ∧ r.2.mem ((c.tc : Thread Cert.ProjSampleKernelIdeal.nD Cert.ProjSampleKernelIdeal.τ).loc Cert.ProjSampleKernelIdeal.main_arg1) = m ((c.tc : Thread Cert.ProjSampleKernelIdeal.nD Cert.ProjSampleKernelIdeal.τ).loc Cert.ProjSampleKernelIdeal.main_arg1)
          ∧ r.2.mem ((c.tc : Thread Cert.ProjSampleKernelIdeal.nD Cert.ProjSampleKernelIdeal.τ).loc Cert.ProjSampleKernelIdeal.main_arg2) = m ((c.tc : Thread Cert.ProjSampleKernelIdeal.nD Cert.ProjSampleKernelIdeal.τ).loc Cert.ProjSampleKernelIdeal.main_arg2)
          ∧ r.2.mem ((c.tc : Thread Cert.ProjSampleKernelIdeal.nD Cert.ProjSampleKernelIdeal.τ).loc Cert.ProjSampleKernelIdeal.main_arg3) = m ((c.tc : Thread Cert.ProjSampleKernelIdeal.nD Cert.ProjSampleKernelIdeal.τ).loc Cert.ProjSampleKernelIdeal.main_arg3))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v25) = v0 c
          ∧ r.2.mem ((c.tc : Thread Cert.ProjSampleReferenceIdeal.nD Cert.ProjSampleReferenceIdeal.τ).loc Cert.ProjSampleReferenceIdeal.main_v28) = v1 c
          ∧ r.2.mem ((c.tc : Thread Cert.ProjSampleReferenceIdeal.nD Cert.ProjSampleReferenceIdeal.τ).loc Cert.ProjSampleReferenceIdeal.main_v31) = v2 c
          ∧ r.2.mem ((c.tc : Thread Cert.ProjSampleReferenceIdeal.nD Cert.ProjSampleReferenceIdeal.τ).loc Cert.ProjSampleReferenceIdeal.main_v34) = v3 c
          ∧ r.2.mem ((c.tc : Thread Cert.ProjSampleReferenceIdeal.nD Cert.ProjSampleReferenceIdeal.τ).loc Cert.ProjSampleReferenceIdeal.main_v36) = v4 c
          ∧ r.2.mem ((c.tc : Thread Cert.ProjSampleReferenceIdeal.nD Cert.ProjSampleReferenceIdeal.τ).loc Cert.ProjSampleReferenceIdeal.main_v40) = v5 c
          ∧ r.2.mem ((c.tc : Thread Cert.ProjSampleReferenceIdeal.nD Cert.ProjSampleReferenceIdeal.τ).loc Cert.ProjSampleReferenceIdeal.main_v46) = v6 c
          ∧ r.2.mem ((c.tc : Thread Cert.ProjSampleReferenceIdeal.nD Cert.ProjSampleReferenceIdeal.τ).loc Cert.ProjSampleReferenceIdeal.main_v48) = v7 c
          ∧ r.2.mem ((c.tc : Thread Cert.ProjSampleReferenceIdeal.nD Cert.ProjSampleReferenceIdeal.τ).loc Cert.ProjSampleReferenceIdeal.main_v62) = v8 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3))

def preserves_MergeSampleKernel_MergeSampleKernelIdeal : Prop :=
  True

def algebraic_MergeSampleKernelIdeal_MergeSampleReferenceIdeal [hMergeSampleKernelIdeal : Cert.MergeSampleKernelIdeal.Facts] [hMergeSampleReferenceIdeal : Cert.MergeSampleReferenceIdeal.Facts] : Prop :=
  ∀ (m : (ℓ : Loc Cert.MergeSampleKernelIdeal.nD Cert.MergeSampleKernelIdeal.τ Cert.MergeSampleKernelIdeal.sig) → Buf (Elt Ideal) ℓ) (g : Dev Cert.MergeSampleKernelIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleKernelIdeal m →
    (∀ c : Dev Cert.MergeSampleKernelIdeal.nD,
      m' ((c.tc : Thread Cert.MergeSampleReferenceIdeal.nD Cert.MergeSampleReferenceIdeal.τ).loc Cert.MergeSampleReferenceIdeal.main_arg0) = m ((c.tc : Thread Cert.MergeSampleKernelIdeal.nD Cert.MergeSampleKernelIdeal.τ).loc Cert.MergeSampleKernelIdeal.main_arg0)
      ∧ m' ((c.tc : Thread Cert.MergeSampleReferenceIdeal.nD Cert.MergeSampleReferenceIdeal.τ).loc Cert.MergeSampleReferenceIdeal.main_arg1) = m ((c.tc : Thread Cert.MergeSampleKernelIdeal.nD Cert.MergeSampleKernelIdeal.τ).loc Cert.MergeSampleKernelIdeal.main_arg1)
      ∧ m' ((c.tc : Thread Cert.MergeSampleReferenceIdeal.nD Cert.MergeSampleReferenceIdeal.τ).loc Cert.MergeSampleReferenceIdeal.main_arg2) = m ((c.tc : Thread Cert.MergeSampleKernelIdeal.nD Cert.MergeSampleKernelIdeal.τ).loc Cert.MergeSampleKernelIdeal.main_arg2)
      ∧ m' ((c.tc : Thread Cert.MergeSampleReferenceIdeal.nD Cert.MergeSampleReferenceIdeal.τ).loc Cert.MergeSampleReferenceIdeal.main_arg3) = m ((c.tc : Thread Cert.MergeSampleKernelIdeal.nD Cert.MergeSampleKernelIdeal.τ).loc Cert.MergeSampleKernelIdeal.main_arg3)
      ∧ m' ((c.tc : Thread Cert.MergeSampleReferenceIdeal.nD Cert.MergeSampleReferenceIdeal.τ).loc Cert.MergeSampleReferenceIdeal.main_arg4) = m ((c.tc : Thread Cert.MergeSampleKernelIdeal.nD Cert.MergeSampleKernelIdeal.τ).loc Cert.MergeSampleKernelIdeal.main_arg4)
      ∧ m' ((c.tc : Thread Cert.MergeSampleReferenceIdeal.nD Cert.MergeSampleReferenceIdeal.τ).loc Cert.MergeSampleReferenceIdeal.main_arg5) = m ((c.tc : Thread Cert.MergeSampleKernelIdeal.nD Cert.MergeSampleKernelIdeal.τ).loc Cert.MergeSampleKernelIdeal.main_arg5)
      ∧ m' ((c.tc : Thread Cert.MergeSampleReferenceIdeal.nD Cert.MergeSampleReferenceIdeal.τ).loc Cert.MergeSampleReferenceIdeal.main_arg6) = m ((c.tc : Thread Cert.MergeSampleKernelIdeal.nD Cert.MergeSampleKernelIdeal.τ).loc Cert.MergeSampleKernelIdeal.main_arg6)
      ∧ m' ((c.tc : Thread Cert.MergeSampleReferenceIdeal.nD Cert.MergeSampleReferenceIdeal.τ).loc Cert.MergeSampleReferenceIdeal.main_arg7) = m ((c.tc : Thread Cert.MergeSampleKernelIdeal.nD Cert.MergeSampleKernelIdeal.τ).loc Cert.MergeSampleKernelIdeal.main_arg7)
      ∧ m' ((c.tc : Thread Cert.MergeSampleReferenceIdeal.nD Cert.MergeSampleReferenceIdeal.τ).loc Cert.MergeSampleReferenceIdeal.main_arg8) = m ((c.tc : Thread Cert.MergeSampleKernelIdeal.nD Cert.MergeSampleKernelIdeal.τ).loc Cert.MergeSampleKernelIdeal.main_arg8)) →
    ∃ (v0 : (c : Dev Cert.MergeSampleKernelIdeal.nD) → Buf (Elt Ideal) ((c.tc : Thread Cert.MergeSampleKernelIdeal.nD Cert.MergeSampleKernelIdeal.τ).loc Cert.MergeSampleKernelIdeal.main_v5)),
      θ_run (Cert.MergeSampleKernelIdeal.defs (F := Ideal)) (onTc (τ := Cert.MergeSampleKernelIdeal.τ) (Cert.MergeSampleKernelIdeal.main (F := Ideal))) ⟨m, fun _ => 0, g⟩ (fun r => ∀ c : Dev Cert.MergeSampleKernelIdeal.nD,
          r.2.mem ((c.tc : Thread Cert.MergeSampleKernelIdeal.nD Cert.MergeSampleKernelIdeal.τ).loc Cert.MergeSampleKernelIdeal.main_v5) = v0 c
          ∧ r.2.mem ((c.tc : Thread Cert.MergeSampleKernelIdeal.nD Cert.MergeSampleKernelIdeal.τ).loc Cert.MergeSampleKernelIdeal.main_arg0) = m ((c.tc : Thread Cert.MergeSampleKernelIdeal.nD Cert.MergeSampleKernelIdeal.τ).loc Cert.MergeSampleKernelIdeal.main_arg0)
          ∧ r.2.mem ((c.tc : Thread Cert.MergeSampleKernelIdeal.nD Cert.MergeSampleKernelIdeal.τ).loc Cert.MergeSampleKernelIdeal.main_arg1) = m ((c.tc : Thread Cert.MergeSampleKernelIdeal.nD Cert.MergeSampleKernelIdeal.τ).loc Cert.MergeSampleKernelIdeal.main_arg1)
          ∧ r.2.mem ((c.tc : Thread Cert.MergeSampleKernelIdeal.nD Cert.MergeSampleKernelIdeal.τ).loc Cert.MergeSampleKernelIdeal.main_arg2) = m ((c.tc : Thread Cert.MergeSampleKernelIdeal.nD Cert.MergeSampleKernelIdeal.τ).loc Cert.MergeSampleKernelIdeal.main_arg2)
          ∧ r.2.mem ((c.tc : Thread Cert.MergeSampleKernelIdeal.nD Cert.MergeSampleKernelIdeal.τ).loc Cert.MergeSampleKernelIdeal.main_arg3) = m ((c.tc : Thread Cert.MergeSampleKernelIdeal.nD Cert.MergeSampleKernelIdeal.τ).loc Cert.MergeSampleKernelIdeal.main_arg3)
          ∧ r.2.mem ((c.tc : Thread Cert.MergeSampleKernelIdeal.nD Cert.MergeSampleKernelIdeal.τ).loc Cert.MergeSampleKernelIdeal.main_arg4) = m ((c.tc : Thread Cert.MergeSampleKernelIdeal.nD Cert.MergeSampleKernelIdeal.τ).loc Cert.MergeSampleKernelIdeal.main_arg4)
          ∧ r.2.mem ((c.tc : Thread Cert.MergeSampleKernelIdeal.nD Cert.MergeSampleKernelIdeal.τ).loc Cert.MergeSampleKernelIdeal.main_arg5) = m ((c.tc : Thread Cert.MergeSampleKernelIdeal.nD Cert.MergeSampleKernelIdeal.τ).loc Cert.MergeSampleKernelIdeal.main_arg5)
          ∧ r.2.mem ((c.tc : Thread Cert.MergeSampleKernelIdeal.nD Cert.MergeSampleKernelIdeal.τ).loc Cert.MergeSampleKernelIdeal.main_arg6) = m ((c.tc : Thread Cert.MergeSampleKernelIdeal.nD Cert.MergeSampleKernelIdeal.τ).loc Cert.MergeSampleKernelIdeal.main_arg6)
          ∧ r.2.mem ((c.tc : Thread Cert.MergeSampleKernelIdeal.nD Cert.MergeSampleKernelIdeal.τ).loc Cert.MergeSampleKernelIdeal.main_arg7) = m ((c.tc : Thread Cert.MergeSampleKernelIdeal.nD Cert.MergeSampleKernelIdeal.τ).loc Cert.MergeSampleKernelIdeal.main_arg7)
          ∧ r.2.mem ((c.tc : Thread Cert.MergeSampleKernelIdeal.nD Cert.MergeSampleKernelIdeal.τ).loc Cert.MergeSampleKernelIdeal.main_arg8) = m ((c.tc : Thread Cert.MergeSampleKernelIdeal.nD Cert.MergeSampleKernelIdeal.τ).loc Cert.MergeSampleKernelIdeal.main_arg8))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v37) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7)
          ∧ r.2.mem ((c.tc : Thread Cert.MergeSampleReferenceIdeal.nD Cert.MergeSampleReferenceIdeal.τ).loc Cert.MergeSampleReferenceIdeal.main_arg8) = m' ((c.tc : Thread Cert.MergeSampleReferenceIdeal.nD Cert.MergeSampleReferenceIdeal.τ).loc Cert.MergeSampleReferenceIdeal.main_arg8))

def preserves_CompressKernel_CompressKernelIdeal : Prop :=
  True

def algebraic_CompressKernelIdeal_CompressReferenceIdeal [hCompressKernelIdeal : Cert.CompressKernelIdeal.Facts] [hCompressReferenceIdeal : Cert.CompressReferenceIdeal.Facts] : Prop :=
  ∀ (m : (ℓ : Loc Cert.CompressKernelIdeal.nD Cert.CompressKernelIdeal.τ Cert.CompressKernelIdeal.sig) → Buf (Elt Ideal) ℓ) (g : Dev Cert.CompressKernelIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressKernelIdeal m →
    (∀ c : Dev Cert.CompressKernelIdeal.nD,
      m' ((c.tc : Thread Cert.CompressReferenceIdeal.nD Cert.CompressReferenceIdeal.τ).loc Cert.CompressReferenceIdeal.main_arg0) = m ((c.tc : Thread Cert.CompressKernelIdeal.nD Cert.CompressKernelIdeal.τ).loc Cert.CompressKernelIdeal.main_arg0)
      ∧ m' ((c.tc : Thread Cert.CompressReferenceIdeal.nD Cert.CompressReferenceIdeal.τ).loc Cert.CompressReferenceIdeal.main_arg1) = m ((c.tc : Thread Cert.CompressKernelIdeal.nD Cert.CompressKernelIdeal.τ).loc Cert.CompressKernelIdeal.main_arg1)
      ∧ m' ((c.tc : Thread Cert.CompressReferenceIdeal.nD Cert.CompressReferenceIdeal.τ).loc Cert.CompressReferenceIdeal.main_arg2) = m ((c.tc : Thread Cert.CompressKernelIdeal.nD Cert.CompressKernelIdeal.τ).loc Cert.CompressKernelIdeal.main_arg2)
      ∧ m' ((c.tc : Thread Cert.CompressReferenceIdeal.nD Cert.CompressReferenceIdeal.τ).loc Cert.CompressReferenceIdeal.main_arg3) = m ((c.tc : Thread Cert.CompressKernelIdeal.nD Cert.CompressKernelIdeal.τ).loc Cert.CompressKernelIdeal.main_arg3)
      ∧ m' ((c.tc : Thread Cert.CompressReferenceIdeal.nD Cert.CompressReferenceIdeal.τ).loc Cert.CompressReferenceIdeal.main_arg4) = m ((c.tc : Thread Cert.CompressKernelIdeal.nD Cert.CompressKernelIdeal.τ).loc Cert.CompressKernelIdeal.main_arg4)
      ∧ m' ((c.tc : Thread Cert.CompressReferenceIdeal.nD Cert.CompressReferenceIdeal.τ).loc Cert.CompressReferenceIdeal.main_arg5) = m ((c.tc : Thread Cert.CompressKernelIdeal.nD Cert.CompressKernelIdeal.τ).loc Cert.CompressKernelIdeal.main_arg5)
      ∧ m' ((c.tc : Thread Cert.CompressReferenceIdeal.nD Cert.CompressReferenceIdeal.τ).loc Cert.CompressReferenceIdeal.main_arg6) = m ((c.tc : Thread Cert.CompressKernelIdeal.nD Cert.CompressKernelIdeal.τ).loc Cert.CompressKernelIdeal.main_arg6)) →
    ∃ (v0 : (c : Dev Cert.CompressKernelIdeal.nD) → Buf (Elt Ideal) ((c.tc : Thread Cert.CompressKernelIdeal.nD Cert.CompressKernelIdeal.τ).loc Cert.CompressKernelIdeal.main_v38_0)) (v1 : (c : Dev Cert.CompressKernelIdeal.nD) → Buf (Elt Ideal) ((c.tc : Thread Cert.CompressKernelIdeal.nD Cert.CompressKernelIdeal.τ).loc Cert.CompressKernelIdeal.main_v38_1)),
      θ_run (Cert.CompressKernelIdeal.defs (F := Ideal)) (onTc (τ := Cert.CompressKernelIdeal.τ) (Cert.CompressKernelIdeal.main (F := Ideal))) ⟨m, fun _ => 0, g⟩ (fun r => ∀ c : Dev Cert.CompressKernelIdeal.nD,
          r.2.mem ((c.tc : Thread Cert.CompressKernelIdeal.nD Cert.CompressKernelIdeal.τ).loc Cert.CompressKernelIdeal.main_v38_0) = v0 c
          ∧ r.2.mem ((c.tc : Thread Cert.CompressKernelIdeal.nD Cert.CompressKernelIdeal.τ).loc Cert.CompressKernelIdeal.main_v38_1) = v1 c
          ∧ r.2.mem ((c.tc : Thread Cert.CompressKernelIdeal.nD Cert.CompressKernelIdeal.τ).loc Cert.CompressKernelIdeal.main_arg0) = m ((c.tc : Thread Cert.CompressKernelIdeal.nD Cert.CompressKernelIdeal.τ).loc Cert.CompressKernelIdeal.main_arg0)
          ∧ r.2.mem ((c.tc : Thread Cert.CompressKernelIdeal.nD Cert.CompressKernelIdeal.τ).loc Cert.CompressKernelIdeal.main_arg1) = m ((c.tc : Thread Cert.CompressKernelIdeal.nD Cert.CompressKernelIdeal.τ).loc Cert.CompressKernelIdeal.main_arg1)
          ∧ r.2.mem ((c.tc : Thread Cert.CompressKernelIdeal.nD Cert.CompressKernelIdeal.τ).loc Cert.CompressKernelIdeal.main_arg2) = m ((c.tc : Thread Cert.CompressKernelIdeal.nD Cert.CompressKernelIdeal.τ).loc Cert.CompressKernelIdeal.main_arg2)
          ∧ r.2.mem ((c.tc : Thread Cert.CompressKernelIdeal.nD Cert.CompressKernelIdeal.τ).loc Cert.CompressKernelIdeal.main_arg3) = m ((c.tc : Thread Cert.CompressKernelIdeal.nD Cert.CompressKernelIdeal.τ).loc Cert.CompressKernelIdeal.main_arg3)
          ∧ r.2.mem ((c.tc : Thread Cert.CompressKernelIdeal.nD Cert.CompressKernelIdeal.τ).loc Cert.CompressKernelIdeal.main_arg4) = m ((c.tc : Thread Cert.CompressKernelIdeal.nD Cert.CompressKernelIdeal.τ).loc Cert.CompressKernelIdeal.main_arg4)
          ∧ r.2.mem ((c.tc : Thread Cert.CompressKernelIdeal.nD Cert.CompressKernelIdeal.τ).loc Cert.CompressKernelIdeal.main_arg5) = m ((c.tc : Thread Cert.CompressKernelIdeal.nD Cert.CompressKernelIdeal.τ).loc Cert.CompressKernelIdeal.main_arg5)
          ∧ r.2.mem ((c.tc : Thread Cert.CompressKernelIdeal.nD Cert.CompressKernelIdeal.τ).loc Cert.CompressKernelIdeal.main_arg6) = m ((c.tc : Thread Cert.CompressKernelIdeal.nD Cert.CompressKernelIdeal.τ).loc Cert.CompressKernelIdeal.main_arg6))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v75) = v0 c
          ∧ r.2.mem ((c.tc : Thread Cert.CompressReferenceIdeal.nD Cert.CompressReferenceIdeal.τ).loc Cert.CompressReferenceIdeal.main_v76) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hProjKernel : Cert.ProjKernel.Facts) (hProjKernelIdeal : Cert.ProjKernelIdeal.Facts) (hProjReferenceIdeal : Cert.ProjReferenceIdeal.Facts) (hFfnSampleKernel : Cert.FfnSampleKernel.Facts) (hFfnSampleKernelIdeal : Cert.FfnSampleKernelIdeal.Facts) (hFfnSampleReferenceIdeal : Cert.FfnSampleReferenceIdeal.Facts) (hProjSampleKernel : Cert.ProjSampleKernel.Facts) (hProjSampleKernelIdeal : Cert.ProjSampleKernelIdeal.Facts) (hProjSampleReferenceIdeal : Cert.ProjSampleReferenceIdeal.Facts) (hMergeSampleKernel : Cert.MergeSampleKernel.Facts) (hMergeSampleKernelIdeal : Cert.MergeSampleKernelIdeal.Facts) (hMergeSampleReferenceIdeal : Cert.MergeSampleReferenceIdeal.Facts) (hCompressKernel : Cert.CompressKernel.Facts) (hCompressKernelIdeal : Cert.CompressKernelIdeal.Facts) (hCompressReferenceIdeal : Cert.CompressReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_FfnSampleKernel (hFfnSampleKernel := hFfnSampleKernel)
    ∧ quiescent_FfnSampleKernelIdeal (hFfnSampleKernelIdeal := hFfnSampleKernelIdeal)
    ∧ quiescent_FfnSampleReferenceIdeal (hFfnSampleReferenceIdeal := hFfnSampleReferenceIdeal)
    ∧ quiescent_ProjSampleKernel (hProjSampleKernel := hProjSampleKernel)
    ∧ quiescent_ProjSampleKernelIdeal (hProjSampleKernelIdeal := hProjSampleKernelIdeal)
    ∧ quiescent_ProjSampleReferenceIdeal (hProjSampleReferenceIdeal := hProjSampleReferenceIdeal)
    ∧ quiescent_MergeSampleKernel (hMergeSampleKernel := hMergeSampleKernel)
    ∧ quiescent_MergeSampleKernelIdeal (hMergeSampleKernelIdeal := hMergeSampleKernelIdeal)
    ∧ quiescent_MergeSampleReferenceIdeal (hMergeSampleReferenceIdeal := hMergeSampleReferenceIdeal)
    ∧ quiescent_CompressKernel (hCompressKernel := hCompressKernel)
    ∧ quiescent_CompressKernelIdeal (hCompressKernelIdeal := hCompressKernelIdeal)
    ∧ quiescent_CompressReferenceIdeal (hCompressReferenceIdeal := hCompressReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_FfnSampleKernel_FfnSampleKernelIdeal
    ∧ algebraic_FfnSampleKernelIdeal_FfnSampleReferenceIdeal (hFfnSampleKernelIdeal := hFfnSampleKernelIdeal) (hFfnSampleReferenceIdeal := hFfnSampleReferenceIdeal)
    ∧ preserves_ProjSampleKernel_ProjSampleKernelIdeal
    ∧ algebraic_ProjSampleKernelIdeal_ProjSampleReferenceIdeal (hProjSampleKernelIdeal := hProjSampleKernelIdeal) (hProjSampleReferenceIdeal := hProjSampleReferenceIdeal)
    ∧ preserves_MergeSampleKernel_MergeSampleKernelIdeal
    ∧ algebraic_MergeSampleKernelIdeal_MergeSampleReferenceIdeal (hMergeSampleKernelIdeal := hMergeSampleKernelIdeal) (hMergeSampleReferenceIdeal := hMergeSampleReferenceIdeal)
    ∧ preserves_CompressKernel_CompressKernelIdeal
    ∧ algebraic_CompressKernelIdeal_CompressReferenceIdeal (hCompressKernelIdeal := hCompressKernelIdeal) (hCompressReferenceIdeal := hCompressReferenceIdeal)
-- ==== Pre_finite.lean ====
abbrev S16x2048x8x64 : Shape := ⟨4, ![16, 2048, 8, 64]⟩
abbrev S16x2048x8 : Shape := ⟨3, ![16, 2048, 8]⟩
abbrev S16x2048x4x64 : Shape := ⟨4, ![16, 2048, 4, 64]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  bcast_S_S16x2048x8 : S_.BroadcastsInDim S16x2048x8 (![] : Fin 0 → Fin S16x2048x8.rank)
  reducesTo_S16x2048x8_S_d0_1_2 : S16x2048x8.ReducesTo [0, 1, 2] S_

variable [Facts]

def fn_part1 {F : FTy → Type} [FloatOps F] (main_v8 : IVec S_ 1) (main_v12 : IVec S_ 1) (main_v15 : IVec S16x2048x8 1) (main_c_5 : IVec S_ 1) : IVec S_ 1 :=
  let main_v16 : IVec S_ 1 := (fun x v => Host.reduce IntOp.andi x v reducesTo_S16x2048x8_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S16x2048x8x64 .f32) (main_arg1 : FVec F S16x2048x8x64 .f32) (main_arg2 : FVec F S16x2048x8x64 .f32) (main_arg3 : FVec F S16x2048x8 .f32) (main_arg4 : FVec F S16x2048x4x64 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x8x64 .f32 := Host.absf main_arg1
  let main_cst_0 : FVec F S_ .f32 := constant S_ .f32 0x7F800000#32
  let main_v5 : FVec F S16x2048x8x64 .f32 := broadcastInDim S16x2048x8x64 ![] bcast_S_S16x2048x8x64 main_cst_0
  let main_v6 : IVec S16x2048x8x64 1 := cmpf .olt main_v4 main_v5
  let main_c_1 : IVec S_ 1 := constantI S_ 1 1#1
  let main_v7 : IVec S_ 1 := (fun x v => Host.reduce IntOp.andi x v reducesTo_S16x2048x8x64_S_d0_1_2_3 h_S_) main_v6 main_c_1
  let main_v8 : IVec S_ 1 := andi main_v3 main_v7
  let main_v9 : FVec F S16x2048x8x64 .f32 := Host.absf main_arg2
  let main_cst_2 : FVec F S_ .f32 := constant S_ .f32 0x7F800000#32
  let main_v10 : FVec F S16x2048x8x64 .f32 := broadcastInDim S16x2048x8x64 ![] bcast_S_S16x2048x8x64 main_cst_2
  let main_v11 : IVec S16x2048x8x64 1 := cmpf .olt main_v9 main_v10
  let main_c_3 : IVec S_ 1 := constantI S_ 1 1#1
  let main_v12 : IVec S_ 1 := (fun x v => Host.reduce IntOp.andi x v reducesTo_S16x2048x8x64_S_d0_1_2_3 h_S_) main_v11 main_c_3
  let main_v13 : FVec F S16x2048x8 .f32 := Host.absf main_arg3
  let main_cst_4 : FVec F S_ .f32 := constant S_ .f32 0x7F800000#32
  let main_v14 : FVec F S16x2048x8 .f32 := broadcastInDim S16x2048x8 ![] bcast_S_S16x2048x8 main_cst_4
  let main_v15 : IVec S16x2048x8 1 := cmpf .olt main_v13 main_v14
  let main_c_5 : IVec S_ 1 := constantI S_ 1 1#1
  fn_part1 (F := F) main_v8 main_v12 main_v15 main_c_5
-- ==== Kernel.lean ====
abbrev S16x2048x8x64 : Shape := ⟨4, ![16, 2048, 8, 64]⟩
abbrev S16x2048x8 : Shape := ⟨3, ![16, 2048, 8]⟩
abbrev S16x2048x4x64 : Shape := ⟨4, ![16, 2048, 4, 64]⟩
abbrev S16x8x64x2048 : Shape := ⟨4, ![16, 8, 64, 2048]⟩
abbrev S_ : Shape := ⟨0, ![]⟩
abbrev S16x2048x12x64 : Shape := ⟨4, ![16, 2048, 12, 64]⟩
abbrev S16x12x2048x64 : Shape := ⟨4, ![16, 12, 2048, 64]⟩
abbrev S16x12x2048x128 : Shape := ⟨4, ![16, 12, 2048, 128]⟩
abbrev S16x8x1x2048 : Shape := ⟨4, ![16, 8, 1, 2048]⟩
abbrev S16x8x15x2048 : Shape := ⟨4, ![16, 8, 15, 2048]⟩
abbrev S16x8x80x2048 : Shape := ⟨4, ![16, 8, 80, 2048]⟩
abbrev S512x512 : Shape := ⟨2, ![512, 512]⟩
abbrev S32768x8 : Shape := ⟨2, ![32768, 8]⟩
abbrev S16x4x2x64x2048 : Shape := ⟨5, ![16, 4, 2, 64, 2048]⟩
abbrev S16x6x2x2048x128 : Shape := ⟨5, ![16, 6, 2, 2048, 128]⟩
abbrev S16x4x2x80x2048 : Shape := ⟨5, ![16, 4, 2, 80, 2048]⟩
abbrev S16x2048x512 : Shape := ⟨3, ![16, 2048, 512]⟩
abbrev S1x1x2x64x1024 : Shape := ⟨5, ![1, 1, 2, 64, 1024]⟩
abbrev S1x1x2x2048x128 : Shape := ⟨5, ![1, 1, 2, 2048, 128]⟩
abbrev S1x1x2x80x2048 : Shape := ⟨5, ![1, 1, 2, 80, 2048]⟩
abbrev S2048x8 : Shape := ⟨2, ![2048, 8]⟩
abbrev S1x1024x128 : Shape := ⟨3, ![1, 1024, 128]⟩
abbrev S3x2048x8 : Shape := ⟨3, ![3, 2048, 8]⟩
abbrev S2x2048x128 : Shape := ⟨3, ![2, 2048, 128]⟩
abbrev S2x1x1024 : Shape := ⟨3, ![2, 1, 1024]⟩
abbrev S2x80x1024 : Shape := ⟨3, ![2, 80, 1024]⟩
abbrev S1x8 : Shape := ⟨2, ![1, 8]⟩
abbrev S512x8 : Shape := ⟨2, ![512, 8]⟩
abbrev S1x2048x8 : Shape := ⟨3, ![1, 2048, 8]⟩
abbrev S8x128 : Shape := ⟨2, ![8, 128]⟩
abbrev S2048x128 : Shape := ⟨2, ![2048, 128]⟩
abbrev S1x1x1x2048x128 : Shape := ⟨5, ![1, 1, 1, 2048, 128]⟩
abbrev S1x2048x128 : Shape := ⟨3, ![1, 2048, 128]⟩
abbrev S16x1024 : Shape := ⟨2, ![16, 1024]⟩
abbrev S48x1024 : Shape := ⟨2, ![48, 1024]⟩
abbrev S1x1x1x64x1024 : Shape := ⟨5, ![1, 1, 1, 64, 1024]⟩
abbrev S64x1024 : Shape := ⟨2, ![64, 1024]⟩
abbrev S128x1024 : Shape := ⟨2, ![128, 1024]⟩
abbrev S1x1024 : Shape := ⟨2, ![1, 1024]⟩
abbrev S1x1x1024 : Shape := ⟨3, ![1, 1, 1024]⟩
abbrev S80x1024 : Shape := ⟨2, ![80, 1024]⟩
abbrev S1x80x1024 : Shape := ⟨3, ![1, 80, 1024]⟩
abbrev S1x512x128 : Shape := ⟨3, ![1, 512, 128]⟩
abbrev S512x128 : Shape := ⟨2, ![512, 128]⟩
abbrev S512x1024 : Shape := ⟨2, ![512, 1024]⟩
abbrev S1x1x1x80x512 : Shape := ⟨5, ![1, 1, 1, 80, 512]⟩
abbrev S80x512 : Shape := ⟨2, ![80, 512]⟩
abbrev S1024 : Shape := ⟨1, ![1024]⟩
abbrev S128x512 : Shape := ⟨2, ![128, 512]⟩
abbrev S1x512 : Shape := ⟨2, ![1, 512]⟩
abbrev S1x1x512 : Shape := ⟨3, ![1, 1, 512]⟩
abbrev S512 : Shape := ⟨1, ![512]⟩
abbrev S1x80x512 : Shape := ⟨3, ![1, 80, 512]⟩
abbrev S1024x128 : Shape := ⟨2, ![1024, 128]⟩

abbrev nBuf : Space → Nat
  | .hbm => 37
  | .vmem => 15
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S16x2048x4x64, .f32⟩
  | .hbm, ⟨5, _⟩ => ⟨S16x8x64x2048, .f32⟩
  | .hbm, ⟨6, _⟩ => ⟨S_, .f32⟩
  | .hbm, ⟨7, _⟩ => ⟨S16x8x64x2048, .f32⟩
  | .hbm, ⟨8, _⟩ => ⟨S16x8x64x2048, .f32⟩
  | .hbm, ⟨9, _⟩ => ⟨S16x8x64x2048, .bf16⟩
  | .hbm, ⟨10, _⟩ => ⟨S16x2048x12x64, .f32⟩
  | .hbm, ⟨11, _⟩ => ⟨S16x12x2048x64, .f32⟩
  | .hbm, ⟨12, _⟩ => ⟨S_, .f32⟩
  | .hbm, ⟨13, _⟩ => ⟨S16x12x2048x64, .f32⟩
  | .hbm, ⟨14, _⟩ => ⟨S16x12x2048x128, .f32⟩
  | .hbm, ⟨15, _⟩ => ⟨S16x12x2048x128, .bf16⟩
  | .hbm, ⟨16, _⟩ => ⟨S16x8x64x2048, .f32⟩
  | .hbm, ⟨17, _⟩ => ⟨S_, .f32⟩
  | .hbm, ⟨18, _⟩ => ⟨S16x8x1x2048, .f32⟩
  | .hbm, ⟨19, _⟩ => ⟨S_, .f32⟩
  | .hbm, ⟨20, _⟩ => ⟨S16x8x15x2048, .f32⟩
  | .hbm, ⟨21, _⟩ => ⟨S16x8x80x2048, .f32⟩
  | .hbm, ⟨22, _⟩ => ⟨S16x8x80x2048, .bf16⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S_, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S32768x8, .f32⟩
  | .hbm, ⟨33, _⟩ => ⟨S16x4x2x64x2048, .bf16⟩
  | .hbm, ⟨34, _⟩ => ⟨S16x6x2x2048x128, .bf16⟩
  | .hbm, ⟨35, _⟩ => ⟨S16x4x2x80x2048, .bf16⟩
  | .hbm, ⟨36, _⟩ => ⟨S16x2048x512, .bf16⟩
  | .local _ .vmem, ⟨0, _⟩ => ⟨S1x1x2x64x1024, .bf16⟩
  | .local _ .vmem, ⟨1, _⟩ => ⟨S1x1x2x64x1024, .bf16⟩
  | .local _ .vmem, ⟨2, _⟩ => ⟨S1x1x2x2048x128, .bf16⟩
  | .local _ .vmem, ⟨3, _⟩ => ⟨S1x1x2x2048x128, .bf16⟩
  | .local _ .vmem, ⟨4, _⟩ => ⟨S1x1x2x80x2048, .bf16⟩
  | .local _ .vmem, ⟨5, _⟩ => ⟨S1x1x2x80x2048, .bf16⟩
  | .local _ .vmem, ⟨6, _⟩ => ⟨S2048x8, .f32⟩
  | .local _ .vmem, ⟨7, _⟩ => ⟨S2048x8, .f32⟩
  | .local _ .vmem, ⟨8, _⟩ => ⟨S512x512, .bf16⟩
  | .local _ .vmem, ⟨9, _⟩ => ⟨S1x1024x128, .bf16⟩
  | .local _ .vmem, ⟨10, _⟩ => ⟨S1x1024x128, .bf16⟩
  | .local _ .vmem, ⟨11, _⟩ => ⟨S3x2048x8, .bf16⟩
  | .local _ .vmem, ⟨12, _⟩ => ⟨S2x2048x128, .bf16⟩
  | .local _ .vmem, ⟨13, _⟩ => ⟨S2x1x1024, .f32⟩
  | .local _ .vmem, ⟨14, _⟩ => ⟨S2x80x1024, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 4, 2], ![false, false, false]⟩

@[reducible] def k0_t1_loop (i : grid0.Coords) : Scf.Loop 32 :=
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_38 : BitVec 32 := 1#32
  ⟨c0_i32_36, v60, c1_i32_38⟩
def k0_mult1 (i : grid0.Coords) (k0_t1 : Fin (k0_t1_loop i).trips) : BitVec 32 :=
  let c0_i32_36 : BitVec 32 := 0#32
  let c1_i32_38 : BitVec 32 := 1#32
  let arg13 : BitVec 32 := Scf.iv c0_i32_36 c1_i32_38 k0_t1
  let c512_i32_142 : BitVec 32 := 512#32
  let v245 : BitVec 32 := Scalar.muli arg13 c512_i32_142
  v245
def k0_off1 (i : grid0.Coords) (k0_t1 : Fin (k0_t1_loop i).trips) : Fin 3 → Nat :=
  let c0_143 : Index := 0#32
  let c0_i32_36 : BitVec 32 := 0#32
  let c1_i32_38 : BitVec 32 := 1#32
  let arg13 : BitVec 32 := Scf.iv c0_i32_36 c1_i32_38 k0_t1
  let c512_i32_142 : BitVec 32 := 512#32
  let v245 : BitVec 32 := Scalar.muli arg13 c512_i32_142
  let v246 : BitVec 32 := v245
  let v247 : Index := Scalar.indexCast v246
  let c0_144 : Index := 0#32
  ![0, v247.toNat, 0]
def k0_off2 (i : grid0.Coords) (k0_t1 : Fin (k0_t1_loop i).trips) : Fin 5 → Nat :=
  let c0_146 : Index := 0#32
  let c0_147 : Index := 0#32
  let c0_148 : Index := 0#32
  let c0_149 : Index := 0#32
  let c0_i32_36 : BitVec 32 := 0#32
  let c1_i32_38 : BitVec 32 := 1#32
  let arg13 : BitVec 32 := Scf.iv c0_i32_36 c1_i32_38 k0_t1
  let c512_i32_142 : BitVec 32 := 512#32
  let v245 : BitVec 32 := Scalar.muli arg13 c512_i32_142
  let v246 : BitVec 32 := v245
  let v251 : Index := Scalar.indexCast v246
  ![0, 0, 0, 0, v251.toNat]
def k0_off3 (i : grid0.Coords) (k0_t1 : Fin (k0_t1_loop i).trips) : Fin 3 → Nat :=
  let c1_164 : Index := 1#32
  let c0_i32_36 : BitVec 32 := 0#32
  let c1_i32_38 : BitVec 32 := 1#32
  let arg13 : BitVec 32 := Scf.iv c0_i32_36 c1_i32_38 k0_t1
  let c512_i32_142 : BitVec 32 := 512#32
  let v245 : BitVec 32 := Scalar.muli arg13 c512_i32_142
  let v246 : BitVec 32 := v245
  let v277 : Index := Scalar.indexCast v246
  let c0_165 : Index := 0#32
  ![1, v277.toNat, 0]
def k0_off4 (i : grid0.Coords) (k0_t1 : Fin (k0_t1_loop i).trips) : Fin 5 → Nat :=
  let c0_167 : Index := 0#32
  let c0_168 : Index := 0#32
  let c1_169 : Index := 1#32
  let c0_170 : Index := 0#32
  let c0_i32_36 : BitVec 32 := 0#32
  let c1_i32_38 : BitVec 32 := 1#32
  let arg13 : BitVec 32 := Scf.iv c0_i32_36 c1_i32_38 k0_t1
  let c512_i32_142 : BitVec 32 := 512#32
  let v245 : BitVec 32 := Scalar.muli arg13 c512_i32_142
  let v246 : BitVec 32 := v245
  let v281 : Index := Scalar.indexCast v246
  ![0, 0, 1, 0, v281.toNat]
@[reducible] def k0_t2_loop (i : grid0.Coords) : Scf.Loop 32 :=
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let v57 : BitVec 32 := Scalar.addi c0_i32_36 v56
  let c1_i32_39 : BitVec 32 := 1#32
  ⟨v60, v57, c1_i32_39⟩
def k0_mult2 (i : grid0.Coords) (k0_t2 : Fin (k0_t2_loop i).trips) : BitVec 32 :=
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg13 : BitVec 32 := Scf.iv v60 c1_i32_39 k0_t2
  let c512_i32_142 : BitVec 32 := 512#32
  let v245 : BitVec 32 := Scalar.muli arg13 c512_i32_142
  v245
def k0_off5 (i : grid0.Coords) (k0_t2 : Fin (k0_t2_loop i).trips) : Fin 3 → Nat :=
  let c0_143 : Index := 0#32
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg13 : BitVec 32 := Scf.iv v60 c1_i32_39 k0_t2
  let c512_i32_142 : BitVec 32 := 512#32
  let v245 : BitVec 32 := Scalar.muli arg13 c512_i32_142
  let v246 : BitVec 32 := v245
  let v247 : Index := Scalar.indexCast v246
  let c0_144 : Index := 0#32
  ![0, v247.toNat, 0]
def k0_off6 (i : grid0.Coords) (k0_t2 : Fin (k0_t2_loop i).trips) : Fin 5 → Nat :=
  let c0_146 : Index := 0#32
  let c0_147 : Index := 0#32
  let c0_148 : Index := 0#32
  let c0_149 : Index := 0#32
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg13 : BitVec 32 := Scf.iv v60 c1_i32_39 k0_t2
  let c512_i32_142 : BitVec 32 := 512#32
  let v245 : BitVec 32 := Scalar.muli arg13 c512_i32_142
  let v246 : BitVec 32 := v245
  let v251 : Index := Scalar.indexCast v246
  ![0, 0, 0, 0, v251.toNat]
def k0_off7 (i : grid0.Coords) (k0_t2 : Fin (k0_t2_loop i).trips) : Fin 3 → Nat :=
  let c1_164 : Index := 1#32
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg13 : BitVec 32 := Scf.iv v60 c1_i32_39 k0_t2
  let c512_i32_142 : BitVec 32 := 512#32
  let v245 : BitVec 32 := Scalar.muli arg13 c512_i32_142
  let v246 : BitVec 32 := v245
  let v277 : Index := Scalar.indexCast v246
  let c0_165 : Index := 0#32
  ![1, v277.toNat, 0]
def k0_off8 (i : grid0.Coords) (k0_t2 : Fin (k0_t2_loop i).trips) : Fin 5 → Nat :=
  let c0_167 : Index := 0#32
  let c0_168 : Index := 0#32
  let c1_169 : Index := 1#32
  let c0_170 : Index := 0#32
  let c0_i32_36 : BitVec 32 := 0#32
  let arg2 : BitVec 32 := BitVec.ofNat 32 (i 2).val
  let c1024_i32 : BitVec 32 := 1024#32
  let v0 : BitVec 32 := Scalar.muli arg2 c1024_i32
  let c0_i32_30 : BitVec 32 := 0#32
  let v40 : BitVec 1 := Scalar.cmpi .sgt v0 c0_i32_30
  let v41 : BitVec 32 := Scalar.extui v40
  let c0_i32_31 : BitVec 32 := 0#32
  let v42 : BitVec 1 := Scalar.cmpi .slt v0 c0_i32_31
  let v43 : BitVec 32 := Scalar.extui v42
  let v44 : BitVec 32 := Scalar.subi v41 v43
  let c512_i32 : BitVec 32 := 512#32
  let c0_i32_32 : BitVec 32 := 0#32
  let v45 : BitVec 1 := Scalar.cmpi .sgt c512_i32 c0_i32_32
  let v46 : BitVec 32 := Scalar.extui v45
  let c0_i32_33 : BitVec 32 := 0#32
  let v47 : BitVec 1 := Scalar.cmpi .slt c512_i32 c0_i32_33
  let v48 : BitVec 32 := Scalar.extui v47
  let v49 : BitVec 32 := Scalar.subi v46 v48
  let v50 : BitVec 1 := Scalar.cmpi .ne v44 v49
  let v51 : BitVec 32 := Scalar.remsi v0 c512_i32
  let c0_i32_34 : BitVec 32 := 0#32
  let v52 : BitVec 1 := Scalar.cmpi .ne v51 c0_i32_34
  let v53 : BitVec 1 := Scalar.andi v50 v52
  let v39 : BitVec 32 := Scalar.divsi v0 c512_i32
  let c1_i32 : BitVec 32 := 1#32
  let v54 : BitVec 32 := Scalar.subi v39 c1_i32
  let v55 : BitVec 32 := Scalar.select v53 v54 v39
  let v56 : BitVec 32 := Scalar.subi v55 c0_i32_36
  let c1_i32_37 : BitVec 32 := 1#32
  let v58 : BitVec 32 := Scalar.divsi v56 c1_i32_37
  let v59 : BitVec 32 := Scalar.muli v58 c1_i32_37
  let v60 : BitVec 32 := Scalar.addi c0_i32_36 v59
  let c1_i32_39 : BitVec 32 := 1#32
  let arg13 : BitVec 32 := Scf.iv v60 c1_i32_39 k0_t2
  let c512_i32_142 : BitVec 32 := 512#32
  let v245 : BitVec 32 := Scalar.muli arg13 c512_i32_142
  let v246 : BitVec 32 := v245
  let v281 : Index := Scalar.indexCast v246
  ![0, 0, 1, 0, v281.toNat]
def k0_mult3 (i : grid0.Coords) : BitVec 32 :=
  let arg2 : BitVec 32 := BitVec.ofNat 32 (i 2).val
  let c1024_i32 : BitVec 32 := 1024#32
  let v0 : BitVec 32 := Scalar.muli arg2 c1024_i32
  let c0_i32_40 : BitVec 32 := 0#32
  let v61 : BitVec 32 := Scalar.addi v0 c0_i32_40
  v61
def k0_off9 (i : grid0.Coords) (c0_i32_40 : BitVec 32) : Fin 3 → Nat :=
  let c0_41 : Index := 0#32
  let arg2 : BitVec 32 := BitVec.ofNat 32 (i 2).val
  let c1024_i32 : BitVec 32 := 1024#32
  let v0 : BitVec 32 := Scalar.muli arg2 c1024_i32
  let v61 : BitVec 32 := Scalar.addi v0 c0_i32_40
  let v62 : BitVec 32 := v61
  let v63 : Index := Scalar.indexCast v62
  let c0_42 : Index := 0#32
  ![0, v63.toNat, 0]
def k0_off10 (i : grid0.Coords) (c0_i32_40 : BitVec 32) : Fin 5 → Nat :=
  let c0_46 : Index := 0#32
  let c0_47 : Index := 0#32
  let c0_48 : Index := 0#32
  let c0_49 : Index := 0#32
  let arg2 : BitVec 32 := BitVec.ofNat 32 (i 2).val
  let c1024_i32 : BitVec 32 := 1024#32
  let v0 : BitVec 32 := Scalar.muli arg2 c1024_i32
  let v61 : BitVec 32 := Scalar.addi v0 c0_i32_40
  let v62 : BitVec 32 := v61
  let v77 : Index := Scalar.indexCast v62
  ![0, 0, 0, 0, v77.toNat]
def k0_off11 (i : grid0.Coords) (c0_i32_40 : BitVec 32) : Fin 3 → Nat :=
  let c1_64 : Index := 1#32
  let arg2 : BitVec 32 := BitVec.ofNat 32 (i 2).val
  let c1024_i32 : BitVec 32 := 1024#32
  let v0 : BitVec 32 := Scalar.muli arg2 c1024_i32
  let v61 : BitVec 32 := Scalar.addi v0 c0_i32_40
  let v62 : BitVec 32 := v61
  let v103 : Index := Scalar.indexCast v62
  let c0_65 : Index := 0#32
  ![1, v103.toNat, 0]
def k0_off12 (i : grid0.Coords) (c0_i32_40 : BitVec 32) : Fin 5 → Nat :=
  let c0_69 : Index := 0#32
  let c0_70 : Index := 0#32
  let c1_71 : Index := 1#32
  let c0_72 : Index := 0#32
  let arg2 : BitVec 32 := BitVec.ofNat 32 (i 2).val
  let c1024_i32 : BitVec 32 := 1024#32
  let v0 : BitVec 32 := Scalar.muli arg2 c1024_i32
  let v61 : BitVec 32 := Scalar.addi v0 c0_i32_40
  let v62 : BitVec 32 := v61
  let v117 : Index := Scalar.indexCast v62
  ![0, 0, 1, 0, v117.toNat]
def k0_mult4 (i : grid0.Coords) : BitVec 32 :=
  let arg2 : BitVec 32 := BitVec.ofNat 32 (i 2).val
  let c1024_i32 : BitVec 32 := 1024#32
  let v0 : BitVec 32 := Scalar.muli arg2 c1024_i32
  let c512_i32_87 : BitVec 32 := 512#32
  let v143 : BitVec 32 := Scalar.addi v0 c512_i32_87
  v143
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x8x64 : Shape := ⟨4, ![16, 2048, 8, 64]⟩
abbrev S16x2048x8 : Shape := ⟨3, ![16, 2048, 8]⟩
abbrev S16x2048x4x64 : Shape := ⟨4, ![16, 2048, 4, 64]⟩
abbrev S_ : Shape := ⟨0, ![]⟩
abbrev S16x8x2048 : Shape := ⟨3, ![16, 8, 2048]⟩
abbrev S2048 : Shape := ⟨1, ![2048]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S1x2048 : Shape := ⟨2, ![1, 2048]⟩
abbrev S2048x1 : Shape := ⟨2, ![2048, 1]⟩
abbrev S2048x2048 : Shape := ⟨2, ![2048, 2048]⟩
abbrev S1x1x2048x1 : Shape := ⟨4, ![1, 1, 2048, 1]⟩
abbrev S16x8x64x2048 : Shape := ⟨4, ![16, 8, 64, 2048]⟩
abbrev S16x2048x512 : Shape := ⟨3, ![16, 2048, 512]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S16x2048x4x64, .f32⟩
  | .hbm, ⟨5, _⟩ => ⟨S_, .f32⟩
  | .hbm, ⟨6, _⟩ => ⟨S_, .f32⟩
  | .hbm, ⟨7, _⟩ => ⟨S16x2048x8, .f32⟩
  | .hbm, ⟨8, _⟩ => ⟨S16x8x2048, .f32⟩
  | .hbm, ⟨9, _⟩ => ⟨S2048, .i32⟩
  | .hbm, ⟨10, _⟩ => ⟨S16x8x2048x2048, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S16x8x2048x1, .f32⟩
  | .hbm, ⟨15, _⟩ => ⟨S16x8x1x2048, .f32⟩
  | .hbm, ⟨16, _⟩ => ⟨S16x8x2048x2048, .f32⟩
  | .hbm, ⟨17, _⟩ => ⟨S16x8x2048x2048, .f32⟩
  | .hbm, ⟨18, _⟩ => ⟨S16x8x2048x2048, .f32⟩
  | .hbm, ⟨19, _⟩ => ⟨S16x8x2048x2048, .f32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S16x8x2048x2048, .i1⟩
  | .hbm, ⟨28, _⟩ => ⟨S16x8x2048x2048, .f32⟩
  | .hbm, ⟨29, _⟩ => ⟨S16x8x2048x2048, .f32⟩
  | .hbm, ⟨30, _⟩ => ⟨S_, .f32⟩
  | .hbm, ⟨31, _⟩ => ⟨S16x8x2048, .f32⟩
  | .hbm, ⟨32, _⟩ => ⟨S_, .f32⟩
  | .hbm, ⟨33, _⟩ => ⟨S16x8x2048, .f32⟩
  | .hbm, ⟨34, _⟩ => ⟨S16x8x2048, .f32⟩
  | .hbm, ⟨35, _⟩ => ⟨S16x8x2048x1, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S16x8x2048x1, .f32⟩
  | .hbm, ⟨42, _⟩ => ⟨S16x8x2048x2048, .f32⟩
  | .hbm, ⟨43, _⟩ => ⟨S16x8x2048x2048, .f32⟩
  | .hbm, ⟨44, _⟩ => ⟨S_, .i1⟩
  | .hbm, ⟨45, _⟩ => ⟨S2048, .i1⟩
  | .hbm, ⟨46, _⟩ => ⟨S2048x1, .i1⟩
  | .hbm, ⟨47, _⟩ => ⟨S2048x1, .f32⟩
  | .hbm, ⟨48, _⟩ => ⟨S1x1x2048x1, .f32⟩
  | .hbm, ⟨49, _⟩ => ⟨S16x8x2048x2048, .f32⟩
  | .hbm, ⟨50, _⟩ => ⟨S16x8x2048x2048, .f32⟩
  | .hbm, ⟨51, _⟩ => ⟨S16x8x64x2048, .f32⟩
  | .hbm, ⟨52, _⟩ => ⟨S16x2048x8x64, .f32⟩
  | .hbm, ⟨53, _⟩ => ⟨S16x2048x512, .f32⟩
  | .hbm, ⟨54, _⟩ => ⟨S16x2048x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== FfnKernel.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_17 : BitVec 32 := 0#32
  let v29 : BitVec 1 := Scalar.cmpi .eq arg1 c0_i32_17
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MergeKernel.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S32768x2x1024 : Shape := ⟨3, ![32768, 2, 1024]⟩
abbrev S32768x1x1024 : Shape := ⟨3, ![32768, 1, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x2x1024, .f32⟩
  | .hbm, ⟨10, _⟩ => ⟨S32768x1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ProjKernel.lean ====
abbrev S32768x1024 : Shape := ⟨2, ![32768, 1024]⟩
abbrev S1024x4896 : Shape := ⟨2, ![1024, 4896]⟩
abbrev S4896 : Shape := ⟨1, ![4896]⟩
abbrev S1024x2048 : Shape := ⟨2, ![1024, 2048]⟩
abbrev S1024x8 : Shape := ⟨2, ![1024, 8]⟩
abbrev S_ : Shape := ⟨0, ![]⟩
abbrev S1024x120 : Shape := ⟨2, ![1024, 120]⟩
abbrev S1024x2176 : Shape := ⟨2, ![1024, 2176]⟩
abbrev S2048 : Shape := ⟨1, ![2048]⟩
abbrev S8 : Shape := ⟨1, ![8]⟩
abbrev S120 : Shape := ⟨1, ![120]⟩
abbrev S2176 : Shape := ⟨1, ![2176]⟩
abbrev S1x2176 : Shape := ⟨2, ![1, 2176]⟩
abbrev S1024x1280 : Shape := ⟨2, ![1024, 1280]⟩
abbrev S1024x1536 : Shape := ⟨2, ![1024, 1536]⟩
abbrev S1024x24 : Shape := ⟨2, ![1024, 24]⟩
abbrev S1024x2864 : Shape := ⟨2, ![1024, 2864]⟩
abbrev S2864x1024 : Shape := ⟨2, ![2864, 1024]⟩
abbrev S1280 : Shape := ⟨1, ![1280]⟩
abbrev S1536 : Shape := ⟨1, ![1536]⟩
abbrev S24 : Shape := ⟨1, ![24]⟩
abbrev S2864 : Shape := ⟨1, ![2864]⟩
abbrev S2864x1 : Shape := ⟨2, ![2864, 1]⟩
abbrev S32768x256 : Shape := ⟨2, ![32768, 256]⟩
abbrev S32768x8 : Shape := ⟨2, ![32768, 8]⟩
abbrev S16x12x2048x128 : Shape := ⟨4, ![16, 12, 2048, 128]⟩
abbrev S32768x2048 : Shape := ⟨2, ![32768, 2048]⟩
abbrev S16x512x2048 : Shape := ⟨3, ![16, 512, 2048]⟩
abbrev S16x256x2048 : Shape := ⟨3, ![16, 256, 2048]⟩
abbrev S16x1024x2048 : Shape := ⟨3, ![16, 1024, 2048]⟩
abbrev S16x8x2048 : Shape := ⟨3, ![16, 8, 2048]⟩
abbrev S16x8x64x2048 : Shape := ⟨4, ![16, 8, 64, 2048]⟩
abbrev S16x4x80x2048 : Shape := ⟨4, ![16, 4, 80, 2048]⟩
abbrev S16x8x80x2048 : Shape := ⟨4, ![16, 8, 80, 2048]⟩
abbrev S32x32768 : Shape := ⟨2, ![32, 32768]⟩
abbrev S256x1024 : Shape := ⟨2, ![256, 1024]⟩
abbrev S256x256 : Shape := ⟨2, ![256, 256]⟩
abbrev S256x8 : Shape := ⟨2, ![256, 8]⟩
abbrev S1x12x256x128 : Shape := ⟨4, ![1, 12, 256, 128]⟩
abbrev S256x2048 : Shape := ⟨2, ![256, 2048]⟩
abbrev S1x512x256 : Shape := ⟨3, ![1, 512, 256]⟩
abbrev S1x256x256 : Shape := ⟨3, ![1, 256, 256]⟩
abbrev S1x1024x256 : Shape := ⟨3, ![1, 1024, 256]⟩
abbrev S1x8x256 : Shape := ⟨3, ![1, 8, 256]⟩
abbrev S1x8x64x256 : Shape := ⟨4, ![1, 8, 64, 256]⟩
abbrev S1x4x80x256 : Shape := ⟨4, ![1, 4, 80, 256]⟩
abbrev S1x8x80x256 : Shape := ⟨4, ![1, 8, 80, 256]⟩
abbrev S32x256 : Shape := ⟨2, ![32, 256]⟩
abbrev S1x2048 : Shape := ⟨2, ![1, 2048]⟩
abbrev S1024x128 : Shape := ⟨2, ![1024, 128]⟩
abbrev S256x128 : Shape := ⟨2, ![256, 128]⟩
abbrev S1x128 : Shape := ⟨2, ![1, 128]⟩
abbrev S16x256 : Shape := ⟨2, ![16, 256]⟩
abbrev S512x1024 : Shape := ⟨2, ![512, 1024]⟩
abbrev S512x256 : Shape := ⟨2, ![512, 256]⟩
abbrev S512x1 : Shape := ⟨2, ![512, 1]⟩
abbrev S8x64x256 : Shape := ⟨3, ![8, 64, 256]⟩
abbrev S768x1024 : Shape := ⟨2, ![768, 1024]⟩
abbrev S768x256 : Shape := ⟨2, ![768, 256]⟩
abbrev S768x1 : Shape := ⟨2, ![768, 1]⟩
abbrev S64x256 : Shape := ⟨2, ![64, 256]⟩
abbrev S80x256 : Shape := ⟨2, ![80, 256]⟩
abbrev S1x1x80x256 : Shape := ⟨4, ![1, 1, 80, 256]⟩
abbrev S1024x1024 : Shape := ⟨2, ![1024, 1024]⟩
abbrev S1024x256 : Shape := ⟨2, ![1024, 256]⟩
abbrev S1024x1 : Shape := ⟨2, ![1024, 1]⟩
abbrev S128x256 : Shape := ⟨2, ![128, 256]⟩
abbrev S256x768 : Shape := ⟨2, ![256, 768]⟩
abbrev S1x1x256x128 : Shape := ⟨4, ![1, 1, 256, 128]⟩
abbrev S32x1024 : Shape := ⟨2, ![32, 1024]⟩
abbrev S32x1 : Shape := ⟨2, ![32, 1]⟩
abbrev S16x1024 : Shape := ⟨2, ![16, 1024]⟩
abbrev S16x1 : Shape := ⟨2, ![16, 1]⟩
abbrev S8x256 : Shape := ⟨2, ![8, 256]⟩

abbrev nBuf : Space → Nat
  | .hbm => 49
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024x4896, .f32⟩
  | .hbm, ⟨2, _⟩ => ⟨S4896, .f32⟩
  | .hbm, ⟨3, _⟩ => ⟨S1024x2048, .f32⟩
  | .hbm, ⟨4, _⟩ => ⟨S1024x8, .f32⟩
  | .hbm, ⟨5, _⟩ => ⟨S_, .f32⟩
  | .hbm, ⟨6, _⟩ => ⟨S1024x120, .f32⟩
  | .hbm, ⟨7, _⟩ => ⟨S1024x2176, .f32⟩
  | .hbm, ⟨8, _⟩ => ⟨S1024x2176, .bf16⟩
  | .hbm, ⟨9, _⟩ => ⟨S2048, .f32⟩
  | .hbm, ⟨10, _⟩ => ⟨S8, .f32⟩
  | .hbm, ⟨11, _⟩ => ⟨S_, .f32⟩
  | .hbm, ⟨12, _⟩ => ⟨S120, .f32⟩
  | .hbm, ⟨13, _⟩ => ⟨S2176, .f32⟩
  | .hbm, ⟨14, _⟩ => ⟨S1x2176, .f32⟩
  | .hbm, ⟨15, _⟩ => ⟨S1024x1280, .f32⟩
  | .hbm, ⟨16, _⟩ => ⟨S1024x1536, .f32⟩
  | .hbm, ⟨17, _⟩ => ⟨S1024x24, .f32⟩
  | .hbm, ⟨18, _⟩ => ⟨S_, .f32⟩
  | .hbm, ⟨19, _⟩ => ⟨S1024x8, .f32⟩
  | .hbm, ⟨20, _⟩ => ⟨S1024x8, .f32⟩
  | .hbm, ⟨21, _⟩ => ⟨S_, .f32⟩
  | .hbm, ⟨22, _⟩ => ⟨S1024x8, .f32⟩
  | .hbm, ⟨23, _⟩ => ⟨S1024x2864, .f32⟩
  | .hbm, ⟨24, _⟩ => ⟨S2864x1024, .f32⟩
  | .hbm, ⟨25, _⟩ => ⟨S2864x1024, .bf16⟩
  | .hbm, ⟨26, _⟩ => ⟨S1280, .f32⟩
  | .hbm, ⟨27, _⟩ => ⟨S1536, .f32⟩
  | .hbm, ⟨28, _⟩ => ⟨S24, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S2864, .f32⟩
  | .hbm, ⟨35, _⟩ => ⟨S2864x1, .f32⟩
  | .hbm, ⟨36, _⟩ => ⟨S32768x256, .f32⟩
  | .hbm, ⟨37, _⟩ => ⟨S32768x8, .f32⟩
  | .hbm, ⟨38, _⟩ => ⟨S16x12x2048x128, .bf16⟩
  | .hbm, ⟨39, _⟩ => ⟨S32768x2048, .f32⟩
  | .hbm, ⟨40, _⟩ => ⟨S16x512x2048, .f32⟩
  | .hbm, ⟨41, _⟩ => ⟨S16x256x2048, .f32⟩
  | .hbm, ⟨42, _⟩ => ⟨S16x1024x2048, .f32⟩
  | .hbm, ⟨43, _⟩ => ⟨S16x8x2048, .f32⟩
  | .hbm, ⟨44, _⟩ => ⟨S16x8x64x2048, .bf16⟩
  | .hbm, ⟨45, _⟩ => ⟨S16x4x80x2048, .bf16⟩
  | .hbm, ⟨46, _⟩ => ⟨S16x8x64x2048, .bf16⟩
  | .hbm, ⟨47, _⟩ => ⟨S16x8x80x2048, .bf16⟩
  | .hbm, ⟨48, _⟩ => ⟨S32x32768, .f32⟩
  | .local _ .vmem, ⟨0, _⟩ => ⟨S256x1024, .f32⟩
  | .local _ .vmem, ⟨1, _⟩ => ⟨S256x1024, .f32⟩
  | .local _ .vmem, ⟨2, _⟩ => ⟨S1024x2176, .bf16⟩
  | .local _ .vmem, ⟨3, _⟩ => ⟨S1x2176, .f32⟩
  | .local _ .vmem, ⟨4, _⟩ => ⟨S2864x1024, .bf16⟩
  | .local _ .vmem, ⟨5, _⟩ => ⟨S2864x1, .f32⟩
  | .local _ .vmem, ⟨6, _⟩ => ⟨S256x256, .f32⟩
  | .local _ .vmem, ⟨7, _⟩ => ⟨S256x256, .f32⟩
  | .local _ .vmem, ⟨8, _⟩ => ⟨S256x8, .f32⟩
  | .local _ .vmem, ⟨9, _⟩ => ⟨S256x8, .f32⟩
  | .local _ .vmem, ⟨10, _⟩ => ⟨S1x12x256x128, .bf16⟩
  | .local _ .vmem, ⟨11, _⟩ => ⟨S1x12x256x128, .bf16⟩
  | .local _ .vmem, ⟨12, _⟩ => ⟨S256x2048, .f32⟩
  | .local _ .vmem, ⟨13, _⟩ => ⟨S256x2048, .f32⟩
  | .local _ .vmem, ⟨14, _⟩ => ⟨S1x512x256, .f32⟩
  | .local _ .vmem, ⟨15, _⟩ => ⟨S1x512x256, .f32⟩
  | .local _ .vmem, ⟨16, _⟩ => ⟨S1x256x256, .f32⟩
  | .local _ .vmem, ⟨17, _⟩ => ⟨S1x256x256, .f32⟩
  | .local _ .vmem, ⟨18, _⟩ => ⟨S1x1024x256, .f32⟩
  | .local _ .vmem, ⟨19, _⟩ => ⟨S1x1024x256, .f32⟩
  | .local _ .vmem, ⟨20, _⟩ => ⟨S1x8x256, .f32⟩
  | .local _ .vmem, ⟨21, _⟩ => ⟨S1x8x256, .f32⟩
  | .local _ .vmem, ⟨22, _⟩ => ⟨S1x8x64x256, .bf16⟩
  | .local _ .vmem, ⟨23, _⟩ => ⟨S1x8x64x256, .bf16⟩
  | .local _ .vmem, ⟨24, _⟩ => ⟨S1x4x80x256, .bf16⟩
  | .local _ .vmem, ⟨25, _⟩ => ⟨S1x4x80x256, .bf16⟩
  | .local _ .vmem, ⟨26, _⟩ => ⟨S1x8x64x256, .bf16⟩
  | .local _ .vmem, ⟨27, _⟩ => ⟨S1x8x64x256, .bf16⟩
  | .local _ .vmem, ⟨28, _⟩ => ⟨S1x8x80x256, .bf16⟩
  | .local _ .vmem, ⟨29, _⟩ => ⟨S1x8x80x256, .bf16⟩
  | .local _ .vmem, ⟨30, _⟩ => ⟨S32x256, .f32⟩
  | .local _ .vmem, ⟨31, _⟩ => ⟨S32x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev main_v27_6 : Ref sig .tc := ⟨.hbm, 42, rfl⟩
abbrev main_v27_7 : Ref sig .tc := ⟨.hbm, 43, rfl⟩
abbrev main_v27_8 : Ref sig .tc := ⟨.hbm, 44, rfl⟩
abbrev main_v27_9 : Ref sig .tc := ⟨.hbm, 45, rfl⟩
abbrev main_v27_10 : Ref sig .tc := ⟨.hbm, 46, rfl⟩
abbrev main_v27_11 : Ref sig .tc := ⟨.hbm, 47, rfl⟩
abbrev main_v27_12 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2864x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2864x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x12x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x80x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x80x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjReferenceIdeal.lean ====
abbrev S32768x1024 : Shape := ⟨2, ![32768, 1024]⟩
abbrev S1024x4896 : Shape := ⟨2, ![1024, 4896]⟩
abbrev S4896 : Shape := ⟨1, ![4896]⟩
abbrev S32768x4896 : Shape := ⟨2, ![32768, 4896]⟩
abbrev S1x4896 : Shape := ⟨2, ![1, 4896]⟩
abbrev S32768x512 : Shape := ⟨2, ![32768, 512]⟩
abbrev S32768x768 : Shape := ⟨2, ![32768, 768]⟩
abbrev S32768x24 : Shape := ⟨2, ![32768, 24]⟩
abbrev S32768x1536 : Shape := ⟨2, ![32768, 1536]⟩
abbrev S32768x8 : Shape := ⟨2, ![32768, 8]⟩
abbrev S32768x2048 : Shape := ⟨2, ![32768, 2048]⟩
abbrev S16x2048x8x64 : Shape := ⟨4, ![16, 2048, 8, 64]⟩
abbrev S16x2048x6x2x64 : Shape := ⟨5, ![16, 2048, 6, 2, 64]⟩
abbrev S_ : Shape := ⟨0, ![]⟩
abbrev S16x2048x3x8x64 : Shape := ⟨5, ![16, 2048, 3, 8, 64]⟩
abbrev S16x2048x4x2x64 : Shape := ⟨5, ![16, 2048, 4, 2, 64]⟩
abbrev S16x2048x512 : Shape := ⟨3, ![16, 2048, 512]⟩
abbrev S16x512x2048 : Shape := ⟨3, ![16, 512, 2048]⟩
abbrev S16x2048x2x2x64 : Shape := ⟨5, ![16, 2048, 2, 2, 64]⟩
abbrev S16x2048x256 : Shape := ⟨3, ![16, 2048, 256]⟩
abbrev S16x256x2048 : Shape := ⟨3, ![16, 256, 2048]⟩
abbrev S16x2048x2x8x64 : Shape := ⟨5, ![16, 2048, 2, 8, 64]⟩
abbrev S16x2048x1024 : Shape := ⟨3, ![16, 2048, 1024]⟩
abbrev S16x1024x2048 : Shape := ⟨3, ![16, 1024, 2048]⟩
abbrev S16x2048x8 : Shape := ⟨3, ![16, 2048, 8]⟩
abbrev S16x8x2048 : Shape := ⟨3, ![16, 8, 2048]⟩
abbrev S16x8x64x2048 : Shape := ⟨4, ![16, 8, 64, 2048]⟩
abbrev S16x2048x1x8x64 : Shape := ⟨5, ![16, 2048, 1, 8, 64]⟩
abbrev S24x32768 : Shape := ⟨2, ![24, 32768]⟩
abbrev S32x32768 : Shape := ⟨2, ![32, 32768]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4896, .f32⟩
  | .hbm, ⟨2, _⟩ => ⟨S4896, .f32⟩
  | .hbm, ⟨3, _⟩ => ⟨S32768x4896, .f32⟩
  | .hbm, ⟨4, _⟩ => ⟨S1x4896, .f32⟩
  | .hbm, ⟨5, _⟩ => ⟨S32768x4896, .f32⟩
  | .hbm, ⟨6, _⟩ => ⟨S32768x4896, .f32⟩
  | .hbm, ⟨7, _⟩ => ⟨S32768x512, .f32⟩
  | .hbm, ⟨8, _⟩ => ⟨S32768x768, .f32⟩
  | .hbm, ⟨9, _⟩ => ⟨S32768x24, .f32⟩
  | .hbm, ⟨10, _⟩ => ⟨S32768x1536, .f32⟩
  | .hbm, ⟨11, _⟩ => ⟨S32768x8, .f32⟩
  | .hbm, ⟨12, _⟩ => ⟨S32768x2048, .f32⟩
  | .hbm, ⟨13, _⟩ => ⟨S16x2048x8x64, .f32⟩
  | .hbm, ⟨14, _⟩ => ⟨S16x2048x6x2x64, .f32⟩
  | .hbm, ⟨15, _⟩ => ⟨S32768x24, .f32⟩
  | .hbm, ⟨16, _⟩ => ⟨S32768x24, .f32⟩
  | .hbm, ⟨17, _⟩ => ⟨S_, .f32⟩
  | .hbm, ⟨18, _⟩ => ⟨S32768x24, .f32⟩
  | .hbm, ⟨19, _⟩ => ⟨S32768x24, .f32⟩
  | .hbm, ⟨20, _⟩ => ⟨S_, .f32⟩
  | .hbm, ⟨21, _⟩ => ⟨S32768x24, .f32⟩
  | .hbm, ⟨22, _⟩ => ⟨S32768x24, .f32⟩
  | .hbm, ⟨23, _⟩ => ⟨S16x2048x3x8x64, .f32⟩
  | .hbm, ⟨24, _⟩ => ⟨S32768x8, .f32⟩
  | .hbm, ⟨25, _⟩ => ⟨S_, .f32⟩
  | .hbm, ⟨26, _⟩ => ⟨S32768x8, .f32⟩
  | .hbm, ⟨27, _⟩ => ⟨S32768x8, .f32⟩
  | .hbm, ⟨28, _⟩ => ⟨S32768x8, .f32⟩
  | .hbm, ⟨29, _⟩ => ⟨S32768x8, .f32⟩
  | .hbm, ⟨30, _⟩ => ⟨S32768x8, .i1⟩
  | .hbm, ⟨31, _⟩ => ⟨S32768x8, .f32⟩
  | .hbm, ⟨32, _⟩ => ⟨S32768x8, .f32⟩
  | .hbm, ⟨33, _⟩ => ⟨S32768x8, .f32⟩
  | .hbm, ⟨34, _⟩ => ⟨S32768x8, .f32⟩
  | .hbm, ⟨35, _⟩ => ⟨S32768x8, .f32⟩
  | .hbm, ⟨36, _⟩ => ⟨S32768x8, .f32⟩
  | .hbm, ⟨37, _⟩ => ⟨S32768x8, .f32⟩
  | .hbm, ⟨38, _⟩ => ⟨S32768x8, .f32⟩
  | .hbm, ⟨39, _⟩ => ⟨S32768x8, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768x2048, .f32⟩
  | .hbm, ⟨47, _⟩ => ⟨S32768x2048, .f32⟩
  | .hbm, ⟨48, _⟩ => ⟨S16x2048x4x2x64, .f32⟩
  | .hbm, ⟨49, _⟩ => ⟨S16x2048x512, .f32⟩
  | .hbm, ⟨50, _⟩ => ⟨S16x512x2048, .f32⟩
  | .hbm, ⟨51, _⟩ => ⟨S16x2048x2x2x64, .f32⟩
  | .hbm, ⟨52, _⟩ => ⟨S16x2048x256, .f32⟩
  | .hbm, ⟨53, _⟩ => ⟨S16x256x2048, .f32⟩
  | .hbm, ⟨54, _⟩ => ⟨S16x2048x2x8x64, .f32⟩
  | .hbm, ⟨55, _⟩ => ⟨S16x2048x1024, .f32⟩
  | .hbm, ⟨56, _⟩ => ⟨S16x1024x2048, .f32⟩
  | .hbm, ⟨57, _⟩ => ⟨S16x2048x8, .f32⟩
  | .hbm, ⟨58, _⟩ => ⟨S16x8x2048, .f32⟩
  | .hbm, ⟨59, _⟩ => ⟨S_, .f32⟩
  | .hbm, ⟨60, _⟩ => ⟨S16x2048x8x64, .f32⟩
  | .hbm, ⟨61, _⟩ => ⟨S16x2048x8x64, .f32⟩
  | .hbm, ⟨62, _⟩ => ⟨S16x2048x8x64, .bf16⟩
  | .hbm, ⟨63, _⟩ => ⟨S16x8x64x2048, .bf16⟩
  | .hbm, ⟨64, _⟩ => ⟨S16x2048x1x8x64, .f32⟩
  | .hbm, ⟨65, _⟩ => ⟨S16x2048x8x64, .f32⟩
  | .hbm, ⟨66, _⟩ => ⟨S_, .f32⟩
  | .hbm, ⟨67, _⟩ => ⟨S16x2048x8x64, .f32⟩
  | .hbm, ⟨68, _⟩ => ⟨S16x2048x8x64, .f32⟩
  | .hbm, ⟨69, _⟩ => ⟨S16x2048x8x64, .bf16⟩
  | .hbm, ⟨70, _⟩ => ⟨S16x8x64x2048, .bf16⟩
  | .hbm, ⟨71, _⟩ => ⟨S24x32768, .f32⟩
  | .hbm, ⟨72, _⟩ => ⟨S_, .f32⟩
  | .hbm, ⟨73, _⟩ => ⟨S_, .f32⟩
  | .hbm, ⟨74, _⟩ => ⟨S32x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_call1_v0 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== FfnSampleKernel.lean ====
abbrev S128x1024 : Shape := ⟨2, ![128, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S128x2816 : Shape := ⟨2, ![128, 2816]⟩
abbrev S128 : Shape := ⟨1, ![128]⟩
abbrev S128x1 : Shape := ⟨2, ![128, 1]⟩

abbrev nBuf : Space → Nat
  | .hbm => 12
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S128x1024, .f32⟩
  | .local _ .vmem, ⟨0, _⟩ => ⟨S128x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_17 : BitVec 32 := 0#32
  let v29 : BitVec 1 := Scalar.cmpi .eq arg1 c0_i32_17
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleReferenceIdeal.lean ====
abbrev S128x1024 : Shape := ⟨2, ![128, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S128x2816 : Shape := ⟨2, ![128, 2816]⟩
abbrev S128 : Shape := ⟨1, ![128]⟩
abbrev S128x1 : Shape := ⟨2, ![128, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x2816, .f32⟩
  | .hbm, ⟨10, _⟩ => ⟨S128x2816, .f32⟩
  | .hbm, ⟨11, _⟩ => ⟨S128x2816, .f32⟩
  | .hbm, ⟨12, _⟩ => ⟨S_, .f32⟩
  | .hbm, ⟨13, _⟩ => ⟨S128x2816, .f32⟩
  | .hbm, ⟨14, _⟩ => ⟨S128x2816, .f32⟩
  | .hbm, ⟨15, _⟩ => ⟨S_, .f32⟩
  | .hbm, ⟨16, _⟩ => ⟨S128x2816, .f32⟩
  | .hbm, ⟨17, _⟩ => ⟨S128x2816, .f32⟩
  | .hbm, ⟨18, _⟩ => ⟨S128x2816, .f32⟩
  | .hbm, ⟨19, _⟩ => ⟨S128x2816, .f32⟩
  | .hbm, ⟨20, _⟩ => ⟨S128x2816, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== ProjSampleKernel.lean ====
abbrev S128x1024 : Shape := ⟨2, ![128, 1024]⟩
abbrev S1024x4896 : Shape := ⟨2, ![1024, 4896]⟩
abbrev S4896 : Shape := ⟨1, ![4896]⟩
abbrev S32x512x2x2x64 : Shape := ⟨5, ![32, 512, 2, 2, 64]⟩
abbrev S1024x2048 : Shape := ⟨2, ![1024, 2048]⟩
abbrev S1024x8 : Shape := ⟨2, ![1024, 8]⟩
abbrev S_ : Shape := ⟨0, ![]⟩
abbrev S1024x120 : Shape := ⟨2, ![1024, 120]⟩
abbrev S1024x2176 : Shape := ⟨2, ![1024, 2176]⟩
abbrev S2048 : Shape := ⟨1, ![2048]⟩
abbrev S8 : Shape := ⟨1, ![8]⟩
abbrev S120 : Shape := ⟨1, ![120]⟩
abbrev S2176 : Shape := ⟨1, ![2176]⟩
abbrev S1x2176 : Shape := ⟨2, ![1, 2176]⟩
abbrev S1024x1280 : Shape := ⟨2, ![1024, 1280]⟩
abbrev S1024x1536 : Shape := ⟨2, ![1024, 1536]⟩
abbrev S1024x24 : Shape := ⟨2, ![1024, 24]⟩
abbrev S1024x2864 : Shape := ⟨2, ![1024, 2864]⟩
abbrev S2864x1024 : Shape := ⟨2, ![2864, 1024]⟩
abbrev S1280 : Shape := ⟨1, ![1280]⟩
abbrev S1536 : Shape := ⟨1, ![1536]⟩
abbrev S24 : Shape := ⟨1, ![24]⟩
abbrev S2864 : Shape := ⟨1, ![2864]⟩
abbrev S2864x1 : Shape := ⟨2, ![2864, 1]⟩
abbrev S128x256 : Shape := ⟨2, ![128, 256]⟩
abbrev S128x8 : Shape := ⟨2, ![128, 8]⟩
abbrev S1x12x128x128 : Shape := ⟨4, ![1, 12, 128, 128]⟩
abbrev S128x2048 : Shape := ⟨2, ![128, 2048]⟩
abbrev S1x512x128 : Shape := ⟨3, ![1, 512, 128]⟩
abbrev S1x256x128 : Shape := ⟨3, ![1, 256, 128]⟩
abbrev S1x1024x128 : Shape := ⟨3, ![1, 1024, 128]⟩
abbrev S1x8x128 : Shape := ⟨3, ![1, 8, 128]⟩
abbrev S1x8x64x128 : Shape := ⟨4, ![1, 8, 64, 128]⟩
abbrev S1x4x80x128 : Shape := ⟨4, ![1, 4, 80, 128]⟩
abbrev S1x8x80x128 : Shape := ⟨4, ![1, 8, 80, 128]⟩
abbrev S32x128 : Shape := ⟨2, ![32, 128]⟩
abbrev S1x2048 : Shape := ⟨2, ![1, 2048]⟩
abbrev S1024x128 : Shape := ⟨2, ![1024, 128]⟩
abbrev S128x128 : Shape := ⟨2, ![128, 128]⟩
abbrev S1x128 : Shape := ⟨2, ![1, 128]⟩
abbrev S16x128 : Shape := ⟨2, ![16, 128]⟩
abbrev S512x1024 : Shape := ⟨2, ![512, 1024]⟩
abbrev S512x128 : Shape := ⟨2, ![512, 128]⟩
abbrev S512x1 : Shape := ⟨2, ![512, 1]⟩
abbrev S8x64x128 : Shape := ⟨3, ![8, 64, 128]⟩
abbrev S768x1024 : Shape := ⟨2, ![768, 1024]⟩
abbrev S768x128 : Shape := ⟨2, ![768, 128]⟩
abbrev S768x1 : Shape := ⟨2, ![768, 1]⟩
abbrev S256x128 : Shape := ⟨2, ![256, 128]⟩
abbrev S64x128 : Shape := ⟨2, ![64, 128]⟩
abbrev S80x128 : Shape := ⟨2, ![80, 128]⟩
abbrev S1x1x80x128 : Shape := ⟨4, ![1, 1, 80, 128]⟩
abbrev S1024x1024 : Shape := ⟨2, ![1024, 1024]⟩
abbrev S1024x1 : Shape := ⟨2, ![1024, 1]⟩
abbrev S128x768 : Shape := ⟨2, ![128, 768]⟩
abbrev S1x1x128x128 : Shape := ⟨4, ![1, 1, 128, 128]⟩
abbrev S32x1024 : Shape := ⟨2, ![32, 1024]⟩
abbrev S32x1 : Shape := ⟨2, ![32, 1]⟩
abbrev S16x1024 : Shape := ⟨2, ![16, 1024]⟩
abbrev S16x1 : Shape := ⟨2, ![16, 1]⟩
abbrev S8x128 : Shape := ⟨2, ![8, 128]⟩
abbrev S32x4x2x2x64 : Shape := ⟨5, ![32, 4, 2, 2, 64]⟩
abbrev S32x516x2x2x64 : Shape := ⟨5, ![32, 516, 2, 2, 64]⟩

abbrev nBuf : Space → Nat
  | .hbm => 55
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S1024x4896, .f32⟩
  | .hbm, ⟨2, _⟩ => ⟨S4896, .f32⟩
  | .hbm, ⟨3, _⟩ => ⟨S32x512x2x2x64, .f32⟩
  | .hbm, ⟨4, _⟩ => ⟨S1024x2048, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x2176, .f32⟩
  | .hbm, ⟨9, _⟩ => ⟨S1024x2176, .bf16⟩
  | .hbm, ⟨10, _⟩ => ⟨S2048, .f32⟩
  | .hbm, ⟨11, _⟩ => ⟨S8, .f32⟩
  | .hbm, ⟨12, _⟩ => ⟨S_, .f32⟩
  | .hbm, ⟨13, _⟩ => ⟨S120, .f32⟩
  | .hbm, ⟨14, _⟩ => ⟨S2176, .f32⟩
  | .hbm, ⟨15, _⟩ => ⟨S1x2176, .f32⟩
  | .hbm, ⟨16, _⟩ => ⟨S1024x1280, .f32⟩
  | .hbm, ⟨17, _⟩ => ⟨S1024x1536, .f32⟩
  | .hbm, ⟨18, _⟩ => ⟨S1024x24, .f32⟩
  | .hbm, ⟨19, _⟩ => ⟨S_, .f32⟩
  | .hbm, ⟨20, _⟩ => ⟨S1024x8, .f32⟩
  | .hbm, ⟨21, _⟩ => ⟨S1024x8, .f32⟩
  | .hbm, ⟨22, _⟩ => ⟨S_, .f32⟩
  | .hbm, ⟨23, _⟩ => ⟨S1024x8, .f32⟩
  | .hbm, ⟨24, _⟩ => ⟨S1024x2864, .f32⟩
  | .hbm, ⟨25, _⟩ => ⟨S2864x1024, .f32⟩
  | .hbm, ⟨26, _⟩ => ⟨S2864x1024, .bf16⟩
  | .hbm, ⟨27, _⟩ => ⟨S1280, .f32⟩
  | .hbm, ⟨28, _⟩ => ⟨S1536, .f32⟩
  | .hbm, ⟨29, _⟩ => ⟨S24, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S2864, .f32⟩
  | .hbm, ⟨36, _⟩ => ⟨S2864x1, .f32⟩
  | .hbm, ⟨37, _⟩ => ⟨S128x256, .f32⟩
  | .hbm, ⟨38, _⟩ => ⟨S128x8, .f32⟩
  | .hbm, ⟨39, _⟩ => ⟨S1x12x128x128, .bf16⟩
  | .hbm, ⟨40, _⟩ => ⟨S128x2048, .f32⟩
  | .hbm, ⟨41, _⟩ => ⟨S1x512x128, .f32⟩
  | .hbm, ⟨42, _⟩ => ⟨S1x256x128, .f32⟩
  | .hbm, ⟨43, _⟩ => ⟨S1x1024x128, .f32⟩
  | .hbm, ⟨44, _⟩ => ⟨S1x8x128, .f32⟩
  | .hbm, ⟨45, _⟩ => ⟨S1x8x64x128, .bf16⟩
  | .hbm, ⟨46, _⟩ => ⟨S1x4x80x128, .bf16⟩
  | .hbm, ⟨47, _⟩ => ⟨S1x8x64x128, .bf16⟩
  | .hbm, ⟨48, _⟩ => ⟨S1x8x80x128, .bf16⟩
  | .hbm, ⟨49, _⟩ => ⟨S32x128, .f32⟩
  | .hbm, ⟨50, _⟩ => ⟨S256x128, .f32⟩
  | .hbm, ⟨51, _⟩ => ⟨S128x256, .f32⟩
  | .hbm, ⟨52, _⟩ => ⟨S32x4x2x2x64, .f32⟩
  | .hbm, ⟨53, _⟩ => ⟨S32x516x2x2x64, .f32⟩
  | .hbm, ⟨54, _⟩ => ⟨S32x512x2x2x64, .f32⟩
  | .local _ .vmem, ⟨0, _⟩ => ⟨S128x1024, .f32⟩
  | .local _ .vmem, ⟨1, _⟩ => ⟨S1024x2176, .bf16⟩
  | .local _ .vmem, ⟨2, _⟩ => ⟨S1x2176, .f32⟩
  | .local _ .vmem, ⟨3, _⟩ => ⟨S2864x1024, .bf16⟩
  | .local _ .vmem, ⟨4, _⟩ => ⟨S2864x1, .f32⟩
  | .local _ .vmem, ⟨5, _⟩ => ⟨S128x256, .f32⟩
  | .local _ .vmem, ⟨6, _⟩ => ⟨S128x8, .f32⟩
  | .local _ .vmem, ⟨7, _⟩ => ⟨S1x12x128x128, .bf16⟩
  | .local _ .vmem, ⟨8, _⟩ => ⟨S128x2048, .f32⟩
  | .local _ .vmem, ⟨9, _⟩ => ⟨S1x512x128, .f32⟩
  | .local _ .vmem, ⟨10, _⟩ => ⟨S1x256x128, .f32⟩
  | .local _ .vmem, ⟨11, _⟩ => ⟨S1x1024x128, .f32⟩
  | .local _ .vmem, ⟨12, _⟩ => ⟨S1x8x128, .f32⟩
  | .local _ .vmem, ⟨13, _⟩ => ⟨S1x8x64x128, .bf16⟩
  | .local _ .vmem, ⟨14, _⟩ => ⟨S1x4x80x128, .bf16⟩
  | .local _ .vmem, ⟨15, _⟩ => ⟨S1x8x64x128, .bf16⟩
  | .local _ .vmem, ⟨16, _⟩ => ⟨S1x8x80x128, .bf16⟩
  | .local _ .vmem, ⟨17, _⟩ => ⟨S32x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev main_v27_6 : Ref sig .tc := ⟨.hbm, 43, rfl⟩
abbrev main_v27_7 : Ref sig .tc := ⟨.hbm, 44, rfl⟩
abbrev main_v27_8 : Ref sig .tc := ⟨.hbm, 45, rfl⟩
abbrev main_v27_9 : Ref sig .tc := ⟨.hbm, 46, rfl⟩
abbrev main_v27_10 : Ref sig .tc := ⟨.hbm, 47, rfl⟩
abbrev main_v27_11 : Ref sig .tc := ⟨.hbm, 48, rfl⟩
abbrev main_v27_12 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_13 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_14 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_15 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_16 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2864x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2864x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x12x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x8x64x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x4x80x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1x8x64x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x8x80x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjSampleReferenceIdeal.lean ====
abbrev S128x1024 : Shape := ⟨2, ![128, 1024]⟩
abbrev S1024x4896 : Shape := ⟨2, ![1024, 4896]⟩
abbrev S4896 : Shape := ⟨1, ![4896]⟩
abbrev S32x512x2x2x64 : Shape := ⟨5, ![32, 512, 2, 2, 64]⟩
abbrev S128x4896 : Shape := ⟨2, ![128, 4896]⟩
abbrev S1x4896 : Shape := ⟨2, ![1, 4896]⟩
abbrev S128x512 : Shape := ⟨2, ![128, 512]⟩
abbrev S128x768 : Shape := ⟨2, ![128, 768]⟩
abbrev S128x24 : Shape := ⟨2, ![128, 24]⟩
abbrev S128x1536 : Shape := ⟨2, ![128, 1536]⟩
abbrev S128x8 : Shape := ⟨2, ![128, 8]⟩
abbrev S128x2048 : Shape := ⟨2, ![128, 2048]⟩
abbrev S1x128x8x64 : Shape := ⟨4, ![1, 128, 8, 64]⟩
abbrev S1x128x6x2x64 : Shape := ⟨5, ![1, 128, 6, 2, 64]⟩
abbrev S_ : Shape := ⟨0, ![]⟩
abbrev S1x128x3x8x64 : Shape := ⟨5, ![1, 128, 3, 8, 64]⟩
abbrev S1x128x4x2x64 : Shape := ⟨5, ![1, 128, 4, 2, 64]⟩
abbrev S1x128x512 : Shape := ⟨3, ![1, 128, 512]⟩
abbrev S1x512x128 : Shape := ⟨3, ![1, 512, 128]⟩
abbrev S1x128x2x2x64 : Shape := ⟨5, ![1, 128, 2, 2, 64]⟩
abbrev S1x128x256 : Shape := ⟨3, ![1, 128, 256]⟩
abbrev S1x256x128 : Shape := ⟨3, ![1, 256, 128]⟩
abbrev S1x128x2x8x64 : Shape := ⟨5, ![1, 128, 2, 8, 64]⟩
abbrev S1x128x1024 : Shape := ⟨3, ![1, 128, 1024]⟩
abbrev S1x1024x128 : Shape := ⟨3, ![1, 1024, 128]⟩
abbrev S1x128x8 : Shape := ⟨3, ![1, 128, 8]⟩
abbrev S1x8x128 : Shape := ⟨3, ![1, 8, 128]⟩
abbrev S1x8x64x128 : Shape := ⟨4, ![1, 8, 64, 128]⟩
abbrev S1x128x1x8x64 : Shape := ⟨5, ![1, 128, 1, 8, 64]⟩
abbrev S24x128 : Shape := ⟨2, ![24, 128]⟩
abbrev S32x128 : Shape := ⟨2, ![32, 128]⟩
abbrev S32x4x6x2x64 : Shape := ⟨5, ![32, 4, 6, 2, 64]⟩
abbrev S32x4x2x2x64 : Shape := ⟨5, ![32, 4, 2, 2, 64]⟩
abbrev S32x516x2x2x64 : Shape := ⟨5, ![32, 516, 2, 2, 64]⟩

abbrev nBuf : Space → Nat
  | .hbm => 90
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x4896, .f32⟩
  | .hbm, ⟨2, _⟩ => ⟨S4896, .f32⟩
  | .hbm, ⟨3, _⟩ => ⟨S32x512x2x2x64, .f32⟩
  | .hbm, ⟨4, _⟩ => ⟨S128x4896, .f32⟩
  | .hbm, ⟨5, _⟩ => ⟨S1x4896, .f32⟩
  | .hbm, ⟨6, _⟩ => ⟨S128x4896, .f32⟩
  | .hbm, ⟨7, _⟩ => ⟨S128x4896, .f32⟩
  | .hbm, ⟨8, _⟩ => ⟨S128x512, .f32⟩
  | .hbm, ⟨9, _⟩ => ⟨S128x768, .f32⟩
  | .hbm, ⟨10, _⟩ => ⟨S128x24, .f32⟩
  | .hbm, ⟨11, _⟩ => ⟨S128x1536, .f32⟩
  | .hbm, ⟨12, _⟩ => ⟨S128x8, .f32⟩
  | .hbm, ⟨13, _⟩ => ⟨S128x2048, .f32⟩
  | .hbm, ⟨14, _⟩ => ⟨S1x128x8x64, .f32⟩
  | .hbm, ⟨15, _⟩ => ⟨S1x128x6x2x64, .f32⟩
  | .hbm, ⟨16, _⟩ => ⟨S128x24, .f32⟩
  | .hbm, ⟨17, _⟩ => ⟨S128x24, .f32⟩
  | .hbm, ⟨18, _⟩ => ⟨S_, .f32⟩
  | .hbm, ⟨19, _⟩ => ⟨S128x24, .f32⟩
  | .hbm, ⟨20, _⟩ => ⟨S128x24, .f32⟩
  | .hbm, ⟨21, _⟩ => ⟨S_, .f32⟩
  | .hbm, ⟨22, _⟩ => ⟨S128x24, .f32⟩
  | .hbm, ⟨23, _⟩ => ⟨S128x24, .f32⟩
  | .hbm, ⟨24, _⟩ => ⟨S1x128x3x8x64, .f32⟩
  | .hbm, ⟨25, _⟩ => ⟨S128x8, .f32⟩
  | .hbm, ⟨26, _⟩ => ⟨S_, .f32⟩
  | .hbm, ⟨27, _⟩ => ⟨S128x8, .f32⟩
  | .hbm, ⟨28, _⟩ => ⟨S128x8, .f32⟩
  | .hbm, ⟨29, _⟩ => ⟨S128x8, .f32⟩
  | .hbm, ⟨30, _⟩ => ⟨S128x8, .f32⟩
  | .hbm, ⟨31, _⟩ => ⟨S128x8, .i1⟩
  | .hbm, ⟨32, _⟩ => ⟨S128x8, .f32⟩
  | .hbm, ⟨33, _⟩ => ⟨S128x8, .f32⟩
  | .hbm, ⟨34, _⟩ => ⟨S128x8, .f32⟩
  | .hbm, ⟨35, _⟩ => ⟨S128x8, .f32⟩
  | .hbm, ⟨36, _⟩ => ⟨S128x8, .f32⟩
  | .hbm, ⟨37, _⟩ => ⟨S128x8, .f32⟩
  | .hbm, ⟨38, _⟩ => ⟨S128x8, .f32⟩
  | .hbm, ⟨39, _⟩ => ⟨S128x8, .f32⟩
  | .hbm, ⟨40, _⟩ => ⟨S128x8, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S1x128x4x2x64, .f32⟩
  | .hbm, ⟨50, _⟩ => ⟨S1x128x512, .f32⟩
  | .hbm, ⟨51, _⟩ => ⟨S1x512x128, .f32⟩
  | .hbm, ⟨52, _⟩ => ⟨S1x128x2x2x64, .f32⟩
  | .hbm, ⟨53, _⟩ => ⟨S1x128x256, .f32⟩
  | .hbm, ⟨54, _⟩ => ⟨S1x256x128, .f32⟩
  | .hbm, ⟨55, _⟩ => ⟨S1x128x2x8x64, .f32⟩
  | .hbm, ⟨56, _⟩ => ⟨S1x128x1024, .f32⟩
  | .hbm, ⟨57, _⟩ => ⟨S1x1024x128, .f32⟩
  | .hbm, ⟨58, _⟩ => ⟨S1x128x8, .f32⟩
  | .hbm, ⟨59, _⟩ => ⟨S1x8x128, .f32⟩
  | .hbm, ⟨60, _⟩ => ⟨S_, .f32⟩
  | .hbm, ⟨61, _⟩ => ⟨S1x128x8x64, .f32⟩
  | .hbm, ⟨62, _⟩ => ⟨S1x128x8x64, .f32⟩
  | .hbm, ⟨63, _⟩ => ⟨S1x128x8x64, .bf16⟩
  | .hbm, ⟨64, _⟩ => ⟨S1x8x64x128, .bf16⟩
  | .hbm, ⟨65, _⟩ => ⟨S1x128x1x8x64, .f32⟩
  | .hbm, ⟨66, _⟩ => ⟨S1x128x8x64, .f32⟩
  | .hbm, ⟨67, _⟩ => ⟨S_, .f32⟩
  | .hbm, ⟨68, _⟩ => ⟨S1x128x8x64, .f32⟩
  | .hbm, ⟨69, _⟩ => ⟨S1x128x8x64, .f32⟩
  | .hbm, ⟨70, _⟩ => ⟨S1x128x8x64, .bf16⟩
  | .hbm, ⟨71, _⟩ => ⟨S1x8x64x128, .bf16⟩
  | .hbm, ⟨72, _⟩ => ⟨S24x128, .f32⟩
  | .hbm, ⟨73, _⟩ => ⟨S_, .f32⟩
  | .hbm, ⟨74, _⟩ => ⟨S_, .f32⟩
  | .hbm, ⟨75, _⟩ => ⟨S32x128, .f32⟩
  | .hbm, ⟨76, _⟩ => ⟨S128x4896, .f32⟩
  | .hbm, ⟨77, _⟩ => ⟨S1x4896, .f32⟩
  | .hbm, ⟨78, _⟩ => ⟨S128x4896, .f32⟩
  | .hbm, ⟨79, _⟩ => ⟨S128x4896, .f32⟩
  | .hbm, ⟨80, _⟩ => ⟨S128x512, .f32⟩
  | .hbm, ⟨81, _⟩ => ⟨S128x768, .f32⟩
  | .hbm, ⟨82, _⟩ => ⟨S128x24, .f32⟩
  | .hbm, ⟨83, _⟩ => ⟨S128x1536, .f32⟩
  | .hbm, ⟨84, _⟩ => ⟨S128x8, .f32⟩
  | .hbm, ⟨85, _⟩ => ⟨S128x2048, .f32⟩
  | .hbm, ⟨86, _⟩ => ⟨S32x4x6x2x64, .f32⟩
  | .hbm, ⟨87, _⟩ => ⟨S32x4x2x2x64, .f32⟩
  | .hbm, ⟨88, _⟩ => ⟨S32x516x2x2x64, .f32⟩
  | .hbm, ⟨89, _⟩ => ⟨S32x512x2x2x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== MergeSampleKernel.lean ====
abbrev S128x512 : Shape := ⟨2, ![128, 512]⟩
abbrev S128x2048 : Shape := ⟨2, ![128, 2048]⟩
abbrev S128x1024 : Shape := ⟨2, ![128, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 15
  | .vmem => 10
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x2048, .f32⟩
  | .hbm, ⟨3, _⟩ => ⟨S128x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S128x1024, .f32⟩
  | .local _ .vmem, ⟨0, _⟩ => ⟨S128x512, .bf16⟩
  | .local _ .vmem, ⟨1, _⟩ => ⟨S128x512, .bf16⟩
  | .local _ .vmem, ⟨2, _⟩ => ⟨S128x2048, .f32⟩
  | .local _ .vmem, ⟨3, _⟩ => ⟨S128x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSampleReferenceIdeal.lean ====
abbrev S128x512 : Shape := ⟨2, ![128, 512]⟩
abbrev S128x2048 : Shape := ⟨2, ![128, 2048]⟩
abbrev S128x1024 : Shape := ⟨2, ![128, 1024]⟩
abbrev S512x1024 : Shape := ⟨2, ![512, 1024]⟩
abbrev S1024x1024 : Shape := ⟨2, ![1024, 1024]⟩
abbrev S1024 : Shape := ⟨1, ![1024]⟩
abbrev S128x2x1024 : Shape := ⟨3, ![128, 2, 1024]⟩
abbrev S128x1x1024 : Shape := ⟨3, ![128, 1, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x2048, .f32⟩
  | .hbm, ⟨3, _⟩ => ⟨S128x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S128x2x1024, .f32⟩
  | .hbm, ⟨10, _⟩ => ⟨S128x1x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S128x1024, .f32⟩
  | .hbm, ⟨46, _⟩ => ⟨S128x1024, .f32⟩
  | .hbm, ⟨47, _⟩ => ⟨S1x1024, .f32⟩
  | .hbm, ⟨48, _⟩ => ⟨S128x1024, .f32⟩
  | .hbm, ⟨49, _⟩ => ⟨S128x1024, .f32⟩
  | .hbm, ⟨50, _⟩ => ⟨S1x1024, .f32⟩
  | .hbm, ⟨51, _⟩ => ⟨S128x1024, .f32⟩
  | .hbm, ⟨52, _⟩ => ⟨S128x1024, .f32⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== CompressKernel.lean ====
abbrev S32768x256 : Shape := ⟨2, ![32768, 256]⟩
abbrev S32x64 : Shape := ⟨2, ![32, 64]⟩
abbrev S2048x128 : Shape := ⟨2, ![2048, 128]⟩
abbrev S128x64 : Shape := ⟨2, ![128, 64]⟩
abbrev S2x16x64x128 : Shape := ⟨4, ![2, 16, 64, 128]⟩
abbrev S16x64x2x128 : Shape := ⟨4, ![16, 64, 2, 128]⟩
abbrev S16x64x256 : Shape := ⟨3, ![16, 64, 256]⟩
abbrev S_ : Shape := ⟨0, ![]⟩
abbrev S16x64x512 : Shape := ⟨3, ![16, 64, 512]⟩
abbrev S16x1x64x512 : Shape := ⟨4, ![16, 1, 64, 512]⟩
abbrev S16x2x64x512 : Shape := ⟨4, ![16, 2, 64, 512]⟩
abbrev S2048x512 : Shape := ⟨2, ![2048, 512]⟩
abbrev S1x2048x512 : Shape := ⟨3, ![1, 2048, 512]⟩
abbrev S2x2048x512 : Shape := ⟨3, ![2, 2048, 512]⟩
abbrev S1x2048 : Shape := ⟨2, ![1, 2048]⟩
abbrev S14x2048 : Shape := ⟨2, ![14, 2048]⟩
abbrev S16x2048 : Shape := ⟨2, ![16, 2048]⟩
abbrev S2048x256 : Shape := ⟨2, ![2048, 256]⟩
abbrev S128x128 : Shape := ⟨2, ![128, 128]⟩
abbrev S1x128x128 : Shape := ⟨3, ![1, 128, 128]⟩
abbrev S2x128x128 : Shape := ⟨3, ![2, 128, 128]⟩
abbrev S16x4x128x128 : Shape := ⟨4, ![16, 4, 128, 128]⟩
abbrev S16x2x80x128 : Shape := ⟨4, ![16, 2, 80, 128]⟩
abbrev S1x4x128x128 : Shape := ⟨4, ![1, 4, 128, 128]⟩
abbrev S1x2x80x128 : Shape := ⟨4, ![1, 2, 80, 128]⟩
abbrev S128x2048 : Shape := ⟨2, ![128, 2048]⟩
abbrev S128x512 : Shape := ⟨2, ![128, 512]⟩
abbrev S128x1024 : Shape := ⟨2, ![128, 1024]⟩
abbrev S16x256 : Shape := ⟨2, ![16, 256]⟩
abbrev S1x128 : Shape := ⟨2, ![1, 128]⟩
abbrev S1x1x128x128 : Shape := ⟨4, ![1, 1, 128, 128]⟩
abbrev S64x128 : Shape := ⟨2, ![64, 128]⟩
abbrev S16x128 : Shape := ⟨2, ![16, 128]⟩
abbrev S80x128 : Shape := ⟨2, ![80, 128]⟩
abbrev S1x1x80x128 : Shape := ⟨4, ![1, 1, 80, 128]⟩

abbrev nBuf : Space → Nat
  | .hbm => 51
  | .vmem => 12
  | .smem => 0
  | _ => 0

abbrev bufTy : (tb : Table) → Fin (tcTables nBuf tb) → BufTy
  | .hbm, ⟨0, _⟩ => ⟨S32768x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S32x64, .f32⟩
  | .hbm, ⟨5, _⟩ => ⟨S2048x128, .f32⟩
  | .hbm, ⟨6, _⟩ => ⟨S128x64, .f32⟩
  | .hbm, ⟨7, _⟩ => ⟨S2x16x64x128, .f32⟩
  | .hbm, ⟨8, _⟩ => ⟨S16x64x2x128, .f32⟩
  | .hbm, ⟨9, _⟩ => ⟨S16x64x256, .f32⟩
  | .hbm, ⟨10, _⟩ => ⟨S_, .f32⟩
  | .hbm, ⟨11, _⟩ => ⟨S16x64x256, .f32⟩
  | .hbm, ⟨12, _⟩ => ⟨S16x64x512, .f32⟩
  | .hbm, ⟨13, _⟩ => ⟨S16x64x512, .f32⟩
  | .hbm, ⟨14, _⟩ => ⟨S16x1x64x512, .f32⟩
  | .hbm, ⟨15, _⟩ => ⟨S16x1x64x512, .f32⟩
  | .hbm, ⟨16, _⟩ => ⟨S16x2x64x512, .f32⟩
  | .hbm, ⟨17, _⟩ => ⟨S2048x512, .f32⟩
  | .hbm, ⟨18, _⟩ => ⟨S2x16x64x128, .f32⟩
  | .hbm, ⟨19, _⟩ => ⟨S16x64x2x128, .f32⟩
  | .hbm, ⟨20, _⟩ => ⟨S16x64x256, .f32⟩
  | .hbm, ⟨21, _⟩ => ⟨S_, .f32⟩
  | .hbm, ⟨22, _⟩ => ⟨S16x64x256, .f32⟩
  | .hbm, ⟨23, _⟩ => ⟨S16x64x512, .f32⟩
  | .hbm, ⟨24, _⟩ => ⟨S16x64x512, .f32⟩
  | .hbm, ⟨25, _⟩ => ⟨S16x1x64x512, .f32⟩
  | .hbm, ⟨26, _⟩ => ⟨S16x1x64x512, .f32⟩
  | .hbm, ⟨27, _⟩ => ⟨S16x2x64x512, .f32⟩
  | .hbm, ⟨28, _⟩ => ⟨S2048x512, .f32⟩
  | .hbm, ⟨29, _⟩ => ⟨S1x2048x512, .f32⟩
  | .hbm, ⟨30, _⟩ => ⟨S1x2048x512, .f32⟩
  | .hbm, ⟨31, _⟩ => ⟨S2x2048x512, .f32⟩
  | .hbm, ⟨32, _⟩ => ⟨S2x2048x512, .bf16⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S14x2048, .f32⟩
  | .hbm, ⟨37, _⟩ => ⟨S16x2048, .f32⟩
  | .hbm, ⟨38, _⟩ => ⟨S2048x256, .f32⟩
  | .hbm, ⟨39, _⟩ => ⟨S2048x256, .bf16⟩
  | .hbm, ⟨40, _⟩ => ⟨S_, .f32⟩
  | .hbm, ⟨41, _⟩ => ⟨S128x64, .f32⟩
  | .hbm, ⟨42, _⟩ => ⟨S128x128, .f32⟩
  | .hbm, ⟨43, _⟩ => ⟨S128x128, .f32⟩
  | .hbm, ⟨44, _⟩ => ⟨S1x128x128, .f32⟩
  | .hbm, ⟨45, _⟩ => ⟨S1x128x128, .f32⟩
  | .hbm, ⟨46, _⟩ => ⟨S2x128x128, .f32⟩
  | .hbm, ⟨47, _⟩ => ⟨S2x128x128, .bf16⟩
  | .hbm, ⟨48, _⟩ => ⟨S16x2048, .bf16⟩
  | .hbm, ⟨49, _⟩ => ⟨S16x4x128x128, .bf16⟩
  | .hbm, ⟨50, _⟩ => ⟨S16x2x80x128, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x2048x512, .bf16⟩
  | .local _ .vmem, ⟨5, _⟩ => ⟨S16x2048, .bf16⟩
  | .local _ .vmem, ⟨6, _⟩ => ⟨S2048x256, .bf16⟩
  | .local _ .vmem, ⟨7, _⟩ => ⟨S2x128x128, .bf16⟩
  | .local _ .vmem, ⟨8, _⟩ => ⟨S1x4x128x128, .bf16⟩
  | .local _ .vmem, ⟨9, _⟩ => ⟨S1x4x128x128, .bf16⟩
  | .local _ .vmem, ⟨10, _⟩ => ⟨S1x2x80x128, .bf16⟩
  | .local _ .vmem, ⟨11, _⟩ => ⟨S1x2x80x128, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x80x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CompressReferenceIdeal.lean ====
abbrev S32768x256 : Shape := ⟨2, ![32768, 256]⟩
abbrev S32x64 : Shape := ⟨2, ![32, 64]⟩
abbrev S2048x128 : Shape := ⟨2, ![2048, 128]⟩
abbrev S128x64 : Shape := ⟨2, ![128, 64]⟩
abbrev S16x2048x2x2x64 : Shape := ⟨5, ![16, 2048, 2, 2, 64]⟩
abbrev S16x16x2x2x64 : Shape := ⟨5, ![16, 16, 2, 2, 64]⟩
abbrev S16x2064x2x2x64 : Shape := ⟨5, ![16, 2064, 2, 2, 64]⟩
abbrev S16x2064x1x2x64 : Shape := ⟨5, ![16, 2064, 1, 2, 64]⟩
abbrev S16x2064x2x64 : Shape := ⟨4, ![16, 2064, 2, 64]⟩
abbrev S16x129x16x2x64 : Shape := ⟨5, ![16, 129, 16, 2, 64]⟩
abbrev S16x129x2x16x64 : Shape := ⟨5, ![16, 129, 2, 16, 64]⟩
abbrev S16x129x2x1024 : Shape := ⟨4, ![16, 129, 2, 1024]⟩
abbrev S2x1024x128 : Shape := ⟨3, ![2, 1024, 128]⟩
abbrev S2x128x16x129x2 : Shape := ⟨5, ![2, 128, 16, 129, 2]⟩
abbrev S16x2x129x2x128 : Shape := ⟨5, ![16, 2, 129, 2, 128]⟩
abbrev S2048 : Shape := ⟨1, ![2048]⟩
abbrev S128 : Shape := ⟨1, ![128]⟩
abbrev S16x1x128x2x128 : Shape := ⟨5, ![16, 1, 128, 2, 128]⟩
abbrev S16x128x2x128 : Shape := ⟨4, ![16, 128, 2, 128]⟩
abbrev S1x1x1x128 : Shape := ⟨4, ![1, 1, 1, 128]⟩
abbrev S_ : Shape := ⟨0, ![]⟩
abbrev S16x128x2x64 : Shape := ⟨4, ![16, 128, 2, 64]⟩
abbrev S16x2x128x64 : Shape := ⟨4, ![16, 2, 128, 64]⟩
abbrev S16x4x128x64 : Shape := ⟨4, ![16, 4, 128, 64]⟩
abbrev S16x4x128x128 : Shape := ⟨4, ![16, 4, 128, 128]⟩
abbrev S16x2x1x128 : Shape := ⟨4, ![16, 2, 1, 128]⟩
abbrev S16x2x64x128 : Shape := ⟨4, ![16, 2, 64, 128]⟩
abbrev S16x2x65x128 : Shape := ⟨4, ![16, 2, 65, 128]⟩
abbrev S16x2x80x128 : Shape := ⟨4, ![16, 2, 80, 128]⟩

abbrev nBuf : Space → Nat
  | .hbm => 97
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S32x64, .f32⟩
  | .hbm, ⟨5, _⟩ => ⟨S2048x128, .f32⟩
  | .hbm, ⟨6, _⟩ => ⟨S128x64, .f32⟩
  | .hbm, ⟨7, _⟩ => ⟨S16x2048x2x2x64, .f32⟩
  | .hbm, ⟨8, _⟩ => ⟨S16x16x2x2x64, .f32⟩
  | .hbm, ⟨9, _⟩ => ⟨S16x2064x2x2x64, .f32⟩
  | .hbm, ⟨10, _⟩ => ⟨S16x2064x1x2x64, .f32⟩
  | .hbm, ⟨11, _⟩ => ⟨S16x2064x2x64, .f32⟩
  | .hbm, ⟨12, _⟩ => ⟨S16x129x16x2x64, .f32⟩
  | .hbm, ⟨13, _⟩ => ⟨S16x129x2x16x64, .f32⟩
  | .hbm, ⟨14, _⟩ => ⟨S16x129x2x1024, .f32⟩
  | .hbm, ⟨15, _⟩ => ⟨S2x1024x128, .f32⟩
  | .hbm, ⟨16, _⟩ => ⟨S2x128x16x129x2, .f32⟩
  | .hbm, ⟨17, _⟩ => ⟨S16x2x129x2x128, .f32⟩
  | .hbm, ⟨18, _⟩ => ⟨S2048, .f32⟩
  | .hbm, ⟨19, _⟩ => ⟨S128, .f32⟩
  | .hbm, ⟨20, _⟩ => ⟨S16x1x128x2x128, .f32⟩
  | .hbm, ⟨21, _⟩ => ⟨S16x128x2x128, .f32⟩
  | .hbm, ⟨22, _⟩ => ⟨S1x1x1x128, .f32⟩
  | .hbm, ⟨23, _⟩ => ⟨S16x128x2x128, .f32⟩
  | .hbm, ⟨24, _⟩ => ⟨S16x128x2x128, .f32⟩
  | .hbm, ⟨25, _⟩ => ⟨S16x1x128x2x128, .f32⟩
  | .hbm, ⟨26, _⟩ => ⟨S16x128x2x128, .f32⟩
  | .hbm, ⟨27, _⟩ => ⟨S16x128x2x128, .f32⟩
  | .hbm, ⟨28, _⟩ => ⟨S16x128x2x128, .f32⟩
  | .hbm, ⟨29, _⟩ => ⟨S16x128x2x128, .f32⟩
  | .hbm, ⟨30, _⟩ => ⟨S_, .f32⟩
  | .hbm, ⟨31, _⟩ => ⟨S16x128x2x128, .f32⟩
  | .hbm, ⟨32, _⟩ => ⟨S16x128x2x128, .f32⟩
  | .hbm, ⟨33, _⟩ => ⟨S16x128x2x128, .f32⟩
  | .hbm, ⟨34, _⟩ => ⟨S_, .f32⟩
  | .hbm, ⟨35, _⟩ => ⟨S16x128x2x128, .f32⟩
  | .hbm, ⟨36, _⟩ => ⟨S16x128x2x128, .f32⟩
  | .hbm, ⟨37, _⟩ => ⟨S16x128x2x128, .f32⟩
  | .hbm, ⟨38, _⟩ => ⟨S_, .f32⟩
  | .hbm, ⟨39, _⟩ => ⟨S16x128x2x128, .f32⟩
  | .hbm, ⟨40, _⟩ => ⟨S16x128x2x128, .f32⟩
  | .hbm, ⟨41, _⟩ => ⟨S_, .f32⟩
  | .hbm, ⟨42, _⟩ => ⟨S16x128x2x128, .f32⟩
  | .hbm, ⟨43, _⟩ => ⟨S16x128x2x128, .f32⟩
  | .hbm, ⟨44, _⟩ => ⟨S16x128x2x128, .f32⟩
  | .hbm, ⟨45, _⟩ => ⟨S16x128x2x64, .f32⟩
  | .hbm, ⟨46, _⟩ => ⟨S16x2x128x64, .f32⟩
  | .hbm, ⟨47, _⟩ => ⟨S16x2064x1x2x64, .f32⟩
  | .hbm, ⟨48, _⟩ => ⟨S16x2064x2x64, .f32⟩
  | .hbm, ⟨49, _⟩ => ⟨S16x129x16x2x64, .f32⟩
  | .hbm, ⟨50, _⟩ => ⟨S16x129x2x16x64, .f32⟩
  | .hbm, ⟨51, _⟩ => ⟨S16x129x2x1024, .f32⟩
  | .hbm, ⟨52, _⟩ => ⟨S2x1024x128, .f32⟩
  | .hbm, ⟨53, _⟩ => ⟨S2x128x16x129x2, .f32⟩
  | .hbm, ⟨54, _⟩ => ⟨S16x2x129x2x128, .f32⟩
  | .hbm, ⟨55, _⟩ => ⟨S2048, .f32⟩
  | .hbm, ⟨56, _⟩ => ⟨S128, .f32⟩
  | .hbm, ⟨57, _⟩ => ⟨S16x1x128x2x128, .f32⟩
  | .hbm, ⟨58, _⟩ => ⟨S16x128x2x128, .f32⟩
  | .hbm, ⟨59, _⟩ => ⟨S1x1x1x128, .f32⟩
  | .hbm, ⟨60, _⟩ => ⟨S16x128x2x128, .f32⟩
  | .hbm, ⟨61, _⟩ => ⟨S16x128x2x128, .f32⟩
  | .hbm, ⟨62, _⟩ => ⟨S16x1x128x2x128, .f32⟩
  | .hbm, ⟨63, _⟩ => ⟨S16x128x2x128, .f32⟩
  | .hbm, ⟨64, _⟩ => ⟨S16x128x2x128, .f32⟩
  | .hbm, ⟨65, _⟩ => ⟨S16x128x2x128, .f32⟩
  | .hbm, ⟨66, _⟩ => ⟨S16x128x2x128, .f32⟩
  | .hbm, ⟨67, _⟩ => ⟨S_, .f32⟩
  | .hbm, ⟨68, _⟩ => ⟨S16x128x2x128, .f32⟩
  | .hbm, ⟨69, _⟩ => ⟨S16x128x2x128, .f32⟩
  | .hbm, ⟨70, _⟩ => ⟨S16x128x2x128, .f32⟩
  | .hbm, ⟨71, _⟩ => ⟨S_, .f32⟩
  | .hbm, ⟨72, _⟩ => ⟨S16x128x2x128, .f32⟩
  | .hbm, ⟨73, _⟩ => ⟨S16x128x2x128, .f32⟩
  | .hbm, ⟨74, _⟩ => ⟨S16x128x2x128, .f32⟩
  | .hbm, ⟨75, _⟩ => ⟨S_, .f32⟩
  | .hbm, ⟨76, _⟩ => ⟨S16x128x2x128, .f32⟩
  | .hbm, ⟨77, _⟩ => ⟨S16x128x2x128, .f32⟩
  | .hbm, ⟨78, _⟩ => ⟨S_, .f32⟩
  | .hbm, ⟨79, _⟩ => ⟨S16x128x2x128, .f32⟩
  | .hbm, ⟨80, _⟩ => ⟨S16x128x2x128, .f32⟩
  | .hbm, ⟨81, _⟩ => ⟨S16x128x2x128, .f32⟩
  | .hbm, ⟨82, _⟩ => ⟨S16x128x2x64, .f32⟩
  | .hbm, ⟨83, _⟩ => ⟨S16x2x128x64, .f32⟩
  | .hbm, ⟨84, _⟩ => ⟨S16x4x128x64, .f32⟩
  | .hbm, ⟨85, _⟩ => ⟨S_, .i32⟩
  | .hbm, ⟨86, _⟩ => ⟨S_, .f32⟩
  | .hbm, ⟨87, _⟩ => ⟨S16x4x128x128, .f32⟩
  | .hbm, ⟨88, _⟩ => ⟨S_, .f32⟩
  | .hbm, ⟨89, _⟩ => ⟨S16x2x1x128, .f32⟩
  | .hbm, ⟨90, _⟩ => ⟨S16x2x64x128, .f32⟩
  | .hbm, ⟨91, _⟩ => ⟨S16x2x65x128, .f32⟩
  | .hbm, ⟨92, _⟩ => ⟨S_, .i32⟩
  | .hbm, ⟨93, _⟩ => ⟨S_, .f32⟩
  | .hbm, ⟨94, _⟩ => ⟨S16x2x80x128, .f32⟩
  | .hbm, ⟨95, _⟩ => ⟨S16x4x128x128, .bf16⟩
  | .hbm, ⟨96, _⟩ => ⟨S16x2x80x128, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_3 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c : Ref sig .tc := ⟨.hbm, 85, rfl⟩
abbrev main_call0_v0 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_8 : Ref sig .tc := ⟨.hbm, 92, rfl⟩
abbrev main_call1_v0 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Proof.Norm.lean ====
module

public import Idealize.ShloMosaic.PureOps.Ideal.Laws
public import Idealize.ShloMosaic.Lib.Pipeline.ValueKit

@[expose] public section

set_option maxRecDepth 16384

noncomputable section

namespace Cert.LayerMath

open Idealize.ShloMosaic

/-- The mean of a row of 1024 numbers. -/
def mean (y : Fin 1024 → EReal) : EReal :=
  Ideal.div (∑ k, y k) (Ideal.ofBits FTy.f32 0x44800000#32)

/-- Layer norm of a row: centred, divided by the root of its variance plus the small constant, scaled by `g`,
    shifted by `b`. -/
def rowNorm (y g b : Fin 1024 → EReal) (c : Fin 1024) : EReal :=
  (y c - mean y) * Ideal.rsqrt (Ideal.div (∑ k, (y k - mean y) * (y k - mean y)) (Ideal.ofBits FTy.f32 0x44800000#32)
    + Ideal.ofBits FTy.f32 0x3727C5AC#32) * g c + b c

/-- One hiddenUnit unit of the gated network: `silu (x · gate) * (x · up)`. -/
def hiddenUnit (x gate up : Fin 1024 → EReal) : EReal :=
  (∑ k, x k * gate k) * Ideal.div 1 (1 + Ideal.exp (-(∑ k, x k * gate k))) * ∑ k, x k * up k

/-- One row before its layer norm: the scaled residual plus half the gated network's output. -/
def ffnRow (x : Fin 1024 → EReal) (wg wu : Fin 1024 → Fin 2816 → EReal) (wd : Fin 2816 → Fin 1024 → EReal) (c : Fin 1024) : EReal :=
  Ideal.ofBits FTy.f32 0x3F9837F0#32 * x c
    + Ideal.ofBits FTy.f32 0x3F000000#32 * ∑ k, hiddenUnit x (fun j => wg j k) (fun j => wu j k) * wd k c

/-- One row of the merge before its layer norm: the scaled residual plus the output projection of the two gated branches. -/
def mergeRow (oa ob : Fin 512 → EReal) (g0 g1 h : Fin 1024 → EReal) (pa pb : Fin 512 → Fin 1024 → EReal)
    (wo : Fin 1024 → Fin 1024 → EReal) (c : Fin 1024) : EReal :=
  Ideal.ofBits FTy.f32 0x3F9837F0#32 * h c
    + ∑ k, (g0 k * (∑ j, oa j * pa j k) + g1 k * (∑ j, ob j * pb j k)) * wo k c

/-- Column `j` of the first gate, in the array holding both. -/
def colA (j : Fin 1024) : Fin 2048 := ⟨j.val, by have := j.isLt; omega⟩
/-- Column `j` of the second gate, in the array holding both. -/
def colB (j : Fin 1024) : Fin 2048 := ⟨1024 + j.val, by have := j.isLt; omega⟩

end Cert.LayerMath

end
-- ==== Proof.Ffn.lean ====
module

public import proofs.«01_k».proof.Proof.Norm
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Defs
public import Idealize.ShloMosaic.Lib.Pipeline.ValueKit

@[expose] public section

set_option maxRecDepth 16384

noncomputable section

namespace Cert.FfnProof

open Cert.LayerMath
open Idealize.ShloMosaic Idealize.ShloMosaic.TcCoe Idealize.SL.Sem

/-- The whole result from the six arguments. -/
def out (x : FfnKernelIdeal.S32768x1024.Idx → EReal) (wg wu : FfnKernelIdeal.S1024x2816.Idx → EReal)
    (wd : FfnKernelIdeal.S2816x1024.Idx → EReal) (g b : FfnKernelIdeal.S1024.Idx → EReal) (i : FfnKernelIdeal.S32768x1024.Idx) : EReal :=
  rowNorm (ffnRow (fun j => x (ix2 (i 0) j)) (fun j k => wg (ix2 j k)) (fun j k => wu (ix2 j k)) (fun k j => wd (ix2 k j)))
    (fun j => g (ix1 j)) (fun j => b (ix1 j)) (i 1)

section Kernel
open Cert.FfnKernelIdeal Cert.FfnKernelIdeal.Gen

theorem pay_mid (X : Vec Ideal S256x1024 .f32) (Wg Wu : Vec Ideal S1024x2816 .bf16) (Wd : Vec Ideal S2816x1024 .bf16)
    (r : Fin 256) (c : Fin 1024) : k0_pay2 (F := Ideal) X Wg Wu (k0_pay1 (F := Ideal)) Wd (ix2 r c)
      = ∑ k : Fin 2816, hiddenUnit (fun j => X (ix2 r j)) (fun j => Wg (ix2 j k)) (fun j => Wu (ix2 j k)) * Wd (ix2 k c) := by
  unfold k0_pay2 k0_pay1
  simp only [pointwise, hiddenUnit, zero_add, zero_sub]

theorem pay_out (X : Vec Ideal S256x1024 .f32) (A : Vec Ideal S256x1024 .f32) (G B : Vec Ideal S1x1024 .f32)
    (r : Fin 256) (c : Fin 1024) : k0_pay3 (F := Ideal) X A G B (ix2 r c)
      = rowNorm (fun j => Ideal.ofBits FTy.f32 0x3F9837F0#32 * X (ix2 r j) + Ideal.ofBits FTy.f32 0x3F000000#32 * A (ix2 r j))
          (fun j => G (ix2 0 j)) (fun j => B (ix2 0 j)) c := by
  unfold k0_pay3
  simp only [pointwise]
  unfold rowNorm mean
  rfl

theorem pay (X : Vec Ideal S256x1024 .f32) (Wg Wu : Vec Ideal S1024x2816 .bf16) (Wd : Vec Ideal S2816x1024 .bf16)
    (G B : Vec Ideal S1x1024 .f32) (r : Fin 256) (c : Fin 1024) :
    k0_pay3 (F := Ideal) X (k0_pay2 (F := Ideal) X Wg Wu (k0_pay1 (F := Ideal)) Wd) G B (ix2 r c)
      = rowNorm (ffnRow (fun j => X (ix2 r j)) (fun j k => Wg (ix2 j k)) (fun j k => Wu (ix2 j k)) (fun k j => Wd (ix2 k j)))
          (fun j => G (ix2 0 j)) (fun j => B (ix2 0 j)) c := by
  rw [pay_out]
  simp only [pay_mid]
  rfl

variable (m : (ℓ : Loc nD τ sig) → Buf (Elt Ideal) ℓ)

theorem index_all : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by
  decide +kernel

theorem V_v0 (c : Dev nD) : V m c main_v0 = (m ((c : Thread nD τ).loc main_arg1) : S1024x2816.Idx → EReal) := by
  unfold_abbrev_sides
  after_results
  rfl
theorem V_v1 (c : Dev nD) : V m c main_v1 = (m ((c : Thread nD τ).loc main_arg2) : S1024x2816.Idx → EReal) := by
  unfold_abbrev_sides
  after_results
  rfl
theorem V_v2 (c : Dev nD) : V m c main_v2 = (m ((c : Thread nD τ).loc main_arg3) : S2816x1024.Idx → EReal) := by
  unfold_abbrev_sides
  after_results
  rfl
theorem vec_apply (v : S1024.Idx → EReal) (j : Fin 1024) :
    shapeCast (α := EReal) S1x1024 v shapeCasts_S1024_S1x1024 (ix2 0 j) = v (ix1 j) := by
  simp only [pointwise]
theorem V_v3 (c : Dev nD) (j : Fin 1024) : (V m c main_v3 : S1x1024.Idx → EReal) (ix2 0 j) = (m ((c : Thread nD τ).loc main_arg4) : S1024.Idx → EReal) (ix1 j) := by
  unfold_abbrev_sides
  after_results
  exact vec_apply _ _
theorem V_v4 (c : Dev nD) (j : Fin 1024) : (V m c main_v4 : S1x1024.Idx → EReal) (ix2 0 j) = (m ((c : Thread nD τ).loc main_arg5) : S1024.Idx → EReal) (ix1 j) := by
  unfold_abbrev_sides
  after_results
  exact vec_apply _ _

/-- Row `r` of block `t` of the whole array. -/
def row (t : Fin cfg0.N) (r : Fin 256) : Fin 32768 := ⟨t.val * 256 + r.val, by
  have : cfg0.N = 128 := N_0
  have := t.isLt; have := r.isLt; omega⟩

theorem blk0 (c : Dev nD) (t : Fin cfg0.N) (r : Fin 256) (j : Fin 1024) :
    (iblk m c 0 t : S256x1024.Idx → EReal) (ix2 r j) = (m ((c : Thread nD τ).loc main_arg0) : S32768x1024.Idx → EReal) (ix2 (row t r) j) := by
  rw [← V_main_arg0 m c]
  unfold row
  blk_ext [iblk, (index_all t).1]
theorem blk1 (c : Dev nD) (t : Fin cfg0.N) (j : Fin 1024) (k : Fin 2816) :
    (iblk m c 1 t : S1024x2816.Idx → EReal) (ix2 j k) = (m ((c : Thread nD τ).loc main_arg1) : S1024x2816.Idx → EReal) (ix2 j k) := by
  rw [← V_v0 m c]
  blk_ext [iblk, (index_all t).2.1]
theorem blk2 (c : Dev nD) (t : Fin cfg0.N) (j : Fin 1024) (k : Fin 2816) :
    (iblk m c 2 t : S1024x2816.Idx → EReal) (ix2 j k) = (m ((c : Thread nD τ).loc main_arg2) : S1024x2816.Idx → EReal) (ix2 j k) := by
  rw [← V_v1 m c]
  blk_ext [iblk, (index_all t).2.2.1]
theorem blk3 (c : Dev nD) (t : Fin cfg0.N) (k : Fin 2816) (j : Fin 1024) :
    (iblk m c 3 t : S2816x1024.Idx → EReal) (ix2 k j) = (m ((c : Thread nD τ).loc main_arg3) : S2816x1024.Idx → EReal) (ix2 k j) := by
  rw [← V_v2 m c]
  blk_ext [iblk, (index_all t).2.2.2.1]
theorem blk4 (c : Dev nD) (t : Fin cfg0.N) (j : Fin 1024) :
    (iblk m c 4 t : S1x1024.Idx → EReal) (ix2 0 j) = (m ((c : Thread nD τ).loc main_arg4) : S1024.Idx → EReal) (ix1 j) := by
  rw [← V_v3 m c]
  blk_ext [iblk, (index_all t).2.2.2.2.1]
theorem blk5 (c : Dev nD) (t : Fin cfg0.N) (j : Fin 1024) :
    (iblk m c 5 t : S1x1024.Idx → EReal) (ix2 0 j) = (m ((c : Thread nD τ).loc main_arg5) : S1024.Idx → EReal) (ix1 j) := by
  rw [← V_v4 m c]
  blk_ext [iblk, (index_all t).2.2.2.2.2.1]

/-- The kernel's result array. -/
theorem arr (c : Dev nD) : (Gen.dats m 0 c).arrAt 6 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (Gen.dats m 0 c).arrAt_eq_of_covers 6 _ (by decide +kernel) fun t hf y => ?_
  blk_simp
  rw [after0_6]
  unfold outsAt0
  frame_out
  obtain ⟨r, q, rfl⟩ : ∃ (r : Fin 256) (q : Fin 1024), y = ix2 r q := ⟨y 0, y 1, funext fun a => by fin_cases a <;> rfl⟩
  refine (pay _ _ _ _ _ _ r q).trans ?_
  simp only [blk0, blk1, blk2, blk3, blk4, blk5]
  have e : ((win0_6.blk t).view.emb (ix2 r q) : S32768x1024.Idx) = ix2 (row t r) q := by
    unfold row
    blk_ext [(index_all t).2.2.2.2.2.2]
  exact (congrArg (out _ _ _ _ _ _) e).symm

end Kernel

section Reference
open Cert.FfnReferenceIdeal Cert.FfnReferenceIdeal.Read

variable (x : S32768x1024.Idx → EReal) (wg wu : S1024x2816.Idx → EReal)
    (wd : S2816x1024.Idx → EReal) (g b : S1024.Idx → EReal)

theorem ref_pre (r : Fin 32768) (c : Fin 1024) : val_main_v9 (F := Ideal) x wg wu wd (ix2 r c)
    = ffnRow (fun j => x (ix2 r j)) (fun j k => wg (ix2 j k)) (fun j k => wu (ix2 j k)) (fun k j => wd (ix2 k j)) c := by
  have l6 : ∀ k, lidx_main_v6 (ix2 r c) k = ix2 r k := fun k => funext fun a => by fin_cases a <;> rfl
  have r6 : ∀ k, ridx_main_v6 (ix2 r c) k = ix2 k c := fun k => funext fun a => by fin_cases a <;> rfl
  have l2 : ∀ j k, lidx_main_v2 (ix2 r k) j = ix2 r j := fun j k => funext fun a => by fin_cases a <;> rfl
  have r2 : ∀ j k, ridx_main_v2 (ix2 r k) j = ix2 j k := fun j k => funext fun a => by fin_cases a <;> rfl
  have l4 : ∀ j k, lidx_main_v4 (ix2 r k) j = ix2 r j := fun j k => funext fun a => by fin_cases a <;> rfl
  have r4 : ∀ j k, ridx_main_v4 (ix2 r k) j = ix2 j k := fun j k => funext fun a => by fin_cases a <;> rfl
  have one : (FloatOps.ofBits (F := Ideal) .f32 0x3F800000#32) = 1 := by simp only [pointwise]
  simp only [val_main_v9_apply, val_main_v1_apply, val_main_v0_apply, val_main_cst_apply, val_main_v8_apply, val_main_v7_apply,
    val_main_cst_0_apply, val_main_v6_apply, val_main_v5_apply, val_main_v3_apply, val_main_v4_apply, val_main_v2_apply,
    val_main_call0_v5_apply, val_main_call0_v4_apply, val_main_call0_cst_0_apply, val_main_call0_v3_apply, val_main_call0_v2_apply,
    val_main_call0_cst_apply, val_main_call0_v1_apply, val_main_call0_v0_apply, l6, r6, l2, r2, l4, r4, one]
  rfl

theorem ref_mean (r : Fin 32768) : val_main_v13 (F := Ideal) x wg wu wd (ix2 r 0)
    = mean (fun j => val_main_v9 (F := Ideal) x wg wu wd (ix2 r j)) := by
  have h : ∀ k, idx_main_v10 (idx_main_v11 (ix2 r 0)) k = ix2 r k := fun k => funext fun a => by fin_cases a <;> rfl
  have z : (FloatOps.ofBits (F := Ideal) .f32 0x00000000#32) = 0 := by simp only [pointwise]
  simp only [val_main_v13_apply, val_main_v12_apply, val_main_cst_2_apply, val_main_v11_apply, val_main_v10_apply, val_main_cst_1_apply, h, z, zero_add]
  rfl

theorem ref (i : S32768x1024.Idx) : val_main_v33 (F := Ideal) x wg wu wd g b i = out x wg wu wd g b i := by
  obtain ⟨r, q, rfl⟩ : ∃ (r : Fin 32768) (q : Fin 1024), i = ix2 r q := ⟨i 0, i 1, funext fun a => by fin_cases a <;> rfl⟩
  have z : (FloatOps.ofBits (F := Ideal) .f32 0x00000000#32) = 0 := by simp only [pointwise]
  have h17 : ∀ q k, idx_main_v17 (idx_main_v18 (idx_main_v26 (ix2 r q))) k = ix2 r k := fun q k => funext fun a => by fin_cases a <;> rfl
  have h14 : ∀ q, idx_main_v14 (ix2 r q) = ix2 r 0 := fun q => funext fun a => by fin_cases a <;> rfl
  have h21 : ∀ q, idx_main_v21 (ix2 r q) = ix2 r 0 := fun q => funext fun a => by fin_cases a <;> rfl
  have h28 : idx_main_v28 (idx_main_v29 (ix2 r q)) = ix1 q := funext fun a => by fin_cases a <;> rfl
  have h31 : idx_main_v31 (idx_main_v32 (ix2 r q)) = ix1 q := funext fun a => by fin_cases a <;> rfl
  simp only [val_main_v33_apply, val_main_v32_apply, val_main_v31_apply, val_main_v30_apply, val_main_v29_apply, val_main_v28_apply,
    val_main_v27_apply, val_main_v26_apply, val_main_v25_apply, val_main_v24_apply, val_main_v23_apply, val_main_cst_5_apply,
    val_main_v22_apply, val_main_v21_apply, val_main_v20_apply, val_main_v19_apply, val_main_cst_4_apply, val_main_v18_apply, val_main_v17_apply,
    val_main_cst_3_apply, val_main_v16_apply, val_main_v15_apply, val_main_v14_apply, h17, h14, h21, h28, h31, z, zero_add, ref_mean, ref_pre]
  rfl

end Reference

/-- The feed-forward kernel's result is the reference's, on every argument. -/
theorem algebraic : algebraic_FfnKernelIdeal_FfnReferenceIdeal (hFfnKernelIdeal := Cert.FfnKernelIdeal.Gen.facts)
    (hFfnReferenceIdeal := Cert.FfnReferenceIdeal.Gen.facts) := by
  intro m g m' g' _ hargs
  refine ⟨fun c => out (m ((c.tc : Thread Cert.FfnKernelIdeal.nD Cert.FfnKernelIdeal.τ).loc Cert.FfnKernelIdeal.main_arg0))
    (m ((c.tc : Thread Cert.FfnKernelIdeal.nD Cert.FfnKernelIdeal.τ).loc Cert.FfnKernelIdeal.main_arg1))
    (m ((c.tc : Thread Cert.FfnKernelIdeal.nD Cert.FfnKernelIdeal.τ).loc Cert.FfnKernelIdeal.main_arg2))
    (m ((c.tc : Thread Cert.FfnKernelIdeal.nD Cert.FfnKernelIdeal.τ).loc Cert.FfnKernelIdeal.main_arg3))
    (m ((c.tc : Thread Cert.FfnKernelIdeal.nD Cert.FfnKernelIdeal.τ).loc Cert.FfnKernelIdeal.main_arg4))
    (m ((c.tc : Thread Cert.FfnKernelIdeal.nD Cert.FfnKernelIdeal.τ).loc Cert.FfnKernelIdeal.main_arg5)), ?_, ?_⟩
  · exact (θ_run _ _ _).mono (fun r h c => ⟨(h c).1.trans (arr m c), (h c).2⟩) (Cert.FfnKernelIdeal.Value.run_blocks m g)
  · refine (θ_run _ _ _).mono (fun r h c => ⟨(h c).1.trans ?_, (h c).2⟩) (Cert.FfnReferenceIdeal.Value.run (F := Ideal) m' g')
    obtain ⟨e0, e1, e2, e3, e4, e5⟩ := hargs c
    rw [Cert.FfnReferenceIdeal.Read.val_main_v33_eq, e0, e1, e2, e3, e4, e5]
    exact funext fun i => ref _ _ _ _ _ _ i

end Cert.FfnProof

end
-- ==== Proof.Merge.lean ====
module

public import proofs.«01_k».proof.Proof.Norm
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Defs
public import Idealize.ShloMosaic.Lib.Pipeline.ValueKit

@[expose] public section

set_option maxRecDepth 16384

noncomputable section

namespace Cert.MergeProof

open Cert.LayerMath
open Idealize.ShloMosaic Idealize.ShloMosaic.TcCoe Idealize.SL.Sem

/-- The whole result from the nine arguments. -/
def out (oa ob : MergeKernelIdeal.S32768x512.Idx → EReal) (gm : MergeKernelIdeal.S32768x2048.Idx → EReal)
    (h : MergeKernelIdeal.S32768x1024.Idx → EReal) (pa pb : MergeKernelIdeal.S512x1024.Idx → EReal)
    (wo : MergeKernelIdeal.S1024x1024.Idx → EReal) (g b : MergeKernelIdeal.S1024.Idx → EReal)
    (i : MergeKernelIdeal.S32768x1024.Idx) : EReal :=
  rowNorm (mergeRow (fun j => oa (ix2 (i 0) j)) (fun j => ob (ix2 (i 0) j)) (fun j => gm (ix2 (i 0) (colA j)))
      (fun j => gm (ix2 (i 0) (colB j))) (fun j => h (ix2 (i 0) j)) (fun j k => pa (ix2 j k)) (fun j k => pb (ix2 j k))
      (fun j k => wo (ix2 j k))) (fun j => g (ix1 j)) (fun j => b (ix1 j)) (i 1)

section Kernel
open Cert.MergeKernelIdeal Cert.MergeKernelIdeal.Gen

theorem pay_row (P0 : Vec Ideal S256x512 .bf16) (P1 : Vec Ideal S512x1024 .bf16) (P2 : Vec Ideal S256x512 .bf16) (P3 : Vec Ideal S512x1024 .bf16)
    (P4 P5 P6 : Vec Ideal S256x1024 .f32) (P7 : Vec Ideal S1024x1024 .bf16) (r : Fin 256) (c : Fin 1024) :
    k0_pay2 (F := Ideal) P0 P1 P2 P3 P4 P5 P6 P7 (ix2 r c)
      = mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k)) c
        - mean (mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k))) := by
  unfold k0_pay2 mean mergeRow
  simp only [pointwise, zero_add]
  rfl

theorem pay_var (P0 : Vec Ideal S256x512 .bf16) (P1 : Vec Ideal S512x1024 .bf16) (P2 : Vec Ideal S256x512 .bf16) (P3 : Vec Ideal S512x1024 .bf16)
    (P4 P5 P6 : Vec Ideal S256x1024 .f32) (P7 : Vec Ideal S1024x1024 .bf16) (r : Fin 256) :
    k0_pay3 (F := Ideal) P0 P1 P2 P3 P4 P5 P6 P7 (ix2 r 0)
      = Ideal.div (∑ k, k0_pay2 (F := Ideal) P0 P1 P2 P3 P4 P5 P6 P7 (ix2 r k) * k0_pay2 (F := Ideal) P0 P1 P2 P3 P4 P5 P6 P7 (ix2 r k))
          (Ideal.ofBits FTy.f32 0x44800000#32) + Ideal.ofBits FTy.f32 0x3727C5AC#32 := by
  unfold k0_pay3
  generalize k0_pay2 (F := Ideal) P0 P1 P2 P3 P4 P5 P6 P7 = A
  simp only [pointwise]

theorem pay_scale (A : Vec Ideal S256x1024 .f32) (D : Vec Ideal S256x1 .f32) (G B : Vec Ideal S1x1024 .f32) (r : Fin 256) (c : Fin 1024) :
    k0_pay1 (F := Ideal) A D G B (ix2 r c) = A (ix2 r c) * Ideal.rsqrt (D (ix2 r 0)) * G (ix2 0 c) + B (ix2 0 c) := by
  unfold k0_pay1
  simp only [pointwise]
  rfl

theorem pay (P0 : Vec Ideal S256x512 .bf16) (P1 : Vec Ideal S512x1024 .bf16) (P2 : Vec Ideal S256x512 .bf16) (P3 : Vec Ideal S512x1024 .bf16)
    (P4 P5 P6 : Vec Ideal S256x1024 .f32) (P7 : Vec Ideal S1024x1024 .bf16) (G B : Vec Ideal S1x1024 .f32) (r : Fin 256) (c : Fin 1024) :
    k0_pay1 (F := Ideal) (k0_pay2 P0 P1 P2 P3 P4 P5 P6 P7) (k0_pay3 P0 P1 P2 P3 P4 P5 P6 P7) G B (ix2 r c)
      = rowNorm (mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k))) (fun j => G (ix2 0 j)) (fun j => B (ix2 0 j)) c := by
  rw [pay_scale, pay_var]
  simp only [pay_row]
  rfl

theorem ldA (X : Vec Ideal S256x2048 .f32) (r : Fin 256) (j : Fin 1024) : View.ld X r0_2 (ix2 r j) = X (ix2 r (colA j)) := by
  show X _ = X _
  refine congrArg X (funext fun a => Fin.ext ?_)
  fin_cases a
  · show 0 + 1 * r.val = r.val; omega
  · show 0 + 1 * j.val = j.val; omega
theorem ldB (X : Vec Ideal S256x2048 .f32) (r : Fin 256) (j : Fin 1024) : View.ld X r0_3 (ix2 r j) = X (ix2 r (colB j)) := by
  show X _ = X _
  refine congrArg X (funext fun a => Fin.ext ?_)
  fin_cases a
  · show 0 + 1 * r.val = r.val; omega
  · show 1024 + 1 * j.val = 1024 + j.val; omega

variable (m : (ℓ : Loc nD τ sig) → Buf (Elt Ideal) ℓ)

theorem index_all : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] := by
  decide +kernel

theorem vec_apply (v : S1024.Idx → EReal) (j : Fin 1024) :
    shapeCast (α := EReal) S1x1024 v shapeCasts_S1024_S1x1024 (ix2 0 j) = v (ix1 j) := by
  simp only [pointwise]

/-- Row `r` of block `t` of the whole array. -/
def row (t : Fin cfg0.N) (r : Fin 256) : Fin 32768 := ⟨t.val * 256 + r.val, by
  have : cfg0.N = 128 := N_0
  have := t.isLt; have := r.isLt; omega⟩

theorem blk0 (c : Dev nD) (t : Fin cfg0.N) (r : Fin 256) (j : Fin 512) :
    (iblk m c 0 t : S256x512.Idx → EReal) (ix2 r j) = (m ((c : Thread nD τ).loc main_arg0) : S32768x512.Idx → EReal) (ix2 (row t r) j) := by
  rw [← V_main_arg0 m c]
  unfold row
  blk_ext [iblk, (index_all t).1]
theorem blk1 (c : Dev nD) (t : Fin cfg0.N) (r : Fin 256) (j : Fin 512) :
    (iblk m c 1 t : S256x512.Idx → EReal) (ix2 r j) = (m ((c : Thread nD τ).loc main_arg1) : S32768x512.Idx → EReal) (ix2 (row t r) j) := by
  rw [← V_main_arg1 m c]
  unfold row
  blk_ext [iblk, (index_all t).2.1]
theorem blk2 (c : Dev nD) (t : Fin cfg0.N) (r : Fin 256) (j : Fin 2048) :
    (iblk m c 2 t : S256x2048.Idx → EReal) (ix2 r j) = (m ((c : Thread nD τ).loc main_arg2) : S32768x2048.Idx → EReal) (ix2 (row t r) j) := by
  rw [← V_main_arg2 m c]
  unfold row
  blk_ext [iblk, (index_all t).2.2.1]
theorem blk3 (c : Dev nD) (t : Fin cfg0.N) (r : Fin 256) (j : Fin 1024) :
    (iblk m c 3 t : S256x1024.Idx → EReal) (ix2 r j) = (m ((c : Thread nD τ).loc main_arg3) : S32768x1024.Idx → EReal) (ix2 (row t r) j) := by
  rw [← V_main_arg3 m c]
  unfold row
  blk_ext [iblk, (index_all t).2.2.2.1]
theorem V_v0 (c : Dev nD) : V m c main_v0 = (m ((c : Thread nD τ).loc main_arg4) : S512x1024.Idx → EReal) := by
  unfold_abbrev_sides
  after_results
  rfl
theorem blk4 (c : Dev nD) (t : Fin cfg0.N) (r : Fin 512) (j : Fin 1024) :
    (iblk m c 4 t : S512x1024.Idx → EReal) (ix2 r j) = (m ((c : Thread nD τ).loc main_arg4) : S512x1024.Idx → EReal) (ix2 r j) := by
  rw [← V_v0 m c]
  blk_ext [iblk, (index_all t).2.2.2.2.1]
theorem V_v1 (c : Dev nD) : V m c main_v1 = (m ((c : Thread nD τ).loc main_arg5) : S512x1024.Idx → EReal) := by
  unfold_abbrev_sides
  after_results
  rfl
theorem blk5 (c : Dev nD) (t : Fin cfg0.N) (r : Fin 512) (j : Fin 1024) :
    (iblk m c 5 t : S512x1024.Idx → EReal) (ix2 r j) = (m ((c : Thread nD τ).loc main_arg5) : S512x1024.Idx → EReal) (ix2 r j) := by
  rw [← V_v1 m c]
  blk_ext [iblk, (index_all t).2.2.2.2.2.1]
theorem V_v2 (c : Dev nD) : V m c main_v2 = (m ((c : Thread nD τ).loc main_arg6) : S1024x1024.Idx → EReal) := by
  unfold_abbrev_sides
  after_results
  rfl
theorem blk6 (c : Dev nD) (t : Fin cfg0.N) (r : Fin 1024) (j : Fin 1024) :
    (iblk m c 6 t : S1024x1024.Idx → EReal) (ix2 r j) = (m ((c : Thread nD τ).loc main_arg6) : S1024x1024.Idx → EReal) (ix2 r j) := by
  rw [← V_v2 m c]
  blk_ext [iblk, (index_all t).2.2.2.2.2.2.1]
theorem V_v3 (c : Dev nD) (j : Fin 1024) : (V m c main_v3 : S1x1024.Idx → EReal) (ix2 0 j) = (m ((c : Thread nD τ).loc main_arg7) : S1024.Idx → EReal) (ix1 j) := by
  unfold_abbrev_sides
  after_results
  exact vec_apply _ _
theorem blk7 (c : Dev nD) (t : Fin cfg0.N) (j : Fin 1024) :
    (iblk m c 7 t : S1x1024.Idx → EReal) (ix2 0 j) = (m ((c : Thread nD τ).loc main_arg7) : S1024.Idx → EReal) (ix1 j) := by
  rw [← V_v3 m c]
  blk_ext [iblk, (index_all t).2.2.2.2.2.2.2.1]
theorem V_v4 (c : Dev nD) (j : Fin 1024) : (V m c main_v4 : S1x1024.Idx → EReal) (ix2 0 j) = (m ((c : Thread nD τ).loc main_arg8) : S1024.Idx → EReal) (ix1 j) := by
  unfold_abbrev_sides
  after_results
  exact vec_apply _ _
theorem blk8 (c : Dev nD) (t : Fin cfg0.N) (j : Fin 1024) :
    (iblk m c 8 t : S1x1024.Idx → EReal) (ix2 0 j) = (m ((c : Thread nD τ).loc main_arg8) : S1024.Idx → EReal) (ix1 j) := by
  rw [← V_v4 m c]
  blk_ext [iblk, (index_all t).2.2.2.2.2.2.2.2.1]

theorem zeros : (![0, 0] : Fin 2 → Nat) = fun _ => 0 := funext fun a => by fin_cases a <;> rfl

theorem out_eq (x0 : Vec Ideal S256x512 .bf16) (x1 : Vec Ideal S256x512 .bf16) (x2 : Vec Ideal S256x2048 .f32) (x3 : Vec Ideal S256x1024 .f32)
    (x4 : Vec Ideal S512x1024 .bf16) (x5 : Vec Ideal S512x1024 .bf16) (x6 : Vec Ideal S1024x1024 .bf16) (x7 : Vec Ideal S1x1024 .f32)
    (x8 : Vec Ideal S1x1024 .f32) : out0_9 x0 x1 x2 x3 x4 x5 x6 x7 x8
      = k0_pay1 (k0_pay2 x0 x4 x1 x5 (View.ld x2 r0_2) (View.ld x2 r0_3) x3 x6) (k0_pay3 x0 x4 x1 x5 (View.ld x2 r0_2) (View.ld x2 r0_3) x3 x6) x7 x8 := by
  have h0 : View.ld x0 r0_0 = x0 := View.ld_unit_zero zeros _ _
  have h1 : View.ld x1 r0_0 = x1 := View.ld_unit_zero zeros _ _
  have h3 : View.ld x3 r0_4 = x3 := View.ld_unit_zero zeros _ _
  have h4 : View.ld x4 r0_1 = x4 := View.ld_unit_zero zeros _ _
  have h5 : View.ld x5 r0_1 = x5 := View.ld_unit_zero zeros _ _
  have h6 : View.ld x6 r0_5 = x6 := View.ld_unit_zero zeros _ _
  have h7 : View.ld x7 r0_6 = x7 := View.ld_unit_zero zeros _ _
  have h8 : View.ld x8 r0_6 = x8 := View.ld_unit_zero zeros _ _
  unfold out0_9
  rw [h0, h1, h3, h4, h5, h6, h7, h8]
  exact View.canon_unit_zero zeros _ _

theorem point (x0 : Vec Ideal S256x512 .bf16) (x1 : Vec Ideal S256x512 .bf16) (x2 : Vec Ideal S256x2048 .f32) (x3 : Vec Ideal S256x1024 .f32)
    (x4 : Vec Ideal S512x1024 .bf16) (x5 : Vec Ideal S512x1024 .bf16) (x6 : Vec Ideal S1024x1024 .bf16) (x7 : Vec Ideal S1x1024 .f32)
    (x8 : Vec Ideal S1x1024 .f32) (r : Fin 256) (q : Fin 1024) : out0_9 x0 x1 x2 x3 x4 x5 x6 x7 x8 (ix2 r q)
      = rowNorm (mergeRow (fun j => x0 (ix2 r j)) (fun j => x1 (ix2 r j)) (fun j => x2 (ix2 r (colA j))) (fun j => x2 (ix2 r (colB j)))
          (fun j => x3 (ix2 r j)) (fun j k => x4 (ix2 j k)) (fun j k => x5 (ix2 j k)) (fun j k => x6 (ix2 j k)))
          (fun j => x7 (ix2 0 j)) (fun j => x8 (ix2 0 j)) q := by
  rw [out_eq]
  have hA : (fun j => View.ld x2 r0_2 (ix2 r j)) = fun j => x2 (ix2 r (colA j)) := funext fun j => ldA x2 r j
  have hB : (fun j => View.ld x2 r0_3 (ix2 r j)) = fun j => x2 (ix2 r (colB j)) := funext fun j => ldB x2 r j
  rw [← hA, ← hB]
  exact pay _ _ _ _ _ _ _ _ _ _ r q

/-- The kernel's result array. -/
theorem arr (c : Dev nD) : (Gen.dats m 0 c).arrAt 9 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Gen.dats m 0 c).arrAt_eq_of_covers 9 _ (by decide +kernel) fun t hf y => ?_
  blk_simp
  rw [after0_9]
  obtain ⟨r, q, rfl⟩ : ∃ (r : Fin 256) (q : Fin 1024), y = ix2 r q := ⟨y 0, y 1, funext fun a => by fin_cases a <;> rfl⟩
  have e : ((win0_9.blk t).view.emb (ix2 r q) : S32768x1024.Idx) = ix2 (row t r) q := by
    unfold row
    blk_ext [(index_all t).2.2.2.2.2.2.2.2.2]
  refine Eq.trans ?_ (congrArg (out _ _ _ _ _ _ _ _ _) e).symm
  refine (point _ _ _ _ _ _ _ _ _ r q).trans ?_
  simp only [blk0, blk1, blk2, blk3, blk4, blk5, blk6, blk7, blk8]
  rfl

end Kernel

section Reference
open Cert.MergeReferenceIdeal Cert.MergeReferenceIdeal.Read

variable (oa ob : S32768x512.Idx → EReal) (gm : S32768x2048.Idx → EReal)
    (h : S32768x1024.Idx → EReal) (pa pb : S512x1024.Idx → EReal)
    (wo : S1024x1024.Idx → EReal) (g b : S1024.Idx → EReal)

theorem ref_pre (r : Fin 32768) (c : Fin 1024) : val_main_v13 (F := Ideal) oa ob gm h pa pb wo (ix2 r c)
    = mergeRow (fun j => oa (ix2 r j)) (fun j => ob (ix2 r j)) (fun j => gm (ix2 r (colA j)))
      (fun j => gm (ix2 r (colB j))) (fun j => h (ix2 r j)) (fun j k => pa (ix2 j k)) (fun j k => pb (ix2 j k))
      (fun j k => wo (ix2 j k)) c := by
  have l12 : ∀ k, lidx_main_v12 (ix2 r c) k = ix2 r k := fun k => funext fun a => by fin_cases a <;> rfl
  have r12 : ∀ k, ridx_main_v12 (ix2 r c) k = ix2 k c := fun k => funext fun a => by fin_cases a <;> rfl
  have l3 : ∀ j k, lidx_main_v3 (ix2 r k) j = ix2 r j := fun j k => funext fun a => by fin_cases a <;> rfl
  have r3 : ∀ j k, ridx_main_v3 (ix2 r k) j = ix2 j k := fun j k => funext fun a => by fin_cases a <;> rfl
  have l7 : ∀ j k, lidx_main_v7 (ix2 r k) j = ix2 r j := fun j k => funext fun a => by fin_cases a <;> rfl
  have r7 : ∀ j k, ridx_main_v7 (ix2 r k) j = ix2 j k := fun j k => funext fun a => by fin_cases a <;> rfl
  have gA : ∀ k, idx_main_v0 (idx_main_v1 (idx_main_v2 (ix2 r k))) = ix2 r (colA k) := fun k => funext fun a => Fin.ext (by
    have := k.isLt; have := r.isLt
    fin_cases a
    · show (((r.val * 1024 + k.val) / 1024 * 2 + 0) * 1024 + (r.val * 1024 + k.val) % 1024) / 2048 = r.val; omega
    · show (((r.val * 1024 + k.val) / 1024 * 2 + 0) * 1024 + (r.val * 1024 + k.val) % 1024) % 2048 = k.val; omega)
  have gB : ∀ k, idx_main_v0 (idx_main_v5 (idx_main_v6 (ix2 r k))) = ix2 r (colB k) := fun k => funext fun a => Fin.ext (by
    have := k.isLt; have := r.isLt
    fin_cases a
    · show (((r.val * 1024 + k.val) / 1024 * 2 + (1 + 0)) * 1024 + (r.val * 1024 + k.val) % 1024) / 2048 = r.val; omega
    · show (((r.val * 1024 + k.val) / 1024 * 2 + (1 + 0)) * 1024 + (r.val * 1024 + k.val) % 1024) % 2048 = 1024 + k.val; omega)
  simp only [val_main_v13_apply, val_main_v11_apply, val_main_v10_apply, val_main_cst_apply, val_main_v12_apply, val_main_v9_apply,
    val_main_v8_apply, val_main_v7_apply, val_main_v6_apply, val_main_v5_apply, val_main_v4_apply, val_main_v3_apply, val_main_v2_apply,
    val_main_v1_apply, val_main_v0_apply, l12, r12, l3, r3, l7, r7, gA, gB]
  rfl

theorem ref_mean (r : Fin 32768) : val_main_v17 (F := Ideal) oa ob gm h pa pb wo (ix2 r 0)
    = mean (fun j => val_main_v13 (F := Ideal) oa ob gm h pa pb wo (ix2 r j)) := by
  have h : ∀ k, idx_main_v14 (idx_main_v15 (ix2 r 0)) k = ix2 r k := fun k => funext fun a => by fin_cases a <;> rfl
  have z : (FloatOps.ofBits (F := Ideal) .f32 0x00000000#32) = 0 := by simp only [pointwise]
  simp only [val_main_v17_apply, val_main_v16_apply, val_main_cst_1_apply, val_main_v15_apply, val_main_v14_apply, val_main_cst_0_apply, h, z, zero_add]
  rfl

theorem ref (i : S32768x1024.Idx) : val_main_v37 (F := Ideal) oa ob gm h pa pb wo g b i = out oa ob gm h pa pb wo g b i := by
  obtain ⟨r, q, rfl⟩ : ∃ (r : Fin 32768) (q : Fin 1024), i = ix2 r q := ⟨i 0, i 1, funext fun a => by fin_cases a <;> rfl⟩
  have z : (FloatOps.ofBits (F := Ideal) .f32 0x00000000#32) = 0 := by simp only [pointwise]
  have h21 : ∀ q k, idx_main_v21 (idx_main_v22 (idx_main_v30 (ix2 r q))) k = ix2 r k := fun q k => funext fun a => by fin_cases a <;> rfl
  have h18 : ∀ q, idx_main_v18 (ix2 r q) = ix2 r 0 := fun q => funext fun a => by fin_cases a <;> rfl
  have h25 : ∀ q, idx_main_v25 (ix2 r q) = ix2 r 0 := fun q => funext fun a => by fin_cases a <;> rfl
  have h32 : idx_main_v32 (idx_main_v33 (ix2 r q)) = ix1 q := funext fun a => by fin_cases a <;> rfl
  have h35 : idx_main_v35 (idx_main_v36 (ix2 r q)) = ix1 q := funext fun a => by fin_cases a <;> rfl
  simp only [val_main_v37_apply, val_main_v36_apply, val_main_v35_apply, val_main_v34_apply, val_main_v33_apply, val_main_v32_apply,
    val_main_v31_apply, val_main_v30_apply, val_main_v29_apply, val_main_v28_apply, val_main_v27_apply, val_main_cst_4_apply,
    val_main_v26_apply, val_main_v25_apply, val_main_v24_apply, val_main_v23_apply, val_main_cst_3_apply, val_main_v22_apply, val_main_v21_apply,
    val_main_cst_2_apply, val_main_v20_apply, val_main_v19_apply, val_main_v18_apply, h21, h18, h25, h32, h35, z, zero_add, ref_mean, ref_pre]
  rfl

end Reference

/-- The merge kernel's result is the reference's, on every argument. -/
theorem algebraic : algebraic_MergeKernelIdeal_MergeReferenceIdeal (hMergeKernelIdeal := Cert.MergeKernelIdeal.Gen.facts)
    (hMergeReferenceIdeal := Cert.MergeReferenceIdeal.Gen.facts) := by
  intro m g m' g' _ hargs
  refine ⟨fun c => out
    (m ((c.tc : Thread Cert.MergeKernelIdeal.nD Cert.MergeKernelIdeal.τ).loc Cert.MergeKernelIdeal.main_arg0))
    (m ((c.tc : Thread Cert.MergeKernelIdeal.nD Cert.MergeKernelIdeal.τ).loc Cert.MergeKernelIdeal.main_arg1))
    (m ((c.tc : Thread Cert.MergeKernelIdeal.nD Cert.MergeKernelIdeal.τ).loc Cert.MergeKernelIdeal.main_arg2))
    (m ((c.tc : Thread Cert.MergeKernelIdeal.nD Cert.MergeKernelIdeal.τ).loc Cert.MergeKernelIdeal.main_arg3))
    (m ((c.tc : Thread Cert.MergeKernelIdeal.nD Cert.MergeKernelIdeal.τ).loc Cert.MergeKernelIdeal.main_arg4))
    (m ((c.tc : Thread Cert.MergeKernelIdeal.nD Cert.MergeKernelIdeal.τ).loc Cert.MergeKernelIdeal.main_arg5))
    (m ((c.tc : Thread Cert.MergeKernelIdeal.nD Cert.MergeKernelIdeal.τ).loc Cert.MergeKernelIdeal.main_arg6))
    (m ((c.tc : Thread Cert.MergeKernelIdeal.nD Cert.MergeKernelIdeal.τ).loc Cert.MergeKernelIdeal.main_arg7))
    (m ((c.tc : Thread Cert.MergeKernelIdeal.nD Cert.MergeKernelIdeal.τ).loc Cert.MergeKernelIdeal.main_arg8)), ?_, ?_⟩
  · exact (θ_run _ _ _).mono (fun r h c => ⟨(h c).1.trans (arr m c), (h c).2⟩) (Cert.MergeKernelIdeal.Value.run_blocks m g)
  · refine (θ_run _ _ _).mono (fun r h c => ⟨(h c).1.trans ?_, (h c).2⟩) (Cert.MergeReferenceIdeal.Value.run (F := Ideal) m' g')
    obtain ⟨e0, e1, e2, e3, e4, e5, e6, e7, e8⟩ := hargs c
    rw [Cert.MergeReferenceIdeal.Read.val_main_v37_eq, e0, e1, e2, e3, e4, e5, e6, e7, e8]
    exact funext fun i => ref _ _ _ _ _ _ _ _ _ i

end Cert.MergeProof

end
-- ==== Proof.FoxMath.lean ====
module

public import Idealize.ShloMosaic.PureOps.Ideal.Laws
public import Idealize.ShloMosaic.Lib.Pipeline.ValueKit

@[expose] public section

set_option maxRecDepth 16384

noncomputable section

namespace Cert.FoxMath

open Idealize.ShloMosaic

/-- A finite sum of reals, seen in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of key `s` seen from position `t`, relative to the offset `M`: zero after `t`. -/
def wt (S : ℕ → ℝ) (t : ℕ) (M : ℝ) (s : ℕ) : ℝ := if s ≤ t then Real.exp (S s - M) else 0

theorem wt_nonneg (S : ℕ → ℝ) (t : ℕ) (M : ℝ) (s : ℕ) : 0 ≤ wt S t M s := by
  unfold wt; split
  · exact (Real.exp_pos _).le
  · exact le_rfl

theorem wt_shift (S : ℕ → ℝ) (t : ℕ) (M M' : ℝ) (s : ℕ) : Real.exp (M - M') * wt S t M s = wt S t M' s := by
  unfold wt; split
  · rw [← Real.exp_add]; congr 1; ring
  · rw [mul_zero]

/-- What the running maximum and the accumulator of one query hold after `n` keys: nothing yet, or some offset `M` and
    the weighted sums of the values relative to it. The offset need not be the maximum. -/
def Inv (S : ℕ → ℝ) (V : Fin 80 → ℕ → ℝ) (t n : ℕ) (m : EReal) (a : Fin 80 → EReal) : Prop :=
  (n = 0 ∧ m = ⊥ ∧ ∀ d, a d = 0) ∨
    ∃ M : ℝ, m = (M : EReal) ∧ ∀ d, a d = ((∑ s ∈ Finset.range n, V d s * wt S t M s : ℝ) : EReal)

/-- The running maximum after one more tile of scores. -/
def nm (s : Fin 512 → EReal) (m : EReal) : EReal := max m (Finset.univ.fold max ⊥ s)

/-- One accumulator entry after one more tile of scores and values. -/
def na (s v : Fin 512 → EReal) (m a : EReal) : EReal :=
  Ideal.exp (m - nm s m) * a + ∑ x, v x * Ideal.exp (s x - nm s m)

theorem fold_eq_sup (s : Fin 512 → EReal) : Finset.univ.fold max ⊥ s = Finset.univ.sup s := rfl

theorem nm_real (s : Fin 512 → EReal) (m : EReal) (hm : m ≠ ⊤) (hs : ∀ k, s k ≠ ⊤) (k : Fin 512) (hk : s k ≠ ⊥) :
    ∃ M : ℝ, nm s m = (M : EReal) := by
  have h1 : nm s m ≠ ⊤ := by
    refine ne_of_lt ?_
    refine max_lt (lt_top_iff_ne_top.mpr hm) ?_
    rw [fold_eq_sup]
    exact (Finset.sup_lt_iff (by exact bot_lt_top)).mpr fun b _ => lt_top_iff_ne_top.mpr (hs b)
  have h2 : nm s m ≠ ⊥ := by
    refine ne_of_gt (lt_of_lt_of_le (bot_lt_iff_ne_bot.mpr hk) (le_trans ?_ (le_max_right _ _)))
    rw [fold_eq_sup]
    exact Finset.le_sup (Finset.mem_univ k)
  exact ⟨(nm s m).toReal, (EReal.coe_toReal h1 h2).symm⟩

/-- One tile's weighted values, relative to a real offset. -/
theorem tile_sum (S : ℕ → ℝ) (W : ℕ → ℝ) (t n : ℕ) (M : ℝ) (s v : Fin 512 → EReal)
    (hs : ∀ k : Fin 512, s k = if n + k.val ≤ t then ((S (n + k.val) : ℝ) : EReal) else ⊥)
    (hv : ∀ k : Fin 512, v k = ((W (n + k.val) : ℝ) : EReal)) :
    ∑ x, v x * Ideal.exp (s x - (M : EReal)) = ((∑ k ∈ Finset.range 512, W (n + k) * wt S t M (n + k) : ℝ) : EReal) := by
  rw [Finset.sum_range (fun k => W (n + k) * wt S t M (n + k)), coe_sum]
  refine Finset.sum_congr rfl fun k _ => ?_
  rw [hs k, hv k]
  unfold wt
  split
  · rw [← EReal.coe_sub, Ideal.exp_coe, EReal.coe_mul]
  · rw [EReal.bot_sub, Ideal.exp_bot, mul_zero, mul_zero, EReal.coe_zero]

/-- One tile of keys keeps the invariant. -/
theorem step {S : ℕ → ℝ} {V : Fin 80 → ℕ → ℝ} {t n : ℕ} {m : EReal} {a : Fin 80 → EReal} (s : Fin 512 → EReal)
    (v : Fin 80 → Fin 512 → EReal)
    (hs : ∀ k : Fin 512, s k = if n + k.val ≤ t then ((S (n + k.val) : ℝ) : EReal) else ⊥)
    (hv : ∀ d, ∀ k : Fin 512, v d k = ((V d (n + k.val) : ℝ) : EReal)) (hn : n ≤ t) (h : Inv S V t n m a) :
    Inv S V t (n + 512) (nm s m) (fun d => na s (v d) m (a d)) := by
  have hm : m ≠ ⊤ := by
    rcases h with ⟨_, hm, _⟩ | ⟨M, hm, _⟩
    · rw [hm]; exact bot_ne_top
    · rw [hm]; exact EReal.coe_ne_top _
  have hst : ∀ k, s k ≠ ⊤ := fun k => by
    rw [hs k]; split
    · exact EReal.coe_ne_top _
    · exact bot_ne_top
  obtain ⟨M', hM'⟩ := nm_real s m hm hst 0 (by
    rw [hs 0, if_pos (by simpa using hn)]; exact EReal.coe_ne_bot _)
  refine Or.inr ⟨M', hM', fun d => ?_⟩
  show na s (v d) m (a d) = _
  unfold na
  rw [hM', tile_sum S (V d) t n M' s (v d) hs (hv d), Finset.sum_range_add]
  rcases h with ⟨h0, _, ha⟩ | ⟨M, hm, ha⟩
  · rw [ha d, mul_zero, h0, Finset.sum_range_zero, zero_add, zero_add]
  · rw [ha d, hm, ← EReal.coe_sub, Ideal.exp_coe, ← EReal.coe_mul, ← EReal.coe_add]
    congr 1
    rw [Finset.mul_sum]
    congr 1
    refine Finset.sum_congr rfl fun x _ => ?_
    rw [← wt_shift S t M M' x]; ring

theorem inv_start (S : ℕ → ℝ) (V : Fin 80 → ℕ → ℝ) (t : ℕ) (a : Fin 80 → EReal) (ha : ∀ d, a d = 0) : Inv S V t 0 ⊥ a :=
  Or.inl ⟨rfl, rfl, ha⟩

/-- Weighted sums past the query's own position add nothing. -/
theorem sum_extend (S : ℕ → ℝ) (W : ℕ → ℝ) (t n : ℕ) (M : ℝ) (hn : t < n) (N : ℕ) (hN : n ≤ N) :
    ∑ s ∈ Finset.range n, W s * wt S t M s = ∑ s ∈ Finset.range N, W s * wt S t M s := by
  refine Finset.sum_subset (Finset.range_subset_range.mpr hN) fun s _ hs => ?_
  have : ¬ s ≤ t := by
    have := Finset.mem_range.not.mp hs; omega
  unfold wt; rw [if_neg this, mul_zero]

/-- The attention of one query over 2048 keys, as a real number: the weighted values over the weights. -/
def att (S : ℕ → ℝ) (W : ℕ → ℝ) (t : ℕ) : ℝ :=
  (∑ s ∈ Finset.range 2048, W s * wt S t 0 s) / ∑ s ∈ Finset.range 2048, wt S t 0 s

theorem den_pos (S : ℕ → ℝ) (t : ℕ) (M : ℝ) : 0 < ∑ s ∈ Finset.range 2048, wt S t M s := by
  refine lt_of_lt_of_le ?_ (Finset.single_le_sum (fun s _ => wt_nonneg S t M s) (Finset.mem_range.mpr (by norm_num : 0 < 2048)))
  unfold wt; rw [if_pos (Nat.zero_le _)]; exact Real.exp_pos _

theorem att_shift (S : ℕ → ℝ) (W : ℕ → ℝ) (t : ℕ) (M : ℝ) :
    (∑ s ∈ Finset.range 2048, W s * wt S t M s) / (∑ s ∈ Finset.range 2048, wt S t M s) = att S W t := by
  unfold att
  have e : Real.exp (0 - M) ≠ 0 := (Real.exp_pos _).ne'
  have h1 : ∑ s ∈ Finset.range 2048, W s * wt S t M s = Real.exp (0 - M) * ∑ s ∈ Finset.range 2048, W s * wt S t 0 s := by
    rw [Finset.mul_sum]; refine Finset.sum_congr rfl fun s _ => ?_
    rw [← wt_shift S t 0 M s]; ring
  have h2 : ∑ s ∈ Finset.range 2048, wt S t M s = Real.exp (0 - M) * ∑ s ∈ Finset.range 2048, wt S t 0 s := by
    rw [Finset.mul_sum]; exact Finset.sum_congr rfl fun s _ => (wt_shift S t 0 M s).symm
  rw [h1, h2, mul_div_mul_left _ _ e]

/-- Scores that differ by a constant give the same attention. -/
theorem att_const (S S' : ℕ → ℝ) (W : ℕ → ℝ) (t : ℕ) (C : ℝ) (h : ∀ s, s ≤ t → S' s = S s + C) : att S' W t = att S W t := by
  rw [← att_shift S' W t C]
  have e : ∀ s, wt S' t C s = wt S t 0 s := fun s => by
    unfold wt; split
    · rename_i hs; rw [h s hs]; congr 1; ring
    · rfl
  unfold att
  simp only [e]

theorem div_coe (x y : ℝ) (hy : y ≠ 0) : Ideal.div (x : EReal) (y : EReal) = ((x / y : ℝ) : EReal) := by
  unfold Ideal.div
  rw [if_neg (fun h => hy (EReal.coe_eq_zero.mp h))]
  rw [← EReal.coe_inv, ← EReal.coe_mul, div_eq_mul_inv]

/-- The quotient the kernel stores, once every key up to the query's position is in. -/
theorem inv_div {S : ℕ → ℝ} {V : Fin 80 → ℕ → ℝ} {t n : ℕ} {m : EReal} {a : Fin 80 → EReal} (h : Inv S V t n m a)
    (hn : t < n) (hN : n ≤ 2048) (h64 : ∀ s, s < 2048 → V 64 s = 1) (d : Fin 80) :
    Ideal.div (a d) (a 64) = ((att S (V d) t : ℝ) : EReal) := by
  rcases h with ⟨h0, _, _⟩ | ⟨M, _, ha⟩
  · omega
  · rw [ha d, ha 64, sum_extend S (V d) t n M hn 2048 hN, sum_extend S (V 64) t n M hn 2048 hN]
    have e : ∑ s ∈ Finset.range 2048, V 64 s * wt S t M s = ∑ s ∈ Finset.range 2048, wt S t M s :=
      Finset.sum_congr rfl fun s hs => by rw [h64 s (Finset.mem_range.mp hs), one_mul]
    rw [e, div_coe _ _ (den_pos S t M).ne', att_shift]

end Cert.FoxMath

end
-- ==== Proof.FoxPay.lean ====
module

public import proofs.«01_k».proof.Proof.FoxMath
public import proofs.«01_k».proof.Proof.Gen.KernelIdeal.Value
public import Idealize.ShloMosaic.Lib.Pipeline.ValueKit

@[expose] public section

set_option maxRecDepth 16384

noncomputable section

namespace Cert.FoxPay

open Cert.FoxMath
open Cert.KernelIdeal Cert.KernelIdeal.Gen Idealize.ShloMosaic Idealize.ShloMosaic.TcCoe Idealize.SL.Sem

/-- The score of key `x` of a tile against query column `r`. -/
def sc (qx : FVec Ideal S128x1024 .bf16) (K : Vec Ideal S1x512x128 .bf16) (r : Fin 1024) (x : Fin 512) : EReal :=
  ∑ l, K (ix3 0 x l) * qx (ix2 l r)

/-- The scores with the keys after position `b` masked. -/
def msk (b : ℕ) (s : Fin 512 → EReal) (x : Fin 512) : EReal := if x.val ≤ b then s x else ⊥

/-- Query column `r` of the right half. -/
def hi (r : Fin 512) : Fin 1024 := ⟨512 + r.val, by have := r.isLt; omega⟩

theorem ninf : Ideal.ofBits FTy.f32 4286578688#32 = ⊥ := by
  simp [Ideal.ofBits, Ideal.ieee]

theorem mask_bot : (Named.named (F := Ideal) κ "mask" 0xF149F2CA#32 : Ideal .f32) = (⊥ : EReal) := rfl

theorem sel_le {α : Type} (a : BitVec 32) (x r : ℕ) (hx : x < 4096) (hr : r < 4096) (p q : α) :
    Scalar.select (IntOp.cmpi CmpIPredicate.sle (BitVec.ofNat 32 x) (IntOp.addi (Scalar.subi a a) (BitVec.ofNat 32 r))) p q
      = if x ≤ r then p else q := by
  have e : IntOp.addi (Scalar.subi a a) (BitVec.ofNat 32 r) = BitVec.ofNat 32 r := by
    show a - a + BitVec.ofNat 32 r = _
    rw [BitVec.sub_self, BitVec.zero_add]
  rw [e, WordCmp.cmpi_sle_ofNat (by omega) (by omega)]
  unfold Scalar.select
  by_cases h : x ≤ r <;> simp [h]

section loop
variable (qx : FVec Ideal S128x1024 .bf16) (K : Vec Ideal S1x512x128 .bf16) (W : Vec Ideal S1x1x1x80x512 .bf16)
  (m : Vec Ideal S1x1x1024 .f32) (a : Vec Ideal S1x80x1024 .f32)

theorem p30 (r : Fin 1024) : k0_pay30 qx K m (ix2 0 r) = nm (sc qx K r) (m (ix3 0 0 r)) := by
  have h28 : ∀ k, k0_pay28 qx K (ix2 k r) = sc qx K r k := fun k => by
    unfold k0_pay28; simp only [pointwise, zero_add]; rfl
  unfold k0_pay30 k0_pay29
  simp only [pointwise, zero_add, h28, ninf]; rfl

theorem p31 (d : Fin 80) (r : Fin 1024) :
    k0_pay31 qx K W m a (ix3 0 d r) = na (sc qx K r) (fun x => W (ix5 0 0 0 d x)) (m (ix3 0 0 r)) (a (ix3 0 d r)) := by
  have h28 : ∀ k, k0_pay28 qx K (ix2 k r) = sc qx K r k := fun k => by
    unfold k0_pay28; simp only [pointwise, zero_add]; rfl
  unfold k0_pay31 k0_pay29 na
  rw [← p30]
  simp only [pointwise, zero_add, h28]; rfl

theorem p32 (r : Fin 1024) : k0_pay32 qx K m (ix3 0 0 r) = nm (sc qx K r) (m (ix3 0 0 r)) := by
  rw [← p30]; unfold k0_pay32; simp only [pointwise]

theorem p51 (r : Fin 1024) : k0_pay51 qx K m (ix2 0 r) = nm (sc qx K r) (m (ix3 0 0 r)) := by
  have h28 : ∀ k, k0_pay49 qx K (ix2 k r) = sc qx K r k := fun k => by
    unfold k0_pay49; simp only [pointwise, zero_add]; rfl
  unfold k0_pay51 k0_pay50
  simp only [pointwise, zero_add, h28, ninf]; rfl

theorem p52 (d : Fin 80) (r : Fin 1024) :
    k0_pay52 qx K W m a (ix3 0 d r) = na (sc qx K r) (fun x => W (ix5 0 0 0 d x)) (m (ix3 0 0 r)) (a (ix3 0 d r)) := by
  have h28 : ∀ k, k0_pay49 qx K (ix2 k r) = sc qx K r k := fun k => by
    unfold k0_pay49; simp only [pointwise, zero_add]; rfl
  unfold k0_pay52 k0_pay50 na
  rw [← p51]
  simp only [pointwise, zero_add, h28]; rfl

theorem p53 (r : Fin 1024) : k0_pay53 qx K m (ix3 0 0 r) = nm (sc qx K r) (m (ix3 0 0 r)) := by
  rw [← p51]; unfold k0_pay53; simp only [pointwise]

end loop

section diag
variable (w : BitVec 32) (qx : FVec Ideal S128x1024 .bf16) (K : Vec Ideal S1x512x128 .bf16) (W : Vec Ideal S1x1x1x80x512 .bf16)
  (m : Vec Ideal S1x1x1024 .f32) (a : Vec Ideal S1x80x1024 .f32)

theorem p59 (k : Fin 512) (r : Fin 1024) : k0_pay59 w qx K (ix2 k r) = msk r.val (sc qx K r) k := by
  unfold k0_pay59 msk
  simp only [pointwise, zero_add]
  simp (disch := decide) only [List.foldl, ix2_0, ix2_1, Nat.zero_mul, Nat.zero_add, zero_mul, zero_add, dif_neg]
  exact (sel_le (Scalar.addi w 0#32) k.val r.val (by omega) (by omega) _ _).trans (by rw [mask_bot]; rfl)

theorem p61 (r : Fin 1024) : k0_pay61 w qx K m (ix2 0 r) = nm (msk r.val (sc qx K r)) (m (ix3 0 0 r)) := by
  unfold k0_pay61 k0_pay60
  simp only [pointwise, zero_add, p59, ninf]; rfl

theorem p62 (d : Fin 80) (r : Fin 1024) :
    k0_pay62 w qx K W m a (ix3 0 d r)
      = na (msk r.val (sc qx K r)) (fun x => W (ix5 0 0 0 d x)) (m (ix3 0 0 r)) (a (ix3 0 d r)) := by
  unfold k0_pay62 k0_pay60 na
  rw [← p61 w]
  simp only [pointwise, zero_add, ← p59 w]; rfl

theorem p63 (x : FVec Ideal S1x1024 .f32) (r : Fin 1024) : k0_pay63 x (ix3 0 0 r) = x (ix2 0 r) := by
  unfold k0_pay63; simp only [pointwise]

theorem p64 (k : Fin 512) (r : Fin 1024) : k0_pay64 w qx (Scalar.addi w 0#32) K (ix2 k r) = msk r.val (sc qx K r) k := by
  unfold k0_pay64 msk
  simp only [pointwise, zero_add]
  simp (disch := decide) only [List.foldl, ix2_0, ix2_1, Nat.zero_mul, Nat.zero_add, zero_mul, zero_add, dif_neg]
  exact (sel_le (Scalar.addi w 0#32) k.val r.val (by omega) (by omega) _ _).trans (by rw [mask_bot]; rfl)

theorem p66 (r : Fin 1024) :
    k0_pay66 w qx (Scalar.addi w 0#32) K m (ix2 0 r) = nm (msk r.val (sc qx K r)) (m (ix3 0 0 r)) := by
  unfold k0_pay66 k0_pay65
  simp only [pointwise, zero_add, p64, ninf]; rfl

theorem p67 (d : Fin 80) (r : Fin 1024) :
    k0_pay67 w qx (Scalar.addi w 0#32) K W m a (ix2 d r)
      = na (msk r.val (sc qx K r)) (fun x => W (ix5 0 0 0 d x)) (m (ix3 0 0 r)) (a (ix3 0 d r)) := by
  unfold k0_pay67 k0_pay65 na
  rw [← p66 w]
  simp only [pointwise, zero_add, ← p64 w]; rfl

theorem p68 (x : FVec Ideal S80x1024 .f32) (d : Fin 80) (r : Fin 1024) : k0_pay68 x (ix3 0 d r) = x (ix2 d r) := by
  unfold k0_pay68; simp only [pointwise]

theorem p69 (x : FVec Ideal S1x1024 .f32) (r : Fin 1024) : k0_pay69 x (ix3 0 0 r) = x (ix2 0 r) := by
  unfold k0_pay69; simp only [pointwise]

end diag

section half
variable (w : BitVec 32) (qx : FVec Ideal S128x1024 .bf16) (K : Vec Ideal S1x512x128 .bf16) (W : Vec Ideal S1x1x1x80x512 .bf16)
  (m : Vec Ideal S1x1x512 .f32) (a : Vec Ideal S1x80x512 .f32)

theorem p70 (k r : Fin 512) : k0_pay70 w qx K (ix2 k r) = msk r.val (sc qx K (hi r)) k := by
  unfold k0_pay70 msk
  simp only [pointwise, zero_add]
  simp (disch := decide) only [List.foldl, ix2_0, ix2_1, Nat.zero_mul, Nat.zero_add, zero_mul, zero_add, dif_neg]
  refine (sel_le (Scalar.addi w 512#32) k.val r.val (by omega) (by omega) _ _).trans ?_
  rw [mask_bot]
  refine if_congr Iff.rfl (Finset.sum_congr rfl fun l _ => congrArg _ (congrArg qx ?_)) rfl
  funext i; fin_cases i
  · exact Fin.ext (Nat.zero_add _)
  · rfl

theorem p73 (r : Fin 512) : k0_pay73 w qx K m (ix2 0 r) = nm (msk r.val (sc qx K (hi r))) (m (ix3 0 0 r)) := by
  unfold k0_pay73 k0_pay72
  simp only [pointwise, zero_add, p70, ninf]; rfl

theorem p77 (x : FVec Ideal S1x512 .f32) (r : Fin 512) : k0_pay77 x (ix3 0 0 r) = x (ix2 0 r) := by
  unfold k0_pay77; simp only [pointwise]

theorem p74 (r : Fin 512) :
    k0_pay74 w qx K m (ix2 0 r) = Ideal.exp (m (ix3 0 0 r) - nm (msk r.val (sc qx K (hi r))) (m (ix3 0 0 r))) := by
  rw [← p73 w]; unfold k0_pay74 k0_pay72; simp only [pointwise]

theorem p75 (k r : Fin 512) :
    k0_pay75 w qx K m (ix2 k r)
      = Ideal.exp (msk r.val (sc qx K (hi r)) k - nm (msk r.val (sc qx K (hi r))) (m (ix3 0 0 r))) := by
  rw [← p73 w]; unfold k0_pay75; simp only [pointwise, p70]; rfl

theorem p76 (d : Fin 80) (r : Fin 512) :
    k0_pay76 (k0_pay71 W) (k0_pay74 w qx K m) (k0_pay75 w qx K m) a (ix3 0 d r)
      = na (msk r.val (sc qx K (hi r))) (fun x => W (ix5 0 0 0 d x)) (m (ix3 0 0 r)) (a (ix3 0 d r)) := by
  have e74 := p74 w qx K m r
  have e75 := fun k => p75 w qx K m k r
  generalize k0_pay74 w qx K m = y at *
  generalize k0_pay75 w qx K m = z at *
  unfold k0_pay76 k0_pay71 na
  rw [← e74]
  simp only [← e75]
  simp only [pointwise, zero_add]; rfl

theorem p78 (k r : Fin 512) : k0_pay78 w qx (Scalar.addi w 512#32) K (ix2 k r) = msk r.val (sc qx K (hi r)) k := by
  unfold k0_pay78 msk
  simp only [pointwise, zero_add]
  simp (disch := decide) only [List.foldl, ix2_0, ix2_1, Nat.zero_mul, Nat.zero_add, zero_mul, zero_add, dif_neg]
  refine (sel_le (Scalar.addi w 512#32) k.val r.val (by omega) (by omega) _ _).trans ?_
  rw [mask_bot]
  refine if_congr Iff.rfl (Finset.sum_congr rfl fun l _ => congrArg _ (congrArg qx ?_)) rfl
  funext i; fin_cases i
  · exact Fin.ext (Nat.zero_add _)
  · rfl

theorem p81 (r : Fin 512) :
    k0_pay81 w qx (Scalar.addi w 512#32) K m (ix2 0 r) = nm (msk r.val (sc qx K (hi r))) (m (ix3 0 0 r)) := by
  unfold k0_pay81 k0_pay80
  simp only [pointwise, zero_add, p78, ninf]; rfl

theorem p82 (r : Fin 512) :
    k0_pay82 w qx (Scalar.addi w 512#32) K m (ix2 0 r)
      = Ideal.exp (m (ix3 0 0 r) - nm (msk r.val (sc qx K (hi r))) (m (ix3 0 0 r))) := by
  rw [← p81 w]; unfold k0_pay82 k0_pay80; simp only [pointwise]

theorem p83 (d : Fin 80) (r : Fin 512) :
    k0_pay83 (k0_pay78 w qx (Scalar.addi w 512#32) K) (k0_pay79 W) (k0_pay81 w qx (Scalar.addi w 512#32) K m)
        (k0_pay82 w qx (Scalar.addi w 512#32) K m) a (ix3 0 d r)
      = na (msk r.val (sc qx K (hi r))) (fun x => W (ix5 0 0 0 d x)) (m (ix3 0 0 r)) (a (ix3 0 d r)) := by
  have e82 := p82 w qx K m r
  have e81 := p81 w qx K m r
  have e78 := fun k => p78 w qx K k r
  generalize k0_pay78 w qx (Scalar.addi w 512#32) K = x at *
  generalize k0_pay82 w qx (Scalar.addi w 512#32) K m = y at *
  generalize k0_pay81 w qx (Scalar.addi w 512#32) K m = z at *
  unfold k0_pay83 k0_pay79 na
  rw [← e82, ← e81]
  simp only [← e78]
  simp only [pointwise, zero_add]; rfl

theorem p84 (x : FVec Ideal S1x512 .f32) (r : Fin 512) : k0_pay84 x (ix3 0 0 r) = x (ix2 0 r) := by
  unfold k0_pay84; simp only [pointwise]

end half

theorem p44 (r : Fin 1024) : k0_pay44 (F := Ideal) (ix3 0 0 r) = ⊥ := by
  unfold k0_pay44; simp only [pointwise]; exact mask_bot
theorem p47 (r : Fin 1024) : k0_pay47 (F := Ideal) (ix3 0 0 r) = ⊥ := by
  unfold k0_pay47; simp only [pointwise]; exact mask_bot
theorem p46 (d : Fin 80) (r : Fin 1024) : k0_pay46 (F := Ideal) k0_pay45 (ix3 0 d r) = 0 := by
  unfold k0_pay46 k0_pay45; simp only [pointwise]
theorem p48 (d : Fin 80) (r : Fin 1024) : k0_pay48 (F := Ideal) (ix3 0 d r) = 0 := by
  unfold k0_pay48; simp only [pointwise]

end Cert.FoxPay

end
-- ==== Proof.FoxRun.lean ====
module

public import proofs.«01_k».proof.Proof.FoxPay
public import Idealize.ShloMosaic.Lib.Pipeline.ValueKit

@[expose] public section

set_option maxRecDepth 16384

noncomputable section

namespace Cert.FoxRun

open Cert.FoxMath Cert.FoxPay
open Cert.KernelIdeal Cert.KernelIdeal.Gen Idealize.ShloMosaic Idealize.ShloMosaic.TcCoe Idealize.SL.Sem

/-- The newest piece decides an index under it; -/
theorem canon_in {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]; exact View.canon_cons_emb _ w L x

/-- an index outside it on some axis falls through to the earlier pieces. -/
theorem canon_out {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y := by
  refine View.canon_cons_of_not_mem _ L fun h => ?_
  have h' : y ∈ (Rect.unit off size inb).set := h
  have := Rect.mem_set_unit.mp h' a
  omega

/-- Query column `r` of the left half. -/
def lo (r : Fin 512) : Fin 1024 := ⟨r.val, by have := r.isLt; omega⟩

section pieces
variable (L11 : List (View.Piece (Elt Ideal) S2x1x1024 .f32)) (L12 : List (View.Piece (Elt Ideal) S2x80x1024 .f32))

theorem m0_0 (inb) (w) (r : Fin 1024) :
    View.canon ((⟨Rect.unit ![0, 0, 0] S1x1x1024.size inb, w⟩ : View.Piece (Elt Ideal) S2x1x1024 .f32) :: L11) (ix3 0 0 r)
      = w (ix3 0 0 r) := canon_in inb w L11 _ _ fun a => by fin_cases a <;> simp [ix3]
theorem m0_1 (inb) (w) (r : Fin 1024) :
    View.canon ((⟨Rect.unit ![0, 0, 0] S1x1x1024.size inb, w⟩ : View.Piece (Elt Ideal) S2x1x1024 .f32) :: L11) (ix3 1 0 r)
      = View.canon L11 (ix3 1 0 r) := canon_out inb w L11 _ 0 (Or.inr (Nat.le_refl 1))
theorem m1_1 (inb) (w) (r : Fin 1024) :
    View.canon ((⟨Rect.unit ![1, 0, 0] S1x1x1024.size inb, w⟩ : View.Piece (Elt Ideal) S2x1x1024 .f32) :: L11) (ix3 1 0 r)
      = w (ix3 0 0 r) := canon_in inb w L11 _ _ fun a => by fin_cases a <;> simp [ix3]
theorem m1_0 (inb) (w) (r : Fin 1024) :
    View.canon ((⟨Rect.unit ![1, 0, 0] S1x1x1024.size inb, w⟩ : View.Piece (Elt Ideal) S2x1x1024 .f32) :: L11) (ix3 0 0 r)
      = View.canon L11 (ix3 0 0 r) := canon_out inb w L11 _ 0 (Or.inl Nat.zero_lt_one)
theorem a0_0 (inb) (w) (d : Fin 80) (r : Fin 1024) :
    View.canon ((⟨Rect.unit ![0, 0, 0] S1x80x1024.size inb, w⟩ : View.Piece (Elt Ideal) S2x80x1024 .f32) :: L12) (ix3 0 d r)
      = w (ix3 0 d r) := canon_in inb w L12 _ _ fun a => by fin_cases a <;> simp [ix3]
theorem a0_1 (inb) (w) (d : Fin 80) (r : Fin 1024) :
    View.canon ((⟨Rect.unit ![0, 0, 0] S1x80x1024.size inb, w⟩ : View.Piece (Elt Ideal) S2x80x1024 .f32) :: L12) (ix3 1 d r)
      = View.canon L12 (ix3 1 d r) := canon_out inb w L12 _ 0 (Or.inr (Nat.le_refl 1))
theorem a1_1 (inb) (w) (d : Fin 80) (r : Fin 1024) :
    View.canon ((⟨Rect.unit ![1, 0, 0] S1x80x1024.size inb, w⟩ : View.Piece (Elt Ideal) S2x80x1024 .f32) :: L12) (ix3 1 d r)
      = w (ix3 0 d r) := canon_in inb w L12 _ _ fun a => by fin_cases a <;> simp [ix3]
theorem a1_0 (inb) (w) (d : Fin 80) (r : Fin 1024) :
    View.canon ((⟨Rect.unit ![1, 0, 0] S1x80x1024.size inb, w⟩ : View.Piece (Elt Ideal) S2x80x1024 .f32) :: L12) (ix3 0 d r)
      = View.canon L12 (ix3 0 d r) := canon_out inb w L12 _ 0 (Or.inl Nat.zero_lt_one)

/-! The right-half pieces. -/
theorem mh0_hi (inb) (w) (r : Fin 512) :
    View.canon ((⟨Rect.unit ![0, 0, 512] S1x1x512.size inb, w⟩ : View.Piece (Elt Ideal) S2x1x1024 .f32) :: L11) (ix3 0 0 (hi r))
      = w (ix3 0 0 r) := canon_in inb w L11 _ _ fun a => by fin_cases a <;> simp [ix3, hi]
theorem mh0_1 (inb) (w) (r : Fin 1024) :
    View.canon ((⟨Rect.unit ![0, 0, 512] S1x1x512.size inb, w⟩ : View.Piece (Elt Ideal) S2x1x1024 .f32) :: L11) (ix3 1 0 r)
      = View.canon L11 (ix3 1 0 r) := canon_out inb w L11 _ 0 (Or.inr (Nat.le_refl 1))
theorem ah0_hi (inb) (w) (d : Fin 80) (r : Fin 512) :
    View.canon ((⟨Rect.unit ![0, 0, 512] S1x80x512.size inb, w⟩ : View.Piece (Elt Ideal) S2x80x1024 .f32) :: L12) (ix3 0 d (hi r))
      = w (ix3 0 d r) := canon_in inb w L12 _ _ fun a => by fin_cases a <;> simp [ix3, hi]
theorem ah0_lo (inb) (w) (d : Fin 80) (r : Fin 512) :
    View.canon ((⟨Rect.unit ![0, 0, 512] S1x80x512.size inb, w⟩ : View.Piece (Elt Ideal) S2x80x1024 .f32) :: L12) (ix3 0 d (lo r))
      = View.canon L12 (ix3 0 d (lo r)) := canon_out inb w L12 _ 2 (Or.inl r.isLt)
theorem ah0_1 (inb) (w) (d : Fin 80) (r : Fin 1024) :
    View.canon ((⟨Rect.unit ![0, 0, 512] S1x80x512.size inb, w⟩ : View.Piece (Elt Ideal) S2x80x1024 .f32) :: L12) (ix3 1 d r)
      = View.canon L12 (ix3 1 d r) := canon_out inb w L12 _ 0 (Or.inr (Nat.le_refl 1))
theorem ah1_hi (inb) (w) (d : Fin 80) (r : Fin 512) :
    View.canon ((⟨Rect.unit ![1, 0, 512] S1x80x512.size inb, w⟩ : View.Piece (Elt Ideal) S2x80x1024 .f32) :: L12) (ix3 1 d (hi r))
      = w (ix3 0 d r) := canon_in inb w L12 _ _ fun a => by fin_cases a <;> simp [ix3, hi]
theorem ah1_lo (inb) (w) (d : Fin 80) (r : Fin 512) :
    View.canon ((⟨Rect.unit ![1, 0, 512] S1x80x512.size inb, w⟩ : View.Piece (Elt Ideal) S2x80x1024 .f32) :: L12) (ix3 1 d (lo r))
      = View.canon L12 (ix3 1 d (lo r)) := canon_out inb w L12 _ 2 (Or.inl r.isLt)
theorem ah1_0 (inb) (w) (d : Fin 80) (r : Fin 1024) :
    View.canon ((⟨Rect.unit ![1, 0, 512] S1x80x512.size inb, w⟩ : View.Piece (Elt Ideal) S2x80x1024 .f32) :: L12) (ix3 0 d r)
      = View.canon L12 (ix3 0 d r) := canon_out inb w L12 _ 0 (Or.inl Nat.zero_lt_one)

variable (arg11 : Memref sig .tc .vmem S2x1x1024 .f32) (arg12 : Memref sig .tc .vmem S2x80x1024 .f32)

/-! Loads of what the pieces left. -/
theorem rm0 (inb) (r : Fin 1024) :
    arg11.view.readCov (Val := Elt Ideal) L11 (Rect.unit (s := S2x1x1024) ![0, 0, 0] S1x1x1024.size inb).toLoadRect (ix3 0 0 r)
      = View.canon L11 (ix3 0 0 r) := by
  rw [View.readCov_eq_canon']
  exact congrArg (View.canon L11) (funext fun a => by fin_cases a <;> exact Fin.ext (by simp [Rect.unit, ix3]))
theorem rm1 (inb) (r : Fin 1024) :
    arg11.view.readCov (Val := Elt Ideal) L11 (Rect.unit (s := S2x1x1024) ![1, 0, 0] S1x1x1024.size inb).toLoadRect (ix3 0 0 r)
      = View.canon L11 (ix3 1 0 r) := by
  rw [View.readCov_eq_canon']
  exact congrArg (View.canon L11) (funext fun a => by fin_cases a <;> exact Fin.ext (by simp [Rect.unit, ix3]))
theorem ra0 (inb) (d : Fin 80) (r : Fin 1024) :
    arg12.view.readCov (Val := Elt Ideal) L12 (Rect.unit (s := S2x80x1024) ![0, 0, 0] S1x80x1024.size inb).toLoadRect (ix3 0 d r)
      = View.canon L12 (ix3 0 d r) := by
  rw [View.readCov_eq_canon']
  exact congrArg (View.canon L12) (funext fun a => by fin_cases a <;> exact Fin.ext (by simp [Rect.unit, ix3]))
theorem ra1 (inb) (d : Fin 80) (r : Fin 1024) :
    arg12.view.readCov (Val := Elt Ideal) L12 (Rect.unit (s := S2x80x1024) ![1, 0, 0] S1x80x1024.size inb).toLoadRect (ix3 0 d r)
      = View.canon L12 (ix3 1 d r) := by
  rw [View.readCov_eq_canon']
  exact congrArg (View.canon L12) (funext fun a => by fin_cases a <;> exact Fin.ext (by simp [Rect.unit, ix3]))
theorem rmh0 (inb) (r : Fin 512) :
    arg11.view.readCov (Val := Elt Ideal) L11 (Rect.unit (s := S2x1x1024) ![0, 0, 512] S1x1x512.size inb).toLoadRect (ix3 0 0 r)
      = View.canon L11 (ix3 0 0 (hi r)) := by
  rw [View.readCov_eq_canon']
  exact congrArg (View.canon L11) (funext fun a => by fin_cases a <;> exact Fin.ext (by simp [Rect.unit, ix3, hi]))
theorem rmh1 (inb) (r : Fin 512) :
    arg11.view.readCov (Val := Elt Ideal) L11 (Rect.unit (s := S2x1x1024) ![1, 0, 512] S1x1x512.size inb).toLoadRect (ix3 0 0 r)
      = View.canon L11 (ix3 1 0 (hi r)) := by
  rw [View.readCov_eq_canon']
  exact congrArg (View.canon L11) (funext fun a => by fin_cases a <;> exact Fin.ext (by simp [Rect.unit, ix3, hi]))
theorem rah0 (inb) (d : Fin 80) (r : Fin 512) :
    arg12.view.readCov (Val := Elt Ideal) L12 (Rect.unit (s := S2x80x1024) ![0, 0, 512] S1x80x512.size inb).toLoadRect (ix3 0 d r)
      = View.canon L12 (ix3 0 d (hi r)) := by
  rw [View.readCov_eq_canon']
  exact congrArg (View.canon L12) (funext fun a => by fin_cases a <;> exact Fin.ext (by simp [Rect.unit, ix3, hi]))
theorem rah1 (inb) (d : Fin 80) (r : Fin 512) :
    arg12.view.readCov (Val := Elt Ideal) L12 (Rect.unit (s := S2x80x1024) ![1, 0, 512] S1x80x512.size inb).toLoadRect (ix3 0 d r)
      = View.canon L12 (ix3 1 d (hi r)) := by
  rw [View.readCov_eq_canon']
  exact congrArg (View.canon L12) (funext fun a => by fin_cases a <;> exact Fin.ext (by simp [Rect.unit, ix3, hi]))

end pieces

/-! ## The loop's length and the tiles' offsets -/

theorem trips1 (i : grid0.Coords) : (k0_t1_loop i).trips = 2 * (i 2).val := by
  have h : (i 2).val < 2 := (i 2).isLt
  unfold k0_t1_loop
  rcases (show (i 2).val = 0 ∨ (i 2).val = 1 by omega) with h | h <;> rw [h] <;> decide +kernel
theorem trips2 (i : grid0.Coords) : (k0_t2_loop i).trips = 0 := by
  have h : (i 2).val < 2 := (i 2).isLt
  unfold k0_t2_loop
  rcases (show (i 2).val = 0 ∨ (i 2).val = 1 by omega) with h | h <;> rw [h] <;> decide +kernel

theorem off1 (i : grid0.Coords) (k : Fin (k0_t1_loop i).trips) : k0_off1 i k = ![0, 512 * k.val, 0] := by
  have h : (i 2).val < 2 := (i 2).isLt
  have hk := lt_of_lt_of_eq k.isLt (trips1 i)
  unfold k0_off1
  rcases (show k.val = 0 ∨ k.val = 1 by omega) with h | h <;> rw [h] <;> decide +kernel
theorem off2 (i : grid0.Coords) (k : Fin (k0_t1_loop i).trips) : k0_off2 i k = ![0, 0, 0, 0, 512 * k.val] := by
  have h : (i 2).val < 2 := (i 2).isLt
  have hk := lt_of_lt_of_eq k.isLt (trips1 i)
  unfold k0_off2
  rcases (show k.val = 0 ∨ k.val = 1 by omega) with h | h <;> rw [h] <;> decide +kernel
theorem off3 (i : grid0.Coords) (k : Fin (k0_t1_loop i).trips) : k0_off3 i k = ![1, 512 * k.val, 0] := by
  have h : (i 2).val < 2 := (i 2).isLt
  have hk := lt_of_lt_of_eq k.isLt (trips1 i)
  unfold k0_off3
  rcases (show k.val = 0 ∨ k.val = 1 by omega) with h | h <;> rw [h] <;> decide +kernel
theorem off4 (i : grid0.Coords) (k : Fin (k0_t1_loop i).trips) : k0_off4 i k = ![0, 0, 1, 0, 512 * k.val] := by
  have h : (i 2).val < 2 := (i 2).isLt
  have hk := lt_of_lt_of_eq k.isLt (trips1 i)
  unfold k0_off4
  rcases (show k.val = 0 ∨ k.val = 1 by omega) with h | h <;> rw [h] <;> decide +kernel
theorem off9 (i : grid0.Coords) : k0_off9 i 0#32 = ![0, 1024 * (i 2).val, 0] := by
  have h : (i 2).val < 2 := (i 2).isLt
  unfold k0_off9
  rcases (show (i 2).val = 0 ∨ (i 2).val = 1 by omega) with h | h <;> rw [h] <;> decide +kernel
theorem off10 (i : grid0.Coords) : k0_off10 i 0#32 = ![0, 0, 0, 0, 1024 * (i 2).val] := by
  have h : (i 2).val < 2 := (i 2).isLt
  unfold k0_off10
  rcases (show (i 2).val = 0 ∨ (i 2).val = 1 by omega) with h | h <;> rw [h] <;> decide +kernel
theorem off11 (i : grid0.Coords) : k0_off11 i 0#32 = ![1, 1024 * (i 2).val, 0] := by
  have h : (i 2).val < 2 := (i 2).isLt
  unfold k0_off11
  rcases (show (i 2).val = 0 ∨ (i 2).val = 1 by omega) with h | h <;> rw [h] <;> decide +kernel
theorem off12 (i : grid0.Coords) : k0_off12 i 0#32 = ![0, 0, 1, 0, 1024 * (i 2).val] := by
  have h : (i 2).val < 2 := (i 2).isLt
  unfold k0_off12
  rcases (show (i 2).val = 0 ∨ (i 2).val = 1 by omega) with h | h <;> rw [h] <;> decide +kernel
theorem off9' (i : grid0.Coords) : k0_off9 i 512#32 = ![0, 1024 * (i 2).val + 512, 0] := by
  have h : (i 2).val < 2 := (i 2).isLt
  unfold k0_off9
  rcases (show (i 2).val = 0 ∨ (i 2).val = 1 by omega) with h | h <;> rw [h] <;> decide +kernel
theorem off10' (i : grid0.Coords) : k0_off10 i 512#32 = ![0, 0, 0, 0, 1024 * (i 2).val + 512] := by
  have h : (i 2).val < 2 := (i 2).isLt
  unfold k0_off10
  rcases (show (i 2).val = 0 ∨ (i 2).val = 1 by omega) with h | h <;> rw [h] <;> decide +kernel
theorem off11' (i : grid0.Coords) : k0_off11 i 512#32 = ![1, 1024 * (i 2).val + 512, 0] := by
  have h : (i 2).val < 2 := (i 2).isLt
  unfold k0_off11
  rcases (show (i 2).val = 0 ∨ (i 2).val = 1 by omega) with h | h <;> rw [h] <;> decide +kernel
theorem off12' (i : grid0.Coords) : k0_off12 i 512#32 = ![0, 0, 1, 0, 1024 * (i 2).val + 512] := by
  have h : (i 2).val < 2 := (i 2).isLt
  unfold k0_off12
  rcases (show (i 2).val = 0 ∨ (i 2).val = 1 by omega) with h | h <;> rw [h] <;> decide +kernel

/-! ## The tiles -/

section tiles
variable (arg5 : Memref sig .tc .vmem S1x1x2x80x2048 .bf16) (arg10 : Memref sig .tc .vmem S2x2048x128 .bf16)
  (X5 : BufTy.Contents (Elt Ideal) arg5.view.ty) (X10 : BufTy.Contents (Elt Ideal) arg10.view.ty)

/-- The scores of head `h`'s keys against a query column are the reals `S`. -/
def ScoresAre (h : Fin 2) (q : FVec Ideal S128x1024 .bf16) (S : Fin 1024 → ℕ → ℝ) : Prop :=
  ∀ (r : Fin 1024) (s : Fin 2048), ∑ l, arg10.view.read (Elt Ideal) X10 (ix3 h s l) * q (ix2 l r) = ((S r s.val : ℝ) : EReal)

/-- The values (and the row of ones) of head `h` are the reals `V`. -/
def ValuesAre (h : Fin 2) (V : Fin 80 → ℕ → ℝ) : Prop :=
  ∀ (d : Fin 80) (s : Fin 2048), arg5.view.read (Elt Ideal) X5 (ix5 0 0 h d s) = ((V d s.val : ℝ) : EReal)

variable {arg5 arg10 X5 X10}

theorem tileK {h : Fin 2} {q : FVec Ideal S128x1024 .bf16} {S : Fin 1024 → ℕ → ℝ} (H : ScoresAre arg10 X10 h q S)
    {off : Fin 3 → ℕ} (inb) (n : ℕ) (ho : off = ![h.val, n, 0]) (r : Fin 1024) (x : Fin 512) :
    sc q (arg10.view.readAt (Elt Ideal) (Rect.unit (s := S2x2048x128) off S1x512x128.size inb).toLoadRect X10) r x
      = ((S r (n + x.val) : ℝ) : EReal) := by
  subst ho
  have hn : n + 512 ≤ 2048 := inb 1
  rw [← H r ⟨n + x.val, by omega⟩]
  unfold sc
  refine Finset.sum_congr rfl fun l _ => congrArg (· * _) ?_
  rw [View.readAt_apply]
  refine congrArg (arg10.view.read (Elt Ideal) X10) (funext fun a => ?_)
  fin_cases a <;> exact Fin.ext (by simp [Rect.unit, ix3])

theorem tileV {h : Fin 2} {V : Fin 80 → ℕ → ℝ} (H : ValuesAre arg5 X5 h V)
    {off : Fin 5 → ℕ} (inb) (n : ℕ) (ho : off = ![0, 0, h.val, 0, n]) (d : Fin 80) (x : Fin 512) :
    arg5.view.readAt (Elt Ideal) (Rect.unit (s := S1x1x2x80x2048) off S1x1x1x80x512.size inb).toLoadRect X5 (ix5 0 0 0 d x)
      = ((V d (n + x.val) : ℝ) : EReal) := by
  subst ho
  have hn : n + 512 ≤ 2048 := inb 4
  rw [← H d ⟨n + x.val, by omega⟩, View.readAt_apply]
  refine congrArg (arg5.view.read (Elt Ideal) X5) (funext fun a => ?_)
  fin_cases a <;> exact Fin.ext (by simp [Rect.unit, ix5])

end tiles

end Cert.FoxRun

end
-- ==== Proof.FoxLoop.lean ====
module

public import proofs.«01_k».proof.Proof.FoxRun
public import Idealize.ShloMosaic.Lib.Pipeline.ValueKit

@[expose] public section

set_option maxRecDepth 16384

noncomputable section

namespace Cert.FoxLoop

open Cert.FoxMath Cert.FoxPay Cert.FoxRun
open Cert.KernelIdeal Cert.KernelIdeal.Gen Idealize.ShloMosaic Idealize.ShloMosaic.TcCoe Idealize.SL.Sem

/-- The running maxima before any tile. -/
def start11 : List (View.Piece (Elt Ideal) S2x1x1024 .f32) :=
  [⟨Rect.unit ![1, 0, 0] S1x1x1024.size inb_S2x1x1024_S1x1x1024_1_0_0, k0_pay47 (F := Ideal)⟩,
    ⟨Rect.unit ![0, 0, 0] S1x1x1024.size inb_S2x1x1024_S1x1x1024_0_0_0, k0_pay44 (F := Ideal)⟩]
/-- The accumulators before any tile. -/
def start12 : List (View.Piece (Elt Ideal) S2x80x1024 .f32) :=
  [⟨Rect.unit ![1, 0, 0] S1x80x1024.size inb_S2x80x1024_S1x80x1024_1_0_0, k0_pay48 (F := Ideal)⟩,
    ⟨Rect.unit ![0, 0, 0] S1x80x1024.size inb_S2x80x1024_S1x80x1024_0_0_0, k0_pay46 (F := Ideal) k0_pay45⟩]

/-- One full tile: every key of it lies before the query. -/
theorem next_full {S : ℕ → ℝ} {V : Fin 80 → ℕ → ℝ} {t n : ℕ} {m : EReal} {a : Fin 80 → EReal} {s : Fin 512 → EReal}
    {v : Fin 80 → Fin 512 → EReal} (hs : ∀ x : Fin 512, s x = ((S (n + x.val) : ℝ) : EReal))
    (hv : ∀ d, ∀ x : Fin 512, v d x = ((V d (n + x.val) : ℝ) : EReal)) (hn : n + 512 ≤ t + 1) (h : Inv S V t n m a) :
    Inv S V t (n + 512) (nm s m) (fun d => na s (v d) m (a d)) :=
  step s v (fun x => by rw [hs x, if_pos (by have := x.isLt; omega)]) hv (by omega) h

/-- One masked tile, the query at position `b` of it. -/
theorem next_diag {S : ℕ → ℝ} {V : Fin 80 → ℕ → ℝ} {t n : ℕ} {m : EReal} {a : Fin 80 → EReal} {s : Fin 512 → EReal}
    {v : Fin 80 → Fin 512 → EReal} (b : ℕ) (hs : ∀ x : Fin 512, s x = ((S (n + x.val) : ℝ) : EReal))
    (hv : ∀ d, ∀ x : Fin 512, v d x = ((V d (n + x.val) : ℝ) : EReal)) (hn : t = n + b) (h : Inv S V t n m a) :
    Inv S V t (n + 512) (nm (msk b s) m) (fun d => na (msk b s) (v d) m (a d)) :=
  step (msk b s) v (fun x => by
    unfold msk; rw [hs x, hn]
    exact if_congr (by omega) rfl rfl) hv (by omega) h

/-- The same, for a state known to be the update. -/
theorem use_full {S : ℕ → ℝ} {V : Fin 80 → ℕ → ℝ} {t n : ℕ} {m m' : EReal} {a a' : Fin 80 → EReal} (s : Fin 512 → EReal)
    (v : Fin 80 → Fin 512 → EReal) (em : m' = nm s m) (ea : ∀ d, a' d = na s (v d) m (a d)) (hs : ∀ x : Fin 512, s x = ((S (n + x.val) : ℝ) : EReal))
    (hv : ∀ d, ∀ x : Fin 512, v d x = ((V d (n + x.val) : ℝ) : EReal)) (hn : n + 512 ≤ t + 1) (h : Inv S V t n m a) :
    Inv S V t (n + 512) m' a' := by
  rw [em, show a' = _ from funext ea]; exact next_full hs hv hn h
theorem use_diag {S : ℕ → ℝ} {V : Fin 80 → ℕ → ℝ} {t n : ℕ} {m m' : EReal} {a a' : Fin 80 → EReal} (b : ℕ) (s : Fin 512 → EReal)
    (v : Fin 80 → Fin 512 → EReal) (em : m' = nm (msk b s) m) (ea : ∀ d, a' d = na (msk b s) (v d) m (a d))
    (hs : ∀ x : Fin 512, s x = ((S (n + x.val) : ℝ) : EReal))
    (hv : ∀ d, ∀ x : Fin 512, v d x = ((V d (n + x.val) : ℝ) : EReal)) (hn : t = n + b) (h : Inv S V t n m a) :
    Inv S V t (n + 512) m' a' := by
  rw [em, show a' = _ from funext ea]; exact next_diag b hs hv hn h

/-- A tile of keys, -/
abbrev tK (arg10 : Memref sig .tc .vmem S2x2048x128 .bf16) (X10 : BufTy.Contents (Elt Ideal) arg10.view.ty) (off : Fin 3 → ℕ) (inb : ∀ a, off a + S1x512x128.size a ≤ S2x2048x128.size a) :
    Vec Ideal S1x512x128 .bf16 :=
  arg10.view.readAt (Elt Ideal) (Rect.unit (s := S2x2048x128) off S1x512x128.size inb).toLoadRect X10
/-- a tile of values. -/
abbrev tW (arg5 : Memref sig .tc .vmem S1x1x2x80x2048 .bf16) (X5 : BufTy.Contents (Elt Ideal) arg5.view.ty) (off : Fin 5 → ℕ) (inb : ∀ a, off a + S1x1x1x80x512.size a ≤ S1x1x2x80x2048.size a) :
    Vec Ideal S1x1x1x80x512 .bf16 :=
  arg5.view.readAt (Elt Ideal) (Rect.unit (s := S1x1x2x80x2048) off S1x1x1x80x512.size inb).toLoadRect X5

/-- Column `r` of head `h` holds its state after `n` keys. -/
def Good (S : Fin 1024 → ℕ → ℝ) (V : Fin 80 → ℕ → ℝ) (q0 : ℕ) (h : Fin 2) (r : Fin 1024) (n : ℕ)
    (L11 : List (View.Piece (Elt Ideal) S2x1x1024 .f32)) (L12 : List (View.Piece (Elt Ideal) S2x80x1024 .f32)) : Prop :=
  Inv (S r) V (q0 + r.val) n (View.canon L11 (ix3 h 0 r)) (fun d => View.canon L12 (ix3 h d r))

theorem good_start0 (S : Fin 1024 → ℕ → ℝ) (V : Fin 80 → ℕ → ℝ) (q0 : ℕ) (r : Fin 1024) : Good S V q0 0 r 0 start11 start12 := by
  unfold Good start11 start12
  rw [m1_0, m0_0, p44]
  exact inv_start _ _ _ _ fun d => by rw [a1_0, a0_0, p46]
theorem good_start1 (S : Fin 1024 → ℕ → ℝ) (V : Fin 80 → ℕ → ℝ) (q0 : ℕ) (r : Fin 1024) : Good S V q0 1 r 0 start11 start12 := by
  unfold Good start11 start12
  rw [m1_1, p47]
  exact inv_start _ _ _ _ fun d => by rw [a1_1, p48]

variable (c : Dev nD) (i : grid0.Coords) (arg3 : Memref sig .tc .vmem S1x1x2x64x1024 .bf16) (harg3 : arg3.IsWhole) (arg4 : Memref sig .tc .vmem S1x1x2x2048x128 .bf16) (harg4 : arg4.IsWhole) (arg5 : Memref sig .tc .vmem S1x1x2x80x2048 .bf16) (harg5 : arg5.IsWhole) (arg6 : Memref sig .tc .vmem S2048x8 .f32) (harg6 : arg6.IsWhole) (arg7 : Memref sig .tc .vmem S512x512 .bf16) (harg7 : arg7.IsWhole) (arg8 : Memref sig .tc .vmem S1x1024x128 .bf16) (harg8 : arg8.IsWhole)
  (arg9 : Memref sig .tc .vmem S3x2048x8 .bf16) (harg9 : arg9.IsWhole) (arg10 : Memref sig .tc .vmem S2x2048x128 .bf16) (harg10 : arg10.IsWhole) (arg11 : Memref sig .tc .vmem S2x1x1024 .f32) (harg11 : arg11.IsWhole) (arg12 : Memref sig .tc .vmem S2x80x1024 .f32) (harg12 : arg12.IsWhole)
  (w : BitVec 32) (x0 x1 : FVec Ideal S128x1024 .bf16) (z : FVec Ideal S80x1024 .f32)
  (X5 : BufTy.Contents (Elt Ideal) arg5.view.ty) (X10 : BufTy.Contents (Elt Ideal) arg10.view.ty)

/-- The pieces a full tile's trip stores over the running maxima, -/
theorem trip_fst (k : Fin (k0_t1_loop i).trips) (L11 : List (View.Piece (Elt Ideal) S2x1x1024 .f32)) (L12 : List (View.Piece (Elt Ideal) S2x80x1024 .f32)) :
    (tripL_k0_t1 (F := Ideal) Variants.none c none i arg3 harg3 arg4 harg4 arg5 harg5 arg6 harg6 arg7 harg7 arg8 harg8 arg9 harg9 arg10 harg10 arg11 harg11 arg12 harg12 w x0 x1 z X5 X10 k (arg11.view.writes (Elt Ideal) arg11.view.junk L11)
      (arg12.view.writes (Elt Ideal) arg12.view.junk L12)).1
      = [⟨Rect.unit ![1, 0, 0] S1x1x1024.size inb_S2x1x1024_S1x1x1024_1_0_0,
          k0_pay53 (F := Ideal) x1 (arg10.view.readAt (Elt Ideal) (Rect.unit (s := S2x2048x128) (k0_off3 i k) S1x512x128.size (k0_off3_inb i k)).toLoadRect X10)
            (arg11.view.readCov (Val := Elt Ideal) L11 (Rect.unit (s := S2x1x1024) ![1, 0, 0] S1x1x1024.size inb_S2x1x1024_S1x1x1024_1_0_0).toLoadRect)⟩,
        ⟨Rect.unit ![0, 0, 0] S1x1x1024.size inb_S2x1x1024_S1x1x1024_0_0_0,
          k0_pay32 (F := Ideal) x0 (arg10.view.readAt (Elt Ideal) (Rect.unit (s := S2x2048x128) (k0_off1 i k) S1x512x128.size (k0_off1_inb i k)).toLoadRect X10)
            (arg11.view.readCov (Val := Elt Ideal) L11 (Rect.unit (s := S2x1x1024) ![0, 0, 0] S1x1x1024.size inb_S2x1x1024_S1x1x1024_0_0_0).toLoadRect)⟩] := by
  unfold tripL_k0_t1 trip_k0_t1; rfl

/-- and over the accumulators. -/
theorem trip_snd (k : Fin (k0_t1_loop i).trips) (L11 : List (View.Piece (Elt Ideal) S2x1x1024 .f32)) (L12 : List (View.Piece (Elt Ideal) S2x80x1024 .f32)) :
    (tripL_k0_t1 (F := Ideal) Variants.none c none i arg3 harg3 arg4 harg4 arg5 harg5 arg6 harg6 arg7 harg7 arg8 harg8 arg9 harg9 arg10 harg10 arg11 harg11 arg12 harg12 w x0 x1 z X5 X10 k (arg11.view.writes (Elt Ideal) arg11.view.junk L11)
      (arg12.view.writes (Elt Ideal) arg12.view.junk L12)).2
      = [⟨Rect.unit ![1, 0, 0] S1x80x1024.size inb_S2x80x1024_S1x80x1024_1_0_0,
          k0_pay52 (F := Ideal) x1 (arg10.view.readAt (Elt Ideal) (Rect.unit (s := S2x2048x128) (k0_off3 i k) S1x512x128.size (k0_off3_inb i k)).toLoadRect X10)
            (arg5.view.readAt (Elt Ideal) (Rect.unit (s := S1x1x2x80x2048) (k0_off4 i k) S1x1x1x80x512.size (k0_off4_inb i k)).toLoadRect X5)
            (arg11.view.readCov (Val := Elt Ideal) L11 (Rect.unit (s := S2x1x1024) ![1, 0, 0] S1x1x1024.size inb_S2x1x1024_S1x1x1024_1_0_0).toLoadRect)
            (arg12.view.readCov (Val := Elt Ideal) L12 (Rect.unit (s := S2x80x1024) ![1, 0, 0] S1x80x1024.size inb_S2x80x1024_S1x80x1024_1_0_0).toLoadRect)⟩,
        ⟨Rect.unit ![0, 0, 0] S1x80x1024.size inb_S2x80x1024_S1x80x1024_0_0_0,
          k0_pay31 (F := Ideal) x0 (arg10.view.readAt (Elt Ideal) (Rect.unit (s := S2x2048x128) (k0_off1 i k) S1x512x128.size (k0_off1_inb i k)).toLoadRect X10)
            (arg5.view.readAt (Elt Ideal) (Rect.unit (s := S1x1x2x80x2048) (k0_off2 i k) S1x1x1x80x512.size (k0_off2_inb i k)).toLoadRect X5)
            (arg11.view.readCov (Val := Elt Ideal) L11 (Rect.unit (s := S2x1x1024) ![0, 0, 0] S1x1x1024.size inb_S2x1x1024_S1x1x1024_0_0_0).toLoadRect)
            (arg12.view.readCov (Val := Elt Ideal) L12 (Rect.unit (s := S2x80x1024) ![0, 0, 0] S1x80x1024.size inb_S2x80x1024_S1x80x1024_0_0_0).toLoadRect)⟩] := by
  unfold tripL_k0_t1 trip_k0_t1; rfl

/-- The state's pieces after one more full tile. -/
def more11 (k : Fin (k0_t1_loop i).trips) (L11 : List (View.Piece (Elt Ideal) S2x1x1024 .f32)) : List (View.Piece (Elt Ideal) S2x1x1024 .f32) :=
  ⟨Rect.unit ![1, 0, 0] S1x1x1024.size inb_S2x1x1024_S1x1x1024_1_0_0, k0_pay53 (F := Ideal) x1 (arg10.view.readAt (Elt Ideal) (Rect.unit (s := S2x2048x128) (k0_off3 i k) S1x512x128.size (k0_off3_inb i k)).toLoadRect X10) (arg11.view.readCov (Val := Elt Ideal) L11 (Rect.unit (s := S2x1x1024) ![1, 0, 0] S1x1x1024.size inb_S2x1x1024_S1x1x1024_1_0_0).toLoadRect)⟩ ::
  ⟨Rect.unit ![0, 0, 0] S1x1x1024.size inb_S2x1x1024_S1x1x1024_0_0_0, k0_pay32 (F := Ideal) x0 (arg10.view.readAt (Elt Ideal) (Rect.unit (s := S2x2048x128) (k0_off1 i k) S1x512x128.size (k0_off1_inb i k)).toLoadRect X10) (arg11.view.readCov (Val := Elt Ideal) L11 (Rect.unit (s := S2x1x1024) ![0, 0, 0] S1x1x1024.size inb_S2x1x1024_S1x1x1024_0_0_0).toLoadRect)⟩ :: L11
def more12 (k : Fin (k0_t1_loop i).trips) (L11 : List (View.Piece (Elt Ideal) S2x1x1024 .f32)) (L12 : List (View.Piece (Elt Ideal) S2x80x1024 .f32)) :
    List (View.Piece (Elt Ideal) S2x80x1024 .f32) :=
  ⟨Rect.unit ![1, 0, 0] S1x80x1024.size inb_S2x80x1024_S1x80x1024_1_0_0, k0_pay52 (F := Ideal) x1 (arg10.view.readAt (Elt Ideal) (Rect.unit (s := S2x2048x128) (k0_off3 i k) S1x512x128.size (k0_off3_inb i k)).toLoadRect X10) (arg5.view.readAt (Elt Ideal) (Rect.unit (s := S1x1x2x80x2048) (k0_off4 i k) S1x1x1x80x512.size (k0_off4_inb i k)).toLoadRect X5) (arg11.view.readCov (Val := Elt Ideal) L11 (Rect.unit (s := S2x1x1024) ![1, 0, 0] S1x1x1024.size inb_S2x1x1024_S1x1x1024_1_0_0).toLoadRect) (arg12.view.readCov (Val := Elt Ideal) L12 (Rect.unit (s := S2x80x1024) ![1, 0, 0] S1x80x1024.size inb_S2x80x1024_S1x80x1024_1_0_0).toLoadRect)⟩ ::
  ⟨Rect.unit ![0, 0, 0] S1x80x1024.size inb_S2x80x1024_S1x80x1024_0_0_0, k0_pay31 (F := Ideal) x0 (arg10.view.readAt (Elt Ideal) (Rect.unit (s := S2x2048x128) (k0_off1 i k) S1x512x128.size (k0_off1_inb i k)).toLoadRect X10) (arg5.view.readAt (Elt Ideal) (Rect.unit (s := S1x1x2x80x2048) (k0_off2 i k) S1x1x1x80x512.size (k0_off2_inb i k)).toLoadRect X5) (arg11.view.readCov (Val := Elt Ideal) L11 (Rect.unit (s := S2x1x1024) ![0, 0, 0] S1x1x1024.size inb_S2x1x1024_S1x1x1024_0_0_0).toLoadRect) (arg12.view.readCov (Val := Elt Ideal) L12 (Rect.unit (s := S2x80x1024) ![0, 0, 0] S1x80x1024.size inb_S2x80x1024_S1x80x1024_0_0_0).toLoadRect)⟩ :: L12

theorem more_good {S0 S1 : Fin 1024 → ℕ → ℝ} {V0 V1 : Fin 80 → ℕ → ℝ} (hS0 : ScoresAre arg10 X10 0 x0 S0)
    (hS1 : ScoresAre arg10 X10 1 x1 S1) (hV0 : ValuesAre arg5 X5 0 V0) (hV1 : ValuesAre arg5 X5 1 V1) (r : Fin 1024)
    (k : Fin (k0_t1_loop i).trips) (L11 : List (View.Piece (Elt Ideal) S2x1x1024 .f32)) (L12 : List (View.Piece (Elt Ideal) S2x80x1024 .f32)) :
    (Good S0 V0 (1024 * (i 2).val) 0 r (512 * k.val) L11 L12 →
      Good S0 V0 (1024 * (i 2).val) 0 r (512 * k.val + 512) (more11 i arg10 arg11 x0 x1 X10 k L11) (more12 i arg5 arg10 arg11 arg12 x0 x1 X5 X10 k L11 L12))
    ∧ (Good S1 V1 (1024 * (i 2).val) 1 r (512 * k.val) L11 L12 →
      Good S1 V1 (1024 * (i 2).val) 1 r (512 * k.val + 512) (more11 i arg10 arg11 x0 x1 X10 k L11) (more12 i arg5 arg10 arg11 arg12 x0 x1 X5 X10 k L11 L12)) := by
  have hk : k.val < 2 * (i 2).val := lt_of_lt_of_eq k.isLt (trips1 i)
  refine ⟨fun g => ?_, fun g => ?_⟩
  · refine use_full (sc x0 (tK arg10 X10 (k0_off1 i k) (k0_off1_inb i k)) r)
      (fun d x => (tW arg5 X5 (k0_off2 i k) (k0_off2_inb i k)) (ix5 0 0 0 d x)) ?_ (fun d => ?_)
      (fun x => tileK hS0 _ _ (off1 i k) r x) (fun d x => tileV hV0 _ _ (off2 i k) d x) (by omega) g
    · unfold more11; rw [m1_0, m0_0, p32, rm0]
    · unfold more12; rw [a1_0, a0_0, p31, rm0, ra0]
  · refine use_full (sc x1 (tK arg10 X10 (k0_off3 i k) (k0_off3_inb i k)) r)
      (fun d x => (tW arg5 X5 (k0_off4 i k) (k0_off4_inb i k)) (ix5 0 0 0 d x)) ?_ (fun d => ?_)
      (fun x => tileK hS1 _ _ (off3 i k) r x) (fun d x => tileV hV1 _ _ (off4 i k) d x) (by omega) g
    · unfold more11; rw [m1_1, p53, rm1]
    · unfold more12; rw [a1_1, p52, rm1, ra1]

/-- The pieces of the full tiles before trip `k`. -/
abbrev pb (k : ℕ) : List (View.Piece (Elt Ideal) S2x1x1024 .f32) × List (View.Piece (Elt Ideal) S2x80x1024 .f32) :=
  pb_k0_t1 (F := Ideal) Variants.none c none i arg3 harg3 arg4 harg4 arg5 harg5 arg6 harg6 arg7 harg7 arg8 harg8 arg9 harg9 arg10 harg10 arg11 harg11 arg12 harg12 w x0 x1 z X5 X10
    (arg11.view.writes (Elt Ideal) arg11.view.junk start11) (arg12.view.writes (Elt Ideal) arg12.view.junk start12) k

variable {x0 x1 X5 X10}

theorem loop {S0 S1 : Fin 1024 → ℕ → ℝ} {V0 V1 : Fin 80 → ℕ → ℝ} (hS0 : ScoresAre arg10 X10 0 x0 S0)
    (hS1 : ScoresAre arg10 X10 1 x1 S1) (hV0 : ValuesAre arg5 X5 0 V0) (hV1 : ValuesAre arg5 X5 1 V1) (r : Fin 1024) :
    ∀ k : ℕ, k ≤ (k0_t1_loop i).trips →
      Good S0 V0 (1024 * (i 2).val) 0 r (512 * k) ((pb c i arg3 harg3 arg4 harg4 arg5 harg5 arg6 harg6 arg7 harg7 arg8 harg8 arg9 harg9 arg10 harg10 arg11 harg11 arg12 harg12 w x0 x1 z X5 X10 k).1 ++ start11)
          ((pb c i arg3 harg3 arg4 harg4 arg5 harg5 arg6 harg6 arg7 harg7 arg8 harg8 arg9 harg9 arg10 harg10 arg11 harg11 arg12 harg12 w x0 x1 z X5 X10 k).2 ++ start12)
        ∧ Good S1 V1 (1024 * (i 2).val) 1 r (512 * k) ((pb c i arg3 harg3 arg4 harg4 arg5 harg5 arg6 harg6 arg7 harg7 arg8 harg8 arg9 harg9 arg10 harg10 arg11 harg11 arg12 harg12 w x0 x1 z X5 X10 k).1 ++ start11)
          ((pb c i arg3 harg3 arg4 harg4 arg5 harg5 arg6 harg6 arg7 harg7 arg8 harg8 arg9 harg9 arg10 harg10 arg11 harg11 arg12 harg12 w x0 x1 z X5 X10 k).2 ++ start12) := by
  intro k
  induction k with
  | zero => exact fun _ => ⟨good_start0 _ _ _ _, good_start1 _ _ _ _⟩
  | succ k ih =>
    intro hk
    obtain ⟨g0, g1⟩ := ih (by omega)
    have hk' := hk
    rw [trips1] at hk'
    unfold pb at g0 g1 ⊢
    rw [pb_k0_t1_succ Variants.none c none i arg3 harg3 arg4 harg4 arg5 harg5 arg6 harg6 arg7 harg7 arg8 harg8 arg9 harg9 arg10 harg10 arg11 harg11 arg12 harg12 w x0 x1 z X5 X10 _ _ ⟨k, hk⟩]
    generalize pb_k0_t1 (F := Ideal) Variants.none c none i arg3 harg3 arg4 harg4 arg5 harg5 arg6 harg6 arg7 harg7 arg8 harg8 arg9 harg9 arg10 harg10 arg11 harg11 arg12 harg12 w x0 x1 z X5 X10
      (arg11.view.writes (Elt Ideal) arg11.view.junk start11) (arg12.view.writes (Elt Ideal) arg12.view.junk start12) k = P at *
    rw [← View.writes_append, ← View.writes_append, trip_fst, trip_snd]
    generalize hA : P.1 ++ start11 = L11 at *
    generalize hB : P.2 ++ start12 = L12 at *
    have key := more_good i arg5 arg10 arg11 arg12 x0 x1 X5 X10 hS0 hS1 hV0 hV1 r ⟨k, hk⟩ L11 L12
    have e11 : more11 i arg10 arg11 x0 x1 X10 ⟨k, hk⟩ L11 = _ :: _ :: L11 := rfl
    have e12 : more12 i arg5 arg10 arg11 arg12 x0 x1 X5 X10 ⟨k, hk⟩ L11 L12 = _ :: _ :: L12 := rfl
    rw [e11, e12] at key
    simp only [List.cons_append, List.nil_append, List.append_assoc, hA, hB, Nat.mul_succ]
    exact ⟨key.1 g0, key.2 g1⟩

end Cert.FoxLoop

end
-- ==== Proof.FoxTail.lean ====
module

public import proofs.«01_k».proof.Proof.FoxLoop
public import Idealize.ShloMosaic.Lib.Pipeline.ValueKit

@[expose] public section

set_option maxRecDepth 16384

noncomputable section

namespace Cert.FoxTail

open Cert.FoxMath Cert.FoxPay Cert.FoxRun Cert.FoxLoop
open Cert.KernelIdeal Cert.KernelIdeal.Gen Idealize.ShloMosaic Idealize.ShloMosaic.TcCoe Idealize.SL.Sem

variable (i : grid0.Coords) (arg5 : Memref sig .tc .vmem S1x1x2x80x2048 .bf16) (arg10 : Memref sig .tc .vmem S2x2048x128 .bf16)
  (arg11 : Memref sig .tc .vmem S2x1x1024 .f32) (arg12 : Memref sig .tc .vmem S2x80x1024 .f32)
  (w : BitVec 32) (x0 x1 : FVec Ideal S128x1024 .bf16)
  (X5 : BufTy.Contents (Elt Ideal) arg5.view.ty) (X10 : BufTy.Contents (Elt Ideal) arg10.view.ty)
  (L11 : List (View.Piece (Elt Ideal) S2x1x1024 .f32)) (L12 : List (View.Piece (Elt Ideal) S2x80x1024 .f32))

/-- The load of a head's running maxima, -/
abbrev cm (L : List (View.Piece (Elt Ideal) S2x1x1024 .f32)) (off : Fin 3 → ℕ) (inb : ∀ a, off a + S1x1x1024.size a ≤ S2x1x1024.size a) : Vec Ideal S1x1x1024 .f32 :=
  arg11.view.readCov (Val := Elt Ideal) L (Rect.unit (s := S2x1x1024) off S1x1x1024.size inb).toLoadRect
/-- of their right half, -/
abbrev cmh (L : List (View.Piece (Elt Ideal) S2x1x1024 .f32)) (off : Fin 3 → ℕ) (inb : ∀ a, off a + S1x1x512.size a ≤ S2x1x1024.size a) : Vec Ideal S1x1x512 .f32 :=
  arg11.view.readCov (Val := Elt Ideal) L (Rect.unit (s := S2x1x1024) off S1x1x512.size inb).toLoadRect
/-- of a head's accumulator, -/
abbrev ca (L : List (View.Piece (Elt Ideal) S2x80x1024 .f32)) (off : Fin 3 → ℕ) (inb : ∀ a, off a + S1x80x1024.size a ≤ S2x80x1024.size a) : Vec Ideal S1x80x1024 .f32 :=
  arg12.view.readCov (Val := Elt Ideal) L (Rect.unit (s := S2x80x1024) off S1x80x1024.size inb).toLoadRect
/-- of its right half. -/
abbrev cah (L : List (View.Piece (Elt Ideal) S2x80x1024 .f32)) (off : Fin 3 → ℕ) (inb : ∀ a, off a + S1x80x512.size a ≤ S2x80x1024.size a) : Vec Ideal S1x80x512 .f32 :=
  arg12.view.readCov (Val := Elt Ideal) L (Rect.unit (s := S2x80x1024) off S1x80x512.size inb).toLoadRect

/-- The first diagonal tile, first head. -/
def M1 : List (View.Piece (Elt Ideal) S2x1x1024 .f32) :=
  ⟨Rect.unit ![0, 0, 0] S1x1x1024.size inb_S2x1x1024_S1x1x1024_0_0_0,
    k0_pay63 (F := Ideal) (k0_pay61 w x0 (tK arg10 X10 (k0_off9 i 0#32) (k0_off9_inb i 0)) (cm arg11 L11 ![0, 0, 0] inb_S2x1x1024_S1x1x1024_0_0_0))⟩ :: L11
def A1 : List (View.Piece (Elt Ideal) S2x80x1024 .f32) :=
  ⟨Rect.unit ![0, 0, 0] S1x80x1024.size inb_S2x80x1024_S1x80x1024_0_0_0,
    k0_pay62 (F := Ideal) w x0 (tK arg10 X10 (k0_off9 i 0#32) (k0_off9_inb i 0)) (tW arg5 X5 (k0_off10 i 0#32) (k0_off10_inb i 0)) (cm arg11 L11 ![0, 0, 0] inb_S2x1x1024_S1x1x1024_0_0_0)
      (ca arg12 L12 ![0, 0, 0] inb_S2x80x1024_S1x80x1024_0_0_0)⟩ :: L12
/-- The first diagonal tile, second head. -/
def M2 : List (View.Piece (Elt Ideal) S2x1x1024 .f32) :=
  ⟨Rect.unit ![1, 0, 0] S1x1x1024.size inb_S2x1x1024_S1x1x1024_1_0_0,
    k0_pay69 (F := Ideal) (k0_pay66 w x1 (Scalar.addi w 0#32) (tK arg10 X10 (k0_off11 i 0#32) (k0_off11_inb i 0)) (cm arg11 L11 ![1, 0, 0] inb_S2x1x1024_S1x1x1024_1_0_0))⟩ :: L11
def A2 : List (View.Piece (Elt Ideal) S2x80x1024 .f32) :=
  ⟨Rect.unit ![1, 0, 0] S1x80x1024.size inb_S2x80x1024_S1x80x1024_1_0_0,
    k0_pay68 (F := Ideal) (k0_pay67 w x1 (Scalar.addi w 0#32) (tK arg10 X10 (k0_off11 i 0#32) (k0_off11_inb i 0)) (tW arg5 X5 (k0_off12 i 0#32) (k0_off12_inb i 0)) (cm arg11 L11 ![1, 0, 0] inb_S2x1x1024_S1x1x1024_1_0_0)
      (ca arg12 L12 ![1, 0, 0] inb_S2x80x1024_S1x80x1024_1_0_0))⟩ :: L12
/-- The second diagonal tile, first head. -/
def M3 : List (View.Piece (Elt Ideal) S2x1x1024 .f32) :=
  ⟨Rect.unit ![0, 0, 512] S1x1x512.size inb_S2x1x1024_S1x1x512_0_0_512,
    k0_pay77 (F := Ideal) (k0_pay73 w x0 (tK arg10 X10 (k0_off9 i 512#32) (k0_off9_inb i 1)) (cmh arg11 L11 ![0, 0, 512] inb_S2x1x1024_S1x1x512_0_0_512))⟩ :: L11
def A3 : List (View.Piece (Elt Ideal) S2x80x1024 .f32) :=
  ⟨Rect.unit ![0, 0, 512] S1x80x512.size inb_S2x80x1024_S1x80x512_0_0_512,
    k0_pay76 (F := Ideal) (k0_pay71 (tW arg5 X5 (k0_off10 i 512#32) (k0_off10_inb i 1)))
      (k0_pay74 w x0 (tK arg10 X10 (k0_off9 i 512#32) (k0_off9_inb i 1)) (cmh arg11 L11 ![0, 0, 512] inb_S2x1x1024_S1x1x512_0_0_512))
      (k0_pay75 w x0 (tK arg10 X10 (k0_off9 i 512#32) (k0_off9_inb i 1)) (cmh arg11 L11 ![0, 0, 512] inb_S2x1x1024_S1x1x512_0_0_512))
      (cah arg12 L12 ![0, 0, 512] inb_S2x80x1024_S1x80x512_0_0_512)⟩ :: L12
/-- The second diagonal tile, second head. -/
def A4 : List (View.Piece (Elt Ideal) S2x80x1024 .f32) :=
  ⟨Rect.unit ![1, 0, 512] S1x80x512.size inb_S2x80x1024_S1x80x512_1_0_512,
    k0_pay83 (F := Ideal) (k0_pay78 w x1 (Scalar.addi w 512#32) (tK arg10 X10 (k0_off11 i 512#32) (k0_off11_inb i 1))) (k0_pay79 (tW arg5 X5 (k0_off12 i 512#32) (k0_off12_inb i 1)))
      (k0_pay81 w x1 (Scalar.addi w 512#32) (tK arg10 X10 (k0_off11 i 512#32) (k0_off11_inb i 1)) (cmh arg11 L11 ![1, 0, 512] inb_S2x1x1024_S1x1x512_1_0_512))
      (k0_pay82 w x1 (Scalar.addi w 512#32) (tK arg10 X10 (k0_off11 i 512#32) (k0_off11_inb i 1)) (cmh arg11 L11 ![1, 0, 512] inb_S2x1x1024_S1x1x512_1_0_512))
      (cah arg12 L12 ![1, 0, 512] inb_S2x80x1024_S1x80x512_1_0_512)⟩ :: L12

/-- The accumulators after the diagonal tiles. -/
def fin12 : List (View.Piece (Elt Ideal) S2x80x1024 .f32) :=
  let m1 := M1 i arg10 arg11 w x0 X10 L11
  let a1 := A1 i arg5 arg10 arg11 arg12 w x0 X5 X10 L11 L12
  let m2 := M2 i arg10 arg11 w x1 X10 m1
  let a2 := A2 i arg5 arg10 arg11 arg12 w x1 X5 X10 m1 a1
  let m3 := M3 i arg10 arg11 w x0 X10 m2
  let a3 := A3 i arg5 arg10 arg11 arg12 w x0 X5 X10 m2 a2
  A4 i arg5 arg10 arg11 arg12 w x1 X5 X10 m3 a3

/-- The block the point writes, before its last reshape. -/
def block : FVec Ideal S1024x128 .bf16 :=
  k0_pay85 (ca arg12 (fin12 i arg5 arg10 arg11 arg12 w x0 x1 X5 X10 L11 L12) ![0, 0, 0] inb_S2x80x1024_S1x80x1024_0_0_0)
    (ca arg12 (fin12 i arg5 arg10 arg11 arg12 w x0 x1 X5 X10 L11 L12) ![1, 0, 0] inb_S2x80x1024_S1x80x1024_1_0_0)

variable {i arg5 arg10 arg11 arg12 w x0 x1 X5 X10 L11 L12}
variable {S0 S1 : Fin 1024 → ℕ → ℝ} {V0 V1 : Fin 80 → ℕ → ℝ}

theorem inv_of {S : ℕ → ℝ} {V : Fin 80 → ℕ → ℝ} {t n : ℕ} {m m' : EReal} {a a' : Fin 80 → EReal} (em : m' = m) (ea : ∀ d, a' d = a d)
    (h : Inv S V t n m a) : Inv S V t n m' a' := by
  rw [em, show a' = a from funext ea]; exact h

theorem t1_0 (hS0 : ScoresAre arg10 X10 0 x0 S0) (hV0 : ValuesAre arg5 X5 0 V0) (r : Fin 1024)
    (g : Good S0 V0 (1024 * (i 2).val) 0 r (1024 * (i 2).val) L11 L12) :
    Good S0 V0 (1024 * (i 2).val) 0 r (1024 * (i 2).val + 512) (M1 i arg10 arg11 w x0 X10 L11)
      (A1 i arg5 arg10 arg11 arg12 w x0 X5 X10 L11 L12) := by
  refine use_diag r.val (sc x0 (tK arg10 X10 (k0_off9 i 0#32) (k0_off9_inb i 0)) r)
      (fun d x => (tW arg5 X5 (k0_off10 i 0#32) (k0_off10_inb i 0)) (ix5 0 0 0 d x)) ?_ (fun d => ?_)
      (fun x => tileK hS0 _ _ (off9 i) r x) (fun d x => tileV hV0 _ _ (off10 i) d x) rfl g
  · unfold M1 cm; rw [m0_0, p63, p61, rm0]
  · unfold A1 cm ca; rw [a0_0, p62, rm0, ra0]

theorem t1_1 (r : Fin 1024) (g : Good S1 V1 (1024 * (i 2).val) 1 r (1024 * (i 2).val) L11 L12) :
    Good S1 V1 (1024 * (i 2).val) 1 r (1024 * (i 2).val) (M1 i arg10 arg11 w x0 X10 L11)
      (A1 i arg5 arg10 arg11 arg12 w x0 X5 X10 L11 L12) := by
  unfold Good at g ⊢
  refine inv_of ?_ (fun d => ?_) g
  · unfold M1; rw [m0_1]
  · unfold A1; rw [a0_1]

theorem t2_1 (hS1 : ScoresAre arg10 X10 1 x1 S1) (hV1 : ValuesAre arg5 X5 1 V1) (r : Fin 1024)
    (g : Good S1 V1 (1024 * (i 2).val) 1 r (1024 * (i 2).val) L11 L12) :
    Good S1 V1 (1024 * (i 2).val) 1 r (1024 * (i 2).val + 512) (M2 i arg10 arg11 w x1 X10 L11)
      (A2 i arg5 arg10 arg11 arg12 w x1 X5 X10 L11 L12) := by
  refine use_diag r.val (sc x1 (tK arg10 X10 (k0_off11 i 0#32) (k0_off11_inb i 0)) r)
      (fun d x => (tW arg5 X5 (k0_off12 i 0#32) (k0_off12_inb i 0)) (ix5 0 0 0 d x)) ?_ (fun d => ?_)
      (fun x => tileK hS1 _ _ (off11 i) r x) (fun d x => tileV hV1 _ _ (off12 i) d x) rfl g
  · unfold M2 cm; rw [m1_1, p69, p66, rm1]
  · unfold A2 cm ca; rw [a1_1, p68, p67, rm1, ra1]

theorem t2_0 (n : ℕ) (r : Fin 1024) (g : Good S0 V0 (1024 * (i 2).val) 0 r n L11 L12) :
    Good S0 V0 (1024 * (i 2).val) 0 r n (M2 i arg10 arg11 w x1 X10 L11) (A2 i arg5 arg10 arg11 arg12 w x1 X5 X10 L11 L12) := by
  unfold Good at g ⊢
  refine inv_of ?_ (fun d => ?_) g
  · unfold M2; rw [m1_0]
  · unfold A2; rw [a1_0]

/-- Column `r` of head `h` is done: its accumulator holds every key up to its query. -/
def Done (S : Fin 1024 → ℕ → ℝ) (V : Fin 80 → ℕ → ℝ) (q0 : ℕ) (h : Fin 2) (r : Fin 1024)
    (L12 : List (View.Piece (Elt Ideal) S2x80x1024 .f32)) : Prop :=
  ∃ n m, q0 + r.val < n ∧ n ≤ 2048 ∧ Inv (S r) V (q0 + r.val) n m (fun d => View.canon L12 (ix3 h d r))

theorem halves (r : Fin 1024) : (∃ r', r = lo r') ∨ ∃ r', r = hi r' := by
  by_cases h : r.val < 512
  · exact Or.inl ⟨⟨r.val, h⟩, rfl⟩
  · exact Or.inr ⟨⟨r.val - 512, by omega⟩, Fin.ext (by show r.val = 512 + (r.val - 512); omega)⟩

theorem t3_0 (hS0 : ScoresAre arg10 X10 0 x0 S0) (hV0 : ValuesAre arg5 X5 0 V0) (r : Fin 1024)
    (g : Good S0 V0 (1024 * (i 2).val) 0 r (1024 * (i 2).val + 512) L11 L12) :
    Done S0 V0 (1024 * (i 2).val) 0 r (A3 i arg5 arg10 arg11 arg12 w x0 X5 X10 L11 L12) := by
  have hi2 : (i 2).val < 2 := (i 2).isLt
  unfold Good at g
  rcases halves r with ⟨r, rfl⟩ | ⟨r, rfl⟩
  · refine ⟨1024 * (i 2).val + 512, View.canon L11 (ix3 0 0 (lo r)), by show _ + r.val < _; omega, by omega, inv_of rfl (fun d => ?_) g⟩
    unfold A3; rw [ah0_lo]
  · refine ⟨1024 * (i 2).val + 512 + 512, _, by show _ + (512 + r.val) < _; omega, by omega,
      use_diag r.val (sc x0 (tK arg10 X10 (k0_off9 i 512#32) (k0_off9_inb i 1)) (hi r))
        (fun d x => (tW arg5 X5 (k0_off10 i 512#32) (k0_off10_inb i 1)) (ix5 0 0 0 d x)) rfl (fun d => ?_)
        (fun x => tileK hS0 _ _ (off9' i) (hi r) x) (fun d x => tileV hV0 _ _ (off10' i) d x)
        (by show _ + (512 + r.val) = _; omega) g⟩
    unfold A3 cah cmh; rw [ah0_hi, p76, rmh0, rah0]

theorem t3_1 (n : ℕ) (r : Fin 1024) (g : Good S1 V1 (1024 * (i 2).val) 1 r n L11 L12) :
    Good S1 V1 (1024 * (i 2).val) 1 r n (M3 i arg10 arg11 w x0 X10 L11) (A3 i arg5 arg10 arg11 arg12 w x0 X5 X10 L11 L12) := by
  unfold Good at g ⊢
  refine inv_of ?_ (fun d => ?_) g
  · unfold M3; rw [mh0_1]
  · unfold A3; rw [ah0_1]

theorem t4_1 (hS1 : ScoresAre arg10 X10 1 x1 S1) (hV1 : ValuesAre arg5 X5 1 V1) (r : Fin 1024)
    (g : Good S1 V1 (1024 * (i 2).val) 1 r (1024 * (i 2).val + 512) L11 L12) :
    Done S1 V1 (1024 * (i 2).val) 1 r (A4 i arg5 arg10 arg11 arg12 w x1 X5 X10 L11 L12) := by
  have hi2 : (i 2).val < 2 := (i 2).isLt
  unfold Good at g
  rcases halves r with ⟨r, rfl⟩ | ⟨r, rfl⟩
  · refine ⟨1024 * (i 2).val + 512, View.canon L11 (ix3 1 0 (lo r)), by show _ + r.val < _; omega, by omega, inv_of rfl (fun d => ?_) g⟩
    unfold A4; rw [ah1_lo]
  · refine ⟨1024 * (i 2).val + 512 + 512, _, by show _ + (512 + r.val) < _; omega, by omega,
      use_diag r.val (sc x1 (tK arg10 X10 (k0_off11 i 512#32) (k0_off11_inb i 1)) (hi r))
        (fun d x => (tW arg5 X5 (k0_off12 i 512#32) (k0_off12_inb i 1)) (ix5 0 0 0 d x)) rfl (fun d => ?_)
        (fun x => tileK hS1 _ _ (off11' i) (hi r) x) (fun d x => tileV hV1 _ _ (off12' i) d x)
        (by show _ + (512 + r.val) = _; omega) g⟩
    unfold A4 cah cmh; rw [ah1_hi, p83, rmh1, rah1]

theorem t4_0 (r : Fin 1024) (g : Done S0 V0 (1024 * (i 2).val) 0 r L12) :
    Done S0 V0 (1024 * (i 2).val) 0 r (A4 i arg5 arg10 arg11 arg12 w x1 X5 X10 L11 L12) := by
  obtain ⟨n, m, h1, h2, h3⟩ := g
  refine ⟨n, m, h1, h2, inv_of rfl (fun d => ?_) h3⟩
  unfold A4; rw [ah1_0]

theorem done_div {S : Fin 1024 → ℕ → ℝ} {V : Fin 80 → ℕ → ℝ} {q0 : ℕ} {h : Fin 2} {r : Fin 1024} (g : Done S V q0 h r L12)
    (h64 : ∀ s, s < 2048 → V 64 s = 1) (d : Fin 80) :
    Ideal.div (View.canon L12 (ix3 h d r)) (View.canon L12 (ix3 h 64 r)) = ((att (S r) (V d) (q0 + r.val) : ℝ) : EReal) := by
  obtain ⟨n, m, h1, h2, h3⟩ := g
  exact inv_div h3 h1 h2 h64 d

/-- Dimension `d` of head `h` in the two heads' row. -/
def at_ (d : Fin 64) : Fin 80 := ⟨d.val, by have := d.isLt; omega⟩

theorem p85_0 (y z : Vec Ideal S1x80x1024 .f32) (r : Fin 1024) (d : Fin 64) :
    k0_pay85 y z (ix2 r ⟨d.val, by have := d.isLt; omega⟩) = Ideal.div (y (ix3 0 (at_ d) r)) (y (ix3 0 64 r)) := by
  unfold k0_pay85
  simp only [pointwise, zero_add]
  exact (dif_pos trivial).trans (congrArg₂ Ideal.div (congrArg y (funext fun a => by fin_cases a <;> exact Fin.ext (by simp [ix3, at_])))
    (congrArg y (funext fun a => by fin_cases a <;> exact Fin.ext (by simp [ix3]))))
theorem p85_1 (y z : Vec Ideal S1x80x1024 .f32) (r : Fin 1024) (d : Fin 64) :
    k0_pay85 y z (ix2 r ⟨64 + d.val, by have := d.isLt; omega⟩) = Ideal.div (z (ix3 0 (at_ d) r)) (z (ix3 0 64 r)) := by
  unfold k0_pay85
  simp only [pointwise, zero_add]
  exact (dif_neg id).trans (congrArg₂ Ideal.div (congrArg z (funext fun a => by fin_cases a <;> exact Fin.ext (by simp [ix3, at_])))
    (congrArg z (funext fun a => by fin_cases a <;> exact Fin.ext (by simp [ix3]))))

/-- The block, entry by entry. -/
theorem block_eq (hS0 : ScoresAre arg10 X10 0 x0 S0) (hS1 : ScoresAre arg10 X10 1 x1 S1) (hV0 : ValuesAre arg5 X5 0 V0)
    (hV1 : ValuesAre arg5 X5 1 V1) (h0 : ∀ s, s < 2048 → V0 64 s = 1) (h1 : ∀ s, s < 2048 → V1 64 s = 1) (r : Fin 1024)
    (g0 : Good S0 V0 (1024 * (i 2).val) 0 r (1024 * (i 2).val) L11 L12)
    (g1 : Good S1 V1 (1024 * (i 2).val) 1 r (1024 * (i 2).val) L11 L12) (d : Fin 64) :
    block i arg5 arg10 arg11 arg12 w x0 x1 X5 X10 L11 L12 (ix2 r ⟨d.val, by have := d.isLt; omega⟩)
        = ((att (S0 r) (V0 (at_ d)) (1024 * (i 2).val + r.val) : ℝ) : EReal)
      ∧ block i arg5 arg10 arg11 arg12 w x0 x1 X5 X10 L11 L12 (ix2 r ⟨64 + d.val, by have := d.isLt; omega⟩)
        = ((att (S1 r) (V1 (at_ d)) (1024 * (i 2).val + r.val) : ℝ) : EReal) := by
  unfold block fin12 ca
  refine ⟨?_, ?_⟩
  · rw [p85_0, ra0, ra0]
    exact done_div (t4_0 r (t3_0 hS0 hV0 r (t2_0 _ r (t1_0 hS0 hV0 r g0)))) h0 (at_ d)
  · rw [p85_1, ra1, ra1]
    exact done_div (t4_1 hS1 hV1 r (t3_1 _ r (t2_1 hS1 hV1 r (t1_1 r g1)))) h1 (at_ d)

end Cert.FoxTail

end
-- ==== Proof.FoxCase.lean ====
module

public import proofs.«01_k».proof.Proof.FoxTail
public import Idealize.ShloMosaic.Lib.Pipeline.ValueKit

@[expose] public section

set_option maxRecDepth 16384

noncomputable section

namespace Cert.FoxCase

open Cert.FoxMath Cert.FoxPay Cert.FoxRun Cert.FoxLoop Cert.FoxTail
open Cert.KernelIdeal Cert.KernelIdeal.Gen Idealize.ShloMosaic Idealize.ShloMosaic.TcCoe Idealize.SL.Sem

variable (c : Dev nD) (i : grid0.Coords) (arg3 : Memref sig .tc .vmem S1x1x2x64x1024 .bf16) (harg3 : arg3.IsWhole) (arg4 : Memref sig .tc .vmem S1x1x2x2048x128 .bf16) (harg4 : arg4.IsWhole) (arg5 : Memref sig .tc .vmem S1x1x2x80x2048 .bf16) (harg5 : arg5.IsWhole) (arg6 : Memref sig .tc .vmem S2048x8 .f32) (harg6 : arg6.IsWhole) (arg7 : Memref sig .tc .vmem S512x512 .bf16) (harg7 : arg7.IsWhole) (arg8 : Memref sig .tc .vmem S1x1024x128 .bf16) (harg8 : arg8.IsWhole)
  (arg9 : Memref sig .tc .vmem S3x2048x8 .bf16) (harg9 : arg9.IsWhole) (arg10 : Memref sig .tc .vmem S2x2048x128 .bf16) (harg10 : arg10.IsWhole) (arg11 : Memref sig .tc .vmem S2x1x1024 .f32) (harg11 : arg11.IsWhole) (arg12 : Memref sig .tc .vmem S2x80x1024 .f32) (harg12 : arg12.IsWhole)

/-- The first query of the point's block. -/
abbrev w : BitVec 32 := Scalar.muli (BitVec.ofNat 32 (i 2).val) 1024#32

section lists
variable (x0 x1 : FVec Ideal S128x1024 .bf16) (u : BitVec 32)
  (X5 : BufTy.Contents (Elt Ideal) arg5.view.ty) (X10 : BufTy.Contents (Elt Ideal) arg10.view.ty)

/-- The running maxima after the full tiles, -/
abbrev U11 : List (View.Piece (Elt Ideal) S2x1x1024 .f32) :=
  (pb c i arg3 harg3 arg4 harg4 arg5 harg5 arg6 harg6 arg7 harg7 arg8 harg8 arg9 harg9 arg10 harg10 arg11 harg11 arg12 harg12 (w i) x0 x1 k0_pay45 X5 X10 (k0_t1_loop i).trips).1 ++ start11
/-- the accumulators, -/
abbrev U12 : List (View.Piece (Elt Ideal) S2x80x1024 .f32) :=
  (pb c i arg3 harg3 arg4 harg4 arg5 harg5 arg6 harg6 arg7 harg7 arg8 harg8 arg9 harg9 arg10 harg10 arg11 harg11 arg12 harg12 (w i) x0 x1 k0_pay45 X5 X10 (k0_t1_loop i).trips).2 ++ start12
/-- and both after the second loop, which makes no trip. -/
abbrev V2 : List (View.Piece (Elt Ideal) S2x1x1024 .f32) × List (View.Piece (Elt Ideal) S2x80x1024 .f32) :=
  pb_k0_t2 (F := Ideal) Variants.none c none i arg3 harg3 arg4 harg4 arg5 harg5 arg6 harg6 arg7 harg7 arg8 harg8 arg9 harg9 arg10 harg10 arg11 harg11 arg12 harg12 (w i) x0 x1 k0_pay45 u X5 X10
    (arg11.view.writes (Elt Ideal) arg11.view.junk (U11 c i arg3 harg3 arg4 harg4 arg5 harg5 arg6 harg6 arg7 harg7 arg8 harg8 arg9 harg9 arg10 harg10 arg11 harg11 arg12 harg12 x0 x1 X5 X10))
    (arg12.view.writes (Elt Ideal) arg12.view.junk (U12 c i arg3 harg3 arg4 harg4 arg5 harg5 arg6 harg6 arg7 harg7 arg8 harg8 arg9 harg9 arg10 harg10 arg11 harg11 arg12 harg12 x0 x1 X5 X10)) (k0_t2_loop i).trips

theorem V2_eq : V2 c i arg3 harg3 arg4 harg4 arg5 harg5 arg6 harg6 arg7 harg7 arg8 harg8 arg9 harg9 arg10 harg10 arg11 harg11 arg12 harg12 x0 x1 u X5 X10 = ([], []) := by
  unfold V2; rw [trips2]; rfl

/-- The block a point writes, from the contents of its key scratch. -/
def done (x0' : Vec Ideal S1x1x2x64x1024 .bf16) (x2' : Vec Ideal S1x1x2x80x2048 .bf16) (X10 : BufTy.Contents (Elt Ideal) arg10.view.ty) (u : BitVec 32) : FVec Ideal S1024x128 .bf16 :=
  let q0 : FVec Ideal S128x1024 .bf16 := k0_pay42 (arg3.view.readAt (Elt Ideal) (Rect.unit (s := S1x1x2x64x1024) ![0, 0, 0, 0, 0] S1x1x1x64x1024.size inb_S1x1x2x64x1024_S1x1x1x64x1024_0_0_0_0_0).toLoadRect (harg3.unread x0'))
  let q1 : FVec Ideal S128x1024 .bf16 := k0_pay43 (arg3.view.readAt (Elt Ideal) (Rect.unit (s := S1x1x2x64x1024) ![0, 0, 1, 0, 0] S1x1x1x64x1024.size inb_S1x1x2x64x1024_S1x1x1x64x1024_0_0_1_0_0).toLoadRect (harg3.unread x0'))
  block i arg5 arg10 arg11 arg12 (w i) q0 q1 (harg5.unread x2') X10
    ((V2 c i arg3 harg3 arg4 harg4 arg5 harg5 arg6 harg6 arg7 harg7 arg8 harg8 arg9 harg9 arg10 harg10 arg11 harg11 arg12 harg12 q0 q1 u (harg5.unread x2') X10).1 ++ U11 c i arg3 harg3 arg4 harg4 arg5 harg5 arg6 harg6 arg7 harg7 arg8 harg8 arg9 harg9 arg10 harg10 arg11 harg11 arg12 harg12 q0 q1 (harg5.unread x2') X10)
    ((V2 c i arg3 harg3 arg4 harg4 arg5 harg5 arg6 harg6 arg7 harg7 arg8 harg8 arg9 harg9 arg10 harg10 arg11 harg11 arg12 harg12 q0 q1 u (harg5.unread x2') X10).2 ++ U12 c i arg3 harg3 arg4 harg4 arg5 harg5 arg6 harg6 arg7 harg7 arg8 harg8 arg9 harg9 arg10 harg10 arg11 harg11 arg12 harg12 q0 q1 (harg5.unread x2') X10)
end lists

variable (x0 : Vec Ideal S1x1x2x64x1024 .bf16) (x1 : Vec Ideal S1x1x2x2048x128 .bf16) (x2 : Vec Ideal S1x1x2x80x2048 .bf16) (x3 : Vec Ideal S2048x8 .f32) (x4 : Vec Ideal S512x512 .bf16) (xs0 : Vec Ideal S3x2048x8 .bf16) (xs1 : Vec Ideal S2x2048x128 .bf16)

theorem r14_B : kernelRun0_B.sl.r_14 (F := Ideal) c i arg3 harg3 arg4 harg4 arg5 harg5 arg6 harg6 arg7 harg7 arg8 harg8 arg9 harg9 arg10 harg10 arg11 harg11 arg12 harg12 x0 x2 xs1
    = done c i arg3 harg3 arg4 harg4 arg5 harg5 arg6 harg6 arg7 harg7 arg8 harg8 arg9 harg9 arg10 harg10 arg11 harg11 arg12 harg12 x0 x2 (harg10.unread xs1) (kernelRun0_B.sl.v60 i) := by
  rfl

theorem r14_C : kernelRun0_C.sl.r_14 (F := Ideal) c i arg3 harg3 arg4 harg4 arg5 harg5 arg6 harg6 arg7 harg7 arg8 harg8 arg9 harg9 arg10 harg10 arg11 harg11 arg12 harg12 x0 x1 x2 xs0
    = done c i arg3 harg3 arg4 harg4 arg5 harg5 arg6 harg6 arg7 harg7 arg8 harg8 arg9 harg9 arg10 harg10 arg11 harg11 arg12 harg12 x0 x2 (arg10.view.writes (Elt Ideal) arg10.view.junk (kernelRun0_C.sl.HS1_2 (F := Ideal) c i arg4 harg4 arg9 harg9 x1 xs0)) (kernelRun0_C.sl.v60 i) := by
  rfl

theorem r14_A : kernelRun0_A.sl.r_14 (F := Ideal) c i arg3 harg3 arg4 harg4 arg5 harg5 arg6 harg6 arg7 harg7 arg8 harg8 arg9 harg9 arg10 harg10 arg11 harg11 arg12 harg12 x0 x1 x2 x3 x4
    = done c i arg3 harg3 arg4 harg4 arg5 harg5 arg6 harg6 arg7 harg7 arg8 harg8 arg9 harg9 arg10 harg10 arg11 harg11 arg12 harg12 x0 x2 (arg10.view.writes (Elt Ideal) arg10.view.junk (kernelRun0_A.sl.HS1_2 (F := Ideal) c i arg4 harg4 arg6 harg6 arg7 harg7 arg9 x1 x3 x4)) (kernelRun0_A.sl.v60 i) := by
  rfl

/-- The rows and columns of the placing matrix. -/
abbrev io0 : IVec S8x128 32 := iota .tc S8x128 32 [0] iota_S8x128_d0_w32
abbrev io1 : IVec S8x128 32 := iota .tc S8x128 32 [1] iota_S8x128_d1_w32
/-- The point's head pair, as a word. -/
abbrev hpw : BitVec 32 := BitVec.ofNat 32 (i 1).val

/-- The keys of the first head, with the three parts placed, -/
def aug0 (a : BitVec 32) (l0 l1 l2 : Vec Ideal S1x2048x8 .bf16) (k : Vec Ideal S1x1x1x2048x128 .bf16) : FVec Ideal S1x2048x128 .bf16 :=
  k0_pay25 (k0_pay20 l2) (k0_pay21 a l0 l1) (k0_pay22 a) k0_pay23 k0_pay24 k
/-- and of the second. -/
def aug1 (a : BitVec 32) (l0 l1 l2 : Vec Ideal S1x2048x8 .bf16) (k : Vec Ideal S1x1x1x2048x128 .bf16) : FVec Ideal S1x2048x128 .bf16 :=
  k0_pay39 (k0_pay20 l2) (k0_pay26 a (k0_pay18 l0) (k0_pay19 l1) io0 io1) (k0_pay27 a io0 io1) k

/-- A head's keys in the block. -/
abbrev key (x1 : Vec Ideal S1x1x2x2048x128 .bf16) (off : Fin 5 → ℕ) (inb : ∀ a, off a + S1x1x1x2048x128.size a ≤ S1x1x2x2048x128.size a) : Vec Ideal S1x1x1x2048x128 .bf16 :=
  arg4.view.readAt (Elt Ideal) (Rect.unit (s := S1x1x2x2048x128) off S1x1x1x2048x128.size inb).toLoadRect (harg4.unread x1)
abbrev part (xs0 : Vec Ideal S3x2048x8 .bf16) (off : Fin 3 → ℕ) (inb : ∀ a, off a + S1x2048x8.size a ≤ S3x2048x8.size a) : Vec Ideal S1x2048x8 .bf16 :=
  arg9.view.readAt (Elt Ideal) (Rect.unit (s := S3x2048x8) off S1x2048x8.size inb).toLoadRect (harg9.unread xs0)
abbrev partc (L : List (View.Piece (Elt Ideal) S3x2048x8 .bf16)) (off : Fin 3 → ℕ) (inb : ∀ a, off a + S1x2048x8.size a ≤ S3x2048x8.size a) : Vec Ideal S1x2048x8 .bf16 :=
  arg9.view.readCov (Val := Elt Ideal) L (Rect.unit (s := S3x2048x8) off S1x2048x8.size inb).toLoadRect
/-- The two stores of a pair's keys. -/
abbrev stores (y0 y1 : FVec Ideal S1x2048x128 .bf16) : List (View.Piece (Elt Ideal) S2x2048x128 .bf16) :=
  [⟨Rect.unit (s := S2x2048x128) ![1, 0, 0] S1x2048x128.size inb_S2x2048x128_S1x2048x128_1_0_0, y1⟩,
   ⟨Rect.unit (s := S2x2048x128) ![0, 0, 0] S1x2048x128.size inb_S2x2048x128_S1x2048x128_0_0_0, y0⟩]

theorem HS1_C : kernelRun0_C.sl.HS1_2 (F := Ideal) c i arg4 harg4 arg9 harg9 x1 xs0
    = stores (aug0 (hpw i) (part arg9 harg9 xs0 ![0, 0, 0] inb_S3x2048x8_S1x2048x8_0_0_0) (part arg9 harg9 xs0 ![1, 0, 0] inb_S3x2048x8_S1x2048x8_1_0_0) (part arg9 harg9 xs0 ![2, 0, 0] inb_S3x2048x8_S1x2048x8_2_0_0) (key arg4 harg4 x1 ![0, 0, 0, 0, 0] inb_S1x1x2x2048x128_S1x1x1x2048x128_0_0_0_0_0))
      (aug1 (hpw i) (part arg9 harg9 xs0 ![0, 0, 0] inb_S3x2048x8_S1x2048x8_0_0_0) (part arg9 harg9 xs0 ![1, 0, 0] inb_S3x2048x8_S1x2048x8_1_0_0) (part arg9 harg9 xs0 ![2, 0, 0] inb_S3x2048x8_S1x2048x8_2_0_0) (key arg4 harg4 x1 ![0, 0, 1, 0, 0] inb_S1x1x2x2048x128_S1x1x1x2048x128_0_0_1_0_0)) := by
  rfl
/-- The pieces of the three parts. -/
abbrev HS0 := kernelRun0_A.sl.HS0_3 (F := Ideal) c arg6 harg6 arg7 harg7 x3 x4
theorem HS1_A : kernelRun0_A.sl.HS1_2 (F := Ideal) c i arg4 harg4 arg6 harg6 arg7 harg7 arg9 x1 x3 x4
    = stores (aug0 (hpw i) (partc arg9 (HS0 c arg6 harg6 arg7 harg7 x3 x4) ![0, 0, 0] inb_S3x2048x8_S1x2048x8_0_0_0) (partc arg9 (HS0 c arg6 harg6 arg7 harg7 x3 x4) ![1, 0, 0] inb_S3x2048x8_S1x2048x8_1_0_0) (partc arg9 (HS0 c arg6 harg6 arg7 harg7 x3 x4) ![2, 0, 0] inb_S3x2048x8_S1x2048x8_2_0_0) (key arg4 harg4 x1 ![0, 0, 0, 0, 0] inb_S1x1x2x2048x128_S1x1x1x2048x128_0_0_0_0_0))
      (aug1 (hpw i) (partc arg9 (HS0 c arg6 harg6 arg7 harg7 x3 x4) ![0, 0, 0] inb_S3x2048x8_S1x2048x8_0_0_0) (partc arg9 (HS0 c arg6 harg6 arg7 harg7 x3 x4) ![1, 0, 0] inb_S3x2048x8_S1x2048x8_1_0_0) (partc arg9 (HS0 c arg6 harg6 arg7 harg7 x3 x4) ![2, 0, 0] inb_S3x2048x8_S1x2048x8_2_0_0) (key arg4 harg4 x1 ![0, 0, 1, 0, 0] inb_S1x1x2x2048x128_S1x1x1x2048x128_0_0_1_0_0)) := by
  rfl

/-- A quarter of the log forget values, -/
abbrev lf (x3 : Vec Ideal S2048x8 .f32) (off : Fin 2 → ℕ) (inb : ∀ a, off a + S512x8.size a ≤ S2048x8.size a) : Vec Ideal S512x8 .f32 :=
  arg6.view.readAt (Elt Ideal) (Rect.unit (s := S2048x8) off S512x8.size inb).toLoadRect (harg6.unread x3)
/-- the triangle of ones, -/
abbrev tri (x4 : Vec Ideal S512x512 .bf16) : Vec Ideal S512x512 .bf16 :=
  arg7.view.readAt (Elt Ideal) (Rect.unit (s := S512x512) ![0, 0] S512x512.size inb_S512x512_S512x512_0_0).toLoadRect (harg7.unread x4)
/-- and a store of the cumulative sums of four quarters. -/
abbrev split (t : Vec Ideal S512x512 .bf16) (a b d e : Vec Ideal S512x8 .f32) : List (View.Piece (Elt Ideal) S3x2048x8 .bf16) :=
  [⟨Rect.unit (s := S3x2048x8) ![2, 0, 0] S1x2048x8.size inb_S3x2048x8_S1x2048x8_2_0_0, k0_pay38 (k0_pay15 (F := Ideal) (k0_pay2 t) (k0_pay3 t a) (k0_pay4 t a b) (k0_pay5 t a b) (k0_pay7 d) (k0_pay9 d) (k0_pay10 d) e)⟩,
   ⟨Rect.unit (s := S3x2048x8) ![1, 0, 0] S1x2048x8.size inb_S3x2048x8_S1x2048x8_1_0_0, k0_pay17 (F := Ideal) (k0_pay2 t) (k0_pay3 t a) (k0_pay4 t a b) (k0_pay5 t a b) (k0_pay7 d) (k0_pay9 d) (k0_pay10 d) e⟩,
   ⟨Rect.unit (s := S3x2048x8) ![0, 0, 0] S1x2048x8.size inb_S3x2048x8_S1x2048x8_0_0_0, k0_pay16 (F := Ideal) (k0_pay2 t) (k0_pay3 t a) (k0_pay4 t a b) (k0_pay5 t a b) (k0_pay7 d) (k0_pay9 d) (k0_pay10 d) e⟩]
theorem HS0_A : kernelRun0_A.sl.HS0_3 (F := Ideal) c arg6 harg6 arg7 harg7 x3 x4
    = split (tri arg7 harg7 x4) (lf arg6 harg6 x3 ![0, 0] inb_S2048x8_S512x8_0_0) (lf arg6 harg6 x3 ![512, 0] inb_S2048x8_S512x8_512_0) (lf arg6 harg6 x3 ![1024, 0] inb_S2048x8_S512x8_1024_0) (lf arg6 harg6 x3 ![1536, 0] inb_S2048x8_S512x8_1536_0) := by
  rfl

end Cert.FoxCase

end
-- ==== Proof.FoxAug.lean ====
module

public import proofs.«01_k».proof.Proof.FoxCase
public import Idealize.ShloMosaic.Lib.Pipeline.ValueKit

@[expose] public section

set_option maxRecDepth 16384

noncomputable section

namespace Cert.FoxAug

open Cert.FoxMath Cert.FoxCase
open Cert.KernelIdeal Cert.KernelIdeal.Gen Idealize.ShloMosaic Idealize.ShloMosaic.TcCoe Idealize.SL.Sem

/-- The word that places a head's value in lane `64`, -/
theorem place0 : ∀ (hp : Fin 4) (x : Fin 8) (l : Fin 128),
    IntOp.andi (IntOp.cmpi CmpIPredicate.eq (BitVec.ofNat 32 x.val) (Scalar.addi (Scalar.muli 2#32 (BitVec.ofNat 32 hp.val)) 0#32))
      (IntOp.cmpi CmpIPredicate.eq (BitVec.ofNat 32 l.val) 64#32) = if x.val = 2 * hp.val + 0 ∧ l.val = 64 then 1#1 else 0#1 := by
  decide +kernel
/-- for the second head of the pair. -/
theorem place1 : ∀ (hp : Fin 4) (x : Fin 8) (l : Fin 128),
    IntOp.andi (IntOp.cmpi CmpIPredicate.eq (BitVec.ofNat 32 x.val) (Scalar.addi (Scalar.muli 2#32 (BitVec.ofNat 32 hp.val)) 1#32))
      (IntOp.cmpi CmpIPredicate.eq (BitVec.ofNat 32 l.val) 64#32) = if x.val = 2 * hp.val + 1 ∧ l.val = 64 then 1#1 else 0#1 := by
  decide +kernel

/-- Head `h` of pair `hp`. -/
def hd (hp : Fin 4) (h : Fin 2) : Fin 8 := ⟨2 * hp.val + h.val, by omega⟩

theorem pick (hp : Fin 4) (h : Fin 2) (l : Fin 128) (f : Fin 8 → EReal) :
    ∑ x : Fin 8, Scalar.select (if x.val = 2 * hp.val + h.val ∧ l.val = 64 then 1#1 else 0#1) (f x * 1) 0
      = if l.val = 64 then f (hd hp h) else 0 := by
  by_cases hl : l.val = 64
  · rw [if_pos hl, Finset.sum_eq_single (hd hp h)]
    · rw [if_pos ⟨rfl, hl⟩]; exact mul_one _
    · intro x _ hx
      rw [if_neg (fun e => hx (Fin.ext e.1))]; rfl
    · exact fun e => absurd (Finset.mem_univ _) e
  · rw [if_neg hl]
    exact Finset.sum_eq_zero fun x _ => by rw [if_neg (fun e => hl e.2)]; rfl

theorem none_of (w : Fin 8 → BitVec 1) (f : Fin 8 → EReal) (hf : ∀ x, f x = 0) : ∑ x : Fin 8, Scalar.select (w x) (f x * 1) 0 = 0 :=
  Finset.sum_eq_zero fun x _ => by rw [hf, zero_mul]; unfold Scalar.select; exact ite_self _

variable (l0 l1 l2 : Vec Ideal S1x2048x8 .bf16) (k : Vec Ideal S1x1x1x2048x128 .bf16)

theorem aug0_eq (hp : Fin 4) (h1 : ∀ s j, l1 (ix3 0 s j) = 0) (h2 : ∀ s j, l2 (ix3 0 s j) = 0) (s : Fin 2048) (l : Fin 128) :
    aug0 (BitVec.ofNat 32 hp.val) l0 l1 l2 k (ix3 0 s l) = k (ix5 0 0 0 s l) + if l.val = 64 then l0 (ix3 0 s (hd hp 0)) else 0 := by
  unfold aug0 k0_pay25 k0_pay20 k0_pay21 k0_pay22 k0_pay23 k0_pay24 k0_pay18 k0_pay19
  simp only [pointwise, zero_add]
  simp (disch := decide) only [List.foldl, ix2_0, ix2_1, Nat.zero_mul, Nat.zero_add, zero_mul, zero_add, dif_neg]
  simp only [place0]
  rw [none_of _ _ (h1 s), none_of _ _ (h2 s), add_zero, add_zero]
  exact congrArg (_ + ·) (pick hp 0 l (fun j => l0 (ix3 0 s j)))
theorem aug1_eq (hp : Fin 4) (h1 : ∀ s j, l1 (ix3 0 s j) = 0) (h2 : ∀ s j, l2 (ix3 0 s j) = 0) (s : Fin 2048) (l : Fin 128) :
    aug1 (BitVec.ofNat 32 hp.val) l0 l1 l2 k (ix3 0 s l) = k (ix5 0 0 0 s l) + if l.val = 64 then l0 (ix3 0 s (hd hp 1)) else 0 := by
  unfold aug1 k0_pay39 k0_pay20 k0_pay26 k0_pay27 k0_pay18 k0_pay19
  simp only [pointwise, zero_add]
  simp (disch := decide) only [List.foldl, ix2_0, ix2_1, Nat.zero_mul, Nat.zero_add, zero_mul, zero_add, dif_neg]
  simp only [place1]
  rw [none_of _ _ (h1 s), none_of _ _ (h2 s), add_zero, add_zero]
  exact congrArg (_ + ·) (pick hp 1 l (fun j => l0 (ix3 0 s j)))

/-- The queries' column: the query, three ones, zeros. -/
theorem p42 (x : Vec Ideal S1x1x1x64x1024 .bf16) (k : Fin 128) (r : Fin 1024) :
    k0_pay42 x (ix2 k r) = if h : k.val < 64 then x (ix5 0 0 0 ⟨k.val, h⟩ r) else if k.val < 67 then 1 else 0 := by
  have hw : ∀ n : Fin 16, Scalar.select (IntOp.cmpi CmpIPredicate.slt (BitVec.ofNat 32 n.val) 3#32) (1 : EReal) 0 = if n.val < 3 then 1 else 0 := by
    intro n; unfold Scalar.select
    exact if_congr ((by decide +kernel : ∀ n : Fin 16, IntOp.cmpi CmpIPredicate.slt (BitVec.ofNat 32 n.val) 3#32 = 1 ↔ n.val < 3) n) rfl rfl
  unfold k0_pay42 k0_pay40 k0_pay41
  simp only [pointwise, zero_add]
  simp (disch := decide) only [List.foldl, ix2_0, ix2_1, Nat.zero_mul, Nat.zero_add, zero_mul, zero_add, dif_neg]
  by_cases h : k.val < 64
  · exact (dif_pos h).trans (by rw [dif_pos h]; try rfl)
  · refine (dif_neg h).trans (Eq.trans ?_ (dif_neg h).symm)
    by_cases h' : k.val - 64 < 16
    · refine (dif_pos h').trans ((hw ⟨k.val - 64, h'⟩).trans (if_congr ?_ rfl rfl))
      show k.val - 64 < 3 ↔ k.val < 67
      omega
    · exact (dif_neg h').trans (if_neg (by omega)).symm
theorem p43 (x : Vec Ideal S1x1x1x64x1024 .bf16) (k : Fin 128) (r : Fin 1024) :
    k0_pay43 x (ix2 k r) = if h : k.val < 64 then x (ix5 0 0 0 ⟨k.val, h⟩ r) else if k.val < 67 then 1 else 0 := p42 x k r

/-! ## The cumulative sums -/

/-- One quarter's sums, over what the quarters before it leave. -/
def qrt (t : FVec Ideal S512x512 .bf16) (e f g : Fin 512 → EReal) (c : EReal) (s : Fin 512) : EReal :=
  ∑ k, t (ix2 s k) * e k + ∑ k, t (ix2 s k) * f k + ∑ k, t (ix2 s k) * g k + c

theorem qrt_eq (t : FVec Ideal S512x512 .bf16) (ht : ∀ s k, t (ix2 s k) = if k.val ≤ s.val then 1 else 0) (L : ℕ → ℝ) (n : ℕ)
    (e f g : Fin 512 → EReal) (he : ∀ k, e k = ((L (n + k.val) : ℝ) : EReal)) (hf : ∀ k, f k = 0) (hg : ∀ k, g k = 0) (s : Fin 512) :
    qrt t e f g ((∑ k ∈ Finset.range n, L k : ℝ) : EReal) s = ((∑ k ∈ Finset.range (n + s.val + 1), L k : ℝ) : EReal) := by
  unfold qrt
  have h0 : ∀ y : Fin 512 → EReal, (∀ k, y k = 0) → ∑ k, t (ix2 s k) * y k = 0 :=
    fun y hy => Finset.sum_eq_zero fun k _ => by rw [hy, mul_zero]
  rw [h0 f hf, h0 g hg, add_zero, add_zero,
    show ∑ k, t (ix2 s k) * e k = ((∑ k : Fin 512, if k.val ≤ s.val then L (n + k.val) else 0 : ℝ) : EReal) from by
      rw [coe_sum]
      exact Finset.sum_congr rfl fun k _ => by rw [ht, he]; split_ifs <;> simp,
    ← EReal.coe_add]
  congr 1
  rw [Fin.sum_univ_eq_sum_range (fun k => if k ≤ s.val then L (n + k) else 0) 512, ← Finset.sum_filter,
    show (Finset.range 512).filter (fun k => k ≤ s.val) = Finset.range (s.val + 1) from by
      ext k; have := s.isLt; simp only [Finset.mem_filter, Finset.mem_range]; omega,
    Nat.add_assoc, add_comm]
  exact (Finset.sum_range_add _ _ _).symm

variable (t : Vec Ideal S512x512 .bf16) (a b d e : Vec Ideal S512x8 .f32)

theorem p3 (s : Fin 512) (j : Fin 8) : k0_pay3 t a (ix2 s j)
    = qrt t (fun k => a (ix2 k j)) (fun k => a (ix2 k j) - a (ix2 k j)) (fun k => a (ix2 k j) - a (ix2 k j) - (a (ix2 k j) - a (ix2 k j))) 0 s := by
  unfold k0_pay3 k0_pay2; simp only [pointwise, zero_add]; rfl
theorem p4 (s : Fin 512) (j : Fin 8) : k0_pay4 t a b (ix2 s j)
    = qrt t (fun k => b (ix2 k j)) (fun k => b (ix2 k j) - b (ix2 k j)) (fun k => b (ix2 k j) - b (ix2 k j) - (b (ix2 k j) - b (ix2 k j)))
      (k0_pay3 t a (ix2 511 j)) s := by
  unfold k0_pay4 k0_pay2; simp only [pointwise, zero_add]
  unfold qrt
  exact congrArg (_ + ·) (congrArg (k0_pay3 t a) (funext fun x => by fin_cases x <;> exact Fin.ext (by simp [ix2])))
theorem p5 (j : Fin 8) : k0_pay5 t a b (ix2 0 j) = k0_pay4 t a b (ix2 511 j) := by
  unfold k0_pay5; simp only [pointwise, zero_add]
  exact congrArg (k0_pay4 t a b) (funext fun x => by fin_cases x <;> exact Fin.ext (by simp [ix2]))

theorem p11 (t : FVec Ideal S512x512 .bf16) (b c : FVec Ideal S512x8 .f32) (d : FVec Ideal S1x8 .f32) (e f : FVec Ideal S512x8 .bf16) (g h : FVec Ideal S512x8 .f32) (s : Fin 2048) (j : Fin 8) :
    k0_pay11 t b c d e f g h (ix2 s j) = 0 - (if h1 : s.val < 512 then b (ix2 ⟨s.val, h1⟩ j)
      else if h2 : s.val - 512 < 512 then c (ix2 ⟨s.val - 512, h2⟩ j)
      else if h3 : s.val - 512 - 512 < 512 then qrt t (fun k => e (ix2 k j)) (fun k => f (ix2 k j)) (fun k => g (ix2 k j)) (d (ix2 0 j)) ⟨s.val - 512 - 512, h3⟩
      else qrt t (fun k => h (ix2 k j)) (fun k => h (ix2 k j) - h (ix2 k j)) (fun k => h (ix2 k j) - h (ix2 k j) - (h (ix2 k j) - h (ix2 k j)))
        (qrt t (fun k => e (ix2 k j)) (fun k => f (ix2 k j)) (fun k => g (ix2 k j)) (d (ix2 0 j)) 511)
        ⟨s.val - 512 - 512 - 512, by omega⟩) := by
  unfold k0_pay11
  simp only [pointwise, zero_add]
  unfold qrt
  simp (disch := decide) only [dif_neg, dif_pos, Matrix.cons_val_zero, Matrix.cons_val_one, Nat.zero_add, if_true, Fin.eta]
  rfl

/-- The first `n` log forget values of a head, summed. -/
def cs (L : ℕ → Fin 8 → ℝ) (n : ℕ) (j : Fin 8) : ℝ := ∑ k ∈ Finset.range n, L k j

theorem sub_self' (x : ℝ) : ((x : ℝ) : EReal) - ((x : ℝ) : EReal) = 0 := by rw [← EReal.coe_sub, sub_self]; rfl

section sums
variable {t a b d e} {L : ℕ → Fin 8 → ℝ}
variable (ht : ∀ s k, t (ix2 s k) = if k.val ≤ s.val then 1 else 0)
  (ha : ∀ k j, a (ix2 k j) = ((L k.val j : ℝ) : EReal)) (hb : ∀ k j, b (ix2 k j) = ((L (512 + k.val) j : ℝ) : EReal))
  (hd' : ∀ k j, d (ix2 k j) = ((L (1024 + k.val) j : ℝ) : EReal)) (he : ∀ k j, e (ix2 k j) = ((L (1536 + k.val) j : ℝ) : EReal))

include ht in
theorem q3 {e : Vec Ideal S512x8 .f32} {n : ℕ} (he : ∀ k j, e (ix2 k j) = ((L (n + k.val) j : ℝ) : EReal)) (s : Fin 512) (j : Fin 8) :
    qrt t (fun k => e (ix2 k j)) (fun k => e (ix2 k j) - e (ix2 k j)) (fun k => e (ix2 k j) - e (ix2 k j) - (e (ix2 k j) - e (ix2 k j)))
      ((cs L n j : ℝ) : EReal) s = ((cs L (n + s.val + 1) j : ℝ) : EReal) := by
  refine qrt_eq t ht (fun k => L k j) n _ _ _ (fun k => he k j) (fun k => ?_) (fun k => ?_) s
  · show e (ix2 k j) - e (ix2 k j) = 0
    rw [he, sub_self']
  · show e (ix2 k j) - e (ix2 k j) - (e (ix2 k j) - e (ix2 k j)) = 0
    rw [he, sub_self', sub_zero]

include ht ha in
theorem c3 (s : Fin 512) (j : Fin 8) : k0_pay3 t a (ix2 s j) = ((cs L (s.val + 1) j : ℝ) : EReal) := by
  rw [p3]
  have h0 : (0 : EReal) = ((cs L 0 j : ℝ) : EReal) := by unfold cs; simp
  have h := q3 (L := L) (n := 0) ht (e := a) (fun k j => by rw [ha, Nat.zero_add]) s j
  rw [Nat.zero_add, ← h0] at h
  exact h
include ht ha hb in
theorem c4 (s : Fin 512) (j : Fin 8) : k0_pay4 t a b (ix2 s j) = ((cs L (512 + s.val + 1) j : ℝ) : EReal) := by
  rw [p4, c3 ht ha]; exact q3 (L := L) (n := 512) ht hb s j

include ht ha hb hd' he in
/-- What is stored as the first part: minus the sum up to a position. -/
theorem c11 (s : Fin 2048) (j : Fin 8) :
    k0_pay11 (k0_pay2 t) (k0_pay3 t a) (k0_pay4 t a b) (k0_pay5 t a b) (k0_pay7 d) (k0_pay9 d) (k0_pay10 d) e (ix2 s j)
      = ((-cs L (s.val + 1) j : ℝ) : EReal) := by
  have hs := s.isLt
  have e2 : k0_pay2 (F := Ideal) t = t := funext fun i => by unfold k0_pay2; rw [← ix2_eta i]; simp only [pointwise]
  have e7 : ∀ k j, k0_pay7 (F := Ideal) d (ix2 k j) = d (ix2 k j) := fun k j => by unfold k0_pay7 k0_pay6; simp only [pointwise]
  have e9 : ∀ k j, k0_pay9 (F := Ideal) d (ix2 k j) = d (ix2 k j) - d (ix2 k j) := fun k j => by
    unfold k0_pay9 k0_pay8 k0_pay7 k0_pay6; simp only [pointwise]
  have e10 : ∀ k j, k0_pay10 (F := Ideal) d (ix2 k j) = d (ix2 k j) - d (ix2 k j) - (d (ix2 k j) - d (ix2 k j)) := fun k j => by
    unfold k0_pay10 k0_pay9 k0_pay8 k0_pay7 k0_pay6; simp only [pointwise]
  have q2 : ∀ s : Fin 512, qrt t (fun k => k0_pay7 (F := Ideal) d (ix2 k j)) (fun k => k0_pay9 (F := Ideal) d (ix2 k j))
      (fun k => k0_pay10 (F := Ideal) d (ix2 k j)) (k0_pay5 t a b (ix2 0 j)) s = ((cs L (1024 + s.val + 1) j : ℝ) : EReal) := fun s => by
    simp only [e7, e9, e10]
    rw [p5, c4 ht ha hb]
    exact q3 (L := L) (n := 1024) ht hd' s j
  rw [p11, e2, q2 511, EReal.coe_neg, zero_sub]
  congr 1
  split_ifs with h1 h2 h3
  · exact c3 ht ha _ j
  · rw [c4 ht ha hb]
    exact congrArg (fun n => ((cs L n j : ℝ) : EReal)) (by show 512 + (s.val - 512) + 1 = s.val + 1; omega)
  · rw [q2]
    exact congrArg (fun n => ((cs L n j : ℝ) : EReal)) (by show 1024 + (s.val - 512 - 512) + 1 = s.val + 1; omega)
  · refine (q3 (L := L) (n := 1536) ht he _ j).trans ?_
    exact congrArg (fun n => ((cs L n j : ℝ) : EReal)) (by show 1536 + (s.val - 512 - 512 - 512) + 1 = s.val + 1; omega)

/-- The three parts of the numbers `N`: all of it, nothing, nothing. -/
def Parts (v : Vec Ideal S3x2048x8 .bf16) (N : ℕ → Fin 8 → ℝ) : Prop :=
  ∀ (s : Fin 2048) (j : Fin 8), v (ix3 0 s j) = ((N s.val j : ℝ) : EReal) ∧ v (ix3 1 s j) = 0 ∧ v (ix3 2 s j) = 0

theorem p16 (t : FVec Ideal S512x512 .bf16) (b c : FVec Ideal S512x8 .f32) (d : FVec Ideal S1x8 .f32) (e f : FVec Ideal S512x8 .bf16) (g h : FVec Ideal S512x8 .f32) (s : Fin 2048) (j : Fin 8) :
    k0_pay16 t b c d e f g h (ix3 0 s j) = k0_pay11 t b c d e f g h (ix2 s j) := by
  unfold k0_pay16 k0_pay12; simp only [pointwise]
theorem p17 (t : FVec Ideal S512x512 .bf16) (b c : FVec Ideal S512x8 .f32) (d : FVec Ideal S1x8 .f32) (e f : FVec Ideal S512x8 .bf16) (g h : FVec Ideal S512x8 .f32) (s : Fin 2048) (j : Fin 8) :
    k0_pay17 t b c d e f g h (ix3 0 s j) = k0_pay11 t b c d e f g h (ix2 s j) - k0_pay11 t b c d e f g h (ix2 s j) := by
  unfold k0_pay17 k0_pay14 k0_pay13 k0_pay12; simp only [pointwise]
theorem p38 (t : FVec Ideal S512x512 .bf16) (b c : FVec Ideal S512x8 .f32) (d : FVec Ideal S1x8 .f32) (e f : FVec Ideal S512x8 .bf16) (g h : FVec Ideal S512x8 .f32) (s : Fin 2048) (j : Fin 8) :
    k0_pay38 (k0_pay15 t b c d e f g h) (ix3 0 s j) = k0_pay11 t b c d e f g h (ix2 s j) - k0_pay11 t b c d e f g h (ix2 s j)
      - (k0_pay11 t b c d e f g h (ix2 s j) - k0_pay11 t b c d e f g h (ix2 s j)) := by
  unfold k0_pay38 k0_pay15 k0_pay14 k0_pay13 k0_pay12; simp only [pointwise]

theorem z2 (inb) (w) (L : List (View.Piece (Elt Ideal) S3x2048x8 .bf16)) (s : Fin 2048) (j : Fin 8) :
    View.canon ((⟨Rect.unit ![2, 0, 0] S1x2048x8.size inb, w⟩ : View.Piece (Elt Ideal) S3x2048x8 .bf16) :: L) (ix3 2 s j) = w (ix3 0 s j) :=
  Cert.FoxRun.canon_in inb w L _ _ fun a => by fin_cases a <;> simp [ix3]
theorem z2_1 (inb) (w) (L : List (View.Piece (Elt Ideal) S3x2048x8 .bf16)) (s : Fin 2048) (j : Fin 8) :
    View.canon ((⟨Rect.unit ![2, 0, 0] S1x2048x8.size inb, w⟩ : View.Piece (Elt Ideal) S3x2048x8 .bf16) :: L) (ix3 1 s j) = View.canon L (ix3 1 s j) :=
  Cert.FoxRun.canon_out inb w L _ 0 (Or.inl (show 1 < 2 by omega))
theorem z2_0 (inb) (w) (L : List (View.Piece (Elt Ideal) S3x2048x8 .bf16)) (s : Fin 2048) (j : Fin 8) :
    View.canon ((⟨Rect.unit ![2, 0, 0] S1x2048x8.size inb, w⟩ : View.Piece (Elt Ideal) S3x2048x8 .bf16) :: L) (ix3 0 s j) = View.canon L (ix3 0 s j) :=
  Cert.FoxRun.canon_out inb w L _ 0 (Or.inl (show 0 < 2 by omega))
theorem z1 (inb) (w) (L : List (View.Piece (Elt Ideal) S3x2048x8 .bf16)) (s : Fin 2048) (j : Fin 8) :
    View.canon ((⟨Rect.unit ![1, 0, 0] S1x2048x8.size inb, w⟩ : View.Piece (Elt Ideal) S3x2048x8 .bf16) :: L) (ix3 1 s j) = w (ix3 0 s j) :=
  Cert.FoxRun.canon_in inb w L _ _ fun a => by fin_cases a <;> simp [ix3]
theorem z1_0 (inb) (w) (L : List (View.Piece (Elt Ideal) S3x2048x8 .bf16)) (s : Fin 2048) (j : Fin 8) :
    View.canon ((⟨Rect.unit ![1, 0, 0] S1x2048x8.size inb, w⟩ : View.Piece (Elt Ideal) S3x2048x8 .bf16) :: L) (ix3 0 s j) = View.canon L (ix3 0 s j) :=
  Cert.FoxRun.canon_out inb w L _ 0 (Or.inl (show 0 < 1 by omega))
theorem z0 (inb) (w) (L : List (View.Piece (Elt Ideal) S3x2048x8 .bf16)) (s : Fin 2048) (j : Fin 8) :
    View.canon ((⟨Rect.unit ![0, 0, 0] S1x2048x8.size inb, w⟩ : View.Piece (Elt Ideal) S3x2048x8 .bf16) :: L) (ix3 0 s j) = w (ix3 0 s j) :=
  Cert.FoxRun.canon_in inb w L _ _ fun a => by fin_cases a <;> simp [ix3]
theorem y1 (inb) (w) (L : List (View.Piece (Elt Ideal) S2x2048x128 .bf16)) (s : Fin 2048) (l : Fin 128) :
    View.canon ((⟨Rect.unit ![1, 0, 0] S1x2048x128.size inb, w⟩ : View.Piece (Elt Ideal) S2x2048x128 .bf16) :: L) (ix3 1 s l) = w (ix3 0 s l) :=
  Cert.FoxRun.canon_in inb w L _ _ fun a => by fin_cases a <;> simp [ix3]
theorem y1_0 (inb) (w) (L : List (View.Piece (Elt Ideal) S2x2048x128 .bf16)) (s : Fin 2048) (l : Fin 128) :
    View.canon ((⟨Rect.unit ![1, 0, 0] S1x2048x128.size inb, w⟩ : View.Piece (Elt Ideal) S2x2048x128 .bf16) :: L) (ix3 0 s l) = View.canon L (ix3 0 s l) :=
  Cert.FoxRun.canon_out inb w L _ 0 (Or.inl (show 0 < 1 by omega))
theorem y0 (inb) (w) (L : List (View.Piece (Elt Ideal) S2x2048x128 .bf16)) (s : Fin 2048) (l : Fin 128) :
    View.canon ((⟨Rect.unit ![0, 0, 0] S1x2048x128.size inb, w⟩ : View.Piece (Elt Ideal) S2x2048x128 .bf16) :: L) (ix3 0 s l) = w (ix3 0 s l) :=
  Cert.FoxRun.canon_in inb w L _ _ fun a => by fin_cases a <;> simp [ix3]

include ht ha hb hd' he in
theorem split_parts : Parts (View.canon (split t a b d e)) (fun s j => -cs L (s + 1) j) := by
  intro s j
  have h := c11 ht ha hb hd' he s j
  refine ⟨?_, ?_, ?_⟩
  · exact (z2_0 _ _ _ s j).trans ((z1_0 _ _ _ s j).trans ((z0 _ _ _ s j).trans ((p16 _ _ _ _ _ _ _ _ s j).trans h)))
  · refine (z2_1 _ _ _ s j).trans ((z1 _ _ _ s j).trans ((p17 _ _ _ _ _ _ _ _ s j).trans ?_))
    rw [h, sub_self']
  · refine (z2 _ _ _ s j).trans ((p38 _ _ _ _ _ _ _ _ s j).trans ?_)
    rw [h, sub_self', sub_zero]
end sums

/-! ## The scores -/

/-- The keys of both heads, with the numbers `N` of their heads in lane `64`. -/
def Keys (hp : Fin 4) (x1 : Vec Ideal S1x1x2x2048x128 .bf16) (N : ℕ → Fin 8 → ℝ) (v : Vec Ideal S2x2048x128 .bf16) : Prop :=
  ∀ (h : Fin 2) (s : Fin 2048) (l : Fin 128), v (ix3 h s l) = x1 (ix5 0 0 h s l) + if l.val = 64 then ((N s.val (hd hp h) : ℝ) : EReal) else 0

theorem keys_of (hp : Fin 4) {N : ℕ → Fin 8 → ℝ} (x1 : Vec Ideal S1x1x2x2048x128 .bf16) (l0 l1 l2 : Vec Ideal S1x2048x8 .bf16)
    (k0 k1 : Vec Ideal S1x1x1x2048x128 .bf16) (h0 : ∀ s j, l0 (ix3 0 s j) = ((N s.val j : ℝ) : EReal)) (h1 : ∀ s j, l1 (ix3 0 s j) = 0)
    (h2 : ∀ s j, l2 (ix3 0 s j) = 0) (hk0 : ∀ s l, k0 (ix5 0 0 0 s l) = x1 (ix5 0 0 0 s l)) (hk1 : ∀ s l, k1 (ix5 0 0 0 s l) = x1 (ix5 0 0 1 s l)) :
    Keys hp x1 N (View.canon (stores (aug0 (BitVec.ofNat 32 hp.val) l0 l1 l2 k0) (aug1 (BitVec.ofNat 32 hp.val) l0 l1 l2 k1))) := by
  intro h s l
  rcases (by decide : ∀ h : Fin 2, h = 0 ∨ h = 1) h with rfl | rfl
  · refine (y1_0 _ _ _ s l).trans ((y0 _ _ _ s l).trans ((aug0_eq l0 l1 l2 k0 hp h1 h2 s l).trans ?_))
    rw [hk0, h0]
  · refine (y1 _ _ _ s l).trans ((aug1_eq l0 l1 l2 k1 hp h1 h2 s l).trans ?_)
    rw [hk1, h0]

/-- A query's product with a key, and the key's own number. -/
def score (Q : Fin 64 → ℝ) (K : ℕ → Fin 64 → ℝ) (N : ℕ → ℝ) (s : ℕ) : ℝ := ∑ d, K s d * Q d + N s

theorem scores (hp : Fin 4) {x1 : Vec Ideal S1x1x2x2048x128 .bf16} {N : ℕ → Fin 8 → ℝ} {v : Vec Ideal S2x2048x128 .bf16} (hv : Keys hp x1 N v)
    (h : Fin 2) {K : ℕ → Fin 64 → ℝ} (hK : ∀ s d, x1 (ix5 0 0 h s ⟨d.val, by omega⟩) = ((K s.val d : ℝ) : EReal))
    (hZ : ∀ s (l : Fin 128), 64 ≤ l.val → x1 (ix5 0 0 h s l) = 0)
    {x : Vec Ideal S1x1x1x64x1024 .bf16} {Q : Fin 1024 → Fin 64 → ℝ} (hQ : ∀ d r, x (ix5 0 0 0 d r) = ((Q r d : ℝ) : EReal))
    (r : Fin 1024) (s : Fin 2048) :
    ∑ l, v (ix3 h s l) * k0_pay42 x (ix2 l r) = ((score (Q r) K (fun s => N s (hd hp h)) s.val : ℝ) : EReal) := by
  unfold score
  rw [EReal.coe_add, coe_sum]
  refine (Fin.sum_univ_add (a := 64) (b := 64) (fun l => v (ix3 h s l) * k0_pay42 x (ix2 l r))).trans (congrArg₂ (· + ·) ?_ ?_)
  · refine Finset.sum_congr rfl fun d _ => ?_
    have hd : (Fin.castAdd 64 d).val < 64 := d.isLt
    rw [hv, p42, dif_pos hd, if_neg (by omega), add_zero, EReal.coe_mul]
    exact congrArg₂ (· * ·) (hK s d) (hQ d r)
  · have hl : ∀ d : Fin 64, (Fin.natAdd 64 d).val = 64 + d.val := fun d => rfl
    rw [Finset.sum_eq_single (0 : Fin 64)]
    · rw [hv, p42, hZ s _ (by rw [hl]; omega), zero_add]
      simp only [hl]
      exact (congrArg₂ (· * ·) (if_pos rfl) ((dif_neg (by decide)).trans (if_pos (by decide)))).trans (mul_one _)
    · intro d _ hd
      have hd' : d.val ≠ 0 := fun e => hd (Fin.ext e)
      rw [hv, hZ s _ (by rw [hl]; omega), zero_add, if_neg (by rw [hl]; omega), zero_mul]
    · exact fun e => absurd (Finset.mem_univ _) e

end Cert.FoxAug

end
-- ==== Proof.FoxPoint.lean ====
module

public import proofs.«01_k».proof.Proof.FoxAug
public import Idealize.ShloMosaic.Lib.Pipeline.ValueKit
public import proofs.«01_k».proof.Proof.Gen.KernelIdeal.Value

@[expose] public section

set_option maxRecDepth 16384

noncomputable section

namespace Cert.FoxPoint

open Cert.FoxMath Cert.FoxPay Cert.FoxRun Cert.FoxLoop Cert.FoxTail Cert.FoxCase Cert.FoxAug
open Cert.KernelIdeal Cert.KernelIdeal.Gen Idealize.ShloMosaic Idealize.ShloMosaic.TcCoe Idealize.SL.Sem

/-- The real numbers a point's blocks hold: queries, keys, values with their row of ones. -/
structure Data (x0 : Vec Ideal S1x1x2x64x1024 .bf16) (x1 : Vec Ideal S1x1x2x2048x128 .bf16) (x2 : Vec Ideal S1x1x2x80x2048 .bf16)
    (Q : Fin 2 → Fin 1024 → Fin 64 → ℝ) (K : Fin 2 → ℕ → Fin 64 → ℝ) (V : Fin 2 → Fin 80 → ℕ → ℝ) : Prop where
  q : ∀ h d r, x0 (ix5 0 0 h d r) = ((Q h r d : ℝ) : EReal)
  k : ∀ h (s : Fin 2048) (d : Fin 64), x1 (ix5 0 0 h s ⟨d.val, by omega⟩) = ((K h s.val d : ℝ) : EReal)
  z : ∀ h s (l : Fin 128), 64 ≤ l.val → x1 (ix5 0 0 h s l) = 0
  v : ∀ h d (s : Fin 2048), x2 (ix5 0 0 h d s) = ((V h d s.val : ℝ) : EReal)
  one : ∀ h s, s < 2048 → V h 64 s = 1

/-- A result entry of a point: attention over the keys up to the query. -/
def cell (Q : Fin 2 → Fin 1024 → Fin 64 → ℝ) (K : Fin 2 → ℕ → Fin 64 → ℝ) (V : Fin 2 → Fin 80 → ℕ → ℝ) (N : ℕ → Fin 8 → ℝ) (hp : Fin 4)
    (qt : ℕ) (r : Fin 1024) (h : Fin 2) (d : Fin 64) : EReal :=
  ((att (score (Q h r) (K h) (fun s => N s (hd hp h))) (V h (at_ d)) (1024 * qt + r.val) : ℝ) : EReal)

/-- The two halves of a block's lanes, -/
def lane (h : Fin 2) (d : Fin 64) : Fin 128 := ⟨64 * h.val + d.val, by omega⟩

/-- what a block ought to hold. -/
def Holds (Q : Fin 2 → Fin 1024 → Fin 64 → ℝ) (K : Fin 2 → ℕ → Fin 64 → ℝ) (V : Fin 2 → Fin 80 → ℕ → ℝ) (N : ℕ → Fin 8 → ℝ) (hp : Fin 4)
    (qt : ℕ) (b : Vec Ideal S1x1024x128 .bf16) : Prop :=
  ∀ r h d, b (ix3 0 r (lane h d)) = cell Q K V N hp qt r h d

theorem p1 (v : FVec Ideal S1024x128 .bf16) (r : Fin 1024) (l : Fin 128) : k0_pay1 v (ix3 0 r l) = v (ix2 r l) := by
  unfold k0_pay1; simp only [pointwise]

variable (c : Dev nD) (i : grid0.Coords) (arg3 : Memref sig .tc .vmem S1x1x2x64x1024 .bf16) (harg3 : arg3.IsWhole) (arg4 : Memref sig .tc .vmem S1x1x2x2048x128 .bf16) (harg4 : arg4.IsWhole) (arg5 : Memref sig .tc .vmem S1x1x2x80x2048 .bf16) (harg5 : arg5.IsWhole) (arg6 : Memref sig .tc .vmem S2048x8 .f32) (harg6 : arg6.IsWhole) (arg7 : Memref sig .tc .vmem S512x512 .bf16) (harg7 : arg7.IsWhole) (arg8 : Memref sig .tc .vmem S1x1024x128 .bf16) (harg8 : arg8.IsWhole)
  (arg9 : Memref sig .tc .vmem S3x2048x8 .bf16) (harg9 : arg9.IsWhole) (arg10 : Memref sig .tc .vmem S2x2048x128 .bf16) (harg10 : arg10.IsWhole) (arg11 : Memref sig .tc .vmem S2x1x1024 .f32) (harg11 : arg11.IsWhole) (arg12 : Memref sig .tc .vmem S2x80x1024 .f32) (harg12 : arg12.IsWhole)

variable {x0 : Vec Ideal S1x1x2x64x1024 .bf16} {x1 : Vec Ideal S1x1x2x2048x128 .bf16} {x2 : Vec Ideal S1x1x2x80x2048 .bf16} {x3 : Vec Ideal S2048x8 .f32} {x4 : Vec Ideal S512x512 .bf16} {xs0 : Vec Ideal S3x2048x8 .bf16} {xs1 : Vec Ideal S2x2048x128 .bf16}

variable {Q : Fin 2 → Fin 1024 → Fin 64 → ℝ} {K : Fin 2 → ℕ → Fin 64 → ℝ} {V : Fin 2 → Fin 80 → ℕ → ℝ} {N : ℕ → Fin 8 → ℝ} {hp : Fin 4}

theorem rd3 (h : Fin 2) (off : Fin 5 → ℕ) (inb : ∀ a, off a + S1x1x1x64x1024.size a ≤ S1x1x2x64x1024.size a) (ho : off = ![0, 0, h.val, 0, 0]) (d : Fin 64) (r : Fin 1024) :
    arg3.view.readAt (Elt Ideal) (Rect.unit (s := S1x1x2x64x1024) off S1x1x1x64x1024.size inb).toLoadRect (harg3.unread x0) (ix5 0 0 0 d r) = x0 (ix5 0 0 h d r) := by
  subst ho
  exact (congrFun (harg3.read_unread x0) _).trans (congrArg x0 (funext fun a => by fin_cases a <;> exact Fin.ext (by simp [ix5])))
theorem rd4 (h : Fin 2) (off : Fin 5 → ℕ) (inb : ∀ a, off a + S1x1x1x2048x128.size a ≤ S1x1x2x2048x128.size a) (ho : off = ![0, 0, h.val, 0, 0]) (s : Fin 2048) (l : Fin 128) :
    key arg4 harg4 x1 off inb (ix5 0 0 0 s l) = x1 (ix5 0 0 h s l) := by
  subst ho
  unfold key
  exact (congrFun (harg4.read_unread x1) _).trans (congrArg x1 (funext fun a => by fin_cases a <;> exact Fin.ext (by simp [ix5])))
theorem rd6 (n : ℕ) (off : Fin 2 → ℕ) (inb : ∀ a, off a + S512x8.size a ≤ S2048x8.size a) (ho : off = ![n, 0]) (k : Fin 512) (j : Fin 8) (hn : n + k.val < 2048) :
    lf arg6 harg6 x3 off inb (ix2 k j) = x3 (ix2 ⟨n + k.val, hn⟩ j) := by
  subst ho
  unfold lf
  exact (congrFun (harg6.read_unread x3) _).trans (congrArg x3 (funext fun a => by fin_cases a <;> exact Fin.ext (by simp [ix2])))
theorem rd7 (s k : Fin 512) : tri arg7 harg7 x4 (ix2 s k) = x4 (ix2 s k) := by
  unfold tri
  exact (congrFun (harg7.read_unread x4) _).trans (congrArg x4 (funext fun a => by fin_cases a <;> exact Fin.ext (by simp [ix2])))
theorem rd9 (p : Fin 3) (off : Fin 3 → ℕ) (inb : ∀ a, off a + S1x2048x8.size a ≤ S3x2048x8.size a) (ho : off = ![p.val, 0, 0]) (s : Fin 2048) (j : Fin 8) :
    part arg9 harg9 xs0 off inb (ix3 0 s j) = xs0 (ix3 p s j) := by
  subst ho
  unfold part
  exact (congrFun (harg9.read_unread xs0) _).trans (congrArg xs0 (funext fun a => by fin_cases a <;> exact Fin.ext (by simp [ix3])))
theorem rd9c (L : List (View.Piece (Elt Ideal) S3x2048x8 .bf16)) (p : Fin 3) (off : Fin 3 → ℕ) (inb : ∀ a, off a + S1x2048x8.size a ≤ S3x2048x8.size a) (ho : off = ![p.val, 0, 0]) (s : Fin 2048) (j : Fin 8) :
    partc arg9 L off inb (ix3 0 s j) = View.canon L (ix3 p s j) := by
  subst ho
  unfold partc
  rw [View.readCov_eq_canon']
  exact congrArg (View.canon L) (funext fun a => by fin_cases a <;> exact Fin.ext (by simp [ix3]))

/-- The block a point writes, from what its key scratch holds. -/
theorem done_eq (D : Data x0 x1 x2 Q K V) (X10 : BufTy.Contents (Elt Ideal) arg10.view.ty) (hk : Keys hp x1 N (arg10.view.read (Elt Ideal) X10))
    (u : BitVec 32) : Holds Q K V N hp (i 2).val (k0_pay1 (done c i arg3 harg3 arg4 harg4 arg5 harg5 arg6 harg6 arg7 harg7 arg8 harg8 arg9 harg9 arg10 harg10 arg11 harg11 arg12 harg12 x0 x2 X10 u)) := by
  have hS : ∀ h (off : Fin 5 → ℕ) (inb) (ho : off = ![0, 0, h.val, 0, 0]), ScoresAre arg10 X10 h (k0_pay42 (arg3.view.readAt (Elt Ideal) (Rect.unit (s := S1x1x2x64x1024) off S1x1x1x64x1024.size inb).toLoadRect (harg3.unread x0)))
      (fun r => score (Q h r) (K h) (fun s => N s (hd hp h))) := fun h off inb ho r s =>
    scores hp hk h (D.k h) (D.z h) (fun d r => (rd3 arg3 harg3 h off inb ho d r).trans (D.q h d r)) r s
  have hV : ∀ h, ValuesAre arg5 (harg5.unread x2) h (V h) := fun h d s => by rw [harg5.read_unread]; exact D.v h d s
  intro r h d
  rw [p1]
  unfold done
  dsimp only
  rw [V2_eq]
  have g := loop c i arg3 harg3 arg4 harg4 arg5 harg5 arg6 harg6 arg7 harg7 arg8 harg8 arg9 harg9 arg10 harg10 arg11 harg11 arg12 harg12 (w i) k0_pay45 (hS 0 _ inb_S1x1x2x64x1024_S1x1x1x64x1024_0_0_0_0_0 rfl) (hS 1 _ inb_S1x1x2x64x1024_S1x1x1x64x1024_0_0_1_0_0 rfl) (hV 0) (hV 1) r
    (k0_t1_loop i).trips le_rfl
  rw [show 512 * (k0_t1_loop i).trips = 1024 * (i 2).val from by rw [trips1]; omega] at g
  have e := block_eq (arg11 := arg11) (arg12 := arg12) (w := w i) (hS 0 _ inb_S1x1x2x64x1024_S1x1x1x64x1024_0_0_0_0_0 rfl) (hS 1 _ inb_S1x1x2x64x1024_S1x1x1x64x1024_0_0_1_0_0 rfl) (hV 0) (hV 1) (D.one 0) (D.one 1) r g.1 g.2 d
  rcases (by decide : ∀ h : Fin 2, h = 0 ∨ h = 1) h with rfl | rfl
  · refine Eq.trans (congrArg _ ?_) e.1
    exact congrArg (ix2 r) (Fin.ext (by show 64 * 0 + d.val = d.val; omega))
  · refine Eq.trans (congrArg _ ?_) e.2
    exact congrArg (ix2 r) (Fin.ext (by show 64 * 1 + d.val = 64 + d.val; omega))

/-! ## What a point leaves, by its case -/

theorem canon_whole (v : Vec Ideal S1x1024x128 .bf16) (inb : ∀ a, ![0, 0, 0] a + S1x1024x128.size a ≤ S1x1024x128.size a) :
    View.canon ([⟨Rect.unit (s := S1x1024x128) ![0, 0, 0] S1x1024x128.size inb, v⟩] : List (View.Piece (Elt Ideal) S1x1024x128 .bf16)) = v :=
  View.canon_unit_zero (funext fun a => by fin_cases a <;> rfl) _ _

theorem tri_parts (L : ℕ → Fin 8 → ℝ) (h3 : ∀ (s : Fin 2048) j, x3 (ix2 s j) = ((L s.val j : ℝ) : EReal))
    (h4 : ∀ s k : Fin 512, x4 (ix2 s k) = if k.val ≤ s.val then 1 else 0) :
    Parts (View.canon (HS0 c arg6 harg6 arg7 harg7 x3 x4)) (fun s j => -cs L (s + 1) j) := by
  unfold HS0
  rw [HS0_A]
  refine split_parts (L := L) (fun s k => (rd7 arg7 harg7 s k).trans (h4 s k)) ?_ ?_ ?_ ?_
  · exact fun k j => (rd6 arg6 harg6 0 _ _ rfl k j (by omega)).trans ((h3 _ j).trans (congrArg (fun n => ((L n j : ℝ) : EReal)) (Nat.zero_add _)))
  · exact fun k j => (rd6 arg6 harg6 512 _ _ rfl k j (by omega)).trans (h3 _ j)
  · exact fun k j => (rd6 arg6 harg6 1024 _ _ rfl k j (by omega)).trans (h3 _ j)
  · exact fun k j => (rd6 arg6 harg6 1536 _ _ rfl k j (by omega)).trans (h3 _ j)

theorem keys_C (hi : (i 1).val = hp.val) (hp0 : Parts xs0 N) :
    Keys hp x1 N (View.canon (kernelRun0_C.sl.HS1_2 (F := Ideal) c i arg4 harg4 arg9 harg9 x1 xs0)) := by
  rw [HS1_C]
  unfold hpw
  rw [hi]
  exact keys_of hp x1 _ _ _ _ _ (fun s j => (rd9 arg9 harg9 0 _ _ rfl s j).trans (hp0 s j).1) (fun s j => (rd9 arg9 harg9 1 _ _ rfl s j).trans (hp0 s j).2.1)
    (fun s j => (rd9 arg9 harg9 2 _ _ rfl s j).trans (hp0 s j).2.2) (fun s l => rd4 arg4 harg4 0 _ _ rfl s l) (fun s l => rd4 arg4 harg4 1 _ _ rfl s l)

theorem keys_A (hi : (i 1).val = hp.val) (hp0 : Parts (View.canon (HS0 c arg6 harg6 arg7 harg7 x3 x4)) N) :
    Keys hp x1 N (View.canon (kernelRun0_A.sl.HS1_2 (F := Ideal) c i arg4 harg4 arg6 harg6 arg7 harg7 arg9 x1 x3 x4)) := by
  rw [HS1_A]
  unfold hpw
  rw [hi]
  exact keys_of hp x1 _ _ _ _ _ (fun s j => (rd9c arg9 _ 0 _ _ rfl s j).trans (hp0 s j).1) (fun s j => (rd9c arg9 _ 1 _ _ rfl s j).trans (hp0 s j).2.1)
    (fun s j => (rd9c arg9 _ 2 _ _ rfl s j).trans (hp0 s j).2.2) (fun s l => rd4 arg4 harg4 0 _ _ rfl s l) (fun s l => rd4 arg4 harg4 1 _ _ rfl s l)

section caseA
variable (hc0 : cond0_0 i) (hc1 : cond0_1 i)
theorem A_parts (L : ℕ → Fin 8 → ℝ) (h3 : ∀ (s : Fin 2048) j, x3 (ix2 s j) = ((L s.val j : ℝ) : EReal))
    (h4 : ∀ s k : Fin 512, x4 (ix2 s k) = if k.val ≤ s.val then 1 else 0) :
    Parts (sout0_A_0 (F := Ideal) c i arg3 harg3 arg4 harg4 arg5 harg5 arg6 harg6 arg7 harg7 arg8 harg8 arg9 harg9 arg10 harg10 arg11 harg11 arg12 harg12 hc0 hc1 x0 x1 x2 x3 x4) (fun s j => -cs L (s + 1) j) := by
  unfold sout0_A_0
  rw [View.read_writes_junk_eq_canon]
  exact tri_parts c arg6 harg6 arg7 harg7 L h3 h4
theorem A_keys (hi : (i 1).val = hp.val) (L : ℕ → Fin 8 → ℝ) (h3 : ∀ (s : Fin 2048) j, x3 (ix2 s j) = ((L s.val j : ℝ) : EReal))
    (h4 : ∀ s k : Fin 512, x4 (ix2 s k) = if k.val ≤ s.val then 1 else 0) :
    Keys hp x1 (fun s j => -cs L (s + 1) j) (sout0_A_1 (F := Ideal) c i arg3 harg3 arg4 harg4 arg5 harg5 arg6 harg6 arg7 harg7 arg8 harg8 arg9 harg9 arg10 harg10 arg11 harg11 arg12 harg12 hc0 hc1 x0 x1 x2 x3 x4) := by
  unfold sout0_A_1
  rw [View.read_writes_junk_eq_canon]
  exact keys_A c i arg4 harg4 arg6 harg6 arg7 harg7 arg9 hi (tri_parts c arg6 harg6 arg7 harg7 L h3 h4)
theorem A_out (D : Data x0 x1 x2 Q K V) (hi : (i 1).val = hp.val) (L : ℕ → Fin 8 → ℝ) (h3 : ∀ (s : Fin 2048) j, x3 (ix2 s j) = ((L s.val j : ℝ) : EReal))
    (h4 : ∀ s k : Fin 512, x4 (ix2 s k) = if k.val ≤ s.val then 1 else 0) :
    Holds Q K V (fun s j => -cs L (s + 1) j) hp (i 2).val (out0_A_5 (F := Ideal) c i arg3 harg3 arg4 harg4 arg5 harg5 arg6 harg6 arg7 harg7 arg8 harg8 arg9 harg9 arg10 harg10 arg11 harg11 arg12 harg12 hc0 hc1 x0 x1 x2 x3 x4) := by
  unfold out0_A_5
  rw [View.read_writes_junk_eq_canon]
  have e := canon_whole (k0_pay1 (kernelRun0_A.sl.r_14 (F := Ideal) c i arg3 harg3 arg4 harg4 arg5 harg5 arg6 harg6 arg7 harg7 arg8 harg8 arg9 harg9 arg10 harg10 arg11 harg11 arg12 harg12 x0 x1 x2 x3 x4)) (fun a => by fin_cases a <;> decide)
  refine Eq.mp (congrArg (Holds Q K V _ hp (i 2).val) e.symm) ?_
  rw [r14_A]
  refine done_eq c i arg3 harg3 arg4 harg4 arg5 harg5 arg6 harg6 arg7 harg7 arg8 harg8 arg9 harg9 arg10 harg10 arg11 harg11 arg12 harg12 D _ ?_ _
  rw [View.read_writes_junk_eq_canon]
  exact keys_A c i arg4 harg4 arg6 harg6 arg7 harg7 arg9 hi (tri_parts c arg6 harg6 arg7 harg7 L h3 h4)
end caseA

section caseC
variable (hc0 : ¬cond0_0 i) (hc1 : cond0_1 i)
theorem C_keys (hi : (i 1).val = hp.val) (h : Parts xs0 N) :
    Keys hp x1 N (sout0_C_1 (F := Ideal) c i arg3 harg3 arg4 harg4 arg5 harg5 arg6 harg6 arg7 harg7 arg8 harg8 arg9 harg9 arg10 harg10 arg11 harg11 arg12 harg12 hc0 hc1 x0 x1 x2 x3 x4 xs0) := by
  unfold sout0_C_1
  rw [View.read_writes_junk_eq_canon]
  exact keys_C c i arg4 harg4 arg9 harg9 hi h
theorem C_out (D : Data x0 x1 x2 Q K V) (hi : (i 1).val = hp.val) (h : Parts xs0 N) :
    Holds Q K V N hp (i 2).val (out0_C_5 (F := Ideal) c i arg3 harg3 arg4 harg4 arg5 harg5 arg6 harg6 arg7 harg7 arg8 harg8 arg9 harg9 arg10 harg10 arg11 harg11 arg12 harg12 hc0 hc1 x0 x1 x2 x3 x4 xs0) := by
  unfold out0_C_5
  rw [View.read_writes_junk_eq_canon]
  have e := canon_whole (k0_pay1 (kernelRun0_C.sl.r_14 (F := Ideal) c i arg3 harg3 arg4 harg4 arg5 harg5 arg6 harg6 arg7 harg7 arg8 harg8 arg9 harg9 arg10 harg10 arg11 harg11 arg12 harg12 x0 x1 x2 xs0)) (fun a => by fin_cases a <;> decide)
  refine Eq.mp (congrArg (Holds Q K V _ hp (i 2).val) e.symm) ?_
  rw [r14_C]
  refine done_eq c i arg3 harg3 arg4 harg4 arg5 harg5 arg6 harg6 arg7 harg7 arg8 harg8 arg9 harg9 arg10 harg10 arg11 harg11 arg12 harg12 D _ ?_ _
  rw [View.read_writes_junk_eq_canon]
  exact keys_C c i arg4 harg4 arg9 harg9 hi h
end caseC

section caseB
variable (hc0 : ¬cond0_0 i) (hc1 : ¬cond0_1 i)
theorem B_out (D : Data x0 x1 x2 Q K V) (h : Keys hp x1 N xs1) :
    Holds Q K V N hp (i 2).val (out0_B_5 (F := Ideal) c i arg3 harg3 arg4 harg4 arg5 harg5 arg6 harg6 arg7 harg7 arg8 harg8 arg9 harg9 arg10 harg10 arg11 harg11 arg12 harg12 hc0 hc1 x0 x1 x2 x3 x4 xs0 xs1) := by
  unfold out0_B_5
  rw [View.read_writes_junk_eq_canon]
  have e := canon_whole (k0_pay1 (kernelRun0_B.sl.r_14 (F := Ideal) c i arg3 harg3 arg4 harg4 arg5 harg5 arg6 harg6 arg7 harg7 arg8 harg8 arg9 harg9 arg10 harg10 arg11 harg11 arg12 harg12 x0 x2 xs1)) (fun a => by fin_cases a <;> decide)
  refine Eq.mp (congrArg (Holds Q K V _ hp (i 2).val) e.symm) ?_
  rw [r14_B]
  refine done_eq c i arg3 harg3 arg4 harg4 arg5 harg5 arg6 harg6 arg7 harg7 arg8 harg8 arg9 harg9 arg10 harg10 arg11 harg11 arg12 harg12 D _ ?_ _
  rw [harg10.read_unread]
  exact h
end caseB

end Cert.FoxPoint

end
-- ==== Proof.FoxReal.lean ====
module

public import proofs.«01_k».proof.Proof.FoxMath
public import proofs.«01_k».proof.Proof.FoxAug
public import Idealize.ShloMosaic.Lib.Pipeline.ValueKit

@[expose] public section

set_option maxRecDepth 16384

noncomputable section

namespace Cert.FoxReal

open Cert.FoxMath
open Cert.FoxAug (cs)
open Idealize.ShloMosaic Idealize.ShloMosaic.TcCoe Idealize.SL.Sem

/-- The factor of the scores, a real number. -/
def eighth : ℝ := (Ideal.ofBits .f32 0x3E000000#32 : EReal).toReal

theorem eighth_eq : Ideal.ofBits .f32 0x3E000000#32 = ((eighth : ℝ) : EReal) := by
  unfold eighth
  rw [show Ideal.ofBits .f32 0x3E000000#32 = (((1 : ℝ) / 8 : ℝ) : EReal) by simp [Ideal.ofBits, Ideal.ieee, -EReal.coe_mul]; norm_num]
  exact congrArg _ (EReal.toReal_coe _).symm

/-- Queries, keys, values and log forget values that are real numbers; heads before positions. -/
structure Reals (x0 x1 x2 : (⟨4, ![16, 2048, 8, 64]⟩ : Shape).Idx → EReal) (x3 : (⟨3, ![16, 2048, 8]⟩ : Shape).Idx → EReal)
    (q k v : Fin 16 → Fin 8 → ℕ → Fin 64 → ℝ) (l : Fin 16 → ℕ → Fin 8 → ℝ) : Prop where
  q : ∀ (b : Fin 16) (s : Fin 2048) (n : Fin 8) (d : Fin 64), x0 (ix4 b s n d) = ((q b n s.val d : ℝ) : EReal)
  k : ∀ (b : Fin 16) (s : Fin 2048) (n : Fin 8) (d : Fin 64), x1 (ix4 b s n d) = ((k b n s.val d : ℝ) : EReal)
  v : ∀ (b : Fin 16) (s : Fin 2048) (n : Fin 8) (d : Fin 64), x2 (ix4 b s n d) = ((v b n s.val d : ℝ) : EReal)
  l : ∀ (b : Fin 16) (s : Fin 2048) (n : Fin 8), x3 (ix3 b s n) = ((l b s.val n : ℝ) : EReal)

/-- An entry of the result: attention over the keys up to the query, each score lessened by the key's summed log forget values. -/
def cell (q k v : Fin 16 → Fin 8 → ℕ → Fin 64 → ℝ) (l : Fin 16 → ℕ → Fin 8 → ℝ) (b : Fin 16) (t : ℕ) (n : Fin 8) (d : Fin 64) : ℝ :=
  att (fun s => ∑ e, k b n s e * (q b n t e * eighth) + -cs (l b) (s + 1) n) (fun s => v b n s d) t

/-- The result, heads side by side. -/
def out (q k v : Fin 16 → Fin 8 → ℕ → Fin 64 → ℝ) (l : Fin 16 → ℕ → Fin 8 → ℝ) : (⟨3, ![16, 2048, 512]⟩ : Shape).Idx → EReal :=
  fun i => ((cell q k v l (i 0) (i 1).val ⟨(i 2).val / 64, Nat.div_lt_of_lt_mul (i 2).isLt⟩ ⟨(i 2).val % 64, Nat.mod_lt _ (by omega)⟩ : ℝ) : EReal)

end Cert.FoxReal

end
-- ==== Proof.FoxVal.lean ====
module

public import proofs.«01_k».proof.Proof.FoxPoint
public import proofs.«01_k».proof.Proof.FoxReal
public import proofs.«01_k».proof.Proof.Gen.KernelIdeal.Value
public import proofs.«01_k».proof.Defs
public import Idealize.ShloMosaic.Lib.Pipeline.ValueKit
public import Idealize.ShloMosaic.Lib.StableHlo.RunRead

@[expose] public section

set_option maxRecDepth 16384

noncomputable section

namespace Cert.FoxVal

open Cert.FoxMath Cert.FoxPay Cert.FoxTail Cert.FoxAug Cert.FoxPoint
open Cert.FoxReal (Reals eighth eighth_eq)
open Cert.KernelIdeal Cert.KernelIdeal.Gen Idealize.ShloMosaic Idealize.ShloMosaic.TcCoe Idealize.SL.Sem

/-- The queries, scaled, as the kernel takes them; -/
def hQ (x : FVec Ideal S16x2048x8x64 .f32) : FVec Ideal S16x4x2x64x2048 .bf16 :=
  shapeCast S16x4x2x64x2048 (truncf .bf16 (mulf (transpose S16x8x64x2048 [0, 2, 3, 1] x transposes_S16x2048x8x64_S16x8x64x2048_0_2_3_1)
    (broadcastInDim S16x8x64x2048 ![] bcast_S_S16x8x64x2048 (constant S_ .f32 0x3E000000#32))) bitsLt_bf16_f32) shapeCasts_S16x8x64x2048_S16x4x2x64x2048
/-- the keys of both attentions, padded with zeros; -/
def hK (x : FVec Ideal S16x2048x4x64 .f32) (y : FVec Ideal S16x2048x8x64 .f32) : FVec Ideal S16x6x2x2048x128 .bf16 :=
  shapeCast S16x6x2x2048x128 (truncf .bf16 (concatenate (α := EReal) S16x12x2048x128 3
    [⟨S16x12x2048x64, transpose S16x12x2048x64 [0, 2, 1, 3] (concatenate (α := EReal) S16x2048x12x64 2 [⟨S16x2048x4x64, x⟩, ⟨S16x2048x8x64, y⟩] concatenates_S16x2048x4x64_S16x2048x8x64_S16x2048x12x64_d2) transposes_S16x2048x12x64_S16x12x2048x64_0_2_1_3⟩,
     ⟨S16x12x2048x64, broadcastInDim S16x12x2048x64 ![] bcast_S_S16x12x2048x64 (constant (F := Ideal) S_ .f32 0x00000000#32)⟩] concatenates_S16x12x2048x64_S16x12x2048x64_S16x12x2048x128_d3) bitsLt_bf16_f32) shapeCasts_S16x12x2048x128_S16x6x2x2048x128
/-- the values, with a row of ones and rows of zeros below; -/
def hV (x : FVec Ideal S16x2048x8x64 .f32) : FVec Ideal S16x4x2x80x2048 .bf16 :=
  shapeCast S16x4x2x80x2048 (truncf .bf16 (concatenate (α := EReal) S16x8x80x2048 2
    [⟨S16x8x64x2048, transpose S16x8x64x2048 [0, 2, 3, 1] x transposes_S16x2048x8x64_S16x8x64x2048_0_2_3_1⟩,
     ⟨S16x8x1x2048, broadcastInDim S16x8x1x2048 ![] bcast_S_S16x8x1x2048 (constant (F := Ideal) S_ .f32 0x3F800000#32)⟩,
     ⟨S16x8x15x2048, broadcastInDim S16x8x15x2048 ![] bcast_S_S16x8x15x2048 (constant (F := Ideal) S_ .f32 0x00000000#32)⟩] concatenates_S16x8x64x2048_S16x8x1x2048_S16x8x15x2048_S16x8x80x2048_d2) bitsLt_bf16_f32) shapeCasts_S16x8x80x2048_S16x4x2x80x2048
/-- a triangle of ones; -/
def hT : FVec Ideal S512x512 .bf16 :=
  truncf .bf16 (select (cmpi .sge (iotaInDim S512x512 32 0) (iotaInDim S512x512 32 1)) (broadcastInDim S512x512 ![] bcast_S_S512x512 (constant (F := Ideal) S_ .f32 0x3F800000#32))
    (broadcastInDim S512x512 ![] bcast_S_S512x512 (constant (F := Ideal) S_ .f32 0x00000000#32))) bitsLt_bf16_f32
/-- the log forget values of all batches, one after another. -/
def hL (x : FVec Ideal S16x2048x8 .f32) : FVec Ideal S32768x8 .f32 := shapeCast S32768x8 x shapeCasts_S16x2048x8_S32768x8

theorem hQ_apply (x : FVec Ideal S16x2048x8x64 .f32) (b : Fin 16) (p : Fin 4) (h : Fin 2) (d : Fin 64) (s : Fin 2048) :
    hQ x (ix5 b p h d s) = x (ix4 b s (hd p h) d) * Ideal.ofBits .f32 0x3E000000#32 := by
  unfold hQ; simp only [pointwise]
  refine congrArg₂ (· * ·) (congrArg x ?_) rfl
  funext a; fin_cases a <;> exact Fin.ext (by simp [ix4, hd, Nat.mul_comm])

/-- The second half of the key pairs. -/
def pair (p : Fin 4) : Fin 6 := ⟨2 + p.val, by omega⟩

theorem hK_apply (x : FVec Ideal S16x2048x4x64 .f32) (y : FVec Ideal S16x2048x8x64 .f32) (b : Fin 16) (p : Fin 4) (h : Fin 2) (s : Fin 2048) (d : Fin 64) :
    hK x y (ix5 b (pair p) h s ⟨d.val, by omega⟩) = y (ix4 b s (hd p h) d) := by
  unfold hK; simp only [pointwise]
  refine Eq.trans (dif_pos True.intro) ?_
  refine Eq.trans (dif_neg ?_) (congrArg y ?_)
  · show ¬ (2 + p.val) * 2 + h.val < 4
    omega
  · funext a; fin_cases a <;> exact Fin.ext (by simp [ix4, hd, pair]; try omega)
theorem hK_pad (x : FVec Ideal S16x2048x4x64 .f32) (y : FVec Ideal S16x2048x8x64 .f32) (b : Fin 16) (p : Fin 6) (h : Fin 2) (s : Fin 2048) (l : Fin 128) (hl : 64 ≤ l.val) :
    hK x y (ix5 b p h s l) = 0 := by
  unfold hK; simp only [pointwise]
  exact dif_neg (by omega)
theorem hV_apply (x : FVec Ideal S16x2048x8x64 .f32) (b : Fin 16) (p : Fin 4) (h : Fin 2) (d : Fin 80) (s : Fin 2048) :
    hV x (ix5 b p h d s) = if hh : d.val < 64 then x (ix4 b s (hd p h) ⟨d.val, hh⟩) else if d.val = 64 then 1 else 0 := by
  unfold hV; simp only [pointwise]
  by_cases hh : d.val < 64
  · rw [dif_pos hh]
    refine (dif_pos hh).trans (congrArg x ?_)
    funext a; fin_cases a <;> exact Fin.ext (by simp [ix4, hd, Nat.mul_comm])
  · rw [dif_neg hh]
    refine (dif_neg hh).trans ?_
    by_cases h64 : d.val = 64
    · rw [if_pos h64]
      exact if_pos (show d.val - 64 < 1 by omega)
    · rw [if_neg h64]
      exact if_neg (show ¬ d.val - 64 < 1 by omega)
theorem hT_apply (s k : Fin 512) : hT (ix2 s k) = if k.val ≤ s.val then 1 else 0 := by
  unfold hT; simp only [pointwise]
  unfold Scalar.select
  refine if_congr ?_ rfl rfl
  exact (WordCmp.cmpi_sge_ofNat_eq_one_iff (w := 32) (a := s.val) (b := k.val) (by omega) (by omega))
theorem hL_apply (x : FVec Ideal S16x2048x8 .f32) (b : Fin 16) (s : Fin 2048) (j : Fin 8) :
    hL x (ix2 ⟨2048 * b.val + s.val, by omega⟩ j) = x (ix3 b s j) := by
  unfold hL; simp only [pointwise]

variable (m : (ℓ : Loc nD τ sig) → Buf (Elt Ideal) ℓ)

theorem V_v20 (c : Dev nD) : V m c main_v20 = hQ (m ((c : Thread nD τ).loc main_arg0)) := by
  unfold hQ
  unfold_abbrev_sides
  after_reads_simp
  rfl
theorem V_v21 (c : Dev nD) : V m c main_v21 = hK (m ((c : Thread nD τ).loc main_arg4)) (m ((c : Thread nD τ).loc main_arg1)) := by
  unfold hK
  unfold_abbrev_sides
  after_reads_simp
  rfl
theorem V_v22 (c : Dev nD) : V m c main_v22 = hV (m ((c : Thread nD τ).loc main_arg2)) := by
  unfold hV
  unfold_abbrev_sides
  after_reads_simp
  rfl
theorem V_v18 (c : Dev nD) : V m c main_v18 = hT := by
  unfold hT
  unfold_abbrev_sides
  after_reads_simp
  rfl
theorem V_v19 (c : Dev nD) : V m c main_v19 = hL (m ((c : Thread nD τ).loc main_arg3)) := by
  unfold hL
  unfold_abbrev_sides
  after_reads_simp
  rfl

end Cert.FoxVal

end
-- ==== Proof.FoxHost.lean ====
module

public import proofs.«01_k».proof.Proof.FoxVal
public import proofs.«01_k».proof.Proof.FoxReal
public import proofs.«01_k».proof.Proof.Gen.KernelIdeal.Value
public import proofs.«01_k».proof.Defs
public import Idealize.ShloMosaic.Lib.Pipeline.ValueKit

@[expose] public section

set_option maxRecDepth 16384

noncomputable section

namespace Cert.FoxHost

open Cert.FoxMath Cert.FoxPay Cert.FoxTail Cert.FoxAug Cert.FoxPoint
open Cert.FoxVal
open Cert.FoxReal (Reals eighth eighth_eq)
open Cert.KernelIdeal Cert.KernelIdeal.Gen Idealize.ShloMosaic Idealize.ShloMosaic.TcCoe Idealize.SL.Sem

variable (m : (ℓ : Loc nD τ sig) → Buf (Elt Ideal) ℓ)

theorem index_all : ∀ t : Fin cfg0.N, win0_0.index t = ![t.val / 8, t.val % 8 / 2, 0, 0, t.val % 2] ∧ win0_1.index t = ![t.val / 8, 2 + t.val % 8 / 2, 0, 0, 0]
    ∧ win0_2.index t = ![t.val / 8, t.val % 8 / 2, 0, 0, 0] ∧ win0_3.index t = ![t.val / 8, 0] ∧ win0_4.index t = ![0, 0]
    ∧ win0_5.index t = ![t.val / 8, t.val % 2, t.val % 8 / 2] := by
  decide +kernel
theorem coords_all : ∀ t : Fin cfg0.N, (grid0.coords t 1).val = t.val % 8 / 2 ∧ (grid0.coords t 2).val = t.val % 2 := by
  decide +kernel

theorem lt128 (t : Fin cfg0.N) : t.val < 128 := lt_of_lt_of_eq t.isLt N_0
/-- A point's batch, pair of heads and row of the queries. -/
def bt (t : Fin cfg0.N) : Fin 16 := ⟨t.val / 8, by have := lt128 t; omega⟩
def pt (t : Fin cfg0.N) : Fin 4 := ⟨t.val % 8 / 2, by omega⟩
def rt (t : Fin cfg0.N) (r : Fin 1024) : Fin 2048 := ⟨1024 * (t.val % 2) + r.val, by omega⟩

theorem emb0 (t : Fin cfg0.N) (h : Fin 2) (d : Fin 64) (r : Fin 1024) :
    ((win0_0.blk t).view.emb (ix5 0 0 h d r) : S16x4x2x64x2048.Idx) = ix5 (bt t) (pt t) h d (rt t r) := by
  unfold bt pt rt
  blk_ext [(index_all t).1]
theorem emb1 (t : Fin cfg0.N) (h : Fin 2) (s : Fin 2048) (l : Fin 128) :
    ((win0_1.blk t).view.emb (ix5 0 0 h s l) : S16x6x2x2048x128.Idx) = ix5 (bt t) (pair (pt t)) h s l := by
  unfold bt pair pt
  blk_ext [(index_all t).2.1]
theorem emb2 (t : Fin cfg0.N) (h : Fin 2) (d : Fin 80) (s : Fin 2048) :
    ((win0_2.blk t).view.emb (ix5 0 0 h d s) : S16x4x2x80x2048.Idx) = ix5 (bt t) (pt t) h d s := by
  unfold bt pt
  blk_ext [(index_all t).2.2.1]
theorem emb3 (t : Fin cfg0.N) (s : Fin 2048) (j : Fin 8) :
    ((win0_3.blk t).view.emb (ix2 s j) : S32768x8.Idx) = ix2 ⟨2048 * (bt t).val + s.val, by omega⟩ j := by
  unfold bt
  blk_ext [(index_all t).2.2.2.1]
theorem emb4 (t : Fin cfg0.N) (s k : Fin 512) : ((win0_4.blk t).view.emb (ix2 s k) : S512x512.Idx) = ix2 s k := by
  blk_ext [(index_all t).2.2.2.2.1]
theorem emb5 (t : Fin cfg0.N) (r : Fin 1024) (h : Fin 2) (d : Fin 64) :
    ((win0_5.blk t).view.emb (ix3 0 r (lane h d)) : S16x2048x512.Idx) = ix3 (bt t) (rt t r) ⟨64 * (hd (pt t) h).val + d.val, by omega⟩ := by
  unfold bt pt rt hd lane
  blk_ext [(index_all t).2.2.2.2.2]

theorem i0 (c : Dev nD) (t : Fin cfg0.N) (h : Fin 2) (d : Fin 64) (r : Fin 1024) :
    (iblk m c 0 t : S1x1x2x64x1024.Idx → EReal) (ix5 0 0 h d r) = (V m c main_v20 : S16x4x2x64x2048.Idx → EReal) (ix5 (bt t) (pt t) h d (rt t r)) := by
  unfold iblk
  generalize V m c = W
  unfold View.read
  exact (cast_eq _ _).trans (congrArg (W main_v20) (emb0 t h d r))
theorem i1 (c : Dev nD) (t : Fin cfg0.N) (h : Fin 2) (s : Fin 2048) (l : Fin 128) :
    (iblk m c 1 t : S1x1x2x2048x128.Idx → EReal) (ix5 0 0 h s l) = (V m c main_v21 : S16x6x2x2048x128.Idx → EReal) (ix5 (bt t) (pair (pt t)) h s l) := by
  unfold iblk
  generalize V m c = W
  unfold View.read
  exact (cast_eq _ _).trans (congrArg (W main_v21) (emb1 t h s l))
theorem i2 (c : Dev nD) (t : Fin cfg0.N) (h : Fin 2) (d : Fin 80) (s : Fin 2048) :
    (iblk m c 2 t : S1x1x2x80x2048.Idx → EReal) (ix5 0 0 h d s) = (V m c main_v22 : S16x4x2x80x2048.Idx → EReal) (ix5 (bt t) (pt t) h d s) := by
  unfold iblk
  generalize V m c = W
  unfold View.read
  exact (cast_eq _ _).trans (congrArg (W main_v22) (emb2 t h d s))
theorem i3 (c : Dev nD) (t : Fin cfg0.N) (s : Fin 2048) (j : Fin 8) :
    (iblk m c 3 t : S2048x8.Idx → EReal) (ix2 s j) = (V m c main_v19 : S32768x8.Idx → EReal) (ix2 ⟨2048 * (bt t).val + s.val, by omega⟩ j) := by
  unfold iblk
  generalize V m c = W
  unfold View.read
  exact (cast_eq _ _).trans (congrArg (W main_v19) (emb3 t s j))
theorem i4 (c : Dev nD) (t : Fin cfg0.N) (s k : Fin 512) : (iblk m c 4 t : S512x512.Idx → EReal) (ix2 s k) = (V m c main_v18 : S512x512.Idx → EReal) (ix2 s k) := by
  unfold iblk
  generalize V m c = W
  unfold View.read
  exact (cast_eq _ _).trans (congrArg (W main_v18) (emb4 t s k))

theorem blk0 (c : Dev nD) (t : Fin cfg0.N) (h : Fin 2) (d : Fin 64) (r : Fin 1024) :
    (iblk m c 0 t : S1x1x2x64x1024.Idx → EReal) (ix5 0 0 h d r) = hQ (m ((c : Thread nD τ).loc main_arg0)) (ix5 (bt t) (pt t) h d (rt t r)) :=
  (i0 m c t h d r).trans (congrFun (V_v20 m c) _)
theorem blk1 (c : Dev nD) (t : Fin cfg0.N) (h : Fin 2) (s : Fin 2048) (l : Fin 128) :
    (iblk m c 1 t : S1x1x2x2048x128.Idx → EReal) (ix5 0 0 h s l) = hK (m ((c : Thread nD τ).loc main_arg4)) (m ((c : Thread nD τ).loc main_arg1)) (ix5 (bt t) (pair (pt t)) h s l) :=
  (i1 m c t h s l).trans (congrFun (V_v21 m c) _)
theorem blk2 (c : Dev nD) (t : Fin cfg0.N) (h : Fin 2) (d : Fin 80) (s : Fin 2048) :
    (iblk m c 2 t : S1x1x2x80x2048.Idx → EReal) (ix5 0 0 h d s) = hV (m ((c : Thread nD τ).loc main_arg2)) (ix5 (bt t) (pt t) h d s) :=
  (i2 m c t h d s).trans (congrFun (V_v22 m c) _)
theorem blk3 (c : Dev nD) (t : Fin cfg0.N) (s : Fin 2048) (j : Fin 8) :
    (iblk m c 3 t : S2048x8.Idx → EReal) (ix2 s j) = hL (m ((c : Thread nD τ).loc main_arg3)) (ix2 ⟨2048 * (bt t).val + s.val, by omega⟩ j) :=
  (i3 m c t s j).trans (congrFun (V_v19 m c) _)
theorem blk4 (c : Dev nD) (t : Fin cfg0.N) (s k : Fin 512) : (iblk m c 4 t : S512x512.Idx → EReal) (ix2 s k) = hT (ix2 s k) :=
  (i4 m c t s k).trans (congrFun (V_v18 m c) _)

variable {q k v : Fin 16 → Fin 8 → ℕ → Fin 64 → ℝ} {l : Fin 16 → ℕ → Fin 8 → ℝ}

/-- A batch's queries, keys and values at a pair of heads, as the blocks hold them. -/
def qs (q : Fin 16 → Fin 8 → ℕ → Fin 64 → ℝ) (t : Fin cfg0.N) (h : Fin 2) (r : Fin 1024) (d : Fin 64) : ℝ :=
  q (bt t) (hd (pt t) h) (1024 * (t.val % 2) + r.val) d * eighth
def ks (k : Fin 16 → Fin 8 → ℕ → Fin 64 → ℝ) (t : Fin cfg0.N) (h : Fin 2) (s : ℕ) (d : Fin 64) : ℝ := k (bt t) (hd (pt t) h) s d
def vs (v : Fin 16 → Fin 8 → ℕ → Fin 64 → ℝ) (t : Fin cfg0.N) (h : Fin 2) (d : Fin 80) (s : ℕ) : ℝ :=
  if hh : d.val < 64 then v (bt t) (hd (pt t) h) s ⟨d.val, hh⟩ else if d.val = 64 then 1 else 0

theorem data (c : Dev nD) (R : Reals (m ((c : Thread nD τ).loc main_arg0)) (m ((c : Thread nD τ).loc main_arg1)) (m ((c : Thread nD τ).loc main_arg2)) (m ((c : Thread nD τ).loc main_arg3)) q k v l) (t : Fin cfg0.N) :
    Data (iblk m c 0 t) (iblk m c 1 t) (iblk m c 2 t) (qs q t) (ks k t) (vs v t) where
  q := fun h d r => by
    refine (blk0 m c t h d r).trans ((hQ_apply _ _ _ _ _ _).trans ?_)
    rw [R.q, eighth_eq, ← EReal.coe_mul]
    rfl
  k := fun h s d => (blk1 m c t h s _).trans ((hK_apply _ _ _ _ _ _ _).trans (R.k _ _ _ _))
  z := fun h s l hl => (blk1 m c t h s l).trans (hK_pad _ _ _ _ _ _ _ hl)
  v := fun h d s => by
    refine (blk2 m c t h d s).trans ((hV_apply _ _ _ _ _ _).trans ?_)
    unfold vs
    by_cases hh : d.val < 64
    · rw [dif_pos hh, dif_pos hh]
      exact R.v _ _ _ _
    · rw [dif_neg hh, dif_neg hh]
      by_cases h64 : d.val = 64
      · rw [if_pos h64, if_pos h64]; rfl
      · rw [if_neg h64, if_neg h64]; rfl
  one := fun h s _ => by
    unfold vs
    exact (dif_neg (by decide)).trans (if_pos rfl)

theorem logs (c : Dev nD) (R : Reals (m ((c : Thread nD τ).loc main_arg0)) (m ((c : Thread nD τ).loc main_arg1)) (m ((c : Thread nD τ).loc main_arg2)) (m ((c : Thread nD τ).loc main_arg3)) q k v l) (t : Fin cfg0.N)
    (s : Fin 2048) (j : Fin 8) : (iblk m c 3 t : S2048x8.Idx → EReal) (ix2 s j) = ((l (bt t) s.val j : ℝ) : EReal) :=
  (blk3 m c t s j).trans ((hL_apply _ _ _ _).trans (R.l _ _ _))
theorem tri (c : Dev nD) (t : Fin cfg0.N) (s k : Fin 512) : (iblk m c 4 t : S512x512.Idx → EReal) (ix2 s k) = if k.val ≤ s.val then (1 : EReal) else 0 :=
  (blk4 m c t s k).trans (hT_apply s k)

end Cert.FoxHost

end
-- ==== Proof.FoxKer.lean ====
module

public import proofs.«01_k».proof.Proof.FoxHost
public import proofs.«01_k».proof.Proof.FoxReal
public import proofs.«01_k».proof.Proof.Gen.KernelIdeal.Value
public import proofs.«01_k».proof.Defs
public import Idealize.ShloMosaic.Lib.Pipeline.ValueKit

@[expose] public section

set_option maxRecDepth 16384

noncomputable section

namespace Cert.FoxKer

open Cert.FoxMath Cert.FoxPay Cert.FoxTail Cert.FoxAug Cert.FoxPoint
open Cert.FoxVal Cert.FoxHost
open Cert.FoxReal (Reals out eighth eighth_eq)
open Cert.KernelIdeal Cert.KernelIdeal.Gen Idealize.ShloMosaic Idealize.ShloMosaic.TcCoe Idealize.SL.Sem

variable (m : (ℓ : Loc nD τ sig) → Buf (Elt Ideal) ℓ)

variable {q k v : Fin 16 → Fin 8 → ℕ → Fin 64 → ℝ} {l : Fin 16 → ℕ → Fin 8 → ℝ}

/-- What the keys of a point's batch are lessened by. -/
def ns (l : Fin 16 → ℕ → Fin 8 → ℝ) (t : Fin cfg0.N) (s : ℕ) (j : Fin 8) : ℝ := -cs (l (bt t)) (s + 1) j

/-- What a point leaves: its result, and in the scratch buffers the batch's sums and the pair's lessened keys. -/
def Good (q k v : Fin 16 → Fin 8 → ℕ → Fin 64 → ℝ) (l : Fin 16 → ℕ → Fin 8 → ℝ) (c : Dev nD) (t : Fin cfg0.N)
    (o : Vec Ideal S1x1024x128 .bf16 × Vec Ideal S3x2048x8 .bf16 × Vec Ideal S2x2048x128 .bf16) : Prop :=
  Parts o.2.1 (ns l t) ∧ Keys (pt t) (iblk m c 1 t) (ns l t) o.2.2 ∧ Holds (qs q t) (ks k t) (vs v t) (ns l t) (pt t) (grid0.coords t 2).val o.1

/-- The point before, in the same batch, -/
theorem before_bt (t u : Fin cfg0.N) (hu : u.val = t.val - 1) (h0 : ¬t.val % 8 = 0) : bt u = bt t := by
  apply Fin.ext
  unfold bt
  show u.val / 8 = t.val / 8
  omega
/-- and at the same pair of heads. -/
theorem before_pt (t u : Fin cfg0.N) (hu : u.val = t.val - 1) (h1 : ¬t.val % 2 = 0) : pt u = pt t := by
  apply Fin.ext
  unfold pt
  show u.val % 8 / 2 = t.val % 8 / 2
  omega

theorem keys_before (c : Dev nD) (t u : Fin cfg0.N) (hb : bt u = bt t) (hp : pt u = pt t) {w : Vec Ideal S2x2048x128 .bf16}
    (hk : Keys (pt u) (iblk m c 1 u) (ns l u) w) : Keys (pt t) (iblk m c 1 t) (ns l t) w := by
  intro h s e
  refine (hk h s e).trans ?_
  have e1 : (iblk m c 1 u : S1x1x2x2048x128.Idx → EReal) (ix5 0 0 h s e) = (iblk m c 1 t : S1x1x2x2048x128.Idx → EReal) (ix5 0 0 h s e) := by
    refine (blk1 m c u h s e).trans (Eq.trans ?_ (blk1 m c t h s e).symm)
    rw [hb, hp]
  refine congrArg₂ (· + ·) e1 ?_
  unfold ns
  rw [hb, hp]

theorem good_of (c : Dev nD) (t : Fin cfg0.N) {a : Vec Ideal S1x1024x128 .bf16} {b : Vec Ideal S3x2048x8 .bf16} {d : Vec Ideal S2x2048x128 .bf16}
    (hb : Parts b (ns l t)) (hd : Keys (pt t) (iblk m c 1 t) (ns l t) d)
    (ha : Holds (qs q t) (ks k t) (vs v t) (ns l t) (pt t) (grid0.coords t 2).val a) : Good m q k v l c t (a, b, d) := ⟨hb, hd, ha⟩

theorem good_A (c : Dev nD) (R : Reals (m ((c : Thread nD τ).loc main_arg0)) (m ((c : Thread nD τ).loc main_arg1)) (m ((c : Thread nD τ).loc main_arg2)) (m ((c : Thread nD τ).loc main_arg3)) q k v l) (t : Fin cfg0.N) (h0 : t.val % 8 = 0) (h1 : t.val % 2 = 0) : Good m q k v l c t (outsAt0 m c t.val t.isLt) := by
  refine Eq.mpr (congrArg (Good m q k v l c t) (outsAt0_A m c t h0 h1)) ?_
  have L := logs m c R t
  have T := tri m c t
  have D := data m c R t
  generalize iblk m c 3 t = x3 at L ⊢
  generalize iblk m c 4 t = x4 at T ⊢
  refine good_of m c t ?_ ?_ ?_
  · exact A_parts c _ _ _ _ _ _ _ _ _ _ _ _ _ _ _ _ _ _ _ _ _ _ _ (l (bt t)) L T
  · exact A_keys c _ _ _ _ _ _ _ _ _ _ _ _ _ _ _ _ _ _ _ _ _ _ _ (coords_all t).1 (l (bt t)) L T
  · exact A_out c _ _ _ _ _ _ _ _ _ _ _ _ _ _ _ _ _ _ _ _ _ _ _ D (coords_all t).1 (l (bt t)) L T

theorem good_C (c : Dev nD) (R : Reals (m ((c : Thread nD τ).loc main_arg0)) (m ((c : Thread nD τ).loc main_arg1)) (m ((c : Thread nD τ).loc main_arg2)) (m ((c : Thread nD τ).loc main_arg3)) q k v l) (t : Fin cfg0.N) (h0 : ¬t.val % 8 = 0) (h1 : t.val % 2 = 0)
    (gp : Parts (outsAt0 m c (t.val - 1) (Nat.lt_of_le_of_lt (Nat.sub_le _ _) t.isLt)).2.1 (ns l t)) : Good m q k v l c t (outsAt0 m c t.val t.isLt) := by
  refine Eq.mpr (congrArg (Good m q k v l c t) (outsAt0_C m c t h0 h1)) ?_
  have D := data m c R t
  generalize (outsAt0 m c (t.val - 1) (Nat.lt_of_le_of_lt (Nat.sub_le _ _) t.isLt)).2.1 = o at gp ⊢
  refine good_of m c t gp ?_ ?_
  · exact C_keys c _ _ _ _ _ _ _ _ _ _ _ _ _ _ _ _ _ _ _ _ _ _ _ (coords_all t).1 gp
  · exact C_out c _ _ _ _ _ _ _ _ _ _ _ _ _ _ _ _ _ _ _ _ _ _ _ D (coords_all t).1 gp

theorem good_B (c : Dev nD) (R : Reals (m ((c : Thread nD τ).loc main_arg0)) (m ((c : Thread nD τ).loc main_arg1)) (m ((c : Thread nD τ).loc main_arg2)) (m ((c : Thread nD τ).loc main_arg3)) q k v l) (t : Fin cfg0.N) (h0 : ¬t.val % 8 = 0) (h1 : ¬t.val % 2 = 0)
    (gp : Parts (outsAt0 m c (t.val - 1) (Nat.lt_of_le_of_lt (Nat.sub_le _ _) t.isLt)).2.1 (ns l t))
    (gk : Keys (pt t) (iblk m c 1 t) (ns l t) (outsAt0 m c (t.val - 1) (Nat.lt_of_le_of_lt (Nat.sub_le _ _) t.isLt)).2.2) : Good m q k v l c t (outsAt0 m c t.val t.isLt) := by
  refine Eq.mpr (congrArg (Good m q k v l c t) (outsAt0_B m c t h0 h1)) ?_
  have D := data m c R t
  generalize (outsAt0 m c (t.val - 1) (Nat.lt_of_le_of_lt (Nat.sub_le _ _) t.isLt)).2.1 = o at gp ⊢
  generalize (outsAt0 m c (t.val - 1) (Nat.lt_of_le_of_lt (Nat.sub_le _ _) t.isLt)).2.2 = o' at gk ⊢
  refine good_of m c t gp gk ?_
  exact B_out c _ _ _ _ _ _ _ _ _ _ _ _ _ _ _ _ _ _ _ _ _ _ _ D gk

theorem good (c : Dev nD) (R : Reals (m ((c : Thread nD τ).loc main_arg0)) (m ((c : Thread nD τ).loc main_arg1)) (m ((c : Thread nD τ).loc main_arg2)) (m ((c : Thread nD τ).loc main_arg3)) q k v l) :
    ∀ (n : ℕ) (t : Fin cfg0.N), t.val = n → Good m q k v l c t (outsAt0 m c t.val t.isLt) := by
  intro n
  induction n with
  | zero => exact fun t hn => good_A m c R t (by omega) (by omega)
  | succ n ih =>
    intro t hn
    by_cases h0 : t.val % 8 = 0
    · exact good_A m c R t h0 (by omega)
    · have g := ih ⟨t.val - 1, Nat.lt_of_le_of_lt (Nat.sub_le _ _) t.isLt⟩ (by show t.val - 1 = n; omega)
      have hb := before_bt t ⟨t.val - 1, Nat.lt_of_le_of_lt (Nat.sub_le _ _) t.isLt⟩ rfl h0
      have gp : Parts (outsAt0 m c (t.val - 1) (Nat.lt_of_le_of_lt (Nat.sub_le _ _) t.isLt)).2.1 (ns l t) := by
        have := g.1
        unfold ns at this ⊢
        rw [hb] at this
        exact this
      by_cases h1 : t.val % 2 = 0
      · exact good_C m c R t h0 h1 gp
      · exact good_B m c R t h0 h1 gp (keys_before m c t _ hb (before_pt t ⟨t.val - 1, Nat.lt_of_le_of_lt (Nat.sub_le _ _) t.isLt⟩ rfl h1) g.2.1)

/-- A point's entries are the result's. -/
theorem cell_eq (t : Fin cfg0.N) (r : Fin 1024) (h : Fin 2) (d : Fin 64) :
    cell (qs q t) (ks k t) (vs v t) (ns l t) (pt t) (grid0.coords t 2).val r h d
      = out q k v l (ix3 (bt t) (rt t r) ⟨64 * (hd (pt t) h).val + d.val, by omega⟩) := by
  have e1 : (⟨(64 * (hd (pt t) h).val + d.val) / 64, by omega⟩ : Fin 8) = hd (pt t) h := Fin.ext (by show (64 * (hd (pt t) h).val + d.val) / 64 = _; omega)
  have e2 : (⟨(64 * (hd (pt t) h).val + d.val) % 64, by omega⟩ : Fin 64) = d := Fin.ext (by show (64 * (hd (pt t) h).val + d.val) % 64 = _; omega)
  have ev : vs v t h (at_ d) = fun s => v (bt t) (hd (pt t) h) s d := funext fun s => dif_pos d.isLt
  show _ = ((Cert.FoxReal.cell q k v l (bt t) (rt t r).val ⟨(64 * (hd (pt t) h).val + d.val) / 64, _⟩ ⟨(64 * (hd (pt t) h).val + d.val) % 64, _⟩ : ℝ) : EReal)
  rw [e1, e2]
  unfold Cert.FoxPoint.cell Cert.FoxReal.cell
  rw [ev, (coords_all t).2]
  rfl

/-- The kernel's result array. -/
theorem arr (c : Dev nD) (R : Reals (m ((c : Thread nD τ).loc main_arg0)) (m ((c : Thread nD τ).loc main_arg1)) (m ((c : Thread nD τ).loc main_arg2)) (m ((c : Thread nD τ).loc main_arg3)) q k v l) :
    (Gen.dats m 0 c).arrAt 5 cfg0.N = out q k v l := by
  refine (Gen.dats m 0 c).arrAt_eq_of_covers 5 _ (by decide +kernel) fun t hf y => ?_
  blk_simp
  rw [after0_5]
  obtain ⟨r, h, d, rfl⟩ : ∃ (r : Fin 1024) (h : Fin 2) (d : Fin 64), y = ix3 0 r (lane h d) :=
    ⟨y 1, ⟨(y 2).val / 64, Nat.div_lt_of_lt_mul (y 2).isLt⟩, ⟨(y 2).val % 64, Nat.mod_lt _ (by omega)⟩, funext fun a => by
      fin_cases a
      · exact Subsingleton.elim (α := Fin 1) _ _
      · rfl
      · exact Fin.ext (by show (y 2).val = 64 * ((y 2).val / 64) + (y 2).val % 64; omega)⟩
  refine Eq.trans ?_ (congrArg (out q k v l) (emb5 t r h d)).symm
  exact ((good m c R t.val t rfl).2.2 r h d).trans (cell_eq t r h d)

end Cert.FoxKer

end
-- ==== Proof.FoxRef.lean ====
module

public import proofs.«01_k».proof.Proof.FoxReal
public import proofs.«01_k».proof.Proof.Gen.ReferenceIdeal.Run
public import proofs.«01_k».proof.Proof.Gen.ReferenceIdeal.Read
public import proofs.«01_k».proof.Defs
public import Idealize.ShloMosaic.Lib.Pipeline.ValueKit

@[expose] public section

set_option maxRecDepth 16384

noncomputable section

namespace Cert.FoxRef

open Cert.FoxMath Cert.FoxReal
open Cert.FoxAug (cs)
open Cert.ReferenceIdeal Cert.ReferenceIdeal.Read Idealize.ShloMosaic Idealize.ShloMosaic.TcCoe Idealize.SL.Sem

/-- A running sum of real numbers is their sum. -/
theorem run_sum {ι : Type} (g : ι → ℝ) (f : ι → EReal) (l : List ι) (hf : ∀ n, f n = ((g n : ℝ) : EReal)) (z : ℝ) :
    l.foldl (fun r n => r + f n) ((z : ℝ) : EReal) = ((z + (l.map g).sum : ℝ) : EReal) := by
  induction l generalizing z with
  | nil => simp
  | cons a l ih =>
    rw [List.foldl_cons, hf, ← EReal.coe_add, ih, List.map_cons, List.sum_cons, add_assoc]

/-- The window of one sum: a whole column. -/
abbrev W3 : Shape := ⟨3, ![1, 2048, 1]⟩

theorem sum_col (g : ℕ → ℝ) : ((List.finRange W3.numel).map fun n => g (W3.rowMajor.symm n 1).val).sum = ∑ n ∈ Finset.range 2048, g n := by
  rw [← Fin.sum_univ_def, Equiv.sum_comp W3.rowMajor.symm (fun w => g (w 1).val), ← Fin.sum_univ_eq_sum_range]
  exact Fintype.sum_equiv ⟨fun w => (⟨(w 1).val, (w 1).isLt⟩ : Fin 2048), fun n => ix3 (0 : Fin 1) n (0 : Fin 1),
    fun w => funext fun a => by
      fin_cases a
      · exact Subsingleton.elim (α := Fin 1) _ _
      · rfl
      · exact Subsingleton.elim (α := Fin 1) _ _,
    fun n => rfl⟩ _ _ fun w => rfl

theorem shift_sum (L : ℕ → ℝ) (s : ℕ) (hs : s < 2048) :
    (∑ n ∈ Finset.range 2048, if 2047 ≤ s + n then L (s + n - 2047) else 0) = ∑ n ∈ Finset.range (s + 1), L n := by
  rw [show 2048 = (2047 - s) + (s + 1) by omega, Finset.sum_range_add]
  rw [Finset.sum_eq_zero (s := Finset.range (2047 - s)) fun n hn => if_neg (by have := Finset.mem_range.1 hn; omega), zero_add]
  refine Finset.sum_congr rfl fun n _ => ?_
  rw [if_pos (by omega)]
  exact congrArg L (by omega)

theorem cum (x : S16x2048x8.Idx → EReal) (l : Fin 16 → ℕ → Fin 8 → ℝ) (hx : ∀ (b : Fin 16) (s : Fin 2048) (n : Fin 8), x (ix3 b s n) = ((l b s.val n : ℝ) : EReal))
    (b : Fin 16) (s : Fin 2048) (n : Fin 8) : val_main_v0 (F := Ideal) x (ix3 b s n) = ((cs (l b) (s.val + 1) n : ℝ) : EReal) := by
  have hz : val_main_call0_call0_v0 (F := Ideal) (Shape.Idx.first Gen.h_S_) = ((0 : ℝ) : EReal) := by
    rw [val_main_call0_call0_v0_apply, val_main_call0_call0_cst_apply]
    simp only [pointwise]
    rfl
  unfold val_main_v0 Host.reduceWindowAdd
  rw [Ideal.hostReduceWindowAdd_def]
  unfold Ideal.hostReduceWindowAdd Host.reduceWindow
  rw [hz]
  refine (run_sum (fun w => if 2047 ≤ s.val + (W3.rowMajor.symm w 1).val then l b (s.val + (W3.rowMajor.symm w 1).val - 2047) n else 0) _ _ (fun w => ?_) 0).trans ?_
  · have h0 : (W3.rowMajor.symm w 0).val = 0 := Nat.lt_one_iff.1 (W3.rowMajor.symm w 0).isLt
    have h2 : (W3.rowMajor.symm w 2).val = 0 := Nat.lt_one_iff.1 (W3.rowMajor.symm w 2).isLt
    have h1 : (W3.rowMajor.symm w 1).val < 2048 := (W3.rowMajor.symm w 1).isLt
    by_cases hc : 2047 ≤ s.val + (W3.rowMajor.symm w 1).val
    · rw [if_pos hc]
      refine (dif_pos ?_).trans ?_
      · intro a
        fin_cases a
        · show 0 ≤ b.val * 1 + (W3.rowMajor.symm w 0).val ∧ b.val * 1 + (W3.rowMajor.symm w 0).val - 0 < 16
          omega
        · show 2047 ≤ s.val * 1 + (W3.rowMajor.symm w 1).val ∧ s.val * 1 + (W3.rowMajor.symm w 1).val - 2047 < 2048
          omega
        · show 0 ≤ n.val * 1 + (W3.rowMajor.symm w 2).val ∧ n.val * 1 + (W3.rowMajor.symm w 2).val - 0 < 8
          omega
      · refine Eq.trans (congrArg x ?_) (hx b ⟨s.val + (W3.rowMajor.symm w 1).val - 2047, by omega⟩ n)
        funext a
        fin_cases a
        · refine Fin.ext ?_
          show b.val * 1 + (W3.rowMajor.symm w 0).val - 0 = b.val
          omega
        · refine Fin.ext ?_
          show s.val * 1 + (W3.rowMajor.symm w 1).val - 2047 = s.val + (W3.rowMajor.symm w 1).val - 2047
          omega
        · refine Fin.ext ?_
          show n.val * 1 + (W3.rowMajor.symm w 2).val - 0 = n.val
          omega
    · rw [if_neg hc]
      refine dif_neg fun h => hc ?_
      have := (h 1).1
      change 2047 ≤ s.val * 1 + (W3.rowMajor.symm w 1).val at this
      omega
  · rw [zero_add]
    exact congrArg _ ((sum_col fun w => if 2047 ≤ s.val + w then l b (s.val + w - 2047) n else 0).trans (shift_sum (fun k => l b k n) s.val s.isLt))

theorem fold_real (x : Fin 2048 → EReal) (hs : ∀ k, x k ≠ ⊤) (k : Fin 2048) (hk : x k ≠ ⊥) :
    ∃ M : ℝ, max ⊥ (Finset.univ.fold max ⊥ x) = (M : EReal) := by
  have h1 : max ⊥ (Finset.univ.fold max ⊥ x) ≠ ⊤ := by
    refine ne_of_lt (max_lt bot_lt_top ?_)
    refine (Finset.sup_lt_iff (f := x) (s := Finset.univ) bot_lt_top).2 fun i _ => lt_top_iff_ne_top.2 (hs i)
  have h2 : max ⊥ (Finset.univ.fold max ⊥ x) ≠ ⊥ := by
    refine ne_of_gt (lt_of_lt_of_le (bot_lt_iff_ne_bot.2 hk) (le_max_of_le_right ?_))
    exact Finset.le_sup (f := x) (Finset.mem_univ k)
  exact ⟨_, (EReal.coe_toReal h1 h2).symm⟩

/-- A row of a masked softmax, times values. -/
theorem soft (S W : ℕ → ℝ) (t : Fin 2048) (x w : Fin 2048 → EReal) (hx : ∀ k, x k = if k.val ≤ t.val then ((S k.val : ℝ) : EReal) else ⊥)
    (hw : ∀ k, w k = ((W k.val : ℝ) : EReal)) (M : EReal) (hM : M = max ⊥ (Finset.univ.fold max ⊥ x)) :
    ∑ k, w k * (Ideal.div (Ideal.exp (x k - M)) (0 + ∑ j, Ideal.exp (x j - M)) * 1) = ((att S W t.val : ℝ) : EReal) := by
  obtain ⟨m, hm⟩ := fold_real x (fun k => by rw [hx]; split <;> simp) t (by rw [hx, if_pos le_rfl]; simp)
  rw [hm] at hM
  subst hM
  have he : ∀ k : Fin 2048, Ideal.exp (x k - (m : EReal)) = ((wt S t.val m k.val : ℝ) : EReal) := fun k => by
    rw [hx]
    unfold wt
    by_cases hk : k.val ≤ t.val
    · rw [if_pos hk, if_pos hk, ← EReal.coe_sub, Ideal.exp_coe]
    · rw [if_neg hk, if_neg hk, EReal.bot_sub, Ideal.exp_bot]; rfl
  have hd : (0 : EReal) + ∑ j, Ideal.exp (x j - (m : EReal)) = ((∑ s ∈ Finset.range 2048, wt S t.val m s : ℝ) : EReal) := by
    rw [zero_add, Finset.sum_range (fun s => wt S t.val m s), coe_sum]
    exact Finset.sum_congr rfl fun j _ => he j
  rw [hd, ← att_shift S W t.val m, Finset.sum_div]
  generalize hD : ∑ s ∈ Finset.range 2048, wt S t.val m s = D
  have hD0 : D ≠ 0 := hD ▸ (den_pos S t.val m).ne'
  rw [Finset.sum_range (fun s => W s * wt S t.val m s / D), coe_sum]
  refine Finset.sum_congr rfl fun k _ => ?_
  rw [he, hw, div_coe _ _ hD0, mul_one, ← EReal.coe_mul, mul_div_assoc]

variable (q k v : S16x2048x8x64.Idx → EReal) (lg : S16x2048x8.Idx → EReal)

theorem a11 (b : Fin 16) (n : Fin 8) (t s : Fin 2048) : val_main_v11 (F := Ideal) q k lg (ix4 b n t s)
    = (∑ d : Fin 64, q (ix4 b t n d) * k (ix4 b s n d)) * Ideal.ofBits .f32 0x3E000000#32
      + (val_main_v0 (F := Ideal) lg (ix3 b t n) - val_main_v0 (F := Ideal) lg (ix3 b s n)) := by
  simp only [val_main_v11_apply, val_main_v5_apply, val_main_v3_apply, val_main_v4_apply, val_main_cst_apply, val_main_v10_apply, val_main_v8_apply,
    val_main_v9_apply, val_main_v6_apply, val_main_v7_apply, val_main_v1_apply]
  refine congrArg₂ (· + ·) (congrArg₂ (· * ·) (Finset.sum_congr rfl fun d _ => congrArg₂ (· * ·) (congrArg q ?_) (congrArg k ?_)) rfl)
    (congrArg₂ (· - ·) (congrArg _ ?_) (congrArg _ ?_)) <;> exact funext fun a => by fin_cases a <;> rfl

theorem a16 (t s : Fin 2048) : val_main_v16 (F := Ideal) (ix2 t s) = BitVec.ofBool (decide (s.val ≤ t.val)) := by
  simp only [val_main_v16_apply, val_main_v14_apply, val_main_v15_apply, val_main_v12_apply, val_main_v13_apply, val_main_v2_apply]
  exact WordCmp.cmpi_sle_ofNat (w := 32) (a := s.val) (b := t.val) (by omega) (by omega)

theorem neg_inf : Ideal.ofBits .f32 0xFF800000#32 = ⊥ := by simp [Ideal.ofBits, Ideal.ieee]

theorem a17 (b : Fin 16) (n : Fin 8) (t s : Fin 2048) : val_main_v17 (F := Ideal) q k lg (ix4 b n t s)
    = if s.val ≤ t.val then val_main_v11 (F := Ideal) q k lg (ix4 b n t s) else ⊥ := by
  rw [val_main_v17_apply, val_main_call1_v1_apply, val_main_call1_v2_apply, val_main_call1_v0_apply, val_main_cst_0_apply]
  rw [show idx_main_call1_v1 (ix4 b n t s) = ix2 t s from funext fun a => by fin_cases a <;> rfl, a16]
  unfold Scalar.select
  by_cases h : s.val ≤ t.val
  · rw [if_pos h, decide_eq_true h]; rfl
  · rw [if_neg h, decide_eq_false h]
    exact neg_inf

theorem a20 (b : Fin 16) (n : Fin 8) (t : Fin 2048) : val_main_v20 (F := Ideal) q k lg (ix3 b n t)
    = max ⊥ (Finset.univ.fold max ⊥ fun s : Fin 2048 => val_main_v17 (F := Ideal) q k lg (ix4 b n t s)) := by
  rw [val_main_v20_apply, val_main_v19_apply, val_main_cst_2_apply]
  refine congrArg₂ max neg_inf ?_
  unfold val_main_v18
  simp only [pointwise]
  rw [val_main_cst_1_apply]
  exact congrArg (fun z => Finset.univ.fold max z fun s : Fin 2048 => val_main_v17 (F := Ideal) q k lg (ix4 b n t s)) neg_inf

theorem a24 (b : Fin 16) (n : Fin 8) (t s : Fin 2048) : val_main_v24 (F := Ideal) q k lg (ix4 b n t s)
    = Ideal.exp (val_main_v17 (F := Ideal) q k lg (ix4 b n t s) - val_main_v20 (F := Ideal) q k lg (ix3 b n t)) := by
  rw [val_main_v24_apply, val_main_v23_apply, val_main_v22_apply, val_main_v21_apply]
  refine congrArg (fun z => Ideal.exp (val_main_v17 (F := Ideal) q k lg (ix4 b n t s) - val_main_v20 (F := Ideal) q k lg z)) ?_
  exact funext fun a => by fin_cases a <;> rfl

theorem a28 (b : Fin 16) (n : Fin 8) (t s : Fin 2048) : val_main_v28 (F := Ideal) q k lg (ix4 b n t s)
    = Ideal.div (val_main_v24 (F := Ideal) q k lg (ix4 b n t s)) (0 + ∑ j : Fin 2048, val_main_v24 (F := Ideal) q k lg (ix4 b n t j)) := by
  rw [val_main_v28_apply, val_main_v27_apply, val_main_v26_apply, val_main_v25_apply, val_main_cst_3_apply]
  refine congrArg (Ideal.div _) (congrArg₂ (· + ·) ?_ (Finset.sum_congr rfl fun j _ => congrArg _ ?_))
  · simp [Ideal.ofBits, Ideal.ieee]
  · exact funext fun a => by fin_cases a <;> rfl

theorem one_or : ∀ z : BitVec 1, IntOp.ori (BitVec.ofBool true) z = 1#1 := by decide

theorem a29 (t : Fin 2048) : val_main_v29 (F := Ideal) (ix1 t) = 1#1 := by
  unfold val_main_v29
  simp only [pointwise]
  rw [← Finset.insert_erase (Finset.mem_univ t), Finset.fold_insert (Finset.notMem_erase t _), a16, decide_eq_true (le_refl t.val)]
  exact one_or _

theorem a33 (b : Fin 16) (n : Fin 8) (t s : Fin 2048) : val_main_v33 (F := Ideal) (ix4 b n t s) = (1 : EReal) := by
  rw [val_main_v33_apply, val_main_v32_apply, val_main_v31_apply, val_main_v30_apply]
  rw [show idx_main_v30 (idx_main_v32 (idx_main_v33 (ix4 b n t s))) = ix1 t from funext fun a => by fin_cases a <;> rfl, a29]
  simp [FloatOps.uitofp]

theorem a38 (b : Fin 16) (t : Fin 2048) (e : Fin 512) : val_main_v38 (F := Ideal) q k v lg (ix3 b t e)
    = ∑ s : Fin 2048, v (ix4 b s ⟨e.val / 64, by omega⟩ ⟨e.val % 64, by omega⟩) * (val_main_v28 (F := Ideal) q k lg (ix4 b ⟨e.val / 64, by omega⟩ t s) * 1) := by
  rw [val_main_v38_apply, val_main_v37_apply, val_main_v36_apply, val_main_v35_apply]
  have e37 : idx_main_v37 (ix3 b t e) = ix4 b t ⟨e.val / 64, by omega⟩ ⟨e.val % 64, by omega⟩ := funext fun a => by
    have := b.isLt; have := t.isLt; have := e.isLt
    fin_cases a
    · exact Fin.ext (by show ((b.val * 2048 + t.val) * 512 + e.val) / 1048576 = b.val; omega)
    · exact Fin.ext (by show ((b.val * 2048 + t.val) * 512 + e.val) / 512 % 2048 = t.val; omega)
    · exact Fin.ext (by show ((b.val * 2048 + t.val) * 512 + e.val) / 64 % 8 = e.val / 64; omega)
    · exact Fin.ext (by show ((b.val * 2048 + t.val) * 512 + e.val) % 64 = e.val % 64; omega)
  rw [e37]
  refine Finset.sum_congr rfl fun s _ => ?_
  rw [val_main_v34_apply]
  rw [show ridx_main_v35 (idx_main_v36 (ix4 b t ⟨e.val / 64, by omega⟩ ⟨e.val % 64, by omega⟩)) s = ix4 b ⟨e.val / 64, by omega⟩ t s from funext fun a => by fin_cases a <;> rfl, a33]
  exact congrArg₂ (· * ·) (congrArg v (funext fun a => by fin_cases a <;> rfl)) rfl

variable {q k v lg} {rq rk rv : Fin 16 → Fin 8 → ℕ → Fin 64 → ℝ} {rl : Fin 16 → ℕ → Fin 8 → ℝ}

/-- A score, a real number. -/
def sc (rq rk : Fin 16 → Fin 8 → ℕ → Fin 64 → ℝ) (rl : Fin 16 → ℕ → Fin 8 → ℝ) (b : Fin 16) (n : Fin 8) (t s : ℕ) : ℝ :=
  (∑ d, rq b n t d * rk b n s d) * eighth + (cs (rl b) (t + 1) n - cs (rl b) (s + 1) n)

theorem a11r (R : Reals q k v lg rq rk rv rl) (b : Fin 16) (n : Fin 8) (t s : Fin 2048) :
    val_main_v11 (F := Ideal) q k lg (ix4 b n t s) = ((sc rq rk rl b n t.val s.val : ℝ) : EReal) := by
  rw [a11, cum lg rl R.l, cum lg rl R.l, eighth_eq]
  unfold sc
  rw [EReal.coe_add, EReal.coe_mul, EReal.coe_sub, coe_sum]
  refine congrArg₂ (· + ·) (congrArg₂ (· * ·) (Finset.sum_congr rfl fun d _ => ?_) rfl) rfl
  rw [R.q, R.k, EReal.coe_mul]

theorem sc_eq (b : Fin 16) (n : Fin 8) (t s : ℕ) :
    sc rq rk rl b n t s = (∑ e, rk b n s e * (rq b n t e * eighth) + -cs (rl b) (s + 1) n) + cs (rl b) (t + 1) n := by
  unfold sc
  rw [Finset.sum_mul]
  rw [Finset.sum_congr rfl fun d _ => show rq b n t d * rk b n s d * eighth = rk b n s d * (rq b n t d * eighth) by ring]
  ring

/-- The reference computes the attention. -/
theorem ref (R : Reals q k v lg rq rk rv rl) (i : S16x2048x512.Idx) : val_main_v38 (F := Ideal) q k v lg i = out rq rk rv rl i := by
  obtain ⟨b, t, e, rfl⟩ : ∃ (b : Fin 16) (t : Fin 2048) (e : Fin 512), i = ix3 b t e := ⟨i 0, i 1, i 2, funext fun a => by fin_cases a <;> rfl⟩
  rw [a38]
  have h := soft (sc rq rk rl b ⟨e.val / 64, by omega⟩ t.val) (fun s => rv b ⟨e.val / 64, by omega⟩ s ⟨e.val % 64, by omega⟩) t
    (fun s => val_main_v17 (F := Ideal) q k lg (ix4 b ⟨e.val / 64, by omega⟩ t s)) (fun s => v (ix4 b s ⟨e.val / 64, by omega⟩ ⟨e.val % 64, by omega⟩))
    (fun s => by rw [a17, a11r R]) (fun s => R.v _ _ _ _) _ rfl
  refine Eq.trans ?_ (h.trans ?_)
  · refine Finset.sum_congr rfl fun s _ => ?_
    rw [a28]
    simp only [a24, a20]
  · exact congrArg _ (att_const _ _ _ _ _ fun s _ => sc_eq b _ t.val s)

end Cert.FoxRef

end
-- ==== Proof.Fox.lean ====
module

public import proofs.«01_k».proof.Proof.FoxKer
public import proofs.«01_k».proof.Proof.FoxRef
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Defs
public import Idealize.ShloMosaic.Lib.ReduceAll
public import Idealize.ShloMosaic.Lib.Pipeline.ValueKit

/-!
# The forgetting attention's value

On finite queries, keys, values and log forget values the arguments are real numbers; there the kernel's whole result and the
reference's are the same function of those numbers.
-/

@[expose] public section

set_option maxRecDepth 16384

noncomputable section

namespace Cert.FoxProof

open Cert.FoxReal
open Idealize.ShloMosaic Idealize.ShloMosaic.TcCoe Idealize.SL.Sem

/-- What lies strictly below infinity in absolute value is the real number it reads as. -/
theorem real_of_lt {x : EReal} (h : max x (-x) < ⊤) : x = ((x.toReal : ℝ) : EReal) := by
  refine (EReal.coe_toReal (fun e => ?_) fun e => ?_).symm
  · subst e; simp at h
  · subst e; simp at h

/-- The comparison's word is one only where the absolute value lies below infinity. -/
theorem real_of_cmp {x y : EReal} (hy : y = ⊤)
    (h : (FloatOps.cmpf (F := Ideal) (φ := .f32) .olt (max x (-x) : EReal) y) = 1#1) : x = ((x.toReal : ℝ) : EReal) := by
  subst hy
  refine real_of_lt ?_
  by_contra hn
  rw [show FloatOps.cmpf (F := Ideal) (φ := .f32) .olt (max x (-x) : EReal) ⊤ = BitVec.ofBool (decide (max x (-x) < ⊤)) from rfl, decide_eq_false hn] at h
  exact absurd h (by decide)

section
open Cert.Pre_finite Cert.Pre_finite.Facts
attribute [local instance] Cert.Pre_finite.Gen.facts

variable (q k v : S16x2048x8x64.Idx → EReal) (l : S16x2048x8.Idx → EReal) (e : S16x2048x4x64.Idx → EReal)

instance : Subsingleton S_.Idx := ⟨fun a b => funext fun i => i.elim0⟩

theorem inf_top : Ideal.ofBits .f32 0x7F800000#32 = ⊤ := by simp [Ideal.ofBits, Ideal.ieee]

/-- The precondition, entry by entry. -/
theorem entries (h : fn (F := Ideal) q k v l e = fun _ => 1#1) :
    (∀ i, q i = (((q i).toReal : ℝ) : EReal)) ∧ (∀ i, k i = (((k i).toReal : ℝ) : EReal))
      ∧ (∀ i, v i = (((v i).toReal : ℝ) : EReal)) ∧ ∀ i, l i = (((l i).toReal : ℝ) : EReal) := by
  have h0 := congrFun h (fun a => a.elim0)
  unfold fn fn_part1 at h0
  obtain ⟨hqk, hvl⟩ := IntOp.andi_eq_one.1 h0
  obtain ⟨hq, hk⟩ := IntOp.andi_eq_one.1 hqk
  obtain ⟨hv, hl⟩ := IntOp.andi_eq_one.1 hvl
  exact ⟨fun i => real_of_cmp inf_top (Host.reduce_andi_all _ _ _ _ _ hq i), fun i => real_of_cmp inf_top (Host.reduce_andi_all _ _ _ _ _ hk i),
    fun i => real_of_cmp inf_top (Host.reduce_andi_all _ _ _ _ _ hv i), fun i => real_of_cmp inf_top (Host.reduce_andi_all _ _ _ _ _ hl i)⟩

/-- A position, read as a row of the arrays. -/
def row (s : ℕ) : Fin 2048 := ⟨s % 2048, Nat.mod_lt _ (by omega)⟩

theorem row_val (s : Fin 2048) : row s.val = s := Fin.ext (Nat.mod_eq_of_lt s.isLt)

/-- An array over batch, position, head and lane as real numbers. -/
def real4 (x : S16x2048x8x64.Idx → EReal) : Fin 16 → Fin 8 → ℕ → Fin 64 → ℝ := fun b n s d => (x (ix4 b (row s) n d)).toReal
/-- An array over batch, position and head as real numbers. -/
def real3 (x : S16x2048x8.Idx → EReal) : Fin 16 → ℕ → Fin 8 → ℝ := fun b s n => (x (ix3 b (row s) n)).toReal

/-- Finite arguments are arrays of real numbers. -/
theorem reals (h : fn (F := Ideal) q k v l e = fun _ => 1#1) : Reals q k v l (real4 q) (real4 k) (real4 v) (real3 l) := by
  obtain ⟨hq, hk, hv, hl⟩ := entries q k v l e h
  refine ⟨fun b s n d => ?_, fun b s n d => ?_, fun b s n d => ?_, fun b s n => ?_⟩
  · unfold real4; rw [row_val]; exact hq _
  · unfold real4; rw [row_val]; exact hk _
  · unfold real4; rw [row_val]; exact hv _
  · unfold real3; rw [row_val]; exact hl _

end

/-- On finite arguments the kernel's result is the reference's. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have R := fun c => reals _ _ _ _ _ (hpre c)
  refine ⟨fun c => out
    (real4 (m ((c.tc : Thread Cert.KernelIdeal.nD Cert.KernelIdeal.τ).loc Cert.KernelIdeal.main_arg0)))
    (real4 (m ((c.tc : Thread Cert.KernelIdeal.nD Cert.KernelIdeal.τ).loc Cert.KernelIdeal.main_arg1)))
    (real4 (m ((c.tc : Thread Cert.KernelIdeal.nD Cert.KernelIdeal.τ).loc Cert.KernelIdeal.main_arg2)))
    (real3 (m ((c.tc : Thread Cert.KernelIdeal.nD Cert.KernelIdeal.τ).loc Cert.KernelIdeal.main_arg3))), ?_, ?_⟩
  · exact (θ_run _ _ _).mono (fun r h c => ⟨(h c).1.trans (Cert.FoxKer.arr m c (R c)), (h c).2⟩) (Cert.KernelIdeal.Value.run_blocks m g)
  · refine (θ_run _ _ _).mono (fun r h c => ⟨(h c).1.trans ?_, (h c).2⟩) (Cert.ReferenceIdeal.Value.run (F := Ideal) m' g')
    obtain ⟨e0, e1, e2, e3, e4⟩ := hargs c
    rw [Cert.ReferenceIdeal.Read.val_main_v38_eq, e0, e1, e2, e3]
    exact funext fun i => Cert.FoxRef.ref (R c) i

end Cert.FoxProof

end
-- ==== Proof.ProjVal.lean ====
module

public import proofs.«01_k».proof.Proof.Gen.ProjKernelIdeal.Frame
public import proofs.«01_k».proof.Defs
public import Idealize.ShloMosaic.Lib.Pipeline.ValueKit
public import Idealize.ShloMosaic.Lib.StableHlo.RunRead

/-!
# The projection's weights, as the call takes them

The combined projection's columns are laid out anew: the merge gates and the forget column as columns of one matrix, all other
columns as rows of a second one, with zeros between.
-/

@[expose] public section

set_option maxRecDepth 16384

noncomputable section

namespace Cert.ProjVal

open Cert.ProjKernelIdeal Cert.ProjKernelIdeal.Gen Idealize.ShloMosaic Idealize.ShloMosaic.TcCoe Idealize.SL.Sem

/-- The columns' matrix; -/
def hW (x : FVec Ideal S1024x4896 .f32) : FVec Ideal S1024x2176 .bf16 :=
  truncf .bf16 (concatenate (α := EReal) S1024x2176 1
    [⟨S1024x2048, extractStridedSlice S1024x2048 ![0, 2848] x slices_S1024x4896_S1024x2048_0_2848⟩,
     ⟨S1024x8, extractStridedSlice S1024x8 ![0, 2840] x slices_S1024x4896_S1024x8_0_2840⟩,
     ⟨S1024x120, broadcastInDim S1024x120 ![] bcast_S_S1024x120 (constant (F := Ideal) S_ .f32 0x00000000#32)⟩] concatenates_S1024x2048_S1024x8_S1024x120_S1024x2176_d1) bitsLt_bf16_f32
/-- its bias; -/
def hB (x : FVec Ideal S4896 .f32) : FVec Ideal S1x2176 .f32 :=
  shapeCast S1x2176 (concatenate (α := EReal) S2176 0
    [⟨S2048, extractStridedSlice S2048 ![2848] x slices_S4896_S2048_2848⟩,
     ⟨S8, extractStridedSlice S8 ![2840] x slices_S4896_S8_2840⟩,
     ⟨S120, broadcastInDim S120 ![] bcast_S_S120 (constant (F := Ideal) S_ .f32 0x00000000#32)⟩] concatenates_S2048_S8_S120_S2176_d0) shapeCasts_S2176_S1x2176
/-- the rows' matrix; -/
def hT (x : FVec Ideal S1024x4896 .f32) : FVec Ideal S2864x1024 .bf16 :=
  truncf .bf16 (transpose S2864x1024 [1, 0] (concatenate (α := EReal) S1024x2864 1
    [⟨S1024x1280, extractStridedSlice S1024x1280 ![0, 0] x slices_S1024x4896_S1024x1280_0_0⟩,
     ⟨S1024x1536, extractStridedSlice S1024x1536 ![0, 1304] x slices_S1024x4896_S1024x1536_0_1304⟩,
     ⟨S1024x24, extractStridedSlice S1024x24 ![0, 1280] x slices_S1024x4896_S1024x24_0_1280⟩,
     ⟨S1024x8, broadcastInDim S1024x8 ![] bcast_S_S1024x8 (constant (F := Ideal) S_ .f32 0x00000000#32)⟩,
     ⟨S1024x8, extractStridedSlice S1024x8 ![0, 2840] x slices_S1024x4896_S1024x8_0_2840⟩,
     ⟨S1024x8, broadcastInDim S1024x8 ![] bcast_S_S1024x8 (constant (F := Ideal) S_ .f32 0x00000000#32)⟩]
    concatenates_S1024x1280_S1024x1536_S1024x24_S1024x8_S1024x8_S1024x8_S1024x2864_d1) transposes_S1024x2864_S2864x1024_1_0) bitsLt_bf16_f32
/-- its bias. -/
def hD (x : FVec Ideal S4896 .f32) : FVec Ideal S2864x1 .f32 :=
  shapeCast S2864x1 (concatenate (α := EReal) S2864 0
    [⟨S1280, extractStridedSlice S1280 ![0] x slices_S4896_S1280_0⟩,
     ⟨S1536, extractStridedSlice S1536 ![1304] x slices_S4896_S1536_1304⟩,
     ⟨S24, extractStridedSlice S24 ![1280] x slices_S4896_S24_1280⟩,
     ⟨S8, broadcastInDim S8 ![] bcast_S_S8 (constant (F := Ideal) S_ .f32 0x00000000#32)⟩,
     ⟨S8, extractStridedSlice S8 ![2840] x slices_S4896_S8_2840⟩,
     ⟨S8, broadcastInDim S8 ![] bcast_S_S8 (constant (F := Ideal) S_ .f32 0x00000000#32)⟩]
    concatenates_S1280_S1536_S24_S8_S8_S8_S2864_d0) shapeCasts_S2864_S2864x1

variable (m : (ℓ : Loc nD τ sig) → Buf (Elt Ideal) ℓ)

theorem V_v4 (c : Dev nD) : V m c main_v4 = hW (m ((c : Thread nD τ).loc main_arg1)) := by
  unfold hW
  unfold_abbrev_sides
  after_reads_simp
  rfl
theorem V_v9 (c : Dev nD) : V m c main_v9 = hB (m ((c : Thread nD τ).loc main_arg2)) := by
  unfold hB
  unfold_abbrev_sides
  after_reads_simp
  rfl
theorem V_v18 (c : Dev nD) : V m c main_v18 = hT (m ((c : Thread nD τ).loc main_arg1)) := by
  unfold hT
  unfold_abbrev_sides
  after_reads_simp
  rfl
theorem V_v26 (c : Dev nD) : V m c main_v26 = hD (m ((c : Thread nD τ).loc main_arg2)) := by
  unfold hD
  unfold_abbrev_sides
  after_reads_simp
  rfl

variable (x : FVec Ideal S1024x4896 .f32) (y : FVec Ideal S4896 .f32)

theorem hW_gate (k : Fin 1024) (j : Fin 2048) : hW x (ix2 k ⟨j.val, by omega⟩) = x (ix2 k ⟨2848 + j.val, by omega⟩) := by
  unfold hW; simp only [pointwise]
  refine (dif_pos True.intro).trans (congrArg x ?_)
  funext a; fin_cases a <;> exact Fin.ext (by simp [ix2]; try omega)
theorem hW_forget (k : Fin 1024) (j : Fin 8) : hW x (ix2 k ⟨2048 + j.val, by omega⟩) = x (ix2 k ⟨2840 + j.val, by omega⟩) := by
  unfold hW; simp only [pointwise]
  refine (dif_neg (by show ¬ 2048 + j.val < 2048; omega)).trans ((dif_pos (by show 2048 + j.val - 2048 < 8; omega)).trans (congrArg x ?_))
  funext a; fin_cases a <;> exact Fin.ext (by simp [ix2]; try omega)
theorem hB_gate (j : Fin 2048) : hB y (ix2 0 ⟨j.val, by omega⟩) = y (ix1 ⟨2848 + j.val, by omega⟩) := by
  unfold hB; simp only [pointwise]
  refine (dif_pos True.intro).trans (congrArg y ?_)
  funext a; fin_cases a; exact Fin.ext (by simp [ix1]; try omega)
theorem hB_forget (j : Fin 8) : hB y (ix2 0 ⟨2048 + j.val, by omega⟩) = y (ix1 ⟨2840 + j.val, by omega⟩) := by
  unfold hB; simp only [pointwise]
  refine (dif_neg (by show ¬ 2048 + j.val < 2048; omega)).trans ((dif_pos (by show 2048 + j.val - 2048 < 8; omega)).trans (congrArg y ?_))
  funext a; fin_cases a; exact Fin.ext (by simp [ix1]; try omega)

/-- The rows before the fox columns; -/
theorem hT_a (e : Fin 1280) (k : Fin 1024) : hT x (ix2 ⟨e.val, by omega⟩ k) = x (ix2 k ⟨e.val, by omega⟩) := by
  unfold hT; simp only [pointwise]
  refine (dif_pos True.intro).trans (congrArg x ?_)
  funext a; fin_cases a <;> exact Fin.ext (by simp [ix2]; try omega)
/-- the fox columns; -/
theorem hT_b (e : Fin 1536) (k : Fin 1024) : hT x (ix2 ⟨1280 + e.val, by omega⟩ k) = x (ix2 k ⟨1304 + e.val, by omega⟩) := by
  unfold hT; simp only [pointwise]
  refine (dif_neg (by show ¬ 1280 + e.val < 1280; omega)).trans ((dif_pos (by show 1280 + e.val - 1280 < 1536; omega)).trans (congrArg x ?_))
  funext a; fin_cases a <;> exact Fin.ext (by simp [ix2]; try omega)
/-- the branch gates; -/
theorem hT_c (e : Fin 24) (k : Fin 1024) : hT x (ix2 ⟨2816 + e.val, by omega⟩ k) = x (ix2 k ⟨1280 + e.val, by omega⟩) := by
  unfold hT; simp only [pointwise]
  refine (dif_neg (by show ¬ 2816 + e.val < 1280; omega)).trans ((dif_neg (by show ¬ 2816 + e.val - 1280 < 1536; omega)).trans
    ((dif_pos (by show 2816 + e.val - 1280 - 1536 < 24; omega)).trans (congrArg x ?_)))
  funext a; fin_cases a <;> exact Fin.ext (by simp [ix2]; try omega)

/-- eight rows of zeros; -/
theorem hT_d (e : Fin 8) (k : Fin 1024) : hT x (ix2 ⟨2840 + e.val, by omega⟩ k) = 0 := by
  unfold hT; simp only [pointwise]
  refine (dif_neg (by show ¬ 2840 + e.val < 1280; omega)).trans ((dif_neg (by show ¬ 2840 + e.val - 1280 < 1536; omega)).trans
    ((dif_neg (by show ¬ 2840 + e.val - 1280 - 1536 < 24; omega)).trans (dif_pos (by show 2840 + e.val - 1280 - 1536 - 24 < 8; omega))))
/-- the forget column. -/
theorem hT_e (e : Fin 8) (k : Fin 1024) : hT x (ix2 ⟨2848 + e.val, by omega⟩ k) = x (ix2 k ⟨2840 + e.val, by omega⟩) := by
  unfold hT; simp only [pointwise]
  refine (dif_neg (by show ¬ 2848 + e.val < 1280; omega)).trans ((dif_neg (by show ¬ 2848 + e.val - 1280 < 1536; omega)).trans
    ((dif_neg (by show ¬ 2848 + e.val - 1280 - 1536 < 24; omega)).trans ((dif_neg (by show ¬ 2848 + e.val - 1280 - 1536 - 24 < 8; omega)).trans
    ((dif_pos (by show 2848 + e.val - 1280 - 1536 - 24 - 8 < 8; omega)).trans (congrArg x ?_)))))
  funext a; fin_cases a <;> exact Fin.ext (by simp [ix2]; try omega)

theorem hD_a (e : Fin 1280) : hD y (ix2 ⟨e.val, by omega⟩ 0) = y (ix1 ⟨e.val, by omega⟩) := by
  unfold hD; simp only [pointwise]
  refine (dif_pos True.intro).trans (congrArg y ?_)
  funext a; fin_cases a; exact Fin.ext (by simp [ix1]; try omega)
theorem hD_b (e : Fin 1536) : hD y (ix2 ⟨1280 + e.val, by omega⟩ 0) = y (ix1 ⟨1304 + e.val, by omega⟩) := by
  unfold hD; simp only [pointwise]
  refine (dif_neg (by show ¬ 1280 + e.val < 1280; omega)).trans ((dif_pos (by show 1280 + e.val - 1280 < 1536; omega)).trans (congrArg y ?_))
  funext a; fin_cases a; exact Fin.ext (by simp [ix1]; try omega)
theorem hD_c (e : Fin 24) : hD y (ix2 ⟨2816 + e.val, by omega⟩ 0) = y (ix1 ⟨1280 + e.val, by omega⟩) := by
  unfold hD; simp only [pointwise]
  refine (dif_neg (by show ¬ 2816 + e.val < 1280; omega)).trans ((dif_neg (by show ¬ 2816 + e.val - 1280 < 1536; omega)).trans
    ((dif_pos (by show 2816 + e.val - 1280 - 1536 < 24; omega)).trans (congrArg y ?_)))
  funext a; fin_cases a; exact Fin.ext (by simp [ix1]; try omega)
theorem hD_d (e : Fin 8) : hD y (ix2 ⟨2840 + e.val, by omega⟩ 0) = 0 := by
  unfold hD; simp only [pointwise]
  refine (dif_neg (by show ¬ 2840 + e.val < 1280; omega)).trans ((dif_neg (by show ¬ 2840 + e.val - 1280 < 1536; omega)).trans
    ((dif_neg (by show ¬ 2840 + e.val - 1280 - 1536 < 24; omega)).trans (dif_pos (by show 2840 + e.val - 1280 - 1536 - 24 < 8; omega))))
theorem hD_e (e : Fin 8) : hD y (ix2 ⟨2848 + e.val, by omega⟩ 0) = y (ix1 ⟨2840 + e.val, by omega⟩) := by
  unfold hD; simp only [pointwise]
  refine (dif_neg (by show ¬ 2848 + e.val < 1280; omega)).trans ((dif_neg (by show ¬ 2848 + e.val - 1280 < 1536; omega)).trans
    ((dif_neg (by show ¬ 2848 + e.val - 1280 - 1536 < 24; omega)).trans ((dif_neg (by show ¬ 2848 + e.val - 1280 - 1536 - 24 < 8; omega)).trans
    ((dif_pos (by show 2848 + e.val - 1280 - 1536 - 24 - 8 < 8; omega)).trans (congrArg y ?_)))))
  funext a; fin_cases a; exact Fin.ext (by simp [ix1]; try omega)

end Cert.ProjVal

end
-- ==== Proof.ProjPay.lean ====
module

public import proofs.«01_k».proof.Proof.Gen.ProjKernelIdeal.Frame
public import proofs.«01_k».proof.Defs
public import Idealize.ShloMosaic.Lib.Pipeline.ValueKit

/-!
# One step of the projection

What a step of the projection's call stores, entry by entry, from the blocks it reads: a row of the activations against a column
of the weights, with its bias, and after that the sigmoid, the log sigmoid or the queries' factor.
-/

@[expose] public section

set_option maxRecDepth 16384

noncomputable section

namespace Cert.ProjPay

open Cert.ProjKernelIdeal Cert.ProjKernelIdeal.Gen Idealize.ShloMosaic Idealize.ShloMosaic.TcCoe Idealize.SL.Sem

/-- The sigmoid, -/
def sg (z : EReal) : EReal := Ideal.div (Ideal.ofBits .f32 0x3F800000#32) (Ideal.ofBits .f32 0x3F800000#32 + Ideal.exp (0 - z))
/-- and the logarithm of the sigmoid, as sums that do not overflow. -/
def ls (z : EReal) : EReal := 0 - (max (0 - z) 0 + Ideal.log (Ideal.ofBits .f32 0x3F800000#32 + Ideal.exp (0 - max z (-z))))
/-- The factor of the queries. -/
def eighth : EReal := Ideal.ofBits .f32 0x3E000000#32

theorem zeros : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

theorem ld1 (X : Vec Ideal S1024x2176 .bf16) (k : Fin 1024) (j : Fin 2048) : View.ld X r0_1 (ix2 k j) = X (ix2 k ⟨0 + j.val, by omega⟩) := by
  show X _ = X _
  refine congrArg X (funext fun a => Fin.ext ?_)
  fin_cases a
  · show 0 + 1 * k.val = k.val; omega
  · show 0 + 1 * j.val = 0 + j.val; omega
theorem ld2 (X : Vec Ideal S1x2176 .f32) (j : Fin 2048) : View.ld X r0_2 (ix2 0 j) = X (ix2 0 ⟨0 + j.val, by omega⟩) := by
  show X _ = X _
  refine congrArg X (funext fun a => Fin.ext ?_)
  fin_cases a
  · rfl
  · show 0 + 1 * j.val = 0 + j.val; omega
theorem ld4 (X : Vec Ideal S1024x2176 .bf16) (k : Fin 1024) (j : Fin 128) : View.ld X r0_4 (ix2 k j) = X (ix2 k ⟨2048 + j.val, by omega⟩) := by
  show X _ = X _
  refine congrArg X (funext fun a => Fin.ext ?_)
  fin_cases a
  · show 0 + 1 * k.val = k.val; omega
  · show 2048 + 1 * j.val = 2048 + j.val; omega
theorem ld5 (X : Vec Ideal S1x2176 .f32) (j : Fin 128) : View.ld X r0_5 (ix2 0 j) = X (ix2 0 ⟨2048 + j.val, by omega⟩) := by
  show X _ = X _
  refine congrArg X (funext fun a => Fin.ext ?_)
  fin_cases a
  · rfl
  · show 2048 + 1 * j.val = 2048 + j.val; omega
theorem ld7 (X : Vec Ideal S2864x1024 .bf16) (e : Fin 512) (k : Fin 1024) : View.ld X r0_7 (ix2 e k) = X (ix2 ⟨0 + e.val, by omega⟩ k) := by
  show X _ = X _
  refine congrArg X (funext fun a => Fin.ext ?_)
  fin_cases a
  · show 0 + 1 * e.val = 0 + e.val; omega
  · show 0 + 1 * k.val = k.val; omega
theorem ld8 (X : Vec Ideal S2864x1 .f32) (e : Fin 512) : View.ld X r0_8 (ix2 e 0) = X (ix2 ⟨0 + e.val, by omega⟩ 0) := by
  show X _ = X _
  refine congrArg X (funext fun a => Fin.ext ?_)
  fin_cases a
  · show 0 + 1 * e.val = 0 + e.val; omega
  · rfl
theorem ld10 (X : Vec Ideal S2864x1024 .bf16) (e : Fin 768) (k : Fin 1024) : View.ld X r0_10 (ix2 e k) = X (ix2 ⟨512 + e.val, by omega⟩ k) := by
  show X _ = X _
  refine congrArg X (funext fun a => Fin.ext ?_)
  fin_cases a
  · show 512 + 1 * e.val = 512 + e.val; omega
  · show 0 + 1 * k.val = k.val; omega
theorem ld11 (X : Vec Ideal S2864x1 .f32) (e : Fin 768) : View.ld X r0_11 (ix2 e 0) = X (ix2 ⟨512 + e.val, by omega⟩ 0) := by
  show X _ = X _
  refine congrArg X (funext fun a => Fin.ext ?_)
  fin_cases a
  · show 512 + 1 * e.val = 512 + e.val; omega
  · rfl
theorem ld18 (X : Vec Ideal S2864x1024 .bf16) (e : Fin 512) (k : Fin 1024) : View.ld X r0_18 (ix2 e k) = X (ix2 ⟨1280 + e.val, by omega⟩ k) := by
  show X _ = X _
  refine congrArg X (funext fun a => Fin.ext ?_)
  fin_cases a
  · show 1280 + 1 * e.val = 1280 + e.val; omega
  · show 0 + 1 * k.val = k.val; omega
theorem ld19 (X : Vec Ideal S2864x1 .f32) (e : Fin 512) : View.ld X r0_19 (ix2 e 0) = X (ix2 ⟨1280 + e.val, by omega⟩ 0) := by
  show X _ = X _
  refine congrArg X (funext fun a => Fin.ext ?_)
  fin_cases a
  · show 1280 + 1 * e.val = 1280 + e.val; omega
  · rfl
theorem ld20 (X : Vec Ideal S2864x1024 .bf16) (e : Fin 1024) (k : Fin 1024) : View.ld X r0_20 (ix2 e k) = X (ix2 ⟨1792 + e.val, by omega⟩ k) := by
  show X _ = X _
  refine congrArg X (funext fun a => Fin.ext ?_)
  fin_cases a
  · show 1792 + 1 * e.val = 1792 + e.val; omega
  · show 0 + 1 * k.val = k.val; omega
theorem ld21 (X : Vec Ideal S2864x1 .f32) (e : Fin 1024) : View.ld X r0_21 (ix2 e 0) = X (ix2 ⟨1792 + e.val, by omega⟩ 0) := by
  show X _ = X _
  refine congrArg X (funext fun a => Fin.ext ?_)
  fin_cases a
  · show 1792 + 1 * e.val = 1792 + e.val; omega
  · rfl
theorem ld44 (X : Vec Ideal S2864x1024 .bf16) (e : Fin 32) (k : Fin 1024) : View.ld X r0_44 (ix2 e k) = X (ix2 ⟨2816 + e.val, by omega⟩ k) := by
  show X _ = X _
  refine congrArg X (funext fun a => Fin.ext ?_)
  fin_cases a
  · show 2816 + 1 * e.val = 2816 + e.val; omega
  · show 0 + 1 * k.val = k.val; omega
theorem ld45 (X : Vec Ideal S2864x1 .f32) (e : Fin 32) : View.ld X r0_45 (ix2 e 0) = X (ix2 ⟨2816 + e.val, by omega⟩ 0) := by
  show X _ = X _
  refine congrArg X (funext fun a => Fin.ext ?_)
  fin_cases a
  · show 2816 + 1 * e.val = 2816 + e.val; omega
  · rfl
theorem ld47 (X : Vec Ideal S2864x1024 .bf16) (e : Fin 16) (k : Fin 1024) : View.ld X r0_47 (ix2 e k) = X (ix2 ⟨2848 + e.val, by omega⟩ k) := by
  show X _ = X _
  refine congrArg X (funext fun a => Fin.ext ?_)
  fin_cases a
  · show 2848 + 1 * e.val = 2848 + e.val; omega
  · show 0 + 1 * k.val = k.val; omega
theorem ld48 (X : Vec Ideal S2864x1 .f32) (e : Fin 16) : View.ld X r0_48 (ix2 e 0) = X (ix2 ⟨2848 + e.val, by omega⟩ 0) := by
  show X _ = X _
  refine congrArg X (funext fun a => Fin.ext ?_)
  fin_cases a
  · show 2848 + 1 * e.val = 2848 + e.val; omega
  · rfl

theorem p3 (A : Vec Ideal S256x1024 .f32) (W : Vec Ideal S1024x2048 .bf16) (B : Vec Ideal S1x2048 .f32) (r : Fin 256) (j : Fin 2048) :
    k0_pay3 (F := Ideal) A W B (ix2 r j) = sg ((∑ k, A (ix2 r k) * W (ix2 k j)) + B (ix2 0 j)) := by
  unfold k0_pay3 k0_pay2 sg; simp only [pointwise, zero_add]; rfl
theorem p5 (A : Vec Ideal S256x1024 .f32) (W : Vec Ideal S1024x128 .bf16) (B : Vec Ideal S1x128 .f32) (r : Fin 256) (j : Fin 8) :
    k0_pay5 (F := Ideal) (k0_pay4 A W B) (Scalar.ofBits .f32 0x00000000#32) (ix2 r j)
      = ls ((∑ k, A (ix2 r k) * W (ix2 k ⟨j.val, by omega⟩)) + B (ix2 0 ⟨j.val, by omega⟩)) := by
  unfold k0_pay5 k0_pay4 k0_pay2 ls; simp only [pointwise, zero_add, Matrix.cons_val_zero, Matrix.cons_val_one, Fin.eta]; rfl
theorem p7 (A : Vec Ideal S256x1024 .f32) (W : Vec Ideal S512x1024 .bf16) (B : Vec Ideal S512x1 .f32) (n : Fin 8) (d : Fin 64) (r : Fin 256) :
    k0_pay7 (F := Ideal) (k0_pay2 A) W B (ix4 0 n d r)
      = ((∑ k, W (ix2 ⟨64 * n.val + d.val, by omega⟩ k) * A (ix2 r k)) + B (ix2 ⟨64 * n.val + d.val, by omega⟩ 0)) * eighth := by
  have e : (⟨n.val * 64 + d.val, by omega⟩ : Fin 512) = ⟨64 * n.val + d.val, by omega⟩ := Fin.ext (by show n.val * 64 + d.val = 64 * n.val + d.val; omega)
  unfold k0_pay7 k0_pay2 eighth; simp only [pointwise, zero_add, e]; rfl
theorem p16 (A : Vec Ideal S256x1024 .f32) (W : Vec Ideal S512x1024 .bf16) (B : Vec Ideal S512x1 .f32) (n : Fin 8) (d : Fin 64) (r : Fin 256) :
    k0_pay16 (F := Ideal) (k0_pay15 (k0_pay2 A) W) B (ix4 0 n d r)
      = ((∑ k, W (ix2 ⟨64 * n.val + d.val, by omega⟩ k) * A (ix2 r k)) + B (ix2 ⟨64 * n.val + d.val, by omega⟩ 0)) * eighth := by
  have e : (⟨n.val * 64 + d.val, by omega⟩ : Fin 512) = ⟨64 * n.val + d.val, by omega⟩ := Fin.ext (by show n.val * 64 + d.val = 64 * n.val + d.val; omega)
  unfold k0_pay16 k0_pay15 k0_pay2 eighth; simp only [pointwise, zero_add, e]; rfl
theorem p9 (A : Vec Ideal S256x1024 .f32) (W : Vec Ideal S768x1024 .bf16) (B : Vec Ideal S768x1 .f32) (e : Fin 512) (r : Fin 256) :
    k0_pay9 (F := Ideal) (k0_pay2 A) W B (ix3 0 e r) = (∑ k, W (ix2 ⟨e.val, by omega⟩ k) * A (ix2 r k)) + B (ix2 ⟨e.val, by omega⟩ 0) := by
  unfold k0_pay9 k0_pay8 k0_pay2; simp only [pointwise, zero_add, Matrix.cons_val_zero, Matrix.cons_val_one, Fin.eta]; rfl
theorem p10 (A : Vec Ideal S256x1024 .f32) (W : Vec Ideal S768x1024 .bf16) (B : Vec Ideal S768x1 .f32) (e : Fin 256) (r : Fin 256) :
    k0_pay10 (F := Ideal) (k0_pay8 (k0_pay2 A) W B) (ix3 0 e r)
      = (∑ k, W (ix2 ⟨512 + e.val, by omega⟩ k) * A (ix2 r k)) + B (ix2 ⟨512 + e.val, by omega⟩ 0) := by
  unfold k0_pay10 k0_pay8 k0_pay2; simp only [pointwise, zero_add, Matrix.cons_val_zero, Matrix.cons_val_one, Fin.eta]; rfl
theorem p18 (A : Vec Ideal S256x1024 .f32) (W : Vec Ideal S1024x1024 .bf16) (B : Vec Ideal S1024x1 .f32) (e : Fin 1024) (r : Fin 256) :
    k0_pay18 (F := Ideal) (k0_pay2 A) W B (ix3 0 e r) = (∑ k, W (ix2 e k) * A (ix2 r k)) + B (ix2 e 0) := by
  unfold k0_pay18 k0_pay17 k0_pay2; simp only [pointwise, zero_add]; rfl
theorem p47 (A : Vec Ideal S256x1024 .f32) (W : Vec Ideal S32x1024 .bf16) (B : Vec Ideal S32x1 .f32) (e : Fin 32) (r : Fin 256) :
    k0_pay47 (F := Ideal) (k0_pay46 (k0_pay2 A) W) B (ix2 e r) = sg ((∑ k, W (ix2 e k) * A (ix2 r k)) + B (ix2 e 0)) := by
  unfold k0_pay47 k0_pay46 k0_pay2 sg; simp only [pointwise, zero_add]; rfl
theorem p1 (A : Vec Ideal S256x1024 .f32) (W : Vec Ideal S16x1024 .bf16) (B : Vec Ideal S16x1 .f32) (e : Fin 8) (r : Fin 256) :
    k0_pay1 (F := Ideal) (k0_pay48 (k0_pay2 A) W B) (ix3 0 e r)
      = ls ((∑ k, W (ix2 ⟨e.val, by omega⟩ k) * A (ix2 r k)) + B (ix2 ⟨e.val, by omega⟩ 0)) := by
  unfold k0_pay1 k0_pay48 k0_pay2 ls; simp only [pointwise, zero_add, Matrix.cons_val_zero, Matrix.cons_val_one, Fin.eta]; rfl

end Cert.ProjPay

end
-- ==== Proof.ProjHost.lean ====
module

public import proofs.«01_k».proof.Proof.ProjVal
public import proofs.«01_k».proof.Proof.ProjPay
public import proofs.«01_k».proof.Proof.Gen.ProjKernelIdeal.Frame
public import proofs.«01_k».proof.Defs
public import Idealize.ShloMosaic.Lib.Pipeline.ValueKit

/-!
# The projection's results, and its blocks

Each result entry by entry; where a step's blocks lie in the arguments and in the results; what a step stores.
-/

@[expose] public section

set_option maxRecDepth 16384

noncomputable section

namespace Cert.ProjHost

open Cert.ProjVal Cert.ProjPay
open Cert.ProjKernelIdeal Cert.ProjKernelIdeal.Gen Idealize.ShloMosaic Idealize.ShloMosaic.TcCoe Idealize.SL.Sem

section Results

variable (h : S32768x1024.Idx → EReal) (w : S1024x4896.Idx → EReal) (b : S4896.Idx → EReal)

/-- One number of the projection: a row of the activations against a column of the weights, with its bias. -/
def lin (r : Fin 32768) (c : Fin 4896) : EReal := (∑ k : Fin 1024, h (ix2 r k) * w (ix2 k c)) + b (ix1 c)

/-- The row of a batch's position. -/
def row (n : Fin 16) (s : Fin 2048) : Fin 32768 := ⟨2048 * n.val + s.val, by omega⟩

/-- The merge gates, -/
def oGm (i : S32768x2048.Idx) : EReal := sg (lin h w b (i 0) ⟨2848 + (i 1).val, by have : (i 1).val < 2048 := (i 1).isLt; omega⟩)
/-- the log forget values, -/
def oLogf (i : S32768x8.Idx) : EReal := ls (lin h w b (i 0) ⟨2840 + (i 1).val, by have : (i 1).val < 8 := (i 1).isLt; omega⟩)
/-- the compressed and selected keys and values, -/
def oNsa (i : S16x512x2048.Idx) : EReal := lin h w b (row (i 0) (i 2)) ⟨512 + (i 1).val, by have : (i 1).val < 512 := (i 1).isLt; omega⟩
/-- the window's keys and values, -/
def oWin (i : S16x256x2048.Idx) : EReal := lin h w b (row (i 0) (i 2)) ⟨1024 + (i 1).val, by have : (i 1).val < 256 := (i 1).isLt; omega⟩
/-- the forgetting attention's keys and values, -/
def oFox (i : S16x1024x2048.Idx) : EReal := lin h w b (row (i 0) (i 2)) ⟨1816 + (i 1).val, by have : (i 1).val < 1024 := (i 1).isLt; omega⟩
/-- the log forget values again, a head's in a row, -/
def oLogt (i : S16x8x2048.Idx) : EReal := ls (lin h w b (row (i 0) (i 2)) ⟨2840 + (i 1).val, by have : (i 1).val < 8 := (i 1).isLt; omega⟩)
/-- the queries of the one attention, -/
def oQa (i : S16x8x64x2048.Idx) : EReal :=
  lin h w b (row (i 0) (i 3)) ⟨64 * (i 1).val + (i 2).val, by have : (i 1).val < 8 := (i 1).isLt; have : (i 2).val < 64 := (i 2).isLt; omega⟩ * eighth
/-- those of the other, -/
def oQf (i : S16x8x64x2048.Idx) : EReal :=
  lin h w b (row (i 0) (i 3)) ⟨1304 + (64 * (i 1).val + (i 2).val), by have : (i 1).val < 8 := (i 1).isLt; have : (i 2).val < 64 := (i 2).isLt; omega⟩ * eighth
/-- the branch gates, with rows of one half below. -/
def oGa (i : S32x32768.Idx) : EReal :=
  if he : (i 0).val < 24 then sg (lin h w b (i 1) ⟨1280 + (i 0).val, by omega⟩) else Ideal.ofBits .f32 0x3F000000#32

theorem linN {r : Fin 32768} {c : Fin 4896} {A W : Fin 1024 → EReal} {B : EReal} (hA : ∀ k, A k = h (ix2 r k)) (hW : ∀ k, W k = w (ix2 k c))
    (hB : B = b (ix1 c)) : (∑ k, A k * W k) + B = lin h w b r c := by
  unfold lin
  exact congrArg₂ (· + ·) (Finset.sum_congr rfl fun k _ => congrArg₂ (· * ·) (hA k) (hW k)) hB
theorem linT {r : Fin 32768} {c : Fin 4896} {A W : Fin 1024 → EReal} {B : EReal} (hA : ∀ k, A k = h (ix2 r k)) (hW : ∀ k, W k = w (ix2 k c))
    (hB : B = b (ix1 c)) : (∑ k, W k * A k) + B = lin h w b r c := by
  unfold lin
  exact congrArg₂ (· + ·) (Finset.sum_congr rfl fun k _ => (mul_comm _ _).trans (congrArg₂ (· * ·) (hA k) (hW k))) hB

/-- Without weights and bias the sigmoid is one half. -/
theorem sg_zero {A W : Fin 1024 → EReal} {B : EReal} (hW : ∀ k, W k = 0) (hB : B = 0) : sg ((∑ k, W k * A k) + B) = Ideal.ofBits .f32 0x3F000000#32 := by
  have e1 : Ideal.ofBits .f32 0x3F800000#32 = ((1 : ℝ) : EReal) := by simp [Ideal.ofBits, Ideal.ieee, -EReal.coe_mul]; norm_num
  have e2 : Ideal.ofBits .f32 0x3F000000#32 = ((2⁻¹ : ℝ) : EReal) := by simp [Ideal.ofBits, Ideal.ieee, -EReal.coe_mul]; norm_num
  have e3 : (∑ k, W k * A k) + B = ((0 : ℝ) : EReal) := by simp [hW, hB]
  unfold sg
  rw [e3, e2, e1, show (0 : EReal) - ((0 : ℝ) : EReal) = ((0 : ℝ) : EReal) by simp, Ideal.exp_coe, Real.exp_zero, ← EReal.coe_add]
  unfold Ideal.div
  norm_num
  rw [show (1 / 2 : ℝ) = 2⁻¹ by norm_num, EReal.coe_inv]

end Results

section Columns

variable (x : FVec Ideal S1024x4896 .f32) (y : FVec Ideal S4896 .f32)

theorem row_a (E : Fin 2864) (c : Fin 4896) (hE : E.val < 1280) (hc : c.val = E.val) (k : Fin 1024) : hT x (ix2 E k) = x (ix2 k c) := by
  obtain ⟨e, he⟩ := E
  obtain ⟨c, hc'⟩ := c
  obtain rfl : c = e := hc
  exact hT_a x ⟨c, hE⟩ k
theorem bias_a (E : Fin 2864) (c : Fin 4896) (hE : E.val < 1280) (hc : c.val = E.val) : hD y (ix2 E 0) = y (ix1 c) := by
  obtain ⟨e, he⟩ := E
  obtain ⟨c, hc'⟩ := c
  obtain rfl : c = e := hc
  exact hD_a y ⟨c, hE⟩
theorem row_b (E : Fin 2864) (c : Fin 4896) (hl : 1280 ≤ E.val) (hE : E.val < 2816) (hc : c.val = E.val + 24) (k : Fin 1024) : hT x (ix2 E k) = x (ix2 k c) := by
  obtain ⟨E, he⟩ := E
  obtain ⟨e, rfl⟩ : ∃ e, E = 1280 + e := ⟨E - 1280, by simp only at hl; omega⟩
  obtain ⟨c, hc'⟩ := c
  obtain rfl : c = 1304 + e := by simp only at hc; omega
  exact hT_b x ⟨e, by simp only at hE; omega⟩ k
theorem bias_b (E : Fin 2864) (c : Fin 4896) (hl : 1280 ≤ E.val) (hE : E.val < 2816) (hc : c.val = E.val + 24) : hD y (ix2 E 0) = y (ix1 c) := by
  obtain ⟨E, he⟩ := E
  obtain ⟨e, rfl⟩ : ∃ e, E = 1280 + e := ⟨E - 1280, by simp only at hl; omega⟩
  obtain ⟨c, hc'⟩ := c
  obtain rfl : c = 1304 + e := by simp only at hc; omega
  exact hD_b y ⟨e, by simp only at hE; omega⟩
theorem row_c (E : Fin 2864) (c : Fin 4896) (hl : 2816 ≤ E.val) (hE : E.val < 2840) (hc : c.val + 1536 = E.val) (k : Fin 1024) : hT x (ix2 E k) = x (ix2 k c) := by
  obtain ⟨E, he⟩ := E
  obtain ⟨e, rfl⟩ : ∃ e, E = 2816 + e := ⟨E - 2816, by simp only at hl; omega⟩
  obtain ⟨c, hc'⟩ := c
  obtain rfl : c = 1280 + e := by simp only at hc; omega
  exact hT_c x ⟨e, by simp only at hE; omega⟩ k
theorem bias_c (E : Fin 2864) (c : Fin 4896) (hl : 2816 ≤ E.val) (hE : E.val < 2840) (hc : c.val + 1536 = E.val) : hD y (ix2 E 0) = y (ix1 c) := by
  obtain ⟨E, he⟩ := E
  obtain ⟨e, rfl⟩ : ∃ e, E = 2816 + e := ⟨E - 2816, by simp only at hl; omega⟩
  obtain ⟨c, hc'⟩ := c
  obtain rfl : c = 1280 + e := by simp only at hc; omega
  exact hD_c y ⟨e, by simp only at hE; omega⟩
theorem row_e (E : Fin 2864) (c : Fin 4896) (hl : 2848 ≤ E.val) (hE : E.val < 2856) (hc : c.val + 8 = E.val) (k : Fin 1024) : hT x (ix2 E k) = x (ix2 k c) := by
  obtain ⟨E, he⟩ := E
  obtain ⟨e, rfl⟩ : ∃ e, E = 2848 + e := ⟨E - 2848, by simp only at hl; omega⟩
  obtain ⟨c, hc'⟩ := c
  obtain rfl : c = 2840 + e := by simp only at hc; omega
  exact hT_e x ⟨e, by simp only at hE; omega⟩ k
theorem bias_e (E : Fin 2864) (c : Fin 4896) (hl : 2848 ≤ E.val) (hE : E.val < 2856) (hc : c.val + 8 = E.val) : hD y (ix2 E 0) = y (ix1 c) := by
  obtain ⟨E, he⟩ := E
  obtain ⟨e, rfl⟩ : ∃ e, E = 2848 + e := ⟨E - 2848, by simp only at hl; omega⟩
  obtain ⟨c, hc'⟩ := c
  obtain rfl : c = 2840 + e := by simp only at hc; omega
  exact hD_e y ⟨e, by simp only at hE; omega⟩
theorem row_d (E : Fin 2864) (hl : 2840 ≤ E.val) (hE : E.val < 2848) (k : Fin 1024) : hT x (ix2 E k) = 0 := by
  obtain ⟨E, he⟩ := E
  obtain ⟨e, rfl⟩ : ∃ e, E = 2840 + e := ⟨E - 2840, by simp only at hl; omega⟩
  exact hT_d x ⟨e, by simp only at hE; omega⟩ k
theorem bias_d (E : Fin 2864) (hl : 2840 ≤ E.val) (hE : E.val < 2848) : hD y (ix2 E 0) = 0 := by
  obtain ⟨E, he⟩ := E
  obtain ⟨e, rfl⟩ : ∃ e, E = 2840 + e := ⟨E - 2840, by simp only at hl; omega⟩
  exact hD_d y ⟨e, by simp only at hE; omega⟩

end Columns

section Blocks

variable (m : (ℓ : Loc nD τ sig) → Buf (Elt Ideal) ℓ)

theorem index_in : ∀ t : Fin cfg0.N, win0_0.index t = ![t.val, 0] ∧ win0_1.index t = ![0, 0] ∧ win0_2.index t = ![0, 0]
    ∧ win0_3.index t = ![0, 0] ∧ win0_4.index t = ![0, 0] := by
  decide +kernel
theorem index_out : ∀ t : Fin cfg0.N, win0_6.index t = ![t.val, 0] ∧ win0_8.index t = ![t.val, 0] ∧ win0_9.index t = ![t.val / 8, 0, t.val % 8]
    ∧ win0_10.index t = ![t.val / 8, 0, t.val % 8] ∧ win0_11.index t = ![t.val / 8, 0, t.val % 8] ∧ win0_12.index t = ![t.val / 8, 0, t.val % 8]
    ∧ win0_13.index t = ![t.val / 8, 0, 0, t.val % 8] ∧ win0_15.index t = ![t.val / 8, 0, 0, t.val % 8] ∧ win0_17.index t = ![0, t.val] := by
  decide +kernel

theorem lt128 (t : Fin cfg0.N) : t.val < 128 := lt_of_lt_of_eq t.isLt N_0
/-- A step's rows, its batch, and its positions there. -/
def rt (t : Fin cfg0.N) (r : Fin 256) : Fin 32768 := ⟨256 * t.val + r.val, by have := lt128 t; omega⟩
def bt (t : Fin cfg0.N) : Fin 16 := ⟨t.val / 8, by have := lt128 t; omega⟩
def st (t : Fin cfg0.N) (r : Fin 256) : Fin 2048 := ⟨256 * (t.val % 8) + r.val, by omega⟩
theorem row_eq (t : Fin cfg0.N) (r : Fin 256) : row (bt t) (st t r) = rt t r := by
  unfold row bt st rt
  exact Fin.ext (by show 2048 * (t.val / 8) + (256 * (t.val % 8) + r.val) = 256 * t.val + r.val; omega)

theorem emb0 (t : Fin cfg0.N) (r : Fin 256) (k : Fin 1024) : ((win0_0.blk t).view.emb (ix2 r k) : S32768x1024.Idx) = ix2 (rt t r) k := by
  unfold rt
  blk_ext [(index_in t).1]
theorem emb1 (t : Fin cfg0.N) (k : Fin 1024) (j : Fin 2176) : ((win0_1.blk t).view.emb (ix2 k j) : S1024x2176.Idx) = ix2 k j := by
  blk_ext [(index_in t).2.1]
theorem emb2 (t : Fin cfg0.N) (j : Fin 2176) : ((win0_2.blk t).view.emb (ix2 0 j) : S1x2176.Idx) = ix2 0 j := by
  blk_ext [(index_in t).2.2.1]
theorem emb3 (t : Fin cfg0.N) (e : Fin 2864) (k : Fin 1024) : ((win0_3.blk t).view.emb (ix2 e k) : S2864x1024.Idx) = ix2 e k := by
  blk_ext [(index_in t).2.2.2.1]
theorem emb4 (t : Fin cfg0.N) (e : Fin 2864) : ((win0_4.blk t).view.emb (ix2 e 0) : S2864x1.Idx) = ix2 e 0 := by
  blk_ext [(index_in t).2.2.2.2]
theorem emb6 (t : Fin cfg0.N) (r : Fin 256) (j : Fin 8) : ((win0_6.blk t).view.emb (ix2 r j) : S32768x8.Idx) = ix2 (rt t r) j := by
  unfold rt
  blk_ext [(index_out t).1]
theorem emb8 (t : Fin cfg0.N) (r : Fin 256) (j : Fin 2048) : ((win0_8.blk t).view.emb (ix2 r j) : S32768x2048.Idx) = ix2 (rt t r) j := by
  unfold rt
  blk_ext [(index_out t).2.1]
theorem emb9 (t : Fin cfg0.N) (e : Fin 512) (r : Fin 256) : ((win0_9.blk t).view.emb (ix3 0 e r) : S16x512x2048.Idx) = ix3 (bt t) e (st t r) := by
  unfold bt st
  blk_ext [(index_out t).2.2.1]
theorem emb10 (t : Fin cfg0.N) (e : Fin 256) (r : Fin 256) : ((win0_10.blk t).view.emb (ix3 0 e r) : S16x256x2048.Idx) = ix3 (bt t) e (st t r) := by
  unfold bt st
  blk_ext [(index_out t).2.2.2.1]
theorem emb11 (t : Fin cfg0.N) (e : Fin 1024) (r : Fin 256) : ((win0_11.blk t).view.emb (ix3 0 e r) : S16x1024x2048.Idx) = ix3 (bt t) e (st t r) := by
  unfold bt st
  blk_ext [(index_out t).2.2.2.2.1]
theorem emb12 (t : Fin cfg0.N) (e : Fin 8) (r : Fin 256) : ((win0_12.blk t).view.emb (ix3 0 e r) : S16x8x2048.Idx) = ix3 (bt t) e (st t r) := by
  unfold bt st
  blk_ext [(index_out t).2.2.2.2.2.1]
theorem emb13 (t : Fin cfg0.N) (n : Fin 8) (d : Fin 64) (r : Fin 256) : ((win0_13.blk t).view.emb (ix4 0 n d r) : S16x8x64x2048.Idx) = ix4 (bt t) n d (st t r) := by
  unfold bt st
  blk_ext [(index_out t).2.2.2.2.2.2.1]
theorem emb15 (t : Fin cfg0.N) (n : Fin 8) (d : Fin 64) (r : Fin 256) : ((win0_15.blk t).view.emb (ix4 0 n d r) : S16x8x64x2048.Idx) = ix4 (bt t) n d (st t r) := by
  unfold bt st
  blk_ext [(index_out t).2.2.2.2.2.2.2.1]
theorem emb17 (t : Fin cfg0.N) (e : Fin 32) (r : Fin 256) : ((win0_17.blk t).view.emb (ix2 e r) : S32x32768.Idx) = ix2 e (rt t r) := by
  unfold rt
  blk_ext [(index_out t).2.2.2.2.2.2.2.2]

theorem i0 (c : Dev nD) (t : Fin cfg0.N) (r : Fin 256) (k : Fin 1024) :
    (iblk m c 0 t : S256x1024.Idx → EReal) (ix2 r k) = (V m c main_arg0 : S32768x1024.Idx → EReal) (ix2 (rt t r) k) := by
  unfold iblk
  generalize V m c = W
  unfold View.read
  exact (cast_eq _ _).trans (congrArg (W main_arg0) (emb0 t r k))
theorem i1 (c : Dev nD) (t : Fin cfg0.N) (k : Fin 1024) (j : Fin 2176) :
    (iblk m c 1 t : S1024x2176.Idx → EReal) (ix2 k j) = (V m c main_v4 : S1024x2176.Idx → EReal) (ix2 k j) := by
  unfold iblk
  generalize V m c = W
  unfold View.read
  exact (cast_eq _ _).trans (congrArg (W main_v4) (emb1 t k j))
theorem i2 (c : Dev nD) (t : Fin cfg0.N) (j : Fin 2176) :
    (iblk m c 2 t : S1x2176.Idx → EReal) (ix2 0 j) = (V m c main_v9 : S1x2176.Idx → EReal) (ix2 0 j) := by
  unfold iblk
  generalize V m c = W
  unfold View.read
  exact (cast_eq _ _).trans (congrArg (W main_v9) (emb2 t j))
theorem i3 (c : Dev nD) (t : Fin cfg0.N) (e : Fin 2864) (k : Fin 1024) :
    (iblk m c 3 t : S2864x1024.Idx → EReal) (ix2 e k) = (V m c main_v18 : S2864x1024.Idx → EReal) (ix2 e k) := by
  unfold iblk
  generalize V m c = W
  unfold View.read
  exact (cast_eq _ _).trans (congrArg (W main_v18) (emb3 t e k))
theorem i4 (c : Dev nD) (t : Fin cfg0.N) (e : Fin 2864) :
    (iblk m c 4 t : S2864x1.Idx → EReal) (ix2 e 0) = (V m c main_v26 : S2864x1.Idx → EReal) (ix2 e 0) := by
  unfold iblk
  generalize V m c = W
  unfold View.read
  exact (cast_eq _ _).trans (congrArg (W main_v26) (emb4 t e))

theorem blk0 (c : Dev nD) (t : Fin cfg0.N) (r : Fin 256) (k : Fin 1024) :
    (iblk m c 0 t : S256x1024.Idx → EReal) (ix2 r k) = (m ((c : Thread nD τ).loc main_arg0) : S32768x1024.Idx → EReal) (ix2 (rt t r) k) :=
  (i0 m c t r k).trans (congrFun (V_main_arg0 m c) _)
theorem blk1 (c : Dev nD) (t : Fin cfg0.N) (k : Fin 1024) (j : Fin 2176) :
    (iblk m c 1 t : S1024x2176.Idx → EReal) (ix2 k j) = hW (m ((c : Thread nD τ).loc main_arg1)) (ix2 k j) :=
  (i1 m c t k j).trans (congrFun (V_v4 m c) _)
theorem blk2 (c : Dev nD) (t : Fin cfg0.N) (j : Fin 2176) :
    (iblk m c 2 t : S1x2176.Idx → EReal) (ix2 0 j) = hB (m ((c : Thread nD τ).loc main_arg2)) (ix2 0 j) :=
  (i2 m c t j).trans (congrFun (V_v9 m c) _)
theorem blk3 (c : Dev nD) (t : Fin cfg0.N) (e : Fin 2864) (k : Fin 1024) :
    (iblk m c 3 t : S2864x1024.Idx → EReal) (ix2 e k) = hT (m ((c : Thread nD τ).loc main_arg1)) (ix2 e k) :=
  (i3 m c t e k).trans (congrFun (V_v18 m c) _)
theorem blk4 (c : Dev nD) (t : Fin cfg0.N) (e : Fin 2864) :
    (iblk m c 4 t : S2864x1.Idx → EReal) (ix2 e 0) = hD (m ((c : Thread nD τ).loc main_arg2)) (ix2 e 0) :=
  (i4 m c t e).trans (congrFun (V_v26 m c) _)

end Blocks

end Cert.ProjHost

end
-- ==== Proof.ProjKer.lean ====
module

public import proofs.«01_k».proof.Proof.ProjHost
public import proofs.«01_k».proof.Proof.Gen.ProjKernelIdeal.Frame
public import proofs.«01_k».proof.Defs
public import Idealize.ShloMosaic.Lib.Pipeline.ValueKit

/-!
# The projection's result arrays

Each array the call leaves, entry by entry.
-/

@[expose] public section

set_option maxRecDepth 16384

noncomputable section

namespace Cert.ProjKer

open Cert.ProjVal Cert.ProjPay Cert.ProjHost
open Cert.ProjKernelIdeal Cert.ProjKernelIdeal.Gen Idealize.ShloMosaic Idealize.ShloMosaic.TcCoe Idealize.SL.Sem

section Step

variable (x0 : Vec Ideal S256x1024 .f32) (x1 : Vec Ideal S1024x2176 .bf16) (x2 : Vec Ideal S1x2176 .f32) (x3 : Vec Ideal S2864x1024 .bf16) (x4 : Vec Ideal S2864x1 .f32)

theorem ld0 : View.ld x0 r0_0 = x0 := View.ld_unit_zero zeros _ _
theorem low : k0_pay49 (F := Ideal) x0 x1 x2 x3 x4 = k0_pay2 x0 := by
  unfold k0_pay49
  rw [ld0]

theorem out6 (r : Fin 256) (j : Fin 8) : out0_6 (F := Ideal) x0 x1 x2 x3 x4 (ix2 r j) = ls ((∑ k, x0 (ix2 r k) * x1 (ix2 k ⟨2048 + j.val, by omega⟩)) + x2 (ix2 0 ⟨2048 + j.val, by omega⟩)) := by
  have e0 : out0_6 (F := Ideal) x0 x1 x2 x3 x4 = k0_pay5 (k0_pay4 x0 (View.ld x1 r0_4) (View.ld x2 r0_5)) (Scalar.ofBits .f32 0x00000000#32) := by
    unfold out0_6
    simp only [low, ld0]
    exact View.canon_unit_zero zeros _ _
  rw [e0]
  refine (p5 _ _ _ r j).trans (congrArg ls (congrArg₂ (· + ·) (Finset.sum_congr rfl fun k _ => congrArg₂ (· * ·) rfl ?_) ?_))
  · exact ld4 x1 k _
  · exact ld5 x2 _
theorem out8 (r : Fin 256) (j : Fin 2048) : out0_8 (F := Ideal) x0 x1 x2 x3 x4 (ix2 r j) = sg ((∑ k, x0 (ix2 r k) * x1 (ix2 k ⟨0 + j.val, by omega⟩)) + x2 (ix2 0 ⟨0 + j.val, by omega⟩)) := by
  have e0 : out0_8 (F := Ideal) x0 x1 x2 x3 x4 = k0_pay3 x0 (View.ld x1 r0_1) (View.ld x2 r0_2) := by
    unfold out0_8
    simp only [low, ld0]
    exact View.canon_unit_zero zeros _ _
  rw [e0]
  refine (p3 _ _ _ r j).trans (congrArg sg (congrArg₂ (· + ·) (Finset.sum_congr rfl fun k _ => congrArg₂ (· * ·) rfl ?_) ?_))
  · exact ld1 x1 k _
  · exact ld2 x2 _
theorem out9 (e : Fin 512) (r : Fin 256) : out0_9 (F := Ideal) x0 x1 x2 x3 x4 (ix3 0 e r) = (∑ k, x3 (ix2 ⟨512 + e.val, by omega⟩ k) * x0 (ix2 r k)) + x4 (ix2 ⟨512 + e.val, by omega⟩ 0) := by
  have e0 : out0_9 (F := Ideal) x0 x1 x2 x3 x4 = k0_pay9 (k0_pay2 x0) (View.ld x3 r0_10) (View.ld x4 r0_11) := by
    unfold out0_9
    simp only [low, ld0]
    exact View.canon_unit_zero zeros3 _ _
  rw [e0]
  refine (p9 _ _ _ e r).trans (congrArg₂ (· + ·) (Finset.sum_congr rfl fun k _ => congrArg₂ (· * ·) ?_ rfl) ?_)
  · exact ld10 x3 _ k
  · exact ld11 x4 _
theorem out10 (e : Fin 256) (r : Fin 256) : out0_10 (F := Ideal) x0 x1 x2 x3 x4 (ix3 0 e r) = (∑ k, x3 (ix2 ⟨512 + (512 + e.val), by omega⟩ k) * x0 (ix2 r k)) + x4 (ix2 ⟨512 + (512 + e.val), by omega⟩ 0) := by
  have e0 : out0_10 (F := Ideal) x0 x1 x2 x3 x4 = k0_pay10 (k0_pay8 (k0_pay2 x0) (View.ld x3 r0_10) (View.ld x4 r0_11)) := by
    unfold out0_10 k0_pay51
    simp only [low, ld0]
    exact View.canon_unit_zero zeros3 _ _
  rw [e0]
  refine (p10 _ _ _ e r).trans (congrArg₂ (· + ·) (Finset.sum_congr rfl fun k _ => congrArg₂ (· * ·) ?_ rfl) ?_)
  · exact ld10 x3 _ k
  · exact ld11 x4 _
theorem out11 (e : Fin 1024) (r : Fin 256) : out0_11 (F := Ideal) x0 x1 x2 x3 x4 (ix3 0 e r) = (∑ k, x3 (ix2 ⟨1792 + e.val, by omega⟩ k) * x0 (ix2 r k)) + x4 (ix2 ⟨1792 + e.val, by omega⟩ 0) := by
  have e0 : out0_11 (F := Ideal) x0 x1 x2 x3 x4 = k0_pay18 (k0_pay2 x0) (View.ld x3 r0_20) (View.ld x4 r0_21) := by
    unfold out0_11
    simp only [low, ld0]
    exact View.canon_unit_zero zeros3 _ _
  rw [e0]
  refine (p18 _ _ _ e r).trans (congrArg₂ (· + ·) (Finset.sum_congr rfl fun k _ => congrArg₂ (· * ·) ?_ rfl) ?_)
  · exact ld20 x3 _ k
  · exact ld21 x4 _
theorem out12 (e : Fin 8) (r : Fin 256) : out0_12 (F := Ideal) x0 x1 x2 x3 x4 (ix3 0 e r) = ls ((∑ k, x3 (ix2 ⟨2848 + e.val, by omega⟩ k) * x0 (ix2 r k)) + x4 (ix2 ⟨2848 + e.val, by omega⟩ 0)) := by
  have e0 : out0_12 (F := Ideal) x0 x1 x2 x3 x4 = k0_pay1 (k0_pay48 (k0_pay2 x0) (View.ld x3 r0_47) (View.ld x4 r0_48)) := by
    unfold out0_12
    simp only [low, ld0]
    exact View.canon_unit_zero zeros3 _ _
  rw [e0]
  refine (p1 _ _ _ e r).trans (congrArg ls (congrArg₂ (· + ·) (Finset.sum_congr rfl fun k _ => congrArg₂ (· * ·) ?_ rfl) ?_))
  · exact ld47 x3 _ k
  · exact ld48 x4 _
theorem out13 (n : Fin 8) (d : Fin 64) (r : Fin 256) : out0_13 (F := Ideal) x0 x1 x2 x3 x4 (ix4 0 n d r) = ((∑ k, x3 (ix2 ⟨0 + (64 * n.val + d.val), by omega⟩ k) * x0 (ix2 r k)) + x4 (ix2 ⟨0 + (64 * n.val + d.val), by omega⟩ 0)) * eighth := by
  have e0 : out0_13 (F := Ideal) x0 x1 x2 x3 x4 = k0_pay7 (k0_pay2 x0) (View.ld x3 r0_7) (View.ld x4 r0_8) := by
    unfold out0_13
    simp only [low, ld0]
    exact View.canon_unit_zero zeros4 _ _
  rw [e0]
  refine (p7 _ _ _ n d r).trans (congrArg (· * eighth) (congrArg₂ (· + ·) (Finset.sum_congr rfl fun k _ => congrArg₂ (· * ·) ?_ rfl) ?_))
  · exact ld7 x3 _ k
  · exact ld8 x4 _
theorem out15 (n : Fin 8) (d : Fin 64) (r : Fin 256) : out0_15 (F := Ideal) x0 x1 x2 x3 x4 (ix4 0 n d r) = ((∑ k, x3 (ix2 ⟨1280 + (64 * n.val + d.val), by omega⟩ k) * x0 (ix2 r k)) + x4 (ix2 ⟨1280 + (64 * n.val + d.val), by omega⟩ 0)) * eighth := by
  have e0 : out0_15 (F := Ideal) x0 x1 x2 x3 x4 = k0_pay16 (k0_pay15 (k0_pay2 x0) (View.ld x3 r0_18)) (View.ld x4 r0_19) := by
    unfold out0_15
    simp only [low, ld0]
    exact View.canon_unit_zero zeros4 _ _
  rw [e0]
  refine (p16 _ _ _ n d r).trans (congrArg (· * eighth) (congrArg₂ (· + ·) (Finset.sum_congr rfl fun k _ => congrArg₂ (· * ·) ?_ rfl) ?_))
  · exact ld18 x3 _ k
  · exact ld19 x4 _
theorem out17 (e : Fin 32) (r : Fin 256) : out0_17 (F := Ideal) x0 x1 x2 x3 x4 (ix2 e r) = sg ((∑ k, x3 (ix2 ⟨2816 + e.val, by omega⟩ k) * x0 (ix2 r k)) + x4 (ix2 ⟨2816 + e.val, by omega⟩ 0)) := by
  have e0 : out0_17 (F := Ideal) x0 x1 x2 x3 x4 = k0_pay47 (k0_pay46 (k0_pay2 x0) (View.ld x3 r0_44)) (View.ld x4 r0_45) := by
    unfold out0_17
    simp only [low, ld0]
    exact View.canon_unit_zero zeros _ _
  rw [e0]
  refine (p47 _ _ _ e r).trans (congrArg sg (congrArg₂ (· + ·) (Finset.sum_congr rfl fun k _ => congrArg₂ (· * ·) ?_ rfl) ?_))
  · exact ld44 x3 _ k
  · exact ld45 x4 _

end Step

section Arrays

variable (m : (ℓ : Loc nD τ sig) → Buf (Elt Ideal) ℓ) (c : Dev nD)

/-- The three arguments: the activations, the weights and the bias. -/
def argH : S32768x1024.Idx → EReal := m ((c : Thread nD τ).loc main_arg0)
def argW : S1024x4896.Idx → EReal := m ((c : Thread nD τ).loc main_arg1)
def argB : S4896.Idx → EReal := m ((c : Thread nD τ).loc main_arg2)

/-- The five blocks of a step. -/
def B0 (t : Fin cfg0.N) : S256x1024.Idx → EReal := iblk m c 0 t
def B1 (t : Fin cfg0.N) : S1024x2176.Idx → EReal := iblk m c 1 t
def B2 (t : Fin cfg0.N) : S1x2176.Idx → EReal := iblk m c 2 t
def B3 (t : Fin cfg0.N) : S2864x1024.Idx → EReal := iblk m c 3 t
def B4 (t : Fin cfg0.N) : S2864x1.Idx → EReal := iblk m c 4 t

/-- A row of the rows' matrix whose column is `C`: its product is that of the projection. -/
theorem colT {E : Fin 2864} {C : Fin 4896} (t : Fin cfg0.N) (r : Fin 256) (hW : ∀ k, hT (argW m c) (ix2 E k) = argW m c (ix2 k C)) (hB : hD (argB m c) (ix2 E 0) = argB m c (ix1 C)) :
    (∑ k, B3 m c t (ix2 E k) * B0 m c t (ix2 r k)) + B4 m c t (ix2 E 0)
      = lin (argH m c) (argW m c) (argB m c) (rt t r) C :=
  linT (argH m c) (argW m c) (argB m c) (fun k => blk0 m c t r k) (fun k => (blk3 m c t E k).trans (hW k)) ((blk4 m c t E).trans hB)
theorem colN {E : Fin 2176} {C : Fin 4896} (t : Fin cfg0.N) (r : Fin 256) (hW : ∀ k, ProjVal.hW (argW m c) (ix2 k E) = argW m c (ix2 k C)) (hB : ProjVal.hB (argB m c) (ix2 0 E) = argB m c (ix1 C)) :
    (∑ k, B0 m c t (ix2 r k) * B1 m c t (ix2 k E)) + B2 m c t (ix2 0 E)
      = lin (argH m c) (argW m c) (argB m c) (rt t r) C :=
  linN (argH m c) (argW m c) (argB m c) (fun k => blk0 m c t r k) (fun k => (blk1 m c t k E).trans (hW k)) ((blk2 m c t E).trans hB)

theorem arr6 : (Gen.dats m 0 c).arrAt 6 cfg0.N = oLogf (argH m c) (argW m c) (argB m c) := by
  refine (Gen.dats m 0 c).arrAt_eq_of_covers 6 _ (by decide +kernel) fun t hf y => ?_
  blk_simp
  rw [after0_6]
  obtain ⟨r, j, rfl⟩ : ∃ (r : Fin 256) (j : Fin 8), y = ix2 r j := ⟨y 0, y 1, funext fun a => by fin_cases a <;> rfl⟩
  refine Eq.trans ?_ (congrArg (oLogf (argH m c) (argW m c) (argB m c)) (emb6 t r j)).symm
  refine (out6 _ _ _ _ _ r j).trans ?_
  exact congrArg ls (colN m c t r (fun k => hW_forget _ k j) (hB_forget _ j))
theorem arr8 : (Gen.dats m 0 c).arrAt 8 cfg0.N = oGm (argH m c) (argW m c) (argB m c) := by
  refine (Gen.dats m 0 c).arrAt_eq_of_covers 8 _ (by decide +kernel) fun t hf y => ?_
  blk_simp
  rw [after0_8]
  obtain ⟨r, j, rfl⟩ : ∃ (r : Fin 256) (j : Fin 2048), y = ix2 r j := ⟨y 0, y 1, funext fun a => by fin_cases a <;> rfl⟩
  refine Eq.trans ?_ (congrArg (oGm (argH m c) (argW m c) (argB m c)) (emb8 t r j)).symm
  refine (out8 _ _ _ _ _ r j).trans ?_
  refine congrArg sg (colN m c t r (fun k => ?_) ?_)
  · rw [show (⟨0 + j.val, by omega⟩ : Fin 2176) = ⟨j.val, by omega⟩ from Fin.ext (Nat.zero_add _)]
    exact hW_gate _ k j
  · rw [show (⟨0 + j.val, by omega⟩ : Fin 2176) = ⟨j.val, by omega⟩ from Fin.ext (Nat.zero_add _)]
    exact hB_gate _ j
theorem arr9 : (Gen.dats m 0 c).arrAt 9 cfg0.N = oNsa (argH m c) (argW m c) (argB m c) := by
  refine (Gen.dats m 0 c).arrAt_eq_of_covers 9 _ (by decide +kernel) fun t hf y => ?_
  blk_simp
  rw [after0_9]
  obtain ⟨e, r, rfl⟩ : ∃ (e : Fin 512) (r : Fin 256), y = ix3 0 e r := ⟨y 1, y 2, funext fun a => by
    fin_cases a
    · exact Subsingleton.elim (α := Fin 1) _ _
    · rfl
    · rfl⟩
  refine Eq.trans ?_ (congrArg (oNsa (argH m c) (argW m c) (argB m c)) (emb9 t e r)).symm
  refine (out9 _ _ _ _ _ e r).trans ?_
  refine Eq.trans ?_ (congrArg (fun R => lin (argH m c) (argW m c) (argB m c) R ⟨512 + e.val, by omega⟩) (row_eq t r)).symm
  exact colT m c t r (C := ⟨512 + e.val, by omega⟩) (fun k => row_a _ _ _ (by simp only; omega) (by simp only; try omega) k) (bias_a _ _ _ (by simp only; omega) (by simp only; try omega))
theorem arr10 : (Gen.dats m 0 c).arrAt 10 cfg0.N = oWin (argH m c) (argW m c) (argB m c) := by
  refine (Gen.dats m 0 c).arrAt_eq_of_covers 10 _ (by decide +kernel) fun t hf y => ?_
  blk_simp
  rw [after0_10]
  obtain ⟨e, r, rfl⟩ : ∃ (e : Fin 256) (r : Fin 256), y = ix3 0 e r := ⟨y 1, y 2, funext fun a => by
    fin_cases a
    · exact Subsingleton.elim (α := Fin 1) _ _
    · rfl
    · rfl⟩
  refine Eq.trans ?_ (congrArg (oWin (argH m c) (argW m c) (argB m c)) (emb10 t e r)).symm
  refine (out10 _ _ _ _ _ e r).trans ?_
  refine Eq.trans ?_ (congrArg (fun R => lin (argH m c) (argW m c) (argB m c) R ⟨1024 + e.val, by omega⟩) (row_eq t r)).symm
  exact colT m c t r (C := ⟨1024 + e.val, by omega⟩) (fun k => row_a _ _ _ (by simp only; omega) (by simp only; try omega) k) (bias_a _ _ _ (by simp only; omega) (by simp only; try omega))
theorem arr11 : (Gen.dats m 0 c).arrAt 11 cfg0.N = oFox (argH m c) (argW m c) (argB m c) := by
  refine (Gen.dats m 0 c).arrAt_eq_of_covers 11 _ (by decide +kernel) fun t hf y => ?_
  blk_simp
  rw [after0_11]
  obtain ⟨e, r, rfl⟩ : ∃ (e : Fin 1024) (r : Fin 256), y = ix3 0 e r := ⟨y 1, y 2, funext fun a => by
    fin_cases a
    · exact Subsingleton.elim (α := Fin 1) _ _
    · rfl
    · rfl⟩
  refine Eq.trans ?_ (congrArg (oFox (argH m c) (argW m c) (argB m c)) (emb11 t e r)).symm
  refine (out11 _ _ _ _ _ e r).trans ?_
  refine Eq.trans ?_ (congrArg (fun R => lin (argH m c) (argW m c) (argB m c) R ⟨1816 + e.val, by omega⟩) (row_eq t r)).symm
  exact colT m c t r (C := ⟨1816 + e.val, by omega⟩) (fun k => row_b _ _ _ (by simp only; omega) (by simp only; omega) (by simp only; try omega) k) (bias_b _ _ _ (by simp only; omega) (by simp only; omega) (by simp only; try omega))
theorem arr12 : (Gen.dats m 0 c).arrAt 12 cfg0.N = oLogt (argH m c) (argW m c) (argB m c) := by
  refine (Gen.dats m 0 c).arrAt_eq_of_covers 12 _ (by decide +kernel) fun t hf y => ?_
  blk_simp
  rw [after0_12]
  obtain ⟨e, r, rfl⟩ : ∃ (e : Fin 8) (r : Fin 256), y = ix3 0 e r := ⟨y 1, y 2, funext fun a => by
    fin_cases a
    · exact Subsingleton.elim (α := Fin 1) _ _
    · rfl
    · rfl⟩
  refine Eq.trans ?_ (congrArg (oLogt (argH m c) (argW m c) (argB m c)) (emb12 t e r)).symm
  refine (out12 _ _ _ _ _ e r).trans ?_
  refine Eq.trans ?_ (congrArg (fun R => ls (lin (argH m c) (argW m c) (argB m c) R ⟨2840 + e.val, by omega⟩)) (row_eq t r)).symm
  exact congrArg ls (colT m c t r (C := ⟨2840 + e.val, by omega⟩) (fun k => row_e _ _ _ (by simp only; omega) (by simp only; omega) (by simp only; try omega) k) (bias_e _ _ _ (by simp only; omega) (by simp only; omega) (by simp only; try omega)))
theorem arr13 : (Gen.dats m 0 c).arrAt 13 cfg0.N = oQa (argH m c) (argW m c) (argB m c) := by
  refine (Gen.dats m 0 c).arrAt_eq_of_covers 13 _ (by decide +kernel) fun t hf y => ?_
  blk_simp
  rw [after0_13]
  obtain ⟨n, d, r, rfl⟩ : ∃ (n : Fin 8) (d : Fin 64) (r : Fin 256), y = ix4 0 n d r := ⟨y 1, y 2, y 3, funext fun a => by
    fin_cases a
    · exact Subsingleton.elim (α := Fin 1) _ _
    · rfl
    · rfl
    · rfl⟩
  refine Eq.trans ?_ (congrArg (oQa (argH m c) (argW m c) (argB m c)) (emb13 t n d r)).symm
  refine (out13 _ _ _ _ _ n d r).trans ?_
  refine Eq.trans ?_ (congrArg (fun R => lin (argH m c) (argW m c) (argB m c) R ⟨64 * n.val + d.val, by omega⟩ * eighth) (row_eq t r)).symm
  exact congrArg (· * eighth) (colT m c t r (C := ⟨64 * n.val + d.val, by omega⟩) (fun k => row_a _ _ _ (by simp only; omega) (by simp only; try omega) k) (bias_a _ _ _ (by simp only; omega) (by simp only; try omega)))
theorem arr15 : (Gen.dats m 0 c).arrAt 15 cfg0.N = oQf (argH m c) (argW m c) (argB m c) := by
  refine (Gen.dats m 0 c).arrAt_eq_of_covers 15 _ (by decide +kernel) fun t hf y => ?_
  blk_simp
  rw [after0_15]
  obtain ⟨n, d, r, rfl⟩ : ∃ (n : Fin 8) (d : Fin 64) (r : Fin 256), y = ix4 0 n d r := ⟨y 1, y 2, y 3, funext fun a => by
    fin_cases a
    · exact Subsingleton.elim (α := Fin 1) _ _
    · rfl
    · rfl
    · rfl⟩
  refine Eq.trans ?_ (congrArg (oQf (argH m c) (argW m c) (argB m c)) (emb15 t n d r)).symm
  refine (out15 _ _ _ _ _ n d r).trans ?_
  refine Eq.trans ?_ (congrArg (fun R => lin (argH m c) (argW m c) (argB m c) R ⟨1304 + (64 * n.val + d.val), by omega⟩ * eighth) (row_eq t r)).symm
  exact congrArg (· * eighth) (colT m c t r (C := ⟨1304 + (64 * n.val + d.val), by omega⟩) (fun k => row_b _ _ _ (by simp only; omega) (by simp only; omega) (by simp only; try omega) k) (bias_b _ _ _ (by simp only; omega) (by simp only; omega) (by simp only; try omega)))
theorem arr17 : (Gen.dats m 0 c).arrAt 17 cfg0.N = oGa (argH m c) (argW m c) (argB m c) := by
  refine (Gen.dats m 0 c).arrAt_eq_of_covers 17 _ (by decide +kernel) fun t hf y => ?_
  blk_simp
  rw [after0_17]
  obtain ⟨e, r, rfl⟩ : ∃ (e : Fin 32) (r : Fin 256), y = ix2 e r := ⟨y 0, y 1, funext fun a => by fin_cases a <;> rfl⟩
  refine Eq.trans ?_ (congrArg (oGa (argH m c) (argW m c) (argB m c)) (emb17 t e r)).symm
  refine (out17 _ _ _ _ _ e r).trans ?_
  by_cases he : e.val < 24
  · refine Eq.trans ?_ (dif_pos he).symm
    exact congrArg sg (colT m c t r (C := ⟨1280 + e.val, by omega⟩) (fun k => row_c _ _ _ (by simp only; omega) (by simp only; omega) (by simp only; try omega) k) (bias_c _ _ _ (by simp only; omega) (by simp only; omega) (by simp only; try omega)))
  · refine Eq.trans ?_ (dif_neg he).symm
    exact sg_zero (fun k => (blk3 m c t _ k).trans (row_d _ _ (by simp only; omega) (by simp only; omega) k)) ((blk4 m c t _).trans (bias_d _ _ (by simp only; omega) (by simp only; omega)))
end Arrays

end Cert.ProjKer

end
-- ==== Proof.ProjRef.lean ====
module

public import proofs.«01_k».proof.Proof.ProjHost
public import proofs.«01_k».proof.Proof.Gen.ProjReferenceIdeal.Read
public import proofs.«01_k».proof.Defs

/-!
# The projection's reference

The reference's nine results, entry by entry.
-/

@[expose] public section

set_option maxRecDepth 16384

noncomputable section

namespace Cert.ProjRef

open Cert.ProjPay Cert.ProjHost
open Cert.ProjReferenceIdeal Cert.ProjReferenceIdeal.Read Idealize.ShloMosaic Idealize.ShloMosaic.TcCoe Idealize.SL.Sem

variable (h : S32768x1024.Idx → EReal) (w : S1024x4896.Idx → EReal) (b : S4896.Idx → EReal)

/-- One number of the projection. -/
theorem v3_of (j : S32768x4896.Idx) (r : Fin 32768) (c : Fin 4896) (hr : (j 0).val = r.val) (hc : (j 1).val = c.val) :
    val_main_v3 (F := Ideal) h w b j = lin h w b r c := by
  have ej : j = ix2 r c := funext fun a => Fin.ext (by fin_cases a; exacts [hr, hc])
  subst ej
  have e1 : idx_main_v1 (idx_main_v2 (ix2 r c)) = ix1 c := funext fun a => by fin_cases a <;> rfl
  have el : ∀ k, lidx_main_v0 (ix2 r c) k = ix2 r k := fun k => funext fun a => by fin_cases a <;> rfl
  have er : ∀ k, ridx_main_v0 (ix2 r c) k = ix2 k c := fun k => funext fun a => by fin_cases a <;> rfl
  simp only [val_main_v3_apply, val_main_v2_apply, val_main_v1_apply, val_main_v0_apply, e1, el, er]
  rfl

/-- The attention's keys and values: branch, head and feature in a row. -/
theorem v11_of (q : S16x2048x6x2x64.Idx) (n : Fin 16) (s : Fin 2048) (c : Fin 4896) (h0 : (q 0).val = n.val) (h1 : (q 1).val = s.val)
    (hc : 512 + ((q 2).val * 128 + (q 3).val * 64 + (q 4).val) = c.val) : val_main_v11 (F := Ideal) h w b q = lin h w b (row n s) c := by
  have l2 : (q 2).val < 6 := (q 2).isLt
  have l3 : (q 3).val < 2 := (q 3).isLt
  have l4 : (q 4).val < 64 := (q 4).isLt
  rw [val_main_v11_apply, val_main_v5_apply]
  refine v3_of h w b _ _ _ ?_ ?_
  · show (((((q 0).val * 2048 + (q 1).val) * 6 + (q 2).val) * 2 + (q 3).val) * 64 + (q 4).val) / 768 = 2048 * n.val + s.val
    omega
  · show 512 + (((((q 0).val * 2048 + (q 1).val) * 6 + (q 2).val) * 2 + (q 3).val) * 64 + (q 4).val) % 768 = c.val
    omega

/-- The forgetting attention's queries, keys and values. -/
theorem v18_of (q : S16x2048x3x8x64.Idx) (n : Fin 16) (s : Fin 2048) (c : Fin 4896) (h0 : (q 0).val = n.val) (h1 : (q 1).val = s.val)
    (hc : 1304 + ((q 2).val * 512 + (q 3).val * 64 + (q 4).val) = c.val) : val_main_v18 (F := Ideal) h w b q = lin h w b (row n s) c := by
  have l2 : (q 2).val < 3 := (q 2).isLt
  have l3 : (q 3).val < 8 := (q 3).isLt
  have l4 : (q 4).val < 64 := (q 4).isLt
  rw [val_main_v18_apply, val_main_v7_apply]
  refine v3_of h w b _ _ _ ?_ ?_
  · show (((((q 0).val * 2048 + (q 1).val) * 3 + (q 2).val) * 8 + (q 3).val) * 64 + (q 4).val) / 1536 = 2048 * n.val + s.val
    omega
  · show 1304 + (((((q 0).val * 2048 + (q 1).val) * 3 + (q 2).val) * 8 + (q 3).val) * 64 + (q 4).val) % 1536 = c.val
    omega

/-- The queries before their factor. -/
theorem v10_of (q : S16x2048x8x64.Idx) (n : Fin 16) (s : Fin 2048) (c : Fin 4896) (h0 : (q 0).val = n.val) (h1 : (q 1).val = s.val)
    (hc : (q 2).val * 64 + (q 3).val = c.val) : val_main_v10 (F := Ideal) h w b q = lin h w b (row n s) c := by
  have l2 : (q 2).val < 8 := (q 2).isLt
  have l3 : (q 3).val < 64 := (q 3).isLt
  rw [val_main_v10_apply, val_main_v4_apply]
  refine v3_of h w b _ _ _ ?_ ?_
  · show ((((q 0).val * 2048 + (q 1).val) * 8 + (q 2).val) * 64 + (q 3).val) / 512 = 2048 * n.val + s.val
    omega
  · show ((((q 0).val * 2048 + (q 1).val) * 8 + (q 2).val) * 64 + (q 3).val) % 512 = c.val
    omega

theorem nsa_eq : val_main_v28 (F := Ideal) h w b = oNsa h w b := by
  funext i
  obtain ⟨n, e, s, rfl⟩ : ∃ (n : Fin 16) (e : Fin 512) (s : Fin 2048), i = ix3 n e s := ⟨i 0, i 1, i 2, funext fun a => by fin_cases a <;> rfl⟩
  rw [val_main_v28_apply, val_main_v27_apply, val_main_v26_apply]
  refine v11_of h w b _ n s _ ?_ ?_ ?_
  · show ((n.val * 2048 + s.val) * 512 + e.val) / 1048576 = n.val; omega
  · show ((n.val * 2048 + s.val) * 512 + e.val) / 512 % 2048 = s.val; omega
  · show 512 + (((n.val * 2048 + s.val) * 512 + e.val) / 128 % 4 * 128 + ((n.val * 2048 + s.val) * 512 + e.val) / 64 % 2 * 64
      + ((n.val * 2048 + s.val) * 512 + e.val) % 64) = 512 + e.val
    omega

theorem win_eq : val_main_v31 (F := Ideal) h w b = oWin h w b := by
  funext i
  obtain ⟨n, e, s, rfl⟩ : ∃ (n : Fin 16) (e : Fin 256) (s : Fin 2048), i = ix3 n e s := ⟨i 0, i 1, i 2, funext fun a => by fin_cases a <;> rfl⟩
  rw [val_main_v31_apply, val_main_v30_apply, val_main_v29_apply]
  refine v11_of h w b _ n s _ ?_ ?_ ?_
  · show ((n.val * 2048 + s.val) * 256 + e.val) / 524288 = n.val; omega
  · show ((n.val * 2048 + s.val) * 256 + e.val) / 256 % 2048 = s.val; omega
  · show 512 + ((4 + ((n.val * 2048 + s.val) * 256 + e.val) / 128 % 2) * 128 + ((n.val * 2048 + s.val) * 256 + e.val) / 64 % 2 * 64
      + ((n.val * 2048 + s.val) * 256 + e.val) % 64) = 1024 + e.val
    omega

theorem fox_eq : val_main_v34 (F := Ideal) h w b = oFox h w b := by
  funext i
  obtain ⟨n, e, s, rfl⟩ : ∃ (n : Fin 16) (e : Fin 1024) (s : Fin 2048), i = ix3 n e s := ⟨i 0, i 1, i 2, funext fun a => by fin_cases a <;> rfl⟩
  rw [val_main_v34_apply, val_main_v33_apply, val_main_v32_apply]
  refine v18_of h w b _ n s _ ?_ ?_ ?_
  · show ((n.val * 2048 + s.val) * 1024 + e.val) / 2097152 = n.val; omega
  · show ((n.val * 2048 + s.val) * 1024 + e.val) / 1024 % 2048 = s.val; omega
  · show 1304 + ((1 + ((n.val * 2048 + s.val) * 1024 + e.val) / 512 % 2) * 512 + ((n.val * 2048 + s.val) * 1024 + e.val) / 64 % 8 * 64
      + ((n.val * 2048 + s.val) * 1024 + e.val) % 64) = 1816 + e.val
    omega

theorem qa_eq : val_main_v40 (F := Ideal) h w b = oQa h w b := by
  funext i
  obtain ⟨n, u, d, s, rfl⟩ : ∃ (n : Fin 16) (u : Fin 8) (d : Fin 64) (s : Fin 2048), i = ix4 n u d s :=
    ⟨i 0, i 1, i 2, i 3, funext fun a => by fin_cases a <;> rfl⟩
  have e := v10_of h w b (idx_main_v40 (ix4 n u d s)) n s ⟨64 * u.val + d.val, by omega⟩ rfl rfl (by show u.val * 64 + d.val = 64 * u.val + d.val; omega)
  simp only [val_main_v40_apply, val_main_v39_apply, val_main_v38_apply, val_main_v37_apply, val_main_cst_3_apply, e]
  rfl

theorem qf_eq : val_main_v46 (F := Ideal) h w b = oQf h w b := by
  funext i
  obtain ⟨n, u, d, s, rfl⟩ : ∃ (n : Fin 16) (u : Fin 8) (d : Fin 64) (s : Fin 2048), i = ix4 n u d s :=
    ⟨i 0, i 1, i 2, i 3, funext fun a => by fin_cases a <;> rfl⟩
  have e := v18_of h w b (idx_main_v41 (idx_main_v42 (idx_main_v46 (ix4 n u d s)))) n s ⟨1304 + (64 * u.val + d.val), by omega⟩
    (by show (((n.val * 2048 + s.val) * 8 + u.val) * 64 + d.val) / 1048576 = n.val; omega)
    (by show (((n.val * 2048 + s.val) * 8 + u.val) * 64 + d.val) / 512 % 2048 = s.val; omega)
    (by
      show 1304 + (0 * 512 + (((n.val * 2048 + s.val) * 8 + u.val) * 64 + d.val) / 64 % 8 * 64 + (((n.val * 2048 + s.val) * 8 + u.val) * 64 + d.val) % 64)
        = 1304 + (64 * u.val + d.val)
      omega)
  simp only [val_main_v46_apply, val_main_v45_apply, val_main_v44_apply, val_main_v43_apply, val_main_cst_4_apply, val_main_v42_apply,
    val_main_v41_apply, e]
  rfl

theorem gm_eq : val_main_v25 (F := Ideal) h w b = oGm h w b := by
  funext i
  have e := v3_of h w b (idx_main_v9 i) (i 0) ⟨2848 + (i 1).val, by have : (i 1).val < 2048 := (i 1).isLt; omega⟩ rfl rfl
  simp only [val_main_v25_apply, val_main_v24_apply, val_main_v23_apply, val_main_v22_apply, val_main_v21_apply, val_main_v20_apply,
    val_main_v9_apply, val_main_cst_1_apply, val_main_cst_2_apply, e]
  unfold oGm sg
  rw [zero_sub]
  rfl

/-- The branch gates, a row's in a row. -/
theorem gate (r : Fin 32768) (g : Fin 24) : val_main_v17 (F := Ideal) h w b (ix2 r g) = sg (lin h w b r ⟨1280 + g.val, by omega⟩) := by
  have e := v3_of h w b (idx_main_v6 (ix2 r g)) r ⟨1280 + g.val, by omega⟩ rfl rfl
  simp only [val_main_v17_apply, val_main_v16_apply, val_main_v15_apply, val_main_v14_apply, val_main_v13_apply, val_main_v12_apply,
    val_main_v6_apply, val_main_cst_apply, val_main_cst_0_apply, e]
  unfold sg
  rw [zero_sub]
  rfl

/-- The log forget values. -/
theorem forget (j : S32768x8.Idx) (r : Fin 32768) (g : Fin 8) (hr : (j 0).val = r.val) (hg : (j 1).val = g.val) :
    val_main_v19 (F := Ideal) h w b j = ls (lin h w b r ⟨2840 + g.val, by omega⟩) := by
  have e := v3_of h w b (idx_main_v8 j) r ⟨2840 + g.val, by omega⟩ hr (by show 2840 + (j 1).val = 2840 + g.val; rw [hg])
  have z : (FloatOps.ofBits (F := Ideal) .f32 0x00000000#32) = 0 := by simp only [pointwise]
  simp only [val_main_v19_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_call0_cst_apply, val_main_call0_v0_apply, val_main_v8_apply, e, z]
  generalize lin h w b r ⟨2840 + g.val, _⟩ = x
  have n1 : (FloatOps.hostNegf (F := Ideal) (φ := .f32) x : EReal) = -x := rfl
  rw [n1]
  have n2 : (FloatOps.subf (F := Ideal) (φ := .f32) (-x) 0 : EReal) = -x := sub_zero (-x)
  rw [n2]
  have n3 : FloatOps.cmpf (F := Ideal) (φ := .f32) .une (-x) (-x) = 0#1 := by
    rw [show FloatOps.cmpf (F := Ideal) (φ := .f32) .une (-x) (-x) = BitVec.ofBool (decide (-x ≠ -x)) from rfl, decide_eq_false (fun k => k rfl)]; rfl
  rw [n3]
  have n4 : (FloatOps.hostAbsf (F := Ideal) (φ := .f32) (-x) : EReal) = max x (-x) := by
    show max (-x) (-(-x)) = _
    rw [neg_neg, max_comm]
  rw [n4]
  unfold ls
  have n5 : Ideal.ofBits .f32 0x3F800000#32 = 1 := by
    have n6 : FloatOps.ofBits (F := Ideal) .f32 0x3F800000#32 = 1 := by simp only [pointwise]
    exact n6
  rw [zero_sub, zero_sub, zero_sub, n5]
  rw [show ∀ p q : EReal, Scalar.select (0#1) p q = q from fun _ _ => rfl]
  rfl

theorem logf_eq : val_main_v19 (F := Ideal) h w b = oLogf h w b := funext fun i => forget h w b i (i 0) (i 1) rfl rfl

theorem logt_eq : val_main_v36 (F := Ideal) h w b = oLogt h w b := by
  funext i
  obtain ⟨n, e, s, rfl⟩ : ∃ (n : Fin 16) (e : Fin 8) (s : Fin 2048), i = ix3 n e s := ⟨i 0, i 1, i 2, funext fun a => by fin_cases a <;> rfl⟩
  rw [val_main_v36_apply, val_main_v35_apply]
  exact forget h w b _ (row n s) e (by show ((n.val * 2048 + s.val) * 8 + e.val) / 8 = 2048 * n.val + s.val; omega)
    (by show ((n.val * 2048 + s.val) * 8 + e.val) % 8 = e.val; omega)

theorem ga_eq : val_main_v48 (F := Ideal) h w b = oGa h w b := by
  funext i
  obtain ⟨e, r, rfl⟩ : ∃ (e : Fin 32) (r : Fin 32768), i = ix2 e r := ⟨i 0, i 1, funext fun a => by fin_cases a <;> rfl⟩
  show _ = if he : e.val < 24 then sg (lin h w b r ⟨1280 + e.val, by omega⟩) else Ideal.ofBits .f32 0x3F000000#32
  unfold val_main_v48
  by_cases he : e.val < 24
  · rw [dif_pos he, ← gate h w b r ⟨e.val, he⟩]
    unfold pad
    rw [dif_pos (by
      intro a
      fin_cases a
      · exact ⟨Nat.zero_le _, by show (e.val - 0) % (0 + 1) = 0; omega, by show (e.val - 0) / (0 + 1) < 24; omega⟩
      · exact ⟨Nat.zero_le _, by show (r.val - 0) % (0 + 1) = 0; omega, by show (r.val - 0) / (0 + 1) < 32768; omega⟩)]
    rw [val_main_v47_apply]
    refine congrArg _ (funext fun a => Fin.ext ?_)
    fin_cases a
    · show (r.val - 0) / (0 + 1) = r.val; omega
    · show (e.val - 0) / (0 + 1) = e.val; omega
  · rw [dif_neg he]
    unfold pad
    rw [dif_neg (fun k => he (by
      have k0 := (k 0).2.2
      have k1 : (e.val - 0) / (0 + 1) < 24 := k0
      omega))]
    rfl

end Cert.ProjRef

end
-- ==== Proof.Proj.lean ====
module

public import proofs.«01_k».proof.Proof.ProjKer
public import proofs.«01_k».proof.Proof.ProjRef
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Defs

/-!
# The projection

The call's nine results are the reference's.
-/

@[expose] public section

set_option maxRecDepth 16384

noncomputable section

namespace Cert.ProjProof

open Cert.ProjHost Cert.ProjKer
open Idealize.ShloMosaic Idealize.ShloMosaic.TcCoe Idealize.SL.Sem

section Call

open Cert.ProjKernelIdeal Cert.ProjKernelIdeal.Gen

section Runs

variable (m : (ℓ : Loc nD τ sig) → Buf (Elt Ideal) ℓ) {r : PUnit × MemSt nD τ sig (Elt Ideal)}
  (h : Pipeline.FramePost cfgs (dats m) 0 (V m) r) (c : Dev nD)
include h

theorem res8 : r.2.mem ((c.tc : Thread nD τ).loc main_v27_3) = oGm (argH m c) (argW m c) (argB m c) := by
  refine Eq.trans ?_ (arr8 m c)
  exact (h c).1 8
theorem res6 : r.2.mem ((c.tc : Thread nD τ).loc main_v27_1) = oLogf (argH m c) (argW m c) (argB m c) := by
  refine Eq.trans ?_ (arr6 m c)
  exact (h c).1 6
theorem res9 : r.2.mem ((c.tc : Thread nD τ).loc main_v27_4) = oNsa (argH m c) (argW m c) (argB m c) := by
  refine Eq.trans ?_ (arr9 m c)
  exact (h c).1 9
theorem res10 : r.2.mem ((c.tc : Thread nD τ).loc main_v27_5) = oWin (argH m c) (argW m c) (argB m c) := by
  refine Eq.trans ?_ (arr10 m c)
  exact (h c).1 10
theorem res11 : r.2.mem ((c.tc : Thread nD τ).loc main_v27_6) = oFox (argH m c) (argW m c) (argB m c) := by
  refine Eq.trans ?_ (arr11 m c)
  exact (h c).1 11
theorem res12 : r.2.mem ((c.tc : Thread nD τ).loc main_v27_7) = oLogt (argH m c) (argW m c) (argB m c) := by
  refine Eq.trans ?_ (arr12 m c)
  exact (h c).1 12
theorem res13 : r.2.mem ((c.tc : Thread nD τ).loc main_v27_8) = oQa (argH m c) (argW m c) (argB m c) := by
  refine Eq.trans ?_ (arr13 m c)
  exact (h c).1 13
theorem res15 : r.2.mem ((c.tc : Thread nD τ).loc main_v27_10) = oQf (argH m c) (argW m c) (argB m c) := by
  refine Eq.trans ?_ (arr15 m c)
  exact (h c).1 15
theorem res17 : r.2.mem ((c.tc : Thread nD τ).loc main_v27_12) = oGa (argH m c) (argW m c) (argB m c) := by
  refine Eq.trans ?_ (arr17 m c)
  exact (h c).1 17
theorem kept0 : r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept1 : r.2.mem ((c.tc : Thread nD τ).loc main_arg1) = m ((c.tc : Thread nD τ).loc main_arg1) :=
  ((h c).2 main_arg1 (Pipeline.mem_restRefs_of main_arg1 (by decide) (by decide))).trans (V_main_arg1 m c)
theorem kept2 : r.2.mem ((c.tc : Thread nD τ).loc main_arg2) = m ((c.tc : Thread nD τ).loc main_arg2) :=
  ((h c).2 main_arg2 (Pipeline.mem_restRefs_of main_arg2 (by decide) (by decide))).trans (V_main_arg2 m c)

end Runs

/-- Every run of the call ends with its nine results and its arguments as they were. -/
theorem kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27_3) = oGm (argH m c) (argW m c) (argB m c)
      ∧ r.2.mem ((c.tc : Thread nD τ).loc main_v27_1) = oLogf (argH m c) (argW m c) (argB m c)
      ∧ r.2.mem ((c.tc : Thread nD τ).loc main_v27_4) = oNsa (argH m c) (argW m c) (argB m c)
      ∧ r.2.mem ((c.tc : Thread nD τ).loc main_v27_5) = oWin (argH m c) (argW m c) (argB m c)
      ∧ r.2.mem ((c.tc : Thread nD τ).loc main_v27_6) = oFox (argH m c) (argW m c) (argB m c)
      ∧ r.2.mem ((c.tc : Thread nD τ).loc main_v27_7) = oLogt (argH m c) (argW m c) (argB m c)
      ∧ r.2.mem ((c.tc : Thread nD τ).loc main_v27_8) = oQa (argH m c) (argW m c) (argB m c)
      ∧ r.2.mem ((c.tc : Thread nD τ).loc main_v27_10) = oQf (argH m c) (argW m c) (argB m c)
      ∧ r.2.mem ((c.tc : Thread nD τ).loc main_v27_12) = oGa (argH m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨res8 m h c, res6 m h c, res9 m h c, res10 m h c, res11 m h c, res12 m h c, res13 m h c, res15 m h c, res17 m h c,
      kept0 m h c, kept1 m h c, kept2 m h c⟩)
    (run_main m ρ)

end Call

/-- The projection's results are the reference's, on every argument. -/
theorem algebraic : algebraic_ProjKernelIdeal_ProjReferenceIdeal (hProjKernelIdeal := Cert.ProjKernelIdeal.Gen.facts)
    (hProjReferenceIdeal := Cert.ProjReferenceIdeal.Gen.facts) := by
  intro m g m' g' _ hargs
  refine ⟨fun c => oGm (argH m c) (argW m c) (argB m c), fun c => oLogf (argH m c) (argW m c) (argB m c),
    fun c => oNsa (argH m c) (argW m c) (argB m c), fun c => oWin (argH m c) (argW m c) (argB m c),
    fun c => oFox (argH m c) (argW m c) (argB m c), fun c => oLogt (argH m c) (argW m c) (argB m c),
    fun c => oQa (argH m c) (argW m c) (argB m c), fun c => oQf (argH m c) (argW m c) (argB m c),
    fun c => oGa (argH m c) (argW m c) (argB m c), kernel m g, ?_⟩
  refine (θ_run _ _ _).mono (fun r h c => ?_) (Cert.ProjReferenceIdeal.Value.run (F := Ideal) m' g')
  obtain ⟨e0, e1, e2⟩ := hargs c
  obtain ⟨h1, h2, h3, h4, h5, h6, h7, h8, h9, ha⟩ := h c
  rw [Cert.ProjReferenceIdeal.Read.val_main_v25_eq, e0, e1, e2] at h1
  rw [Cert.ProjReferenceIdeal.Read.val_main_v19_eq, e0, e1, e2] at h2
  rw [Cert.ProjReferenceIdeal.Read.val_main_v28_eq, e0, e1, e2] at h3
  rw [Cert.ProjReferenceIdeal.Read.val_main_v31_eq, e0, e1, e2] at h4
  rw [Cert.ProjReferenceIdeal.Read.val_main_v34_eq, e0, e1, e2] at h5
  rw [Cert.ProjReferenceIdeal.Read.val_main_v36_eq, e0, e1, e2] at h6
  rw [Cert.ProjReferenceIdeal.Read.val_main_v40_eq, e0, e1, e2] at h7
  rw [Cert.ProjReferenceIdeal.Read.val_main_v46_eq, e0, e1, e2] at h8
  rw [Cert.ProjReferenceIdeal.Read.val_main_v48_eq, e0, e1, e2] at h9
  exact ⟨h1.trans (Cert.ProjRef.gm_eq _ _ _), h2.trans (Cert.ProjRef.logf_eq _ _ _), h3.trans (Cert.ProjRef.nsa_eq _ _ _),
    h4.trans (Cert.ProjRef.win_eq _ _ _), h5.trans (Cert.ProjRef.fox_eq _ _ _), h6.trans (Cert.ProjRef.logt_eq _ _ _),
    h7.trans (Cert.ProjRef.qa_eq _ _ _), h8.trans (Cert.ProjRef.qf_eq _ _ _), h9.trans (Cert.ProjRef.ga_eq _ _ _), ha⟩

end Cert.ProjProof

end
-- ==== Proof.FfnSample.lean ====
module

public import proofs.«01_k».proof.Proof.Norm
public import proofs.«01_k».proof.Proof.Gen.FfnSampleKernelIdeal
public import proofs.«01_k».proof.Proof.Gen.FfnSampleKernelIdeal.Skeleton
public import proofs.«01_k».proof.Proof.Gen.FfnSampleKernelIdeal.Launch
public import proofs.«01_k».proof.Proof.Gen.FfnSampleKernelIdeal.Points
public import proofs.«01_k».proof.Proof.Gen.FfnSampleKernelIdeal.Frame
public import proofs.«01_k».proof.Proof.Gen.FfnSampleKernel
public import proofs.«01_k».proof.Proof.Gen.FfnSampleKernel.Skeleton
public import proofs.«01_k».proof.Proof.Gen.FfnSampleKernel.Launch
public import proofs.«01_k».proof.Proof.Gen.FfnSampleKernel.Points
public import proofs.«01_k».proof.Proof.Gen.FfnSampleKernel.Frame
public import proofs.«01_k».proof.Proof.Gen.FfnSampleReferenceIdeal
public import proofs.«01_k».proof.Proof.Gen.FfnSampleKernelIdeal.Value
public import proofs.«01_k».proof.Proof.Gen.FfnSampleReferenceIdeal.Run
public import proofs.«01_k».proof.Proof.Gen.FfnSampleReferenceIdeal.Read
public import proofs.«01_k».proof.Defs
public import Idealize.ShloMosaic.Lib.Pipeline.ValueKit

@[expose] public section

set_option maxRecDepth 16384

noncomputable section

namespace Cert.FfnSampleProof

open Cert.LayerMath
open Idealize.ShloMosaic Idealize.ShloMosaic.TcCoe Idealize.SL.Sem

/-- The sample's result from the six arguments. -/
def out (x : FfnSampleKernelIdeal.S128x1024.Idx → EReal) (wg wu : FfnSampleKernelIdeal.S1024x2816.Idx → EReal)
    (wd : FfnSampleKernelIdeal.S2816x1024.Idx → EReal) (g b : FfnSampleKernelIdeal.S1024.Idx → EReal) (i : FfnSampleKernelIdeal.S128x1024.Idx) : EReal :=
  rowNorm (ffnRow (fun j => x (ix2 (i 0) j)) (fun j k => wg (ix2 j k)) (fun j k => wu (ix2 j k)) (fun k j => wd (ix2 k j)))
    (fun j => g (ix1 j)) (fun j => b (ix1 j)) (i 1)

section Kernel
open Cert.FfnSampleKernelIdeal Cert.FfnSampleKernelIdeal.Gen

theorem pay_mid (X : Vec Ideal S128x1024 .f32) (Wg Wu : Vec Ideal S1024x2816 .bf16) (Wd : Vec Ideal S2816x1024 .bf16)
    (r : Fin 128) (c : Fin 1024) : k0_pay2 (F := Ideal) X Wg Wu (k0_pay1 (F := Ideal)) Wd (ix2 r c)
      = ∑ k : Fin 2816, hiddenUnit (fun j => X (ix2 r j)) (fun j => Wg (ix2 j k)) (fun j => Wu (ix2 j k)) * Wd (ix2 k c) := by
  unfold k0_pay2 k0_pay1
  simp only [pointwise, hiddenUnit, zero_add, zero_sub]

theorem pay_out (X : Vec Ideal S128x1024 .f32) (A : Vec Ideal S128x1024 .f32) (G B : Vec Ideal S1x1024 .f32)
    (r : Fin 128) (c : Fin 1024) : k0_pay3 (F := Ideal) X A G B (ix2 r c)
      = rowNorm (fun j => Ideal.ofBits FTy.f32 0x3F9837F0#32 * X (ix2 r j) + Ideal.ofBits FTy.f32 0x3F000000#32 * A (ix2 r j))
          (fun j => G (ix2 0 j)) (fun j => B (ix2 0 j)) c := by
  unfold k0_pay3
  simp only [pointwise]
  unfold rowNorm mean
  rfl

theorem pay (X : Vec Ideal S128x1024 .f32) (Wg Wu : Vec Ideal S1024x2816 .bf16) (Wd : Vec Ideal S2816x1024 .bf16)
    (G B : Vec Ideal S1x1024 .f32) (r : Fin 128) (c : Fin 1024) :
    k0_pay3 (F := Ideal) X (k0_pay2 (F := Ideal) X Wg Wu (k0_pay1 (F := Ideal)) Wd) G B (ix2 r c)
      = rowNorm (ffnRow (fun j => X (ix2 r j)) (fun j k => Wg (ix2 j k)) (fun j k => Wu (ix2 j k)) (fun k j => Wd (ix2 k j)))
          (fun j => G (ix2 0 j)) (fun j => B (ix2 0 j)) c := by
  rw [pay_out]
  simp only [pay_mid]
  rfl

variable (m : (ℓ : Loc nD τ sig) → Buf (Elt Ideal) ℓ)

theorem index_all : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by
  decide +kernel

theorem V_v0 (c : Dev nD) : V m c main_v0 = (m ((c : Thread nD τ).loc main_arg1) : S1024x2816.Idx → EReal) := by
  unfold_abbrev_sides
  after_results
  rfl
theorem V_v1 (c : Dev nD) : V m c main_v1 = (m ((c : Thread nD τ).loc main_arg2) : S1024x2816.Idx → EReal) := by
  unfold_abbrev_sides
  after_results
  rfl
theorem V_v2 (c : Dev nD) : V m c main_v2 = (m ((c : Thread nD τ).loc main_arg3) : S2816x1024.Idx → EReal) := by
  unfold_abbrev_sides
  after_results
  rfl
theorem vec_apply (v : S1024.Idx → EReal) (j : Fin 1024) :
    shapeCast (α := EReal) S1x1024 v shapeCasts_S1024_S1x1024 (ix2 0 j) = v (ix1 j) := by
  simp only [pointwise]
theorem V_v3 (c : Dev nD) (j : Fin 1024) : (V m c main_v3 : S1x1024.Idx → EReal) (ix2 0 j) = (m ((c : Thread nD τ).loc main_arg4) : S1024.Idx → EReal) (ix1 j) := by
  unfold_abbrev_sides
  after_results
  exact vec_apply _ _
theorem V_v4 (c : Dev nD) (j : Fin 1024) : (V m c main_v4 : S1x1024.Idx → EReal) (ix2 0 j) = (m ((c : Thread nD τ).loc main_arg5) : S1024.Idx → EReal) (ix1 j) := by
  unfold_abbrev_sides
  after_results
  exact vec_apply _ _

/-- Row `r` of block `t` of the whole array. -/
def row (t : Fin cfg0.N) (r : Fin 128) : Fin 128 := ⟨t.val * 128 + r.val, by
  have : cfg0.N = 1 := N_0
  have := t.isLt; have := r.isLt; omega⟩

theorem blk0 (c : Dev nD) (t : Fin cfg0.N) (r : Fin 128) (j : Fin 1024) :
    (iblk m c 0 t : S128x1024.Idx → EReal) (ix2 r j) = (m ((c : Thread nD τ).loc main_arg0) : S128x1024.Idx → EReal) (ix2 (row t r) j) := by
  rw [← V_main_arg0 m c]
  unfold row
  blk_ext [iblk, (index_all t).1]
theorem blk1 (c : Dev nD) (t : Fin cfg0.N) (j : Fin 1024) (k : Fin 2816) :
    (iblk m c 1 t : S1024x2816.Idx → EReal) (ix2 j k) = (m ((c : Thread nD τ).loc main_arg1) : S1024x2816.Idx → EReal) (ix2 j k) := by
  rw [← V_v0 m c]
  blk_ext [iblk, (index_all t).2.1]
theorem blk2 (c : Dev nD) (t : Fin cfg0.N) (j : Fin 1024) (k : Fin 2816) :
    (iblk m c 2 t : S1024x2816.Idx → EReal) (ix2 j k) = (m ((c : Thread nD τ).loc main_arg2) : S1024x2816.Idx → EReal) (ix2 j k) := by
  rw [← V_v1 m c]
  blk_ext [iblk, (index_all t).2.2.1]
theorem blk3 (c : Dev nD) (t : Fin cfg0.N) (k : Fin 2816) (j : Fin 1024) :
    (iblk m c 3 t : S2816x1024.Idx → EReal) (ix2 k j) = (m ((c : Thread nD τ).loc main_arg3) : S2816x1024.Idx → EReal) (ix2 k j) := by
  rw [← V_v2 m c]
  blk_ext [iblk, (index_all t).2.2.2.1]
theorem blk4 (c : Dev nD) (t : Fin cfg0.N) (j : Fin 1024) :
    (iblk m c 4 t : S1x1024.Idx → EReal) (ix2 0 j) = (m ((c : Thread nD τ).loc main_arg4) : S1024.Idx → EReal) (ix1 j) := by
  rw [← V_v3 m c]
  blk_ext [iblk, (index_all t).2.2.2.2.1]
theorem blk5 (c : Dev nD) (t : Fin cfg0.N) (j : Fin 1024) :
    (iblk m c 5 t : S1x1024.Idx → EReal) (ix2 0 j) = (m ((c : Thread nD τ).loc main_arg5) : S1024.Idx → EReal) (ix1 j) := by
  rw [← V_v4 m c]
  blk_ext [iblk, (index_all t).2.2.2.2.2.1]

/-- The kernel's result array. -/
theorem arr (c : Dev nD) : (Gen.dats m 0 c).arrAt 6 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (Gen.dats m 0 c).arrAt_eq_of_covers 6 _ (by decide +kernel) fun t hf y => ?_
  blk_simp
  rw [after0_6]
  unfold outsAt0
  frame_out
  obtain ⟨r, q, rfl⟩ : ∃ (r : Fin 128) (q : Fin 1024), y = ix2 r q := ⟨y 0, y 1, funext fun a => by fin_cases a <;> rfl⟩
  refine (pay _ _ _ _ _ _ r q).trans ?_
  simp only [blk0, blk1, blk2, blk3, blk4, blk5]
  have e : ((win0_6.blk t).view.emb (ix2 r q) : S128x1024.Idx) = ix2 (row t r) q := by
    unfold row
    blk_ext [(index_all t).2.2.2.2.2.2]
  exact (congrArg (out _ _ _ _ _ _) e).symm

end Kernel

section Reference
open Cert.FfnSampleReferenceIdeal Cert.FfnSampleReferenceIdeal.Read

variable (x : S128x1024.Idx → EReal) (wg wu : S1024x2816.Idx → EReal)
    (wd : S2816x1024.Idx → EReal) (g b : S1024.Idx → EReal)

theorem ref_pre (r : Fin 128) (c : Fin 1024) : val_main_v9 (F := Ideal) x wg wu wd (ix2 r c)
    = ffnRow (fun j => x (ix2 r j)) (fun j k => wg (ix2 j k)) (fun j k => wu (ix2 j k)) (fun k j => wd (ix2 k j)) c := by
  have l6 : ∀ k, lidx_main_v6 (ix2 r c) k = ix2 r k := fun k => funext fun a => by fin_cases a <;> rfl
  have r6 : ∀ k, ridx_main_v6 (ix2 r c) k = ix2 k c := fun k => funext fun a => by fin_cases a <;> rfl
  have l2 : ∀ j k, lidx_main_v2 (ix2 r k) j = ix2 r j := fun j k => funext fun a => by fin_cases a <;> rfl
  have r2 : ∀ j k, ridx_main_v2 (ix2 r k) j = ix2 j k := fun j k => funext fun a => by fin_cases a <;> rfl
  have l4 : ∀ j k, lidx_main_v4 (ix2 r k) j = ix2 r j := fun j k => funext fun a => by fin_cases a <;> rfl
  have r4 : ∀ j k, ridx_main_v4 (ix2 r k) j = ix2 j k := fun j k => funext fun a => by fin_cases a <;> rfl
  have one : (FloatOps.ofBits (F := Ideal) .f32 0x3F800000#32) = 1 := by simp only [pointwise]
  simp only [val_main_v9_apply, val_main_v1_apply, val_main_v0_apply, val_main_cst_apply, val_main_v8_apply, val_main_v7_apply,
    val_main_cst_0_apply, val_main_v6_apply, val_main_v5_apply, val_main_v3_apply, val_main_v4_apply, val_main_v2_apply,
    val_main_call0_v5_apply, val_main_call0_v4_apply, val_main_call0_cst_0_apply, val_main_call0_v3_apply, val_main_call0_v2_apply,
    val_main_call0_cst_apply, val_main_call0_v1_apply, val_main_call0_v0_apply, l6, r6, l2, r2, l4, r4, one]
  rfl

theorem ref_mean (r : Fin 128) : val_main_v13 (F := Ideal) x wg wu wd (ix2 r 0)
    = mean (fun j => val_main_v9 (F := Ideal) x wg wu wd (ix2 r j)) := by
  have h : ∀ k, idx_main_v10 (idx_main_v11 (ix2 r 0)) k = ix2 r k := fun k => funext fun a => by fin_cases a <;> rfl
  have z : (FloatOps.ofBits (F := Ideal) .f32 0x00000000#32) = 0 := by simp only [pointwise]
  simp only [val_main_v13_apply, val_main_v12_apply, val_main_cst_2_apply, val_main_v11_apply, val_main_v10_apply, val_main_cst_1_apply, h, z, zero_add]
  rfl

theorem ref (i : S128x1024.Idx) : val_main_v33 (F := Ideal) x wg wu wd g b i = out x wg wu wd g b i := by
  obtain ⟨r, q, rfl⟩ : ∃ (r : Fin 128) (q : Fin 1024), i = ix2 r q := ⟨i 0, i 1, funext fun a => by fin_cases a <;> rfl⟩
  have z : (FloatOps.ofBits (F := Ideal) .f32 0x00000000#32) = 0 := by simp only [pointwise]
  have h17 : ∀ q k, idx_main_v17 (idx_main_v18 (idx_main_v26 (ix2 r q))) k = ix2 r k := fun q k => funext fun a => by fin_cases a <;> rfl
  have h14 : ∀ q, idx_main_v14 (ix2 r q) = ix2 r 0 := fun q => funext fun a => by fin_cases a <;> rfl
  have h21 : ∀ q, idx_main_v21 (ix2 r q) = ix2 r 0 := fun q => funext fun a => by fin_cases a <;> rfl
  have h28 : idx_main_v28 (idx_main_v29 (ix2 r q)) = ix1 q := funext fun a => by fin_cases a <;> rfl
  have h31 : idx_main_v31 (idx_main_v32 (ix2 r q)) = ix1 q := funext fun a => by fin_cases a <;> rfl
  simp only [val_main_v33_apply, val_main_v32_apply, val_main_v31_apply, val_main_v30_apply, val_main_v29_apply, val_main_v28_apply,
    val_main_v27_apply, val_main_v26_apply, val_main_v25_apply, val_main_v24_apply, val_main_v23_apply, val_main_cst_5_apply,
    val_main_v22_apply, val_main_v21_apply, val_main_v20_apply, val_main_v19_apply, val_main_cst_4_apply, val_main_v18_apply, val_main_v17_apply,
    val_main_cst_3_apply, val_main_v16_apply, val_main_v15_apply, val_main_v14_apply, h17, h14, h21, h28, h31, z, zero_add, ref_mean, ref_pre]
  rfl

end Reference

/-- The feed-forward kernel's result on the sample's rows is the reference's, on every argument. -/
theorem algebraic : algebraic_FfnSampleKernelIdeal_FfnSampleReferenceIdeal (hFfnSampleKernelIdeal := Cert.FfnSampleKernelIdeal.Gen.facts)
    (hFfnSampleReferenceIdeal := Cert.FfnSampleReferenceIdeal.Gen.facts) := by
  intro m g m' g' _ hargs
  refine ⟨fun c => out (m ((c.tc : Thread Cert.FfnSampleKernelIdeal.nD Cert.FfnSampleKernelIdeal.τ).loc Cert.FfnSampleKernelIdeal.main_arg0))
    (m ((c.tc : Thread Cert.FfnSampleKernelIdeal.nD Cert.FfnSampleKernelIdeal.τ).loc Cert.FfnSampleKernelIdeal.main_arg1))
    (m ((c.tc : Thread Cert.FfnSampleKernelIdeal.nD Cert.FfnSampleKernelIdeal.τ).loc Cert.FfnSampleKernelIdeal.main_arg2))
    (m ((c.tc : Thread Cert.FfnSampleKernelIdeal.nD Cert.FfnSampleKernelIdeal.τ).loc Cert.FfnSampleKernelIdeal.main_arg3))
    (m ((c.tc : Thread Cert.FfnSampleKernelIdeal.nD Cert.FfnSampleKernelIdeal.τ).loc Cert.FfnSampleKernelIdeal.main_arg4))
    (m ((c.tc : Thread Cert.FfnSampleKernelIdeal.nD Cert.FfnSampleKernelIdeal.τ).loc Cert.FfnSampleKernelIdeal.main_arg5)), ?_, ?_⟩
  · exact (θ_run _ _ _).mono (fun r h c => ⟨(h c).1.trans (arr m c), (h c).2⟩) (Cert.FfnSampleKernelIdeal.Value.run_blocks m g)
  · refine (θ_run _ _ _).mono (fun r h c => ⟨(h c).1.trans ?_, (h c).2⟩) (Cert.FfnSampleReferenceIdeal.Value.run (F := Ideal) m' g')
    obtain ⟨e0, e1, e2, e3, e4, e5⟩ := hargs c
    rw [Cert.FfnSampleReferenceIdeal.Read.val_main_v33_eq, e0, e1, e2, e3, e4, e5]
    exact funext fun i => ref _ _ _ _ _ _ i

end Cert.FfnSampleProof

end
-- ==== Proof.ProjSampleHost.lean ====
module

public import proofs.«01_k».proof.Proof.ProjHost
public import proofs.«01_k».proof.Proof.Gen.ProjSampleKernelIdeal.Frame
public import proofs.«01_k».proof.Defs
public import Idealize.ShloMosaic.Lib.Pipeline.ValueKit
public import Idealize.ShloMosaic.Lib.StableHlo.RunRead

/-!
# The sample's projection: its results and its blocks

What a step stores, each result entry by entry, and where a step's blocks lie in the arguments and in the results.
-/

@[expose] public section

set_option maxRecDepth 16384

noncomputable section

namespace Cert.ProjSampleHost

open Cert.ProjVal (hW hB hT hD hW_gate hB_gate)
open Cert.ProjPay (sg ls eighth zeros zeros3 zeros4 ld1 ld2 ld4 ld5 ld7 ld8 ld10 ld11 ld18 ld19 ld20 ld21 ld44 ld45 ld47 ld48)
open Cert.ProjHost (sg_zero row_a row_b row_c row_d row_e bias_a bias_b bias_c bias_d bias_e)
open Cert.ProjSampleKernelIdeal Cert.ProjSampleKernelIdeal.Gen Idealize.ShloMosaic Idealize.ShloMosaic.TcCoe Idealize.SL.Sem

section Payloads

theorem p3 (A : Vec Ideal S128x1024 .f32) (W : Vec Ideal S1024x2048 .bf16) (B : Vec Ideal S1x2048 .f32) (r : Fin 128) (j : Fin 2048) :
    k0_pay3 (F := Ideal) A W B (ix2 r j) = sg ((∑ k, A (ix2 r k) * W (ix2 k j)) + B (ix2 0 j)) := by
  unfold k0_pay3 k0_pay2 sg; simp only [pointwise, zero_add]; rfl

theorem p7 (A : Vec Ideal S128x1024 .f32) (W : Vec Ideal S512x1024 .bf16) (B : Vec Ideal S512x1 .f32) (n : Fin 8) (d : Fin 64) (r : Fin 128) :
    k0_pay7 (F := Ideal) (k0_pay2 A) W B (ix4 0 n d r)
      = ((∑ k, W (ix2 ⟨64 * n.val + d.val, by omega⟩ k) * A (ix2 r k)) + B (ix2 ⟨64 * n.val + d.val, by omega⟩ 0)) * eighth := by
  have e : (⟨n.val * 64 + d.val, by omega⟩ : Fin 512) = ⟨64 * n.val + d.val, by omega⟩ := Fin.ext (by show n.val * 64 + d.val = 64 * n.val + d.val; omega)
  unfold k0_pay7 k0_pay2 eighth; simp only [pointwise, zero_add, e]; rfl
theorem p16 (A : Vec Ideal S128x1024 .f32) (W : Vec Ideal S512x1024 .bf16) (B : Vec Ideal S512x1 .f32) (n : Fin 8) (d : Fin 64) (r : Fin 128) :
    k0_pay16 (F := Ideal) (k0_pay15 (k0_pay2 A) W) B (ix4 0 n d r)
      = ((∑ k, W (ix2 ⟨64 * n.val + d.val, by omega⟩ k) * A (ix2 r k)) + B (ix2 ⟨64 * n.val + d.val, by omega⟩ 0)) * eighth := by
  have e : (⟨n.val * 64 + d.val, by omega⟩ : Fin 512) = ⟨64 * n.val + d.val, by omega⟩ := Fin.ext (by show n.val * 64 + d.val = 64 * n.val + d.val; omega)
  unfold k0_pay16 k0_pay15 k0_pay2 eighth; simp only [pointwise, zero_add, e]; rfl
theorem p9 (A : Vec Ideal S128x1024 .f32) (W : Vec Ideal S768x1024 .bf16) (B : Vec Ideal S768x1 .f32) (e : Fin 512) (r : Fin 128) :
    k0_pay9 (F := Ideal) (k0_pay2 A) W B (ix3 0 e r) = (∑ k, W (ix2 ⟨e.val, by omega⟩ k) * A (ix2 r k)) + B (ix2 ⟨e.val, by omega⟩ 0) := by
  unfold k0_pay9 k0_pay8 k0_pay2; simp only [pointwise, zero_add, Matrix.cons_val_zero, Matrix.cons_val_one, Fin.eta]; rfl
theorem p10 (A : Vec Ideal S128x1024 .f32) (W : Vec Ideal S768x1024 .bf16) (B : Vec Ideal S768x1 .f32) (e : Fin 256) (r : Fin 128) :
    k0_pay10 (F := Ideal) (k0_pay8 (k0_pay2 A) W B) (ix3 0 e r)
      = (∑ k, W (ix2 ⟨512 + e.val, by omega⟩ k) * A (ix2 r k)) + B (ix2 ⟨512 + e.val, by omega⟩ 0) := by
  unfold k0_pay10 k0_pay8 k0_pay2; simp only [pointwise, zero_add, Matrix.cons_val_zero, Matrix.cons_val_one, Fin.eta]; rfl
theorem p18 (A : Vec Ideal S128x1024 .f32) (W : Vec Ideal S1024x1024 .bf16) (B : Vec Ideal S1024x1 .f32) (e : Fin 1024) (r : Fin 128) :
    k0_pay18 (F := Ideal) (k0_pay2 A) W B (ix3 0 e r) = (∑ k, W (ix2 e k) * A (ix2 r k)) + B (ix2 e 0) := by
  unfold k0_pay18 k0_pay17 k0_pay2; simp only [pointwise, zero_add]; rfl
theorem p47 (A : Vec Ideal S128x1024 .f32) (W : Vec Ideal S32x1024 .bf16) (B : Vec Ideal S32x1 .f32) (e : Fin 32) (r : Fin 128) :
    k0_pay47 (F := Ideal) (k0_pay46 (k0_pay2 A) W) B (ix2 e r) = sg ((∑ k, W (ix2 e k) * A (ix2 r k)) + B (ix2 e 0)) := by
  unfold k0_pay47 k0_pay46 k0_pay2 sg; simp only [pointwise, zero_add]; rfl
theorem p1 (A : Vec Ideal S128x1024 .f32) (W : Vec Ideal S16x1024 .bf16) (B : Vec Ideal S16x1 .f32) (e : Fin 8) (r : Fin 128) :
    k0_pay1 (F := Ideal) (k0_pay48 (k0_pay2 A) W B) (ix3 0 e r)
      = ls ((∑ k, W (ix2 ⟨e.val, by omega⟩ k) * A (ix2 r k)) + B (ix2 ⟨e.val, by omega⟩ 0)) := by
  unfold k0_pay1 k0_pay48 k0_pay2 ls; simp only [pointwise, zero_add, Matrix.cons_val_zero, Matrix.cons_val_one, Fin.eta]; rfl

end Payloads

section Results

variable (h : S128x1024.Idx → EReal) (w : S1024x4896.Idx → EReal) (b : S4896.Idx → EReal)

/-- One number of the projection: a row of the activations against a column of the weights, with its bias. -/
def lin (r : Fin 128) (c : Fin 4896) : EReal := (∑ k : Fin 1024, h (ix2 r k) * w (ix2 k c)) + b (ix1 c)

/-- The row of a batch's position. -/
def row (n : Fin 1) (s : Fin 128) : Fin 128 := ⟨128 * n.val + s.val, by omega⟩

/-- The merge gates, -/
def oGm (i : S128x2048.Idx) : EReal := sg (lin h w b (i 0) ⟨2848 + (i 1).val, by have : (i 1).val < 2048 := (i 1).isLt; omega⟩)

/-- the compressed and selected keys and values, -/
def oNsa (i : S1x512x128.Idx) : EReal := lin h w b (row (i 0) (i 2)) ⟨512 + (i 1).val, by have : (i 1).val < 512 := (i 1).isLt; omega⟩
/-- the window's keys and values, -/
def oWin (i : S1x256x128.Idx) : EReal := lin h w b (row (i 0) (i 2)) ⟨1024 + (i 1).val, by have : (i 1).val < 256 := (i 1).isLt; omega⟩
/-- the same, a sequence's four new positions in a row, -/
def newRows (i : S32x4x2x2x64.Idx) : EReal := lin h w b ⟨4 * (i 0).val + (i 1).val, by
    have : (i 0).val < 32 := (i 0).isLt
    have : (i 1).val < 4 := (i 1).isLt
    omega⟩ ⟨1024 + ((i 2).val * 128 + (i 3).val * 64 + (i 4).val), by
    have : (i 2).val < 2 := (i 2).isLt
    have : (i 3).val < 2 := (i 3).isLt
    have : (i 4).val < 64 := (i 4).isLt
    omega⟩
/-- and below the window's old rows, the oldest four dropped, -/
def oBuf (a : S32x512x2x2x64.Idx → EReal) : S32x512x2x2x64.Idx → EReal :=
  extractStridedSlice S32x512x2x2x64 ![0, 4, 0, 0, 0] (concatenate S32x516x2x2x64 1 [⟨S32x512x2x2x64, a⟩, ⟨S32x4x2x2x64, newRows h w b⟩]
    concatenates_S32x512x2x2x64_S32x4x2x2x64_S32x516x2x2x64_d1) slices_S32x516x2x2x64_S32x512x2x2x64_0_4_0_0_0
/-- the forgetting attention's keys and values, -/
def oFox (i : S1x1024x128.Idx) : EReal := lin h w b (row (i 0) (i 2)) ⟨1816 + (i 1).val, by have : (i 1).val < 1024 := (i 1).isLt; omega⟩
/-- the log forget values, a head's in a row, -/
def oLogt (i : S1x8x128.Idx) : EReal := ls (lin h w b (row (i 0) (i 2)) ⟨2840 + (i 1).val, by have : (i 1).val < 8 := (i 1).isLt; omega⟩)
/-- the queries of the one attention, -/
def oQa (i : S1x8x64x128.Idx) : EReal :=
  lin h w b (row (i 0) (i 3)) ⟨64 * (i 1).val + (i 2).val, by have : (i 1).val < 8 := (i 1).isLt; have : (i 2).val < 64 := (i 2).isLt; omega⟩ * eighth
/-- those of the other, -/
def oQf (i : S1x8x64x128.Idx) : EReal :=
  lin h w b (row (i 0) (i 3)) ⟨1304 + (64 * (i 1).val + (i 2).val), by have : (i 1).val < 8 := (i 1).isLt; have : (i 2).val < 64 := (i 2).isLt; omega⟩ * eighth
/-- the branch gates, with rows of one half below. -/
def oGa (i : S32x128.Idx) : EReal :=
  if he : (i 0).val < 24 then sg (lin h w b (i 1) ⟨1280 + (i 0).val, by omega⟩) else Ideal.ofBits .f32 0x3F000000#32

theorem linN {r : Fin 128} {c : Fin 4896} {A W : Fin 1024 → EReal} {B : EReal} (hA : ∀ k, A k = h (ix2 r k)) (hW : ∀ k, W k = w (ix2 k c))
    (hB : B = b (ix1 c)) : (∑ k, A k * W k) + B = lin h w b r c := by
  unfold lin
  exact congrArg₂ (· + ·) (Finset.sum_congr rfl fun k _ => congrArg₂ (· * ·) (hA k) (hW k)) hB
theorem linT {r : Fin 128} {c : Fin 4896} {A W : Fin 1024 → EReal} {B : EReal} (hA : ∀ k, A k = h (ix2 r k)) (hW : ∀ k, W k = w (ix2 k c))
    (hB : B = b (ix1 c)) : (∑ k, W k * A k) + B = lin h w b r c := by
  unfold lin
  exact congrArg₂ (· + ·) (Finset.sum_congr rfl fun k _ => (mul_comm _ _).trans (congrArg₂ (· * ·) (hA k) (hW k))) hB

end Results

section Blocks

variable (m : (ℓ : Loc nD τ sig) → Buf (Elt Ideal) ℓ)

theorem V_v4 (c : Dev nD) : V m c main_v4 = hW (m ((c : Thread nD τ).loc main_arg1)) := by
  unfold hW
  unfold_abbrev_sides
  after_reads_simp
  rfl
theorem V_v9 (c : Dev nD) : V m c main_v9 = hB (m ((c : Thread nD τ).loc main_arg2)) := by
  unfold hB
  unfold_abbrev_sides
  after_reads_simp
  rfl
theorem V_v18 (c : Dev nD) : V m c main_v18 = hT (m ((c : Thread nD τ).loc main_arg1)) := by
  unfold hT
  unfold_abbrev_sides
  after_reads_simp
  rfl
theorem V_v26 (c : Dev nD) : V m c main_v26 = hD (m ((c : Thread nD τ).loc main_arg2)) := by
  unfold hD
  unfold_abbrev_sides
  after_reads_simp
  rfl

theorem index_in : ∀ t : Fin cfg0.N, win0_0.index t = ![t.val, 0] ∧ win0_1.index t = ![0, 0] ∧ win0_2.index t = ![0, 0]
    ∧ win0_3.index t = ![0, 0] ∧ win0_4.index t = ![0, 0] := by
  decide +kernel
theorem index_out : ∀ t : Fin cfg0.N, win0_8.index t = ![t.val, 0] ∧ win0_9.index t = ![t.val, 0, 0]
    ∧ win0_10.index t = ![t.val, 0, 0] ∧ win0_11.index t = ![t.val, 0, 0] ∧ win0_12.index t = ![t.val, 0, 0]
    ∧ win0_13.index t = ![t.val, 0, 0, 0] ∧ win0_15.index t = ![t.val, 0, 0, 0] ∧ win0_17.index t = ![0, t.val] := by
  decide +kernel

theorem lt1 (t : Fin cfg0.N) : t.val < 1 := lt_of_lt_of_eq t.isLt N_0
/-- A step's rows, its batch, and its positions there: there is one step. -/
def rt (t : Fin cfg0.N) (r : Fin 128) : Fin 128 := ⟨128 * t.val + r.val, by have := lt1 t; omega⟩
def bt (t : Fin cfg0.N) : Fin 1 := ⟨t.val, lt1 t⟩
def st (t : Fin cfg0.N) (r : Fin 128) : Fin 128 := ⟨r.val, r.isLt⟩
theorem row_eq (t : Fin cfg0.N) (r : Fin 128) : row (bt t) (st t r) = rt t r := rfl

theorem emb0 (t : Fin cfg0.N) (r : Fin 128) (k : Fin 1024) : ((win0_0.blk t).view.emb (ix2 r k) : S128x1024.Idx) = ix2 (rt t r) k := by
  unfold rt
  blk_ext [(index_in t).1]
theorem emb1 (t : Fin cfg0.N) (k : Fin 1024) (j : Fin 2176) : ((win0_1.blk t).view.emb (ix2 k j) : S1024x2176.Idx) = ix2 k j := by
  blk_ext [(index_in t).2.1]
theorem emb2 (t : Fin cfg0.N) (j : Fin 2176) : ((win0_2.blk t).view.emb (ix2 0 j) : S1x2176.Idx) = ix2 0 j := by
  blk_ext [(index_in t).2.2.1]
theorem emb3 (t : Fin cfg0.N) (e : Fin 2864) (k : Fin 1024) : ((win0_3.blk t).view.emb (ix2 e k) : S2864x1024.Idx) = ix2 e k := by
  blk_ext [(index_in t).2.2.2.1]
theorem emb4 (t : Fin cfg0.N) (e : Fin 2864) : ((win0_4.blk t).view.emb (ix2 e 0) : S2864x1.Idx) = ix2 e 0 := by
  blk_ext [(index_in t).2.2.2.2]

theorem emb8 (t : Fin cfg0.N) (r : Fin 128) (j : Fin 2048) : ((win0_8.blk t).view.emb (ix2 r j) : S128x2048.Idx) = ix2 (rt t r) j := by
  unfold rt
  blk_ext [(index_out t).1]
theorem emb9 (t : Fin cfg0.N) (e : Fin 512) (r : Fin 128) : ((win0_9.blk t).view.emb (ix3 0 e r) : S1x512x128.Idx) = ix3 (bt t) e (st t r) := by
  unfold bt st
  blk_ext [(index_out t).2.1]
theorem emb10 (t : Fin cfg0.N) (e : Fin 256) (r : Fin 128) : ((win0_10.blk t).view.emb (ix3 0 e r) : S1x256x128.Idx) = ix3 (bt t) e (st t r) := by
  unfold bt st
  blk_ext [(index_out t).2.2.1]
theorem emb11 (t : Fin cfg0.N) (e : Fin 1024) (r : Fin 128) : ((win0_11.blk t).view.emb (ix3 0 e r) : S1x1024x128.Idx) = ix3 (bt t) e (st t r) := by
  unfold bt st
  blk_ext [(index_out t).2.2.2.1]
theorem emb12 (t : Fin cfg0.N) (e : Fin 8) (r : Fin 128) : ((win0_12.blk t).view.emb (ix3 0 e r) : S1x8x128.Idx) = ix3 (bt t) e (st t r) := by
  unfold bt st
  blk_ext [(index_out t).2.2.2.2.1]
theorem emb13 (t : Fin cfg0.N) (n : Fin 8) (d : Fin 64) (r : Fin 128) : ((win0_13.blk t).view.emb (ix4 0 n d r) : S1x8x64x128.Idx) = ix4 (bt t) n d (st t r) := by
  unfold bt st
  blk_ext [(index_out t).2.2.2.2.2.1]
theorem emb15 (t : Fin cfg0.N) (n : Fin 8) (d : Fin 64) (r : Fin 128) : ((win0_15.blk t).view.emb (ix4 0 n d r) : S1x8x64x128.Idx) = ix4 (bt t) n d (st t r) := by
  unfold bt st
  blk_ext [(index_out t).2.2.2.2.2.2.1]
theorem emb17 (t : Fin cfg0.N) (e : Fin 32) (r : Fin 128) : ((win0_17.blk t).view.emb (ix2 e r) : S32x128.Idx) = ix2 e (rt t r) := by
  unfold rt
  blk_ext [(index_out t).2.2.2.2.2.2.2]

theorem i0 (c : Dev nD) (t : Fin cfg0.N) (r : Fin 128) (k : Fin 1024) :
    (iblk m c 0 t : S128x1024.Idx → EReal) (ix2 r k) = (V m c main_arg0 : S128x1024.Idx → EReal) (ix2 (rt t r) k) := by
  unfold iblk
  generalize V m c = W
  unfold View.read
  exact (cast_eq _ _).trans (congrArg (W main_arg0) (emb0 t r k))
theorem i1 (c : Dev nD) (t : Fin cfg0.N) (k : Fin 1024) (j : Fin 2176) :
    (iblk m c 1 t : S1024x2176.Idx → EReal) (ix2 k j) = (V m c main_v4 : S1024x2176.Idx → EReal) (ix2 k j) := by
  unfold iblk
  generalize V m c = W
  unfold View.read
  exact (cast_eq _ _).trans (congrArg (W main_v4) (emb1 t k j))
theorem i2 (c : Dev nD) (t : Fin cfg0.N) (j : Fin 2176) :
    (iblk m c 2 t : S1x2176.Idx → EReal) (ix2 0 j) = (V m c main_v9 : S1x2176.Idx → EReal) (ix2 0 j) := by
  unfold iblk
  generalize V m c = W
  unfold View.read
  exact (cast_eq _ _).trans (congrArg (W main_v9) (emb2 t j))
theorem i3 (c : Dev nD) (t : Fin cfg0.N) (e : Fin 2864) (k : Fin 1024) :
    (iblk m c 3 t : S2864x1024.Idx → EReal) (ix2 e k) = (V m c main_v18 : S2864x1024.Idx → EReal) (ix2 e k) := by
  unfold iblk
  generalize V m c = W
  unfold View.read
  exact (cast_eq _ _).trans (congrArg (W main_v18) (emb3 t e k))
theorem i4 (c : Dev nD) (t : Fin cfg0.N) (e : Fin 2864) :
    (iblk m c 4 t : S2864x1.Idx → EReal) (ix2 e 0) = (V m c main_v26 : S2864x1.Idx → EReal) (ix2 e 0) := by
  unfold iblk
  generalize V m c = W
  unfold View.read
  exact (cast_eq _ _).trans (congrArg (W main_v26) (emb4 t e))

theorem blk0 (c : Dev nD) (t : Fin cfg0.N) (r : Fin 128) (k : Fin 1024) :
    (iblk m c 0 t : S128x1024.Idx → EReal) (ix2 r k) = (m ((c : Thread nD τ).loc main_arg0) : S128x1024.Idx → EReal) (ix2 (rt t r) k) :=
  (i0 m c t r k).trans (congrFun (V_main_arg0 m c) _)
theorem blk1 (c : Dev nD) (t : Fin cfg0.N) (k : Fin 1024) (j : Fin 2176) :
    (iblk m c 1 t : S1024x2176.Idx → EReal) (ix2 k j) = hW (m ((c : Thread nD τ).loc main_arg1)) (ix2 k j) :=
  (i1 m c t k j).trans (congrFun (V_v4 m c) _)
theorem blk2 (c : Dev nD) (t : Fin cfg0.N) (j : Fin 2176) :
    (iblk m c 2 t : S1x2176.Idx → EReal) (ix2 0 j) = hB (m ((c : Thread nD τ).loc main_arg2)) (ix2 0 j) :=
  (i2 m c t j).trans (congrFun (V_v9 m c) _)
theorem blk3 (c : Dev nD) (t : Fin cfg0.N) (e : Fin 2864) (k : Fin 1024) :
    (iblk m c 3 t : S2864x1024.Idx → EReal) (ix2 e k) = hT (m ((c : Thread nD τ).loc main_arg1)) (ix2 e k) :=
  (i3 m c t e k).trans (congrFun (V_v18 m c) _)
theorem blk4 (c : Dev nD) (t : Fin cfg0.N) (e : Fin 2864) :
    (iblk m c 4 t : S2864x1.Idx → EReal) (ix2 e 0) = hD (m ((c : Thread nD τ).loc main_arg2)) (ix2 e 0) :=
  (i4 m c t e).trans (congrFun (V_v26 m c) _)

end Blocks

end Cert.ProjSampleHost

end
-- ==== Proof.ProjSampleKer.lean ====
module

public import proofs.«01_k».proof.Proof.ProjSampleHost
public import proofs.«01_k».proof.Proof.Gen.ProjSampleKernelIdeal.Frame
public import proofs.«01_k».proof.Defs
public import Idealize.ShloMosaic.Lib.Pipeline.ValueKit

/-!
# The sample's projection: its result arrays

Each array the call leaves, entry by entry.
-/

@[expose] public section

set_option maxRecDepth 16384

noncomputable section

namespace Cert.ProjSampleKer

open Cert.ProjVal (hW hB hT hD hW_gate hB_gate)
open Cert.ProjPay (sg ls eighth zeros zeros3 zeros4 ld1 ld2 ld4 ld5 ld7 ld8 ld10 ld11 ld18 ld19 ld20 ld21 ld44 ld45 ld47 ld48)
open Cert.ProjHost (sg_zero row_a row_b row_c row_d row_e bias_a bias_b bias_c bias_d bias_e)
open Cert.ProjSampleHost
open Cert.ProjSampleKernelIdeal Cert.ProjSampleKernelIdeal.Gen Idealize.ShloMosaic Idealize.ShloMosaic.TcCoe Idealize.SL.Sem

section Step

variable (x0 : Vec Ideal S128x1024 .f32) (x1 : Vec Ideal S1024x2176 .bf16) (x2 : Vec Ideal S1x2176 .f32) (x3 : Vec Ideal S2864x1024 .bf16) (x4 : Vec Ideal S2864x1 .f32)

theorem ld0 : View.ld x0 r0_0 = x0 := View.ld_unit_zero zeros _ _
theorem low : k0_pay49 (F := Ideal) x0 x1 x2 x3 x4 = k0_pay2 x0 := by
  unfold k0_pay49
  rw [ld0]

theorem out8 (r : Fin 128) (j : Fin 2048) : out0_8 (F := Ideal) x0 x1 x2 x3 x4 (ix2 r j) = sg ((∑ k, x0 (ix2 r k) * x1 (ix2 k ⟨0 + j.val, by omega⟩)) + x2 (ix2 0 ⟨0 + j.val, by omega⟩)) := by
  have e0 : out0_8 (F := Ideal) x0 x1 x2 x3 x4 = k0_pay3 x0 (View.ld x1 r0_1) (View.ld x2 r0_2) := by
    unfold out0_8
    simp only [low, ld0]
    exact View.canon_unit_zero zeros _ _
  rw [e0]
  refine (p3 _ _ _ r j).trans (congrArg sg (congrArg₂ (· + ·) (Finset.sum_congr rfl fun k _ => congrArg₂ (· * ·) rfl ?_) ?_))
  · exact ld1 x1 k _
  · exact ld2 x2 _
theorem out9 (e : Fin 512) (r : Fin 128) : out0_9 (F := Ideal) x0 x1 x2 x3 x4 (ix3 0 e r) = (∑ k, x3 (ix2 ⟨512 + e.val, by omega⟩ k) * x0 (ix2 r k)) + x4 (ix2 ⟨512 + e.val, by omega⟩ 0) := by
  have e0 : out0_9 (F := Ideal) x0 x1 x2 x3 x4 = k0_pay9 (k0_pay2 x0) (View.ld x3 r0_10) (View.ld x4 r0_11) := by
    unfold out0_9
    simp only [low, ld0]
    exact View.canon_unit_zero zeros3 _ _
  rw [e0]
  refine (p9 _ _ _ e r).trans (congrArg₂ (· + ·) (Finset.sum_congr rfl fun k _ => congrArg₂ (· * ·) ?_ rfl) ?_)
  · exact ld10 x3 _ k
  · exact ld11 x4 _
theorem out10 (e : Fin 256) (r : Fin 128) : out0_10 (F := Ideal) x0 x1 x2 x3 x4 (ix3 0 e r) = (∑ k, x3 (ix2 ⟨512 + (512 + e.val), by omega⟩ k) * x0 (ix2 r k)) + x4 (ix2 ⟨512 + (512 + e.val), by omega⟩ 0) := by
  have e0 : out0_10 (F := Ideal) x0 x1 x2 x3 x4 = k0_pay10 (k0_pay8 (k0_pay2 x0) (View.ld x3 r0_10) (View.ld x4 r0_11)) := by
    unfold out0_10 k0_pay51
    simp only [low, ld0]
    exact View.canon_unit_zero zeros3 _ _
  rw [e0]
  refine (p10 _ _ _ e r).trans (congrArg₂ (· + ·) (Finset.sum_congr rfl fun k _ => congrArg₂ (· * ·) ?_ rfl) ?_)
  · exact ld10 x3 _ k
  · exact ld11 x4 _
theorem out11 (e : Fin 1024) (r : Fin 128) : out0_11 (F := Ideal) x0 x1 x2 x3 x4 (ix3 0 e r) = (∑ k, x3 (ix2 ⟨1792 + e.val, by omega⟩ k) * x0 (ix2 r k)) + x4 (ix2 ⟨1792 + e.val, by omega⟩ 0) := by
  have e0 : out0_11 (F := Ideal) x0 x1 x2 x3 x4 = k0_pay18 (k0_pay2 x0) (View.ld x3 r0_20) (View.ld x4 r0_21) := by
    unfold out0_11
    simp only [low, ld0]
    exact View.canon_unit_zero zeros3 _ _
  rw [e0]
  refine (p18 _ _ _ e r).trans (congrArg₂ (· + ·) (Finset.sum_congr rfl fun k _ => congrArg₂ (· * ·) ?_ rfl) ?_)
  · exact ld20 x3 _ k
  · exact ld21 x4 _
theorem out12 (e : Fin 8) (r : Fin 128) : out0_12 (F := Ideal) x0 x1 x2 x3 x4 (ix3 0 e r) = ls ((∑ k, x3 (ix2 ⟨2848 + e.val, by omega⟩ k) * x0 (ix2 r k)) + x4 (ix2 ⟨2848 + e.val, by omega⟩ 0)) := by
  have e0 : out0_12 (F := Ideal) x0 x1 x2 x3 x4 = k0_pay1 (k0_pay48 (k0_pay2 x0) (View.ld x3 r0_47) (View.ld x4 r0_48)) := by
    unfold out0_12
    simp only [low, ld0]
    exact View.canon_unit_zero zeros3 _ _
  rw [e0]
  refine (p1 _ _ _ e r).trans (congrArg ls (congrArg₂ (· + ·) (Finset.sum_congr rfl fun k _ => congrArg₂ (· * ·) ?_ rfl) ?_))
  · exact ld47 x3 _ k
  · exact ld48 x4 _
theorem out13 (n : Fin 8) (d : Fin 64) (r : Fin 128) : out0_13 (F := Ideal) x0 x1 x2 x3 x4 (ix4 0 n d r) = ((∑ k, x3 (ix2 ⟨0 + (64 * n.val + d.val), by omega⟩ k) * x0 (ix2 r k)) + x4 (ix2 ⟨0 + (64 * n.val + d.val), by omega⟩ 0)) * eighth := by
  have e0 : out0_13 (F := Ideal) x0 x1 x2 x3 x4 = k0_pay7 (k0_pay2 x0) (View.ld x3 r0_7) (View.ld x4 r0_8) := by
    unfold out0_13
    simp only [low, ld0]
    exact View.canon_unit_zero zeros4 _ _
  rw [e0]
  refine (p7 _ _ _ n d r).trans (congrArg (· * eighth) (congrArg₂ (· + ·) (Finset.sum_congr rfl fun k _ => congrArg₂ (· * ·) ?_ rfl) ?_))
  · exact ld7 x3 _ k
  · exact ld8 x4 _
theorem out15 (n : Fin 8) (d : Fin 64) (r : Fin 128) : out0_15 (F := Ideal) x0 x1 x2 x3 x4 (ix4 0 n d r) = ((∑ k, x3 (ix2 ⟨1280 + (64 * n.val + d.val), by omega⟩ k) * x0 (ix2 r k)) + x4 (ix2 ⟨1280 + (64 * n.val + d.val), by omega⟩ 0)) * eighth := by
  have e0 : out0_15 (F := Ideal) x0 x1 x2 x3 x4 = k0_pay16 (k0_pay15 (k0_pay2 x0) (View.ld x3 r0_18)) (View.ld x4 r0_19) := by
    unfold out0_15
    simp only [low, ld0]
    exact View.canon_unit_zero zeros4 _ _
  rw [e0]
  refine (p16 _ _ _ n d r).trans (congrArg (· * eighth) (congrArg₂ (· + ·) (Finset.sum_congr rfl fun k _ => congrArg₂ (· * ·) ?_ rfl) ?_))
  · exact ld18 x3 _ k
  · exact ld19 x4 _
theorem out17 (e : Fin 32) (r : Fin 128) : out0_17 (F := Ideal) x0 x1 x2 x3 x4 (ix2 e r) = sg ((∑ k, x3 (ix2 ⟨2816 + e.val, by omega⟩ k) * x0 (ix2 r k)) + x4 (ix2 ⟨2816 + e.val, by omega⟩ 0)) := by
  have e0 : out0_17 (F := Ideal) x0 x1 x2 x3 x4 = k0_pay47 (k0_pay46 (k0_pay2 x0) (View.ld x3 r0_44)) (View.ld x4 r0_45) := by
    unfold out0_17
    simp only [low, ld0]
    exact View.canon_unit_zero zeros _ _
  rw [e0]
  refine (p47 _ _ _ e r).trans (congrArg sg (congrArg₂ (· + ·) (Finset.sum_congr rfl fun k _ => congrArg₂ (· * ·) ?_ rfl) ?_))
  · exact ld44 x3 _ k
  · exact ld45 x4 _

end Step

section Arrays

variable (m : (ℓ : Loc nD τ sig) → Buf (Elt Ideal) ℓ) (c : Dev nD)

/-- The three arguments: the activations, the weights and the bias. -/
def argH : S128x1024.Idx → EReal := m ((c : Thread nD τ).loc main_arg0)
def argW : S1024x4896.Idx → EReal := m ((c : Thread nD τ).loc main_arg1)
def argB : S4896.Idx → EReal := m ((c : Thread nD τ).loc main_arg2)

/-- The five blocks of a step. -/
def B0 (t : Fin cfg0.N) : S128x1024.Idx → EReal := iblk m c 0 t
def B1 (t : Fin cfg0.N) : S1024x2176.Idx → EReal := iblk m c 1 t
def B2 (t : Fin cfg0.N) : S1x2176.Idx → EReal := iblk m c 2 t
def B3 (t : Fin cfg0.N) : S2864x1024.Idx → EReal := iblk m c 3 t
def B4 (t : Fin cfg0.N) : S2864x1.Idx → EReal := iblk m c 4 t

/-- A row of the rows' matrix whose column is `C`: its product is that of the projection. -/
theorem colT {E : Fin 2864} {C : Fin 4896} (t : Fin cfg0.N) (r : Fin 128) (hW : ∀ k, hT (argW m c) (ix2 E k) = argW m c (ix2 k C)) (hB : hD (argB m c) (ix2 E 0) = argB m c (ix1 C)) :
    (∑ k, B3 m c t (ix2 E k) * B0 m c t (ix2 r k)) + B4 m c t (ix2 E 0)
      = lin (argH m c) (argW m c) (argB m c) (rt t r) C :=
  linT (argH m c) (argW m c) (argB m c) (fun k => blk0 m c t r k) (fun k => (blk3 m c t E k).trans (hW k)) ((blk4 m c t E).trans hB)
theorem colN {E : Fin 2176} {C : Fin 4896} (t : Fin cfg0.N) (r : Fin 128) (hW : ∀ k, ProjVal.hW (argW m c) (ix2 k E) = argW m c (ix2 k C)) (hB : ProjVal.hB (argB m c) (ix2 0 E) = argB m c (ix1 C)) :
    (∑ k, B0 m c t (ix2 r k) * B1 m c t (ix2 k E)) + B2 m c t (ix2 0 E)
      = lin (argH m c) (argW m c) (argB m c) (rt t r) C :=
  linN (argH m c) (argW m c) (argB m c) (fun k => blk0 m c t r k) (fun k => (blk1 m c t k E).trans (hW k)) ((blk2 m c t E).trans hB)

theorem arr8 : (Gen.dats m 0 c).arrAt 8 cfg0.N = oGm (argH m c) (argW m c) (argB m c) := by
  refine (Gen.dats m 0 c).arrAt_eq_of_covers 8 _ (by decide +kernel) fun t hf y => ?_
  blk_simp
  rw [after0_8]
  obtain ⟨r, j, rfl⟩ : ∃ (r : Fin 128) (j : Fin 2048), y = ix2 r j := ⟨y 0, y 1, funext fun a => by fin_cases a <;> rfl⟩
  refine Eq.trans ?_ (congrArg (oGm (argH m c) (argW m c) (argB m c)) (emb8 t r j)).symm
  refine (out8 _ _ _ _ _ r j).trans ?_
  refine congrArg sg (colN m c t r (fun k => ?_) ?_)
  · rw [show (⟨0 + j.val, by omega⟩ : Fin 2176) = ⟨j.val, by omega⟩ from Fin.ext (Nat.zero_add _)]
    exact hW_gate _ k j
  · rw [show (⟨0 + j.val, by omega⟩ : Fin 2176) = ⟨j.val, by omega⟩ from Fin.ext (Nat.zero_add _)]
    exact hB_gate _ j
theorem arr9 : (Gen.dats m 0 c).arrAt 9 cfg0.N = oNsa (argH m c) (argW m c) (argB m c) := by
  refine (Gen.dats m 0 c).arrAt_eq_of_covers 9 _ (by decide +kernel) fun t hf y => ?_
  blk_simp
  rw [after0_9]
  obtain ⟨e, r, rfl⟩ : ∃ (e : Fin 512) (r : Fin 128), y = ix3 0 e r := ⟨y 1, y 2, funext fun a => by
    fin_cases a
    · exact Subsingleton.elim (α := Fin 1) _ _
    · rfl
    · rfl⟩
  refine Eq.trans ?_ (congrArg (oNsa (argH m c) (argW m c) (argB m c)) (emb9 t e r)).symm
  refine (out9 _ _ _ _ _ e r).trans ?_
  refine Eq.trans ?_ (congrArg (fun R => lin (argH m c) (argW m c) (argB m c) R ⟨512 + e.val, by omega⟩) (row_eq t r)).symm
  exact colT m c t r (C := ⟨512 + e.val, by omega⟩) (fun k => row_a _ _ _ (by simp only; omega) (by simp only; try omega) k) (bias_a _ _ _ (by simp only; omega) (by simp only; try omega))
theorem arr10 : (Gen.dats m 0 c).arrAt 10 cfg0.N = oWin (argH m c) (argW m c) (argB m c) := by
  refine (Gen.dats m 0 c).arrAt_eq_of_covers 10 _ (by decide +kernel) fun t hf y => ?_
  blk_simp
  rw [after0_10]
  obtain ⟨e, r, rfl⟩ : ∃ (e : Fin 256) (r : Fin 128), y = ix3 0 e r := ⟨y 1, y 2, funext fun a => by
    fin_cases a
    · exact Subsingleton.elim (α := Fin 1) _ _
    · rfl
    · rfl⟩
  refine Eq.trans ?_ (congrArg (oWin (argH m c) (argW m c) (argB m c)) (emb10 t e r)).symm
  refine (out10 _ _ _ _ _ e r).trans ?_
  refine Eq.trans ?_ (congrArg (fun R => lin (argH m c) (argW m c) (argB m c) R ⟨1024 + e.val, by omega⟩) (row_eq t r)).symm
  exact colT m c t r (C := ⟨1024 + e.val, by omega⟩) (fun k => row_a _ _ _ (by simp only; omega) (by simp only; try omega) k) (bias_a _ _ _ (by simp only; omega) (by simp only; try omega))
theorem arr11 : (Gen.dats m 0 c).arrAt 11 cfg0.N = oFox (argH m c) (argW m c) (argB m c) := by
  refine (Gen.dats m 0 c).arrAt_eq_of_covers 11 _ (by decide +kernel) fun t hf y => ?_
  blk_simp
  rw [after0_11]
  obtain ⟨e, r, rfl⟩ : ∃ (e : Fin 1024) (r : Fin 128), y = ix3 0 e r := ⟨y 1, y 2, funext fun a => by
    fin_cases a
    · exact Subsingleton.elim (α := Fin 1) _ _
    · rfl
    · rfl⟩
  refine Eq.trans ?_ (congrArg (oFox (argH m c) (argW m c) (argB m c)) (emb11 t e r)).symm
  refine (out11 _ _ _ _ _ e r).trans ?_
  refine Eq.trans ?_ (congrArg (fun R => lin (argH m c) (argW m c) (argB m c) R ⟨1816 + e.val, by omega⟩) (row_eq t r)).symm
  exact colT m c t r (C := ⟨1816 + e.val, by omega⟩) (fun k => row_b _ _ _ (by simp only; omega) (by simp only; omega) (by simp only; try omega) k) (bias_b _ _ _ (by simp only; omega) (by simp only; omega) (by simp only; try omega))
theorem arr12 : (Gen.dats m 0 c).arrAt 12 cfg0.N = oLogt (argH m c) (argW m c) (argB m c) := by
  refine (Gen.dats m 0 c).arrAt_eq_of_covers 12 _ (by decide +kernel) fun t hf y => ?_
  blk_simp
  rw [after0_12]
  obtain ⟨e, r, rfl⟩ : ∃ (e : Fin 8) (r : Fin 128), y = ix3 0 e r := ⟨y 1, y 2, funext fun a => by
    fin_cases a
    · exact Subsingleton.elim (α := Fin 1) _ _
    · rfl
    · rfl⟩
  refine Eq.trans ?_ (congrArg (oLogt (argH m c) (argW m c) (argB m c)) (emb12 t e r)).symm
  refine (out12 _ _ _ _ _ e r).trans ?_
  refine Eq.trans ?_ (congrArg (fun R => ls (lin (argH m c) (argW m c) (argB m c) R ⟨2840 + e.val, by omega⟩)) (row_eq t r)).symm
  exact congrArg ls (colT m c t r (C := ⟨2840 + e.val, by omega⟩) (fun k => row_e _ _ _ (by simp only; omega) (by simp only; omega) (by simp only; try omega) k) (bias_e _ _ _ (by simp only; omega) (by simp only; omega) (by simp only; try omega)))
theorem arr13 : (Gen.dats m 0 c).arrAt 13 cfg0.N = oQa (argH m c) (argW m c) (argB m c) := by
  refine (Gen.dats m 0 c).arrAt_eq_of_covers 13 _ (by decide +kernel) fun t hf y => ?_
  blk_simp
  rw [after0_13]
  obtain ⟨n, d, r, rfl⟩ : ∃ (n : Fin 8) (d : Fin 64) (r : Fin 128), y = ix4 0 n d r := ⟨y 1, y 2, y 3, funext fun a => by
    fin_cases a
    · exact Subsingleton.elim (α := Fin 1) _ _
    · rfl
    · rfl
    · rfl⟩
  refine Eq.trans ?_ (congrArg (oQa (argH m c) (argW m c) (argB m c)) (emb13 t n d r)).symm
  refine (out13 _ _ _ _ _ n d r).trans ?_
  refine Eq.trans ?_ (congrArg (fun R => lin (argH m c) (argW m c) (argB m c) R ⟨64 * n.val + d.val, by omega⟩ * eighth) (row_eq t r)).symm
  exact congrArg (· * eighth) (colT m c t r (C := ⟨64 * n.val + d.val, by omega⟩) (fun k => row_a _ _ _ (by simp only; omega) (by simp only; try omega) k) (bias_a _ _ _ (by simp only; omega) (by simp only; try omega)))
theorem arr15 : (Gen.dats m 0 c).arrAt 15 cfg0.N = oQf (argH m c) (argW m c) (argB m c) := by
  refine (Gen.dats m 0 c).arrAt_eq_of_covers 15 _ (by decide +kernel) fun t hf y => ?_
  blk_simp
  rw [after0_15]
  obtain ⟨n, d, r, rfl⟩ : ∃ (n : Fin 8) (d : Fin 64) (r : Fin 128), y = ix4 0 n d r := ⟨y 1, y 2, y 3, funext fun a => by
    fin_cases a
    · exact Subsingleton.elim (α := Fin 1) _ _
    · rfl
    · rfl
    · rfl⟩
  refine Eq.trans ?_ (congrArg (oQf (argH m c) (argW m c) (argB m c)) (emb15 t n d r)).symm
  refine (out15 _ _ _ _ _ n d r).trans ?_
  refine Eq.trans ?_ (congrArg (fun R => lin (argH m c) (argW m c) (argB m c) R ⟨1304 + (64 * n.val + d.val), by omega⟩ * eighth) (row_eq t r)).symm
  exact congrArg (· * eighth) (colT m c t r (C := ⟨1304 + (64 * n.val + d.val), by omega⟩) (fun k => row_b _ _ _ (by simp only; omega) (by simp only; omega) (by simp only; try omega) k) (bias_b _ _ _ (by simp only; omega) (by simp only; omega) (by simp only; try omega)))
theorem arr17 : (Gen.dats m 0 c).arrAt 17 cfg0.N = oGa (argH m c) (argW m c) (argB m c) := by
  refine (Gen.dats m 0 c).arrAt_eq_of_covers 17 _ (by decide +kernel) fun t hf y => ?_
  blk_simp
  rw [after0_17]
  obtain ⟨e, r, rfl⟩ : ∃ (e : Fin 32) (r : Fin 128), y = ix2 e r := ⟨y 0, y 1, funext fun a => by fin_cases a <;> rfl⟩
  refine Eq.trans ?_ (congrArg (oGa (argH m c) (argW m c) (argB m c)) (emb17 t e r)).symm
  refine (out17 _ _ _ _ _ e r).trans ?_
  by_cases he : e.val < 24
  · refine Eq.trans ?_ (dif_pos he).symm
    exact congrArg sg (colT m c t r (C := ⟨1280 + e.val, by omega⟩) (fun k => row_c _ _ _ (by simp only; omega) (by simp only; omega) (by simp only; try omega) k) (bias_c _ _ _ (by simp only; omega) (by simp only; omega) (by simp only; try omega)))
  · refine Eq.trans ?_ (dif_neg he).symm
    exact sg_zero (fun k => (blk3 m c t _ k).trans (row_d _ _ (by simp only; omega) (by simp only; omega) k)) ((blk4 m c t _).trans (bias_d _ _ (by simp only; omega) (by simp only; omega)))

end Arrays

end Cert.ProjSampleKer

end
-- ==== Proof.ProjSampleRef.lean ====
module

public import proofs.«01_k».proof.Proof.ProjSampleHost
public import proofs.«01_k».proof.Proof.Gen.ProjSampleReferenceIdeal.Read
public import proofs.«01_k».proof.Defs

/-!
# The sample's projection: its reference

The reference's eight results, entry by entry.
-/

@[expose] public section

set_option maxRecDepth 16384

noncomputable section

namespace Cert.ProjSampleRef

open Cert.ProjPay (sg ls eighth)
open Cert.ProjSampleHost
open Cert.ProjSampleReferenceIdeal Cert.ProjSampleReferenceIdeal.Read Idealize.ShloMosaic Idealize.ShloMosaic.TcCoe Idealize.SL.Sem

variable (h : S128x1024.Idx → EReal) (w : S1024x4896.Idx → EReal) (b : S4896.Idx → EReal)

/-- One number of the projection. -/
theorem v3_of (j : S128x4896.Idx) (r : Fin 128) (c : Fin 4896) (hr : (j 0).val = r.val) (hc : (j 1).val = c.val) :
    val_main_v3 (F := Ideal) h w b j = lin h w b r c := by
  have ej : j = ix2 r c := funext fun a => Fin.ext (by fin_cases a; exacts [hr, hc])
  subst ej
  have e1 : idx_main_v1 (idx_main_v2 (ix2 r c)) = ix1 c := funext fun a => by fin_cases a <;> rfl
  have el : ∀ k, lidx_main_v0 (ix2 r c) k = ix2 r k := fun k => funext fun a => by fin_cases a <;> rfl
  have er : ∀ k, ridx_main_v0 (ix2 r c) k = ix2 k c := fun k => funext fun a => by fin_cases a <;> rfl
  simp only [val_main_v3_apply, val_main_v2_apply, val_main_v1_apply, val_main_v0_apply, e1, el, er]
  rfl

/-- The attention's keys and values: branch, head and feature in a row. -/
theorem v11_of (q : S1x128x6x2x64.Idx) (n : Fin 1) (s : Fin 128) (c : Fin 4896) (h0 : (q 0).val = n.val) (h1 : (q 1).val = s.val)
    (hc : 512 + ((q 2).val * 128 + (q 3).val * 64 + (q 4).val) = c.val) : val_main_v11 (F := Ideal) h w b q = lin h w b (row n s) c := by
  have l2 : (q 2).val < 6 := (q 2).isLt
  have l3 : (q 3).val < 2 := (q 3).isLt
  have l4 : (q 4).val < 64 := (q 4).isLt
  rw [val_main_v11_apply, val_main_v5_apply]
  refine v3_of h w b _ _ _ ?_ ?_
  · show (((((q 0).val * 128 + (q 1).val) * 6 + (q 2).val) * 2 + (q 3).val) * 64 + (q 4).val) / 768 = 128 * n.val + s.val
    omega
  · show 512 + (((((q 0).val * 128 + (q 1).val) * 6 + (q 2).val) * 2 + (q 3).val) * 64 + (q 4).val) % 768 = c.val
    omega

/-- The forgetting attention's queries, keys and values. -/
theorem v18_of (q : S1x128x3x8x64.Idx) (n : Fin 1) (s : Fin 128) (c : Fin 4896) (h0 : (q 0).val = n.val) (h1 : (q 1).val = s.val)
    (hc : 1304 + ((q 2).val * 512 + (q 3).val * 64 + (q 4).val) = c.val) : val_main_v18 (F := Ideal) h w b q = lin h w b (row n s) c := by
  have l2 : (q 2).val < 3 := (q 2).isLt
  have l3 : (q 3).val < 8 := (q 3).isLt
  have l4 : (q 4).val < 64 := (q 4).isLt
  rw [val_main_v18_apply, val_main_v7_apply]
  refine v3_of h w b _ _ _ ?_ ?_
  · show (((((q 0).val * 128 + (q 1).val) * 3 + (q 2).val) * 8 + (q 3).val) * 64 + (q 4).val) / 1536 = 128 * n.val + s.val
    omega
  · show 1304 + (((((q 0).val * 128 + (q 1).val) * 3 + (q 2).val) * 8 + (q 3).val) * 64 + (q 4).val) % 1536 = c.val
    omega

/-- The queries before their factor. -/
theorem v10_of (q : S1x128x8x64.Idx) (n : Fin 1) (s : Fin 128) (c : Fin 4896) (h0 : (q 0).val = n.val) (h1 : (q 1).val = s.val)
    (hc : (q 2).val * 64 + (q 3).val = c.val) : val_main_v10 (F := Ideal) h w b q = lin h w b (row n s) c := by
  have l2 : (q 2).val < 8 := (q 2).isLt
  have l3 : (q 3).val < 64 := (q 3).isLt
  rw [val_main_v10_apply, val_main_v4_apply]
  refine v3_of h w b _ _ _ ?_ ?_
  · show ((((q 0).val * 128 + (q 1).val) * 8 + (q 2).val) * 64 + (q 3).val) / 512 = 128 * n.val + s.val
    omega
  · show ((((q 0).val * 128 + (q 1).val) * 8 + (q 2).val) * 64 + (q 3).val) % 512 = c.val
    omega

theorem nsa_eq : val_main_v28 (F := Ideal) h w b = oNsa h w b := by
  funext i
  obtain ⟨n, e, s, rfl⟩ : ∃ (n : Fin 1) (e : Fin 512) (s : Fin 128), i = ix3 n e s := ⟨i 0, i 1, i 2, funext fun a => by fin_cases a <;> rfl⟩
  rw [val_main_v28_apply, val_main_v27_apply, val_main_v26_apply]
  refine v11_of h w b _ n s _ ?_ ?_ ?_
  · show 0 = n.val; omega
  · show ((n.val * 128 + s.val) * 512 + e.val) / 512 % 128 = s.val; omega
  · show 512 + (((n.val * 128 + s.val) * 512 + e.val) / 128 % 4 * 128 + ((n.val * 128 + s.val) * 512 + e.val) / 64 % 2 * 64
      + ((n.val * 128 + s.val) * 512 + e.val) % 64) = 512 + e.val
    omega

theorem win_eq : val_main_v31 (F := Ideal) h w b = oWin h w b := by
  funext i
  obtain ⟨n, e, s, rfl⟩ : ∃ (n : Fin 1) (e : Fin 256) (s : Fin 128), i = ix3 n e s := ⟨i 0, i 1, i 2, funext fun a => by fin_cases a <;> rfl⟩
  rw [val_main_v31_apply, val_main_v30_apply, val_main_v29_apply]
  refine v11_of h w b _ n s _ ?_ ?_ ?_
  · show 0 = n.val; omega
  · show ((n.val * 128 + s.val) * 256 + e.val) / 256 % 128 = s.val; omega
  · show 512 + ((4 + ((n.val * 128 + s.val) * 256 + e.val) / 128 % 2) * 128 + ((n.val * 128 + s.val) * 256 + e.val) / 64 % 2 * 64
      + ((n.val * 128 + s.val) * 256 + e.val) % 64) = 1024 + e.val
    omega

/-- The window's new rows. -/
theorem rows_eq : val_main_v60 (F := Ideal) h w b = newRows h w b := by
  funext i
  have l1 : (i 1).val < 4 := (i 1).isLt
  have l2 : (i 2).val < 2 := (i 2).isLt
  have l3 : (i 3).val < 2 := (i 3).isLt
  have l4 : (i 4).val < 64 := (i 4).isLt
  rw [val_main_v60_apply, val_main_v59_apply, val_main_v54_apply]
  refine v3_of h w b _ _ _ ?_ ?_
  · show (((((i 0).val * 4 + (i 1).val) * 6 + (4 + (i 2).val)) * 2 + (i 3).val) * 64 + (i 4).val) / 768 = 4 * (i 0).val + (i 1).val
    omega
  · show 512 + (((((i 0).val * 4 + (i 1).val) * 6 + (4 + (i 2).val)) * 2 + (i 3).val) * 64 + (i 4).val) % 768
      = 1024 + ((i 2).val * 128 + (i 3).val * 64 + (i 4).val)
    omega

theorem buf_eq (a : S32x512x2x2x64.Idx → EReal) : val_main_v62 (F := Ideal) h w b a = oBuf h w b a := by
  unfold val_main_v62 val_main_v61
  rw [rows_eq]
  rfl

theorem fox_eq : val_main_v34 (F := Ideal) h w b = oFox h w b := by
  funext i
  obtain ⟨n, e, s, rfl⟩ : ∃ (n : Fin 1) (e : Fin 1024) (s : Fin 128), i = ix3 n e s := ⟨i 0, i 1, i 2, funext fun a => by fin_cases a <;> rfl⟩
  rw [val_main_v34_apply, val_main_v33_apply, val_main_v32_apply]
  refine v18_of h w b _ n s _ ?_ ?_ ?_
  · show 0 = n.val; omega
  · show ((n.val * 128 + s.val) * 1024 + e.val) / 1024 % 128 = s.val; omega
  · show 1304 + ((1 + ((n.val * 128 + s.val) * 1024 + e.val) / 512 % 2) * 512 + ((n.val * 128 + s.val) * 1024 + e.val) / 64 % 8 * 64
      + ((n.val * 128 + s.val) * 1024 + e.val) % 64) = 1816 + e.val
    omega

theorem qa_eq : val_main_v40 (F := Ideal) h w b = oQa h w b := by
  funext i
  obtain ⟨n, u, d, s, rfl⟩ : ∃ (n : Fin 1) (u : Fin 8) (d : Fin 64) (s : Fin 128), i = ix4 n u d s :=
    ⟨i 0, i 1, i 2, i 3, funext fun a => by fin_cases a <;> rfl⟩
  have e := v10_of h w b (idx_main_v40 (ix4 n u d s)) n s ⟨64 * u.val + d.val, by omega⟩ rfl rfl (by show u.val * 64 + d.val = 64 * u.val + d.val; omega)
  simp only [val_main_v40_apply, val_main_v39_apply, val_main_v38_apply, val_main_v37_apply, val_main_cst_3_apply, e]
  rfl

theorem qf_eq : val_main_v46 (F := Ideal) h w b = oQf h w b := by
  funext i
  obtain ⟨n, u, d, s, rfl⟩ : ∃ (n : Fin 1) (u : Fin 8) (d : Fin 64) (s : Fin 128), i = ix4 n u d s :=
    ⟨i 0, i 1, i 2, i 3, funext fun a => by fin_cases a <;> rfl⟩
  have e := v18_of h w b (idx_main_v41 (idx_main_v42 (idx_main_v46 (ix4 n u d s)))) n s ⟨1304 + (64 * u.val + d.val), by omega⟩
    (by show 0 = n.val; omega)
    (by show (((n.val * 128 + s.val) * 8 + u.val) * 64 + d.val) / 512 % 128 = s.val; omega)
    (by
      show 1304 + (0 * 512 + (((n.val * 128 + s.val) * 8 + u.val) * 64 + d.val) / 64 % 8 * 64 + (((n.val * 128 + s.val) * 8 + u.val) * 64 + d.val) % 64)
        = 1304 + (64 * u.val + d.val)
      omega)
  simp only [val_main_v46_apply, val_main_v45_apply, val_main_v44_apply, val_main_v43_apply, val_main_cst_4_apply, val_main_v42_apply,
    val_main_v41_apply, e]
  rfl

theorem gm_eq : val_main_v25 (F := Ideal) h w b = oGm h w b := by
  funext i
  have e := v3_of h w b (idx_main_v9 i) (i 0) ⟨2848 + (i 1).val, by have : (i 1).val < 2048 := (i 1).isLt; omega⟩ rfl rfl
  simp only [val_main_v25_apply, val_main_v24_apply, val_main_v23_apply, val_main_v22_apply, val_main_v21_apply, val_main_v20_apply,
    val_main_v9_apply, val_main_cst_1_apply, val_main_cst_2_apply, e]
  unfold oGm sg
  rw [zero_sub]
  rfl

/-- The branch gates, a row's in a row. -/
theorem gate (r : Fin 128) (g : Fin 24) : val_main_v17 (F := Ideal) h w b (ix2 r g) = sg (lin h w b r ⟨1280 + g.val, by omega⟩) := by
  have e := v3_of h w b (idx_main_v6 (ix2 r g)) r ⟨1280 + g.val, by omega⟩ rfl rfl
  simp only [val_main_v17_apply, val_main_v16_apply, val_main_v15_apply, val_main_v14_apply, val_main_v13_apply, val_main_v12_apply,
    val_main_v6_apply, val_main_cst_apply, val_main_cst_0_apply, e]
  unfold sg
  rw [zero_sub]
  rfl

/-- The log forget values. -/
theorem forget (j : S128x8.Idx) (r : Fin 128) (g : Fin 8) (hr : (j 0).val = r.val) (hg : (j 1).val = g.val) :
    val_main_v19 (F := Ideal) h w b j = ls (lin h w b r ⟨2840 + g.val, by omega⟩) := by
  have e := v3_of h w b (idx_main_v8 j) r ⟨2840 + g.val, by omega⟩ hr (by show 2840 + (j 1).val = 2840 + g.val; rw [hg])
  have z : (FloatOps.ofBits (F := Ideal) .f32 0x00000000#32) = 0 := by simp only [pointwise]
  simp only [val_main_v19_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_call0_cst_apply, val_main_call0_v0_apply, val_main_v8_apply, e, z]
  generalize lin h w b r ⟨2840 + g.val, _⟩ = x
  have n1 : (FloatOps.hostNegf (F := Ideal) (φ := .f32) x : EReal) = -x := rfl
  rw [n1]
  have n2 : (FloatOps.subf (F := Ideal) (φ := .f32) (-x) 0 : EReal) = -x := sub_zero (-x)
  rw [n2]
  have n3 : FloatOps.cmpf (F := Ideal) (φ := .f32) .une (-x) (-x) = 0#1 := by
    rw [show FloatOps.cmpf (F := Ideal) (φ := .f32) .une (-x) (-x) = BitVec.ofBool (decide (-x ≠ -x)) from rfl, decide_eq_false (fun k => k rfl)]; rfl
  rw [n3]
  have n4 : (FloatOps.hostAbsf (F := Ideal) (φ := .f32) (-x) : EReal) = max x (-x) := by
    show max (-x) (-(-x)) = _
    rw [neg_neg, max_comm]
  rw [n4]
  unfold ls
  have n5 : Ideal.ofBits .f32 0x3F800000#32 = 1 := by
    have n6 : FloatOps.ofBits (F := Ideal) .f32 0x3F800000#32 = 1 := by simp only [pointwise]
    exact n6
  rw [zero_sub, zero_sub, zero_sub, n5]
  rw [show ∀ p q : EReal, Scalar.select (0#1) p q = q from fun _ _ => rfl]
  rfl

theorem logt_eq : val_main_v36 (F := Ideal) h w b = oLogt h w b := by
  funext i
  obtain ⟨n, e, s, rfl⟩ : ∃ (n : Fin 1) (e : Fin 8) (s : Fin 128), i = ix3 n e s := ⟨i 0, i 1, i 2, funext fun a => by fin_cases a <;> rfl⟩
  rw [val_main_v36_apply, val_main_v35_apply]
  exact forget h w b _ (row n s) e (by show ((n.val * 128 + s.val) * 8 + e.val) / 8 = 128 * n.val + s.val; omega)
    (by show ((n.val * 128 + s.val) * 8 + e.val) % 8 = e.val; omega)

theorem ga_eq : val_main_v48 (F := Ideal) h w b = oGa h w b := by
  funext i
  obtain ⟨e, r, rfl⟩ : ∃ (e : Fin 32) (r : Fin 128), i = ix2 e r := ⟨i 0, i 1, funext fun a => by fin_cases a <;> rfl⟩
  show _ = if he : e.val < 24 then sg (lin h w b r ⟨1280 + e.val, by omega⟩) else Ideal.ofBits .f32 0x3F000000#32
  unfold val_main_v48
  by_cases he : e.val < 24
  · rw [dif_pos he, ← gate h w b r ⟨e.val, he⟩]
    unfold pad
    rw [dif_pos (by
      intro a
      fin_cases a
      · exact ⟨Nat.zero_le _, by show (e.val - 0) % (0 + 1) = 0; omega, by show (e.val - 0) / (0 + 1) < 24; omega⟩
      · exact ⟨Nat.zero_le _, by show (r.val - 0) % (0 + 1) = 0; omega, by show (r.val - 0) / (0 + 1) < 128; omega⟩)]
    rw [val_main_v47_apply]
    refine congrArg _ (funext fun a => Fin.ext ?_)
    fin_cases a
    · show (r.val - 0) / (0 + 1) = r.val; omega
    · show (e.val - 0) / (0 + 1) = e.val; omega
  · rw [dif_neg he]
    unfold pad
    rw [dif_neg (fun k => he (by
      have k0 := (k 0).2.2
      have k1 : (e.val - 0) / (0 + 1) < 24 := k0
      omega))]
    rfl

end Cert.ProjSampleRef

end
-- ==== Proof.ProjSample.lean ====
module

public import proofs.«01_k».proof.Proof.ProjSampleKer
public import proofs.«01_k».proof.Proof.ProjSampleRef
public import proofs.«01_k».proof.Proof.Gen.ProjSampleKernelIdeal
public import proofs.«01_k».proof.Proof.Gen.ProjSampleKernelIdeal.Skeleton
public import proofs.«01_k».proof.Proof.Gen.ProjSampleKernelIdeal.Launch
public import proofs.«01_k».proof.Proof.Gen.ProjSampleKernelIdeal.Points
public import proofs.«01_k».proof.Proof.Gen.ProjSampleKernelIdeal.Frame
public import proofs.«01_k».proof.Proof.Gen.ProjSampleKernel
public import proofs.«01_k».proof.Proof.Gen.ProjSampleKernel.Skeleton
public import proofs.«01_k».proof.Proof.Gen.ProjSampleKernel.Launch
public import proofs.«01_k».proof.Proof.Gen.ProjSampleKernel.Points
public import proofs.«01_k».proof.Proof.Gen.ProjSampleKernel.Frame
public import proofs.«01_k».proof.Proof.Gen.ProjSampleReferenceIdeal
public import proofs.«01_k».proof.Proof.Gen.ProjSampleReferenceIdeal.Run
public import proofs.«01_k».proof.Proof.Gen.ProjSampleReferenceIdeal.Read
public import proofs.«01_k».proof.Defs

/-!
# The sample's projection

The call's eight results and the window's rows the host makes of one of them are the reference's.
-/

@[expose] public section

set_option maxRecDepth 16384

noncomputable section

namespace Cert.ProjSampleProof

open Cert.ProjSampleHost Cert.ProjSampleKer
open Idealize.ShloMosaic Idealize.ShloMosaic.TcCoe Idealize.SL.Sem

section Call

open Cert.ProjSampleKernelIdeal Cert.ProjSampleKernelIdeal.Gen

/-- What the host lines after the call make of the window's new rows. -/
def tail (x : S1x256x128.Idx → EReal) (a : S32x512x2x2x64.Idx → EReal) : S32x512x2x2x64.Idx → EReal :=
  extractStridedSlice S32x512x2x2x64 ![0, 4, 0, 0, 0] (concatenate S32x516x2x2x64 1 [⟨S32x512x2x2x64, a⟩,
    ⟨S32x4x2x2x64, shapeCast S32x4x2x2x64 (transpose S128x256 [1, 0] (shapeCast S256x128 x shapeCasts_S1x256x128_S256x128)
      transposes_S256x128_S128x256_1_0) shapeCasts_S128x256_S32x4x2x2x64⟩]
    concatenates_S32x512x2x2x64_S32x4x2x2x64_S32x516x2x2x64_d1) slices_S32x516x2x2x64_S32x512x2x2x64_0_4_0_0_0

/-- The call's array, transposed and cut into sequences, is the new rows. -/
theorem tail_rows (h : S128x1024.Idx → EReal) (w : S1024x4896.Idx → EReal) (b : S4896.Idx → EReal) :
    shapeCast S32x4x2x2x64 (transpose S128x256 [1, 0] (shapeCast S256x128 (oWin h w b) shapeCasts_S1x256x128_S256x128)
      transposes_S256x128_S128x256_1_0) shapeCasts_S128x256_S32x4x2x2x64 = newRows h w b := by
  funext i
  obtain ⟨n, t, u, v, d, rfl⟩ : ∃ (n : Fin 32) (t : Fin 4) (u v : Fin 2) (d : Fin 64), i = ix5 n t u v d :=
    ⟨i 0, i 1, i 2, i 3, i 4, funext fun a => by fin_cases a <;> rfl⟩
  simp only [pointwise]
  unfold oWin newRows row
  congr 1
  exact Fin.ext (by show 128 * 0 + (n.val * 4 + t.val) = 4 * n.val + t.val; omega)

theorem tail_eq (h : S128x1024.Idx → EReal) (w : S1024x4896.Idx → EReal) (b : S4896.Idx → EReal) (a : S32x512x2x2x64.Idx → EReal) :
    tail (oWin h w b) a = oBuf h w b a := by
  unfold tail oBuf
  rw [tail_rows]

theorem after_v32 (m : (ℓ : Loc nD τ sig) → Buf (Elt Ideal) ℓ) (c : Dev nD) :
    Pipeline.afterTail₀ cfgs (dats m) 0 (V0 m) [hostOps1] c main_v32
      = tail ((dats m 0 c).arrAt 10 cfg0.N) (m ((c.tc : Thread nD τ).loc main_arg3)) := by
  have e5 := Pipeline.withArrays_arr (cfgs 0).spec launch0.win.arr_inj c (V0 m c) (fun w => (dats m 0 c).arrAt w (cfgs 0).N) 10
  have e3 := (Pipeline.withArrays_of_ne (cfgs 0).spec c (V0 m c) (fun w => (dats m 0 c).arrAt w (cfgs 0).N) main_arg3
    (by exact (by decide : ∀ w, Pipeline.arrRef spec0 w ≠ main_arg3))).trans (V_main_arg3 m c)
  unfold Pipeline.afterTail₀ tail
  rw [← e5, ← e3]
  generalize Pipeline.withArrays (cfgs 0).spec c (V0 m c) (fun w => (dats m 0 c).arrAt w (cfgs 0).N) = X
  unfold hostOps1
  simp only [List.flatten_cons, List.flatten_nil, List.append_nil]
  after_results
  rfl

section Runs

variable (m : (ℓ : Loc nD τ sig) → Buf (Elt Ideal) ℓ) {r : PUnit × MemSt nD τ sig (Elt Ideal)}
  (h : Pipeline.FramePost cfgs (dats m) 0 (Pipeline.afterTail₀ cfgs (dats m) 0 (V0 m) [hostOps1]) r) (c : Dev nD)
include h

theorem res8 : r.2.mem ((c.tc : Thread nD τ).loc main_v27_3) = oGm (argH m c) (argW m c) (argB m c) := by
  refine Eq.trans ?_ (arr8 m c)
  exact (h c).1 8

theorem res9 : r.2.mem ((c.tc : Thread nD τ).loc main_v27_4) = oNsa (argH m c) (argW m c) (argB m c) := by
  refine Eq.trans ?_ (arr9 m c)
  exact (h c).1 9
theorem res10 : r.2.mem ((c.tc : Thread nD τ).loc main_v27_5) = oWin (argH m c) (argW m c) (argB m c) := by
  refine Eq.trans ?_ (arr10 m c)
  exact (h c).1 10
theorem res11 : r.2.mem ((c.tc : Thread nD τ).loc main_v27_6) = oFox (argH m c) (argW m c) (argB m c) := by
  refine Eq.trans ?_ (arr11 m c)
  exact (h c).1 11
theorem res12 : r.2.mem ((c.tc : Thread nD τ).loc main_v27_7) = oLogt (argH m c) (argW m c) (argB m c) := by
  refine Eq.trans ?_ (arr12 m c)
  exact (h c).1 12
theorem res13 : r.2.mem ((c.tc : Thread nD τ).loc main_v27_8) = oQa (argH m c) (argW m c) (argB m c) := by
  refine Eq.trans ?_ (arr13 m c)
  exact (h c).1 13
theorem res15 : r.2.mem ((c.tc : Thread nD τ).loc main_v27_10) = oQf (argH m c) (argW m c) (argB m c) := by
  refine Eq.trans ?_ (arr15 m c)
  exact (h c).1 15
theorem res17 : r.2.mem ((c.tc : Thread nD τ).loc main_v27_12) = oGa (argH m c) (argW m c) (argB m c) := by
  refine Eq.trans ?_ (arr17 m c)
  exact (h c).1 17
theorem resTail : r.2.mem ((c.tc : Thread nD τ).loc main_v32)
    = oBuf (argH m c) (argW m c) (argB m c) (m ((c.tc : Thread nD τ).loc main_arg3)) := by
  refine ((h c).2 main_v32 (Pipeline.mem_restRefs_of main_v32 (by decide) (by decide))).trans ((after_v32 m c).trans ?_)
  rw [arr10 m c]
  exact tail_eq _ _ _ _
theorem kept0 : r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept1 : r.2.mem ((c.tc : Thread nD τ).loc main_arg1) = m ((c.tc : Thread nD τ).loc main_arg1) :=
  ((h c).2 main_arg1 (Pipeline.mem_restRefs_of main_arg1 (by decide) (by decide))).trans (W_main_arg1 m (dats m) c)
theorem kept2 : r.2.mem ((c.tc : Thread nD τ).loc main_arg2) = m ((c.tc : Thread nD τ).loc main_arg2) :=
  ((h c).2 main_arg2 (Pipeline.mem_restRefs_of main_arg2 (by decide) (by decide))).trans (W_main_arg2 m (dats m) c)
theorem kept3 : r.2.mem ((c.tc : Thread nD τ).loc main_arg3) = m ((c.tc : Thread nD τ).loc main_arg3) :=
  ((h c).2 main_arg3 (Pipeline.mem_restRefs_of main_arg3 (by decide) (by decide))).trans (W_main_arg3 m (dats m) c)

end Runs

/-- Every run ends with the call's eight results, the window's rows and the arguments as they were. -/
theorem kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27_3) = oGm (argH m c) (argW m c) (argB m c)
      ∧ r.2.mem ((c.tc : Thread nD τ).loc main_v27_4) = oNsa (argH m c) (argW m c) (argB m c)
      ∧ r.2.mem ((c.tc : Thread nD τ).loc main_v27_5) = oWin (argH m c) (argW m c) (argB m c)
      ∧ r.2.mem ((c.tc : Thread nD τ).loc main_v27_6) = oFox (argH m c) (argW m c) (argB m c)
      ∧ r.2.mem ((c.tc : Thread nD τ).loc main_v27_7) = oLogt (argH m c) (argW m c) (argB m c)
      ∧ r.2.mem ((c.tc : Thread nD τ).loc main_v27_8) = oQa (argH m c) (argW m c) (argB m c)
      ∧ r.2.mem ((c.tc : Thread nD τ).loc main_v27_10) = oQf (argH m c) (argW m c) (argB m c)
      ∧ r.2.mem ((c.tc : Thread nD τ).loc main_v27_12) = oGa (argH m c) (argW m c) (argB m c)
      ∧ r.2.mem ((c.tc : Thread nD τ).loc main_v32) = oBuf (argH m c) (argW m c) (argB m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨res8 m h c, res9 m h c, res10 m h c, res11 m h c, res12 m h c, res13 m h c, res15 m h c, res17 m h c,
      resTail m h c, kept0 m h c, kept1 m h c, kept2 m h c, kept3 m h c⟩)
    (run_main m ρ)

end Call

/-- The sample's projection's results are the reference's, on every argument. -/
theorem algebraic : algebraic_ProjSampleKernelIdeal_ProjSampleReferenceIdeal (hProjSampleKernelIdeal := Cert.ProjSampleKernelIdeal.Gen.facts)
    (hProjSampleReferenceIdeal := Cert.ProjSampleReferenceIdeal.Gen.facts) := by
  intro m g m' g' _ hargs
  refine ⟨fun c => oGm (argH m c) (argW m c) (argB m c),
    fun c => oNsa (argH m c) (argW m c) (argB m c), fun c => oWin (argH m c) (argW m c) (argB m c),
    fun c => oFox (argH m c) (argW m c) (argB m c), fun c => oLogt (argH m c) (argW m c) (argB m c),
    fun c => oQa (argH m c) (argW m c) (argB m c), fun c => oQf (argH m c) (argW m c) (argB m c),
    fun c => oGa (argH m c) (argW m c) (argB m c),
    fun c => oBuf (argH m c) (argW m c) (argB m c) (m ((c.tc : Thread Cert.ProjSampleKernelIdeal.nD Cert.ProjSampleKernelIdeal.τ).loc Cert.ProjSampleKernelIdeal.main_arg3)), kernel m g, ?_⟩
  refine (θ_run _ _ _).mono (fun r h c => ?_) (Cert.ProjSampleReferenceIdeal.Value.run (F := Ideal) m' g')
  obtain ⟨e0, e1, e2, e3⟩ := hargs c
  obtain ⟨h1, h3, h4, h5, h6, h7, h8, h9, h10, ha⟩ := h c
  rw [Cert.ProjSampleReferenceIdeal.Read.val_main_v25_eq, e0, e1, e2] at h1
  rw [Cert.ProjSampleReferenceIdeal.Read.val_main_v28_eq, e0, e1, e2] at h3
  rw [Cert.ProjSampleReferenceIdeal.Read.val_main_v31_eq, e0, e1, e2] at h4
  rw [Cert.ProjSampleReferenceIdeal.Read.val_main_v34_eq, e0, e1, e2] at h5
  rw [Cert.ProjSampleReferenceIdeal.Read.val_main_v36_eq, e0, e1, e2] at h6
  rw [Cert.ProjSampleReferenceIdeal.Read.val_main_v40_eq, e0, e1, e2] at h7
  rw [Cert.ProjSampleReferenceIdeal.Read.val_main_v46_eq, e0, e1, e2] at h8
  rw [Cert.ProjSampleReferenceIdeal.Read.val_main_v48_eq, e0, e1, e2] at h9
  rw [Cert.ProjSampleReferenceIdeal.Read.val_main_v62_eq, e0, e1, e2, e3] at h10
  exact ⟨h1.trans (Cert.ProjSampleRef.gm_eq _ _ _), h3.trans (Cert.ProjSampleRef.nsa_eq _ _ _),
    h4.trans (Cert.ProjSampleRef.win_eq _ _ _), h5.trans (Cert.ProjSampleRef.fox_eq _ _ _), h6.trans (Cert.ProjSampleRef.logt_eq _ _ _),
    h7.trans (Cert.ProjSampleRef.qa_eq _ _ _), h8.trans (Cert.ProjSampleRef.qf_eq _ _ _), h9.trans (Cert.ProjSampleRef.ga_eq _ _ _),
    h10.trans (Cert.ProjSampleRef.buf_eq _ _ _ _), ha⟩

end Cert.ProjSampleProof

end
-- ==== Proof.MergeSample.lean ====
module

public import proofs.«01_k».proof.Proof.Norm
public import proofs.«01_k».proof.Proof.Gen.MergeSampleKernelIdeal
public import proofs.«01_k».proof.Proof.Gen.MergeSampleKernelIdeal.Skeleton
public import proofs.«01_k».proof.Proof.Gen.MergeSampleKernelIdeal.Launch
public import proofs.«01_k».proof.Proof.Gen.MergeSampleKernelIdeal.Points
public import proofs.«01_k».proof.Proof.Gen.MergeSampleKernelIdeal.Frame
public import proofs.«01_k».proof.Proof.Gen.MergeSampleKernel
public import proofs.«01_k».proof.Proof.Gen.MergeSampleKernel.Skeleton
public import proofs.«01_k».proof.Proof.Gen.MergeSampleKernel.Launch
public import proofs.«01_k».proof.Proof.Gen.MergeSampleKernel.Points
public import proofs.«01_k».proof.Proof.Gen.MergeSampleKernel.Frame
public import proofs.«01_k».proof.Proof.Gen.MergeSampleReferenceIdeal
public import proofs.«01_k».proof.Proof.Gen.MergeSampleKernelIdeal.Value
public import proofs.«01_k».proof.Proof.Gen.MergeSampleReferenceIdeal.Run
public import proofs.«01_k».proof.Proof.Gen.MergeSampleReferenceIdeal.Read
public import proofs.«01_k».proof.Defs
public import Idealize.ShloMosaic.Lib.Pipeline.ValueKit

@[expose] public section

set_option maxRecDepth 16384

noncomputable section

namespace Cert.MergeSampleProof

open Cert.LayerMath
open Idealize.ShloMosaic Idealize.ShloMosaic.TcCoe Idealize.SL.Sem

/-- The whole result from the nine arguments. -/
def out (oa ob : MergeSampleKernelIdeal.S128x512.Idx → EReal) (gm : MergeSampleKernelIdeal.S128x2048.Idx → EReal)
    (h : MergeSampleKernelIdeal.S128x1024.Idx → EReal) (pa pb : MergeSampleKernelIdeal.S512x1024.Idx → EReal)
    (wo : MergeSampleKernelIdeal.S1024x1024.Idx → EReal) (g b : MergeSampleKernelIdeal.S1024.Idx → EReal)
    (i : MergeSampleKernelIdeal.S128x1024.Idx) : EReal :=
  rowNorm (mergeRow (fun j => oa (ix2 (i 0) j)) (fun j => ob (ix2 (i 0) j)) (fun j => gm (ix2 (i 0) (colA j)))
      (fun j => gm (ix2 (i 0) (colB j))) (fun j => h (ix2 (i 0) j)) (fun j k => pa (ix2 j k)) (fun j k => pb (ix2 j k))
      (fun j k => wo (ix2 j k))) (fun j => g (ix1 j)) (fun j => b (ix1 j)) (i 1)

section Kernel
open Cert.MergeSampleKernelIdeal Cert.MergeSampleKernelIdeal.Gen

theorem pay_row (P0 : Vec Ideal S128x512 .bf16) (P1 : Vec Ideal S512x1024 .bf16) (P2 : Vec Ideal S128x512 .bf16) (P3 : Vec Ideal S512x1024 .bf16)
    (P4 P5 P6 : Vec Ideal S128x1024 .f32) (P7 : Vec Ideal S1024x1024 .bf16) (r : Fin 128) (c : Fin 1024) :
    k0_pay2 (F := Ideal) P0 P1 P2 P3 P4 P5 P6 P7 (ix2 r c)
      = mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k)) c
        - mean (mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k))) := by
  unfold k0_pay2 mean mergeRow
  simp only [pointwise, zero_add]
  rfl

theorem pay_var (P0 : Vec Ideal S128x512 .bf16) (P1 : Vec Ideal S512x1024 .bf16) (P2 : Vec Ideal S128x512 .bf16) (P3 : Vec Ideal S512x1024 .bf16)
    (P4 P5 P6 : Vec Ideal S128x1024 .f32) (P7 : Vec Ideal S1024x1024 .bf16) (r : Fin 128) :
    k0_pay3 (F := Ideal) P0 P1 P2 P3 P4 P5 P6 P7 (ix2 r 0)
      = Ideal.div (∑ k, k0_pay2 (F := Ideal) P0 P1 P2 P3 P4 P5 P6 P7 (ix2 r k) * k0_pay2 (F := Ideal) P0 P1 P2 P3 P4 P5 P6 P7 (ix2 r k))
          (Ideal.ofBits FTy.f32 0x44800000#32) + Ideal.ofBits FTy.f32 0x3727C5AC#32 := by
  unfold k0_pay3
  generalize k0_pay2 (F := Ideal) P0 P1 P2 P3 P4 P5 P6 P7 = A
  simp only [pointwise]

theorem pay_scale (A : Vec Ideal S128x1024 .f32) (D : Vec Ideal S128x1 .f32) (G B : Vec Ideal S1x1024 .f32) (r : Fin 128) (c : Fin 1024) :
    k0_pay1 (F := Ideal) A D G B (ix2 r c) = A (ix2 r c) * Ideal.rsqrt (D (ix2 r 0)) * G (ix2 0 c) + B (ix2 0 c) := by
  unfold k0_pay1
  simp only [pointwise]
  rfl

theorem pay (P0 : Vec Ideal S128x512 .bf16) (P1 : Vec Ideal S512x1024 .bf16) (P2 : Vec Ideal S128x512 .bf16) (P3 : Vec Ideal S512x1024 .bf16)
    (P4 P5 P6 : Vec Ideal S128x1024 .f32) (P7 : Vec Ideal S1024x1024 .bf16) (G B : Vec Ideal S1x1024 .f32) (r : Fin 128) (c : Fin 1024) :
    k0_pay1 (F := Ideal) (k0_pay2 P0 P1 P2 P3 P4 P5 P6 P7) (k0_pay3 P0 P1 P2 P3 P4 P5 P6 P7) G B (ix2 r c)
      = rowNorm (mergeRow (fun j => P0 (ix2 r j)) (fun j => P2 (ix2 r j)) (fun j => P4 (ix2 r j)) (fun j => P5 (ix2 r j)) (fun j => P6 (ix2 r j))
          (fun j k => P1 (ix2 j k)) (fun j k => P3 (ix2 j k)) (fun j k => P7 (ix2 j k))) (fun j => G (ix2 0 j)) (fun j => B (ix2 0 j)) c := by
  rw [pay_scale, pay_var]
  simp only [pay_row]
  rfl

theorem ldA (X : Vec Ideal S128x2048 .f32) (r : Fin 128) (j : Fin 1024) : View.ld X r0_2 (ix2 r j) = X (ix2 r (colA j)) := by
  show X _ = X _
  refine congrArg X (funext fun a => Fin.ext ?_)
  fin_cases a
  · show 0 + 1 * r.val = r.val; omega
  · show 0 + 1 * j.val = j.val; omega
theorem ldB (X : Vec Ideal S128x2048 .f32) (r : Fin 128) (j : Fin 1024) : View.ld X r0_3 (ix2 r j) = X (ix2 r (colB j)) := by
  show X _ = X _
  refine congrArg X (funext fun a => Fin.ext ?_)
  fin_cases a
  · show 0 + 1 * r.val = r.val; omega
  · show 1024 + 1 * j.val = 1024 + j.val; omega

variable (m : (ℓ : Loc nD τ sig) → Buf (Elt Ideal) ℓ)

theorem index_all : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] := by
  decide +kernel

theorem vec_apply (v : S1024.Idx → EReal) (j : Fin 1024) :
    shapeCast (α := EReal) S1x1024 v shapeCasts_S1024_S1x1024 (ix2 0 j) = v (ix1 j) := by
  simp only [pointwise]

/-- Row `r` of block `t` of the whole array. -/
def row (t : Fin cfg0.N) (r : Fin 128) : Fin 128 := ⟨t.val * 128 + r.val, by
  have : cfg0.N = 1 := N_0
  have := t.isLt; have := r.isLt; omega⟩

theorem blk0 (c : Dev nD) (t : Fin cfg0.N) (r : Fin 128) (j : Fin 512) :
    (iblk m c 0 t : S128x512.Idx → EReal) (ix2 r j) = (m ((c : Thread nD τ).loc main_arg0) : S128x512.Idx → EReal) (ix2 (row t r) j) := by
  rw [← V_main_arg0 m c]
  unfold row
  blk_ext [iblk, (index_all t).1]
theorem blk1 (c : Dev nD) (t : Fin cfg0.N) (r : Fin 128) (j : Fin 512) :
    (iblk m c 1 t : S128x512.Idx → EReal) (ix2 r j) = (m ((c : Thread nD τ).loc main_arg1) : S128x512.Idx → EReal) (ix2 (row t r) j) := by
  rw [← V_main_arg1 m c]
  unfold row
  blk_ext [iblk, (index_all t).2.1]
theorem blk2 (c : Dev nD) (t : Fin cfg0.N) (r : Fin 128) (j : Fin 2048) :
    (iblk m c 2 t : S128x2048.Idx → EReal) (ix2 r j) = (m ((c : Thread nD τ).loc main_arg2) : S128x2048.Idx → EReal) (ix2 (row t r) j) := by
  rw [← V_main_arg2 m c]
  unfold row
  blk_ext [iblk, (index_all t).2.2.1]
theorem blk3 (c : Dev nD) (t : Fin cfg0.N) (r : Fin 128) (j : Fin 1024) :
    (iblk m c 3 t : S128x1024.Idx → EReal) (ix2 r j) = (m ((c : Thread nD τ).loc main_arg3) : S128x1024.Idx → EReal) (ix2 (row t r) j) := by
  rw [← V_main_arg3 m c]
  unfold row
  blk_ext [iblk, (index_all t).2.2.2.1]
theorem V_v0 (c : Dev nD) : V m c main_v0 = (m ((c : Thread nD τ).loc main_arg4) : S512x1024.Idx → EReal) := by
  unfold_abbrev_sides
  after_results
  rfl
theorem blk4 (c : Dev nD) (t : Fin cfg0.N) (r : Fin 512) (j : Fin 1024) :
    (iblk m c 4 t : S512x1024.Idx → EReal) (ix2 r j) = (m ((c : Thread nD τ).loc main_arg4) : S512x1024.Idx → EReal) (ix2 r j) := by
  rw [← V_v0 m c]
  blk_ext [iblk, (index_all t).2.2.2.2.1]
theorem V_v1 (c : Dev nD) : V m c main_v1 = (m ((c : Thread nD τ).loc main_arg5) : S512x1024.Idx → EReal) := by
  unfold_abbrev_sides
  after_results
  rfl
theorem blk5 (c : Dev nD) (t : Fin cfg0.N) (r : Fin 512) (j : Fin 1024) :
    (iblk m c 5 t : S512x1024.Idx → EReal) (ix2 r j) = (m ((c : Thread nD τ).loc main_arg5) : S512x1024.Idx → EReal) (ix2 r j) := by
  rw [← V_v1 m c]
  blk_ext [iblk, (index_all t).2.2.2.2.2.1]
theorem V_v2 (c : Dev nD) : V m c main_v2 = (m ((c : Thread nD τ).loc main_arg6) : S1024x1024.Idx → EReal) := by
  unfold_abbrev_sides
  after_results
  rfl
theorem blk6 (c : Dev nD) (t : Fin cfg0.N) (r : Fin 1024) (j : Fin 1024) :
    (iblk m c 6 t : S1024x1024.Idx → EReal) (ix2 r j) = (m ((c : Thread nD τ).loc main_arg6) : S1024x1024.Idx → EReal) (ix2 r j) := by
  rw [← V_v2 m c]
  blk_ext [iblk, (index_all t).2.2.2.2.2.2.1]
theorem V_v3 (c : Dev nD) (j : Fin 1024) : (V m c main_v3 : S1x1024.Idx → EReal) (ix2 0 j) = (m ((c : Thread nD τ).loc main_arg7) : S1024.Idx → EReal) (ix1 j) := by
  unfold_abbrev_sides
  after_results
  exact vec_apply _ _
theorem blk7 (c : Dev nD) (t : Fin cfg0.N) (j : Fin 1024) :
    (iblk m c 7 t : S1x1024.Idx → EReal) (ix2 0 j) = (m ((c : Thread nD τ).loc main_arg7) : S1024.Idx → EReal) (ix1 j) := by
  rw [← V_v3 m c]
  blk_ext [iblk, (index_all t).2.2.2.2.2.2.2.1]
theorem V_v4 (c : Dev nD) (j : Fin 1024) : (V m c main_v4 : S1x1024.Idx → EReal) (ix2 0 j) = (m ((c : Thread nD τ).loc main_arg8) : S1024.Idx → EReal) (ix1 j) := by
  unfold_abbrev_sides
  after_results
  exact vec_apply _ _
theorem blk8 (c : Dev nD) (t : Fin cfg0.N) (j : Fin 1024) :
    (iblk m c 8 t : S1x1024.Idx → EReal) (ix2 0 j) = (m ((c : Thread nD τ).loc main_arg8) : S1024.Idx → EReal) (ix1 j) := by
  rw [← V_v4 m c]
  blk_ext [iblk, (index_all t).2.2.2.2.2.2.2.2.1]

theorem zeros : (![0, 0] : Fin 2 → Nat) = fun _ => 0 := funext fun a => by fin_cases a <;> rfl

theorem out_eq (x0 : Vec Ideal S128x512 .bf16) (x1 : Vec Ideal S128x512 .bf16) (x2 : Vec Ideal S128x2048 .f32) (x3 : Vec Ideal S128x1024 .f32)
    (x4 : Vec Ideal S512x1024 .bf16) (x5 : Vec Ideal S512x1024 .bf16) (x6 : Vec Ideal S1024x1024 .bf16) (x7 : Vec Ideal S1x1024 .f32)
    (x8 : Vec Ideal S1x1024 .f32) : out0_9 x0 x1 x2 x3 x4 x5 x6 x7 x8
      = k0_pay1 (k0_pay2 x0 x4 x1 x5 (View.ld x2 r0_2) (View.ld x2 r0_3) x3 x6) (k0_pay3 x0 x4 x1 x5 (View.ld x2 r0_2) (View.ld x2 r0_3) x3 x6) x7 x8 := by
  have h0 : View.ld x0 r0_0 = x0 := View.ld_unit_zero zeros _ _
  have h1 : View.ld x1 r0_0 = x1 := View.ld_unit_zero zeros _ _
  have h3 : View.ld x3 r0_4 = x3 := View.ld_unit_zero zeros _ _
  have h4 : View.ld x4 r0_1 = x4 := View.ld_unit_zero zeros _ _
  have h5 : View.ld x5 r0_1 = x5 := View.ld_unit_zero zeros _ _
  have h6 : View.ld x6 r0_5 = x6 := View.ld_unit_zero zeros _ _
  have h7 : View.ld x7 r0_6 = x7 := View.ld_unit_zero zeros _ _
  have h8 : View.ld x8 r0_6 = x8 := View.ld_unit_zero zeros _ _
  unfold out0_9
  rw [h0, h1, h3, h4, h5, h6, h7, h8]
  exact View.canon_unit_zero zeros _ _

theorem point (x0 : Vec Ideal S128x512 .bf16) (x1 : Vec Ideal S128x512 .bf16) (x2 : Vec Ideal S128x2048 .f32) (x3 : Vec Ideal S128x1024 .f32)
    (x4 : Vec Ideal S512x1024 .bf16) (x5 : Vec Ideal S512x1024 .bf16) (x6 : Vec Ideal S1024x1024 .bf16) (x7 : Vec Ideal S1x1024 .f32)
    (x8 : Vec Ideal S1x1024 .f32) (r : Fin 128) (q : Fin 1024) : out0_9 x0 x1 x2 x3 x4 x5 x6 x7 x8 (ix2 r q)
      = rowNorm (mergeRow (fun j => x0 (ix2 r j)) (fun j => x1 (ix2 r j)) (fun j => x2 (ix2 r (colA j))) (fun j => x2 (ix2 r (colB j)))
          (fun j => x3 (ix2 r j)) (fun j k => x4 (ix2 j k)) (fun j k => x5 (ix2 j k)) (fun j k => x6 (ix2 j k)))
          (fun j => x7 (ix2 0 j)) (fun j => x8 (ix2 0 j)) q := by
  rw [out_eq]
  have hA : (fun j => View.ld x2 r0_2 (ix2 r j)) = fun j => x2 (ix2 r (colA j)) := funext fun j => ldA x2 r j
  have hB : (fun j => View.ld x2 r0_3 (ix2 r j)) = fun j => x2 (ix2 r (colB j)) := funext fun j => ldB x2 r j
  rw [← hA, ← hB]
  exact pay _ _ _ _ _ _ _ _ _ _ r q

/-- The kernel's result array. -/
theorem arr (c : Dev nD) : (Gen.dats m 0 c).arrAt 9 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Gen.dats m 0 c).arrAt_eq_of_covers 9 _ (by decide +kernel) fun t hf y => ?_
  blk_simp
  rw [after0_9]
  obtain ⟨r, q, rfl⟩ : ∃ (r : Fin 128) (q : Fin 1024), y = ix2 r q := ⟨y 0, y 1, funext fun a => by fin_cases a <;> rfl⟩
  have e : ((win0_9.blk t).view.emb (ix2 r q) : S128x1024.Idx) = ix2 (row t r) q := by
    unfold row
    blk_ext [(index_all t).2.2.2.2.2.2.2.2.2]
  refine Eq.trans ?_ (congrArg (out _ _ _ _ _ _ _ _ _) e).symm
  refine (point _ _ _ _ _ _ _ _ _ r q).trans ?_
  simp only [blk0, blk1, blk2, blk3, blk4, blk5, blk6, blk7, blk8]
  rfl

end Kernel

section Reference
open Cert.MergeSampleReferenceIdeal Cert.MergeSampleReferenceIdeal.Read

variable (oa ob : S128x512.Idx → EReal) (gm : S128x2048.Idx → EReal)
    (h : S128x1024.Idx → EReal) (pa pb : S512x1024.Idx → EReal)
    (wo : S1024x1024.Idx → EReal) (g b : S1024.Idx → EReal)

theorem ref_pre (r : Fin 128) (c : Fin 1024) : val_main_v13 (F := Ideal) oa ob gm h pa pb wo (ix2 r c)
    = mergeRow (fun j => oa (ix2 r j)) (fun j => ob (ix2 r j)) (fun j => gm (ix2 r (colA j)))
      (fun j => gm (ix2 r (colB j))) (fun j => h (ix2 r j)) (fun j k => pa (ix2 j k)) (fun j k => pb (ix2 j k))
      (fun j k => wo (ix2 j k)) c := by
  have l12 : ∀ k, lidx_main_v12 (ix2 r c) k = ix2 r k := fun k => funext fun a => by fin_cases a <;> rfl
  have r12 : ∀ k, ridx_main_v12 (ix2 r c) k = ix2 k c := fun k => funext fun a => by fin_cases a <;> rfl
  have l3 : ∀ j k, lidx_main_v3 (ix2 r k) j = ix2 r j := fun j k => funext fun a => by fin_cases a <;> rfl
  have r3 : ∀ j k, ridx_main_v3 (ix2 r k) j = ix2 j k := fun j k => funext fun a => by fin_cases a <;> rfl
  have l7 : ∀ j k, lidx_main_v7 (ix2 r k) j = ix2 r j := fun j k => funext fun a => by fin_cases a <;> rfl
  have r7 : ∀ j k, ridx_main_v7 (ix2 r k) j = ix2 j k := fun j k => funext fun a => by fin_cases a <;> rfl
  have gA : ∀ k, idx_main_v0 (idx_main_v1 (idx_main_v2 (ix2 r k))) = ix2 r (colA k) := fun k => funext fun a => Fin.ext (by
    have := k.isLt; have := r.isLt
    fin_cases a
    · show (((r.val * 1024 + k.val) / 1024 * 2 + 0) * 1024 + (r.val * 1024 + k.val) % 1024) / 2048 = r.val; omega
    · show (((r.val * 1024 + k.val) / 1024 * 2 + 0) * 1024 + (r.val * 1024 + k.val) % 1024) % 2048 = k.val; omega)
  have gB : ∀ k, idx_main_v0 (idx_main_v5 (idx_main_v6 (ix2 r k))) = ix2 r (colB k) := fun k => funext fun a => Fin.ext (by
    have := k.isLt; have := r.isLt
    fin_cases a
    · show (((r.val * 1024 + k.val) / 1024 * 2 + (1 + 0)) * 1024 + (r.val * 1024 + k.val) % 1024) / 2048 = r.val; omega
    · show (((r.val * 1024 + k.val) / 1024 * 2 + (1 + 0)) * 1024 + (r.val * 1024 + k.val) % 1024) % 2048 = 1024 + k.val; omega)
  simp only [val_main_v13_apply, val_main_v11_apply, val_main_v10_apply, val_main_cst_apply, val_main_v12_apply, val_main_v9_apply,
    val_main_v8_apply, val_main_v7_apply, val_main_v6_apply, val_main_v5_apply, val_main_v4_apply, val_main_v3_apply, val_main_v2_apply,
    val_main_v1_apply, val_main_v0_apply, l12, r12, l3, r3, l7, r7, gA, gB]
  rfl

theorem ref_mean (r : Fin 128) : val_main_v17 (F := Ideal) oa ob gm h pa pb wo (ix2 r 0)
    = mean (fun j => val_main_v13 (F := Ideal) oa ob gm h pa pb wo (ix2 r j)) := by
  have h : ∀ k, idx_main_v14 (idx_main_v15 (ix2 r 0)) k = ix2 r k := fun k => funext fun a => by fin_cases a <;> rfl
  have z : (FloatOps.ofBits (F := Ideal) .f32 0x00000000#32) = 0 := by simp only [pointwise]
  simp only [val_main_v17_apply, val_main_v16_apply, val_main_cst_1_apply, val_main_v15_apply, val_main_v14_apply, val_main_cst_0_apply, h, z, zero_add]
  rfl

theorem ref (i : S128x1024.Idx) : val_main_v37 (F := Ideal) oa ob gm h pa pb wo g b i = out oa ob gm h pa pb wo g b i := by
  obtain ⟨r, q, rfl⟩ : ∃ (r : Fin 128) (q : Fin 1024), i = ix2 r q := ⟨i 0, i 1, funext fun a => by fin_cases a <;> rfl⟩
  have z : (FloatOps.ofBits (F := Ideal) .f32 0x00000000#32) = 0 := by simp only [pointwise]
  have h21 : ∀ q k, idx_main_v21 (idx_main_v22 (idx_main_v30 (ix2 r q))) k = ix2 r k := fun q k => funext fun a => by fin_cases a <;> rfl
  have h18 : ∀ q, idx_main_v18 (ix2 r q) = ix2 r 0 := fun q => funext fun a => by fin_cases a <;> rfl
  have h25 : ∀ q, idx_main_v25 (ix2 r q) = ix2 r 0 := fun q => funext fun a => by fin_cases a <;> rfl
  have h32 : idx_main_v32 (idx_main_v33 (ix2 r q)) = ix1 q := funext fun a => by fin_cases a <;> rfl
  have h35 : idx_main_v35 (idx_main_v36 (ix2 r q)) = ix1 q := funext fun a => by fin_cases a <;> rfl
  simp only [val_main_v37_apply, val_main_v36_apply, val_main_v35_apply, val_main_v34_apply, val_main_v33_apply, val_main_v32_apply,
    val_main_v31_apply, val_main_v30_apply, val_main_v29_apply, val_main_v28_apply, val_main_v27_apply, val_main_cst_4_apply,
    val_main_v26_apply, val_main_v25_apply, val_main_v24_apply, val_main_v23_apply, val_main_cst_3_apply, val_main_v22_apply, val_main_v21_apply,
    val_main_cst_2_apply, val_main_v20_apply, val_main_v19_apply, val_main_v18_apply, h21, h18, h25, h32, h35, z, zero_add, ref_mean, ref_pre]
  rfl

end Reference

/-- The merge kernel's result is the reference's, on every argument. -/
theorem algebraic : algebraic_MergeSampleKernelIdeal_MergeSampleReferenceIdeal (hMergeSampleKernelIdeal := Cert.MergeSampleKernelIdeal.Gen.facts)
    (hMergeSampleReferenceIdeal := Cert.MergeSampleReferenceIdeal.Gen.facts) := by
  intro m g m' g' _ hargs
  refine ⟨fun c => out
    (m ((c.tc : Thread Cert.MergeSampleKernelIdeal.nD Cert.MergeSampleKernelIdeal.τ).loc Cert.MergeSampleKernelIdeal.main_arg0))
    (m ((c.tc : Thread Cert.MergeSampleKernelIdeal.nD Cert.MergeSampleKernelIdeal.τ).loc Cert.MergeSampleKernelIdeal.main_arg1))
    (m ((c.tc : Thread Cert.MergeSampleKernelIdeal.nD Cert.MergeSampleKernelIdeal.τ).loc Cert.MergeSampleKernelIdeal.main_arg2))
    (m ((c.tc : Thread Cert.MergeSampleKernelIdeal.nD Cert.MergeSampleKernelIdeal.τ).loc Cert.MergeSampleKernelIdeal.main_arg3))
    (m ((c.tc : Thread Cert.MergeSampleKernelIdeal.nD Cert.MergeSampleKernelIdeal.τ).loc Cert.MergeSampleKernelIdeal.main_arg4))
    (m ((c.tc : Thread Cert.MergeSampleKernelIdeal.nD Cert.MergeSampleKernelIdeal.τ).loc Cert.MergeSampleKernelIdeal.main_arg5))
    (m ((c.tc : Thread Cert.MergeSampleKernelIdeal.nD Cert.MergeSampleKernelIdeal.τ).loc Cert.MergeSampleKernelIdeal.main_arg6))
    (m ((c.tc : Thread Cert.MergeSampleKernelIdeal.nD Cert.MergeSampleKernelIdeal.τ).loc Cert.MergeSampleKernelIdeal.main_arg7))
    (m ((c.tc : Thread Cert.MergeSampleKernelIdeal.nD Cert.MergeSampleKernelIdeal.τ).loc Cert.MergeSampleKernelIdeal.main_arg8)), ?_, ?_⟩
  · exact (θ_run _ _ _).mono (fun r h c => ⟨(h c).1.trans (arr m c), (h c).2⟩) (Cert.MergeSampleKernelIdeal.Value.run_blocks m g)
  · refine (θ_run _ _ _).mono (fun r h c => ⟨(h c).1.trans ?_, (h c).2⟩) (Cert.MergeSampleReferenceIdeal.Value.run (F := Ideal) m' g')
    obtain ⟨e0, e1, e2, e3, e4, e5, e6, e7, e8⟩ := hargs c
    rw [Cert.MergeSampleReferenceIdeal.Read.val_main_v37_eq, e0, e1, e2, e3, e4, e5, e6, e7, e8]
    exact funext fun i => ref _ _ _ _ _ _ _ _ _ i

end Cert.MergeSampleProof

end
-- ==== Proof.CompressPay.lean ====
module

public import proofs.«01_k».proof.Proof.Gen.CompressKernelIdeal.Skeleton
public import Idealize.ShloMosaic.Lib.Pipeline.ValueKit

@[expose] public section

set_option maxRecDepth 16384

noncomputable section

namespace Cert.CompressPay

open Cert.CompressKernelIdeal Cert.CompressKernelIdeal.Gen Idealize.ShloMosaic Idealize.ShloMosaic.TcCoe Idealize.SL.Sem

/-- The smooth gate, with the kernel's association of the products. -/
def gl (x : EReal) : EReal :=
  Ideal.ofBits FTy.f32 0x3F000000#32 * x * (1 + Ideal.tanh
    (Ideal.ofBits FTy.f32 0x3F4C422A#32 * (x + Ideal.ofBits FTy.f32 0x3D372713#32 * (x * x * x))))

/-- The block after block `n`, the first after the last. -/
def nxt (n : Fin 128) : Fin 128 := ⟨(n.val + 1) % 128, Nat.mod_lt _ (by decide)⟩

/-- Column `h` after the first `o` of the parts. -/
def col (o : ℕ) (ho : o ≤ 896) (h : Fin 128) : Fin 1024 := ⟨o + h.val, by have := h.isLt; omega⟩
/-- Column `h` after the first `o` of the bias. -/
def bcol (o : ℕ) (ho : o ≤ 128) (h : Fin 128) : Fin 256 := ⟨o + h.val, by have := h.isLt; omega⟩

theorem roll (x : S128x128.Idx → EReal) (n h : Fin 128) (H) : dynamicRotate (0 : Fin S128x128.rank) 127#32 none x H (ix2 n h) = x (ix2 (nxt n) h) := by
  rw [Pointwise.dynamicRotate_apply]
  refine congrArg x (funext fun b => ?_)
  fin_cases b
  · refine Fin.ext ?_
    show (n.val + 128 - 127) % 128 = (n.val + 1) % 128
    rw [Nat.add_sub_assoc (by decide)]
  · rfl

/-- A hidden entry before its gate: the bias, the block's own part, the next block's part. -/
def pre (P : FVec Ideal S128x1024 .f32) (B : FVec Ideal S16x256 .f32) (a : Fin 16) (b : ℕ) (hb : b ≤ 128) (o : ℕ) (ho : o ≤ 768) (n h : Fin 128) : EReal :=
  B (ix2 a (bcol b hb h)) + P (ix2 n (col o (by omega) h)) + P (ix2 (nxt n) (col (o + 128) (by omega) h))

theorem pre_eq (P : FVec Ideal S128x1024 .f32) (B : FVec Ideal S16x256 .f32) (a : Fin 16) (b : ℕ) (hb : b ≤ 128) (o : ℕ) (ho : o ≤ 768) (n h : Fin 128)
    (s1 s2 s3 H hc) :
    addf (addf (broadcastTo S128x128 (extractStridedSlice S1x128 ![a.val, b] B s1) hc) (extractStridedSlice S128x128 ![0, o] P s2))
      (dynamicRotate 0 127#32 none (extractStridedSlice S128x128 ![0, o + 128] P s3) H) (ix2 n h) = pre P B a b hb o ho n h := by
  refine congrArg₂ (· + ·) (congrArg₂ (· + ·) ?_ ?_) ((roll _ n h H).trans ?_)
  · simp only [pointwise]
    refine congrArg B (funext fun b => Fin.ext ?_)
    fin_cases b <;> simp [ix2, bcol]
  · simp only [pointwise]
    refine congrArg P (funext fun b => Fin.ext ?_)
    fin_cases b <;> simp [ix2, col]
  · simp only [pointwise]
    refine congrArg P (funext fun b => Fin.ext ?_)
    fin_cases b <;> simp [ix2, col]

variable (P : FVec Ideal S128x1024 .f32) (E : FVec Ideal S16x2048 .bf16) (W : Vec Ideal S2048x256 .bf16) (B : FVec Ideal S16x256 .f32)
  (w : Vec Ideal S1x128x128 .bf16) (n k : Fin 128)

theorem pay7 (a : Fin 16) (b : Fin 256) : k0_pay7 E W (ix2 a b) = ∑ k : Fin 2048, E (ix2 a k) * W (ix2 k b) := by
  unfold k0_pay7
  simp only [pointwise, zero_add]

theorem pay8 : k0_pay8 P E W w (ix4 0 0 n k)
    = ∑ h : Fin 128, gl (pre P (k0_pay7 E W) 0 0 (by decide) 0 (by decide) n h) * w (ix3 0 h k) := by
  have e := fun h => pre_eq P (k0_pay7 E W) 0 0 (by decide) 0 (by decide) n h slices_S16x256_o0_0_S1x128 slices_S128x1024_o0_0_S128x128 slices_S128x1024_o0_128_S128x128 rotates_S128x128_d0 broadcasts_S1x128_S128x128
  simp only [← e]
  unfold k0_pay8 gl
  generalize k0_pay7 E W = B
  simp only [pointwise, zero_add]
  rfl

theorem pay9 (h : Fin 128) : k0_pay9 P E W (ix2 n h) = pre P (k0_pay7 E W) 0 0 (by decide) 256 (by decide) n h := by
  refine Eq.trans ?_ (pre_eq P (k0_pay7 E W) 0 0 (by decide) 256 (by decide) n h slices_S16x256_o0_0_S1x128 slices_S128x1024_o0_256_S128x128 slices_S128x1024_o0_384_S128x128 rotates_S128x128_d0 broadcasts_S1x128_S128x128)
  unfold k0_pay9; rfl

theorem pay12 : k0_pay12 (k0_pay9 P E W) (k0_pay10 P E W) (k0_pay11 P E W) w (ix4 0 0 n k)
    = ∑ h : Fin 128, gl (pre P (k0_pay7 E W) 0 0 (by decide) 256 (by decide) n h) * w (ix3 0 h k) := by
  simp only [← pay9]
  unfold k0_pay12 k0_pay10 k0_pay11 gl
  generalize k0_pay9 P E W = A
  simp only [pointwise, zero_add]

theorem pay13 (h : Fin 128) : k0_pay13 P B (ix2 n h) = gl (pre P B 1 128 (by decide) 512 (by decide) n h) := by
  rw [← pre_eq P B 1 128 (by decide) 512 (by decide) n h slices_S16x256_o1_128_S1x128 slices_S128x1024_o0_512_S128x128 slices_S128x1024_o0_640_S128x128 rotates_S128x128_d0 broadcasts_S1x128_S128x128]
  unfold k0_pay13 gl
  simp only [pointwise]
  rfl

theorem pay17 (h : Fin 128) : k0_pay17 P B (ix2 n h) = gl (pre P B 1 128 (by decide) 768 (by decide) n h) := by
  rw [← pre_eq P B 1 128 (by decide) 768 (by decide) n h slices_S16x256_o1_128_S1x128 slices_S128x1024_o0_768_S128x128 slices_S128x1024_o0_896_S128x128 rotates_S128x128_d0 broadcasts_S1x128_S128x128]
  unfold k0_pay17 gl
  simp only [pointwise]
  rfl

variable (G : FVec Ideal S128x128 .bf16)
theorem pay14 : k0_pay14 G w (ix2 n k) = ∑ h : Fin 128, G (ix2 n h) * w (ix3 0 h k) := by
  unfold k0_pay14; simp only [pointwise, zero_add]
theorem pay1 : k0_pay1 G w (ix2 n k) = ∑ h : Fin 128, G (ix2 n h) * w (ix3 0 h k) := by
  unfold k0_pay1; simp only [pointwise, zero_add]
theorem pay15 : k0_pay15 G w (ix4 0 0 n k) = ∑ h : Fin 128, G (ix2 n h) * w (ix3 0 h k) := by
  rw [← pay14]; unfold k0_pay15; simp only [pointwise]
theorem pay2 : k0_pay2 G w (ix4 0 0 n k) = ∑ h : Fin 128, G (ix2 n h) * w (ix3 0 h k) := by
  rw [← pay1]; unfold k0_pay2; simp only [pointwise]

/-- The values of a head with a row of ones and rows of zeros below. -/
def vrows (f : Fin 64 → EReal) (d : Fin 80) : EReal := if h : d.val < 64 then f ⟨d.val, h⟩ else if d.val = 64 then 1 else 0

theorem sel (e : Fin 16) : Scalar.select (IntOp.cmpi CmpIPredicate.eq (BitVec.ofNat 32 (0 * 16 + e.val)) 0#32) (1 : EReal) 0 = if 64 + e.val = 64 then 1 else 0 := by
  fin_cases e <;> simp [Scalar.select, IntOp.cmpi]

theorem rows_sel (A : S128x128.Idx → EReal) (n : Fin 128) (d : Fin 80) :
    (if h : d.val < 64 then A (ix2 ⟨0 + n.val, by have := n.isLt; omega⟩ ⟨0 + d.val, by have := d.isLt; omega⟩)
      else Scalar.select (IntOp.cmpi CmpIPredicate.eq (BitVec.ofNat 32 (0 * 16 + (d.val - 64))) 0#32) (1 : EReal) 0)
      = if h : d.val < 64 then A (ix2 n ⟨d.val, by have := d.isLt; omega⟩) else if d.val = 64 then 1 else 0 := by
  by_cases h : d.val < 64
  · simp only [dif_pos h, Nat.zero_add]
  · simp only [dif_neg h]
    have e := sel ⟨d.val - 64, by have := d.isLt; omega⟩
    refine e.trans ?_
    show (if 64 + (d.val - 64) = 64 then (1 : EReal) else 0) = _
    rw [show 64 + (d.val - 64) = d.val by omega]

theorem pay16 (d : Fin 80) : k0_pay16 G w (ix4 0 0 d n) = vrows (fun d => ∑ h : Fin 128, G (ix2 n h) * w (ix3 0 h ⟨d.val, by have := d.isLt; omega⟩)) d := by
  simp only [← pay14]
  unfold k0_pay16 vrows
  generalize k0_pay14 G w = A
  simp only [pointwise]
  exact rows_sel A n d

theorem pay4 (v : Vec Ideal S1x2048x512 .bf16) (x : FVec Ideal S128x2048 .f32) (c : Fin 512) :
    k0_pay4 v x (ix2 n c) = ∑ k : Fin 2048, x (ix2 n k) * v (ix3 0 k c) := by
  unfold k0_pay4; simp only [pointwise, zero_add]

theorem pay5 (u : FVec Ideal S128x512 .f32) (v : Vec Ideal S1x2048x512 .bf16) (x : FVec Ideal S128x2048 .f32) (c : Fin 1024) :
    k0_pay5 u v x (ix2 n c) = if h : c.val < 512 then u (ix2 n ⟨c.val, h⟩) else ∑ k : Fin 2048, x (ix2 n k) * v (ix3 0 k ⟨c.val - 512, by have := c.isLt; omega⟩) := by
  unfold k0_pay5; simp only [pointwise, zero_add]
  rfl

theorem pay3 (d : Fin 80) : k0_pay3 G w (ix4 0 0 d n) = vrows (fun d => ∑ h : Fin 128, G (ix2 n h) * w (ix3 0 h ⟨d.val, by have := d.isLt; omega⟩)) d := by
  simp only [← pay1]
  unfold k0_pay3 vrows
  generalize k0_pay1 G w = A
  simp only [pointwise]
  exact rows_sel A n d

end Cert.CompressPay

end
-- ==== Proof.CompressRun.lean ====
module

public import proofs.«01_k».proof.Proof.CompressPay
public import proofs.«01_k».proof.Proof.Gen.CompressKernelIdeal.Frame
public import Idealize.ShloMosaic.Lib.Pipeline.ValueKit

@[expose] public section

set_option maxRecDepth 16384

noncomputable section

namespace Cert.CompressRun

open Cert.CompressPay
open Cert.CompressKernelIdeal Cert.CompressKernelIdeal.Gen Idealize.ShloMosaic Idealize.ShloMosaic.TcCoe Idealize.SL.Sem

/-- Every sixteenth row of a block, from the row `off` names. -/
abbrev strd (a : Memref sig .tc .vmem S2048x128 .f32) (ha : a.IsWhole) (x : Vec Ideal S2048x128 .f32) (off : Fin 2 → ℕ) (inb : ∀ a, S128x128.size a = 0 ∨ off a + (![16, 1] : Fin 2 → Nat) a * (S128x128.size a - 1) < S2048x128.size a) : Vec Ideal S128x128 .f32 :=
  a.view.readAt (Elt Ideal) (⟨off, S128x128.size, ![16, 1], inb⟩ : LoadRect S2048x128) (ha.unread x)

theorem strd_eq (a : Memref sig .tc .vmem S2048x128 .f32) (ha : a.IsWhole) (x : Vec Ideal S2048x128 .f32) (r : Fin 16) (off : Fin 2 → ℕ) (ho : off = ![r.val, 0]) (inb : ∀ a, S128x128.size a = 0 ∨ off a + (![16, 1] : Fin 2 → Nat) a * (S128x128.size a - 1) < S2048x128.size a) (n l : Fin 128) :
    strd a ha x off inb (ix2 n l) = x (ix2 ⟨r.val + 16 * n.val, by have := n.isLt; have := r.isLt; omega⟩ l) := by
  subst ho
  refine (congrFun (ha.read_unread x) _).trans (congrArg x (funext fun a => ?_))
  fin_cases a <;> exact Fin.ext (by simp [ix2])

theorem cat_eq (f : Fin 16 → S128x128.Idx → EReal) (H) (n : Fin 128) (k : Fin 2048) :
    concatenate (α := EReal) S128x2048 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩, ⟨S128x128, f 12⟩, ⟨S128x128, f 13⟩, ⟨S128x128, f 14⟩, ⟨S128x128, f 15⟩] H (ix2 n k)
      = f ⟨k.val / 128, by have := k.isLt; omega⟩ (ix2 n ⟨k.val % 128, Nat.mod_lt _ (by decide)⟩) :=
  concatenate_ofFn_apply (t := S128x2048) (s₁ := S128x128) 1 f H rfl 128 rfl (ix2 n k) ⟨k.val / 128, by have := k.isLt; omega⟩ rfl
    (ix2 n ⟨k.val % 128, Nat.mod_lt _ (by decide)⟩) rfl fun b hb => by
      fin_cases b
      · rfl
      · exact absurd rfl hb

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x2048x512 .bf16) (harg3 : arg3.IsWhole) (arg4 : Memref sig .tc .vmem S16x2048 .bf16) (harg4 : arg4.IsWhole) (arg5 : Memref sig .tc .vmem S2048x256 .bf16) (harg5 : arg5.IsWhole) (arg6 : Memref sig .tc .vmem S2x128x128 .bf16) (harg6 : arg6.IsWhole) (arg7 : Memref sig .tc .vmem S1x4x128x128 .bf16) (harg7 : arg7.IsWhole) (arg8 : Memref sig .tc .vmem S1x2x80x128 .bf16) (harg8 : arg8.IsWhole)
  (x0 : Vec Ideal S2048x128 .f32) (x1 : Vec Ideal S2048x128 .f32) (x2 : Vec Ideal S2x2048x512 .bf16) (x3 : Vec Ideal S16x2048 .bf16) (x4 : Vec Ideal S2048x256 .bf16) (x5 : Vec Ideal S2x128x128 .bf16)

/-- The chunks of a block, a row of the sixteen rows each. -/
abbrev rows1 : FVec Ideal S128x2048 .f32 := concatenate (α := EReal) S128x2048 1 [⟨S128x128, strd arg1 harg1 x0 ![0, 0] inb_S2048x128_S128x128_0_0_s_16_1⟩, ⟨S128x128, strd arg1 harg1 x0 ![1, 0] inb_S2048x128_S128x128_1_0_s_16_1⟩, ⟨S128x128, strd arg1 harg1 x0 ![2, 0] inb_S2048x128_S128x128_2_0_s_16_1⟩, ⟨S128x128, strd arg1 harg1 x0 ![3, 0] inb_S2048x128_S128x128_3_0_s_16_1⟩, ⟨S128x128, strd arg1 harg1 x0 ![4, 0] inb_S2048x128_S128x128_4_0_s_16_1⟩, ⟨S128x128, strd arg1 harg1 x0 ![5, 0] inb_S2048x128_S128x128_5_0_s_16_1⟩, ⟨S128x128, strd arg1 harg1 x0 ![6, 0] inb_S2048x128_S128x128_6_0_s_16_1⟩, ⟨S128x128, strd arg1 harg1 x0 ![7, 0] inb_S2048x128_S128x128_7_0_s_16_1⟩, ⟨S128x128, strd arg1 harg1 x0 ![8, 0] inb_S2048x128_S128x128_8_0_s_16_1⟩, ⟨S128x128, strd arg1 harg1 x0 ![9, 0] inb_S2048x128_S128x128_9_0_s_16_1⟩, ⟨S128x128, strd arg1 harg1 x0 ![10, 0] inb_S2048x128_S128x128_10_0_s_16_1⟩, ⟨S128x128, strd arg1 harg1 x0 ![11, 0] inb_S2048x128_S128x128_11_0_s_16_1⟩, ⟨S128x128, strd arg1 harg1 x0 ![12, 0] inb_S2048x128_S128x128_12_0_s_16_1⟩, ⟨S128x128, strd arg1 harg1 x0 ![13, 0] inb_S2048x128_S128x128_13_0_s_16_1⟩, ⟨S128x128, strd arg1 harg1 x0 ![14, 0] inb_S2048x128_S128x128_14_0_s_16_1⟩, ⟨S128x128, strd arg1 harg1 x0 ![15, 0] inb_S2048x128_S128x128_15_0_s_16_1⟩] concatenates_S128x128_S128x128_S128x128_S128x128_S128x128_S128x128_S128x128_S128x128_S128x128_S128x128_S128x128_S128x128_S128x128_S128x128_S128x128_S128x128_S128x2048_d1
abbrev rows2 : FVec Ideal S128x2048 .f32 := concatenate (α := EReal) S128x2048 1 [⟨S128x128, strd arg2 harg2 x1 ![0, 0] inb_S2048x128_S128x128_0_0_s_16_1⟩, ⟨S128x128, strd arg2 harg2 x1 ![1, 0] inb_S2048x128_S128x128_1_0_s_16_1⟩, ⟨S128x128, strd arg2 harg2 x1 ![2, 0] inb_S2048x128_S128x128_2_0_s_16_1⟩, ⟨S128x128, strd arg2 harg2 x1 ![3, 0] inb_S2048x128_S128x128_3_0_s_16_1⟩, ⟨S128x128, strd arg2 harg2 x1 ![4, 0] inb_S2048x128_S128x128_4_0_s_16_1⟩, ⟨S128x128, strd arg2 harg2 x1 ![5, 0] inb_S2048x128_S128x128_5_0_s_16_1⟩, ⟨S128x128, strd arg2 harg2 x1 ![6, 0] inb_S2048x128_S128x128_6_0_s_16_1⟩, ⟨S128x128, strd arg2 harg2 x1 ![7, 0] inb_S2048x128_S128x128_7_0_s_16_1⟩, ⟨S128x128, strd arg2 harg2 x1 ![8, 0] inb_S2048x128_S128x128_8_0_s_16_1⟩, ⟨S128x128, strd arg2 harg2 x1 ![9, 0] inb_S2048x128_S128x128_9_0_s_16_1⟩, ⟨S128x128, strd arg2 harg2 x1 ![10, 0] inb_S2048x128_S128x128_10_0_s_16_1⟩, ⟨S128x128, strd arg2 harg2 x1 ![11, 0] inb_S2048x128_S128x128_11_0_s_16_1⟩, ⟨S128x128, strd arg2 harg2 x1 ![12, 0] inb_S2048x128_S128x128_12_0_s_16_1⟩, ⟨S128x128, strd arg2 harg2 x1 ![13, 0] inb_S2048x128_S128x128_13_0_s_16_1⟩, ⟨S128x128, strd arg2 harg2 x1 ![14, 0] inb_S2048x128_S128x128_14_0_s_16_1⟩, ⟨S128x128, strd arg2 harg2 x1 ![15, 0] inb_S2048x128_S128x128_15_0_s_16_1⟩] concatenates_S128x128_S128x128_S128x128_S128x128_S128x128_S128x128_S128x128_S128x128_S128x128_S128x128_S128x128_S128x128_S128x128_S128x128_S128x128_S128x128_S128x2048_d1

theorem rows1_eq (n : Fin 128) (k : Fin 2048) : rows1 arg1 harg1 x0 (ix2 n k)
    = x0 (ix2 ⟨k.val / 128 + 16 * n.val, by have := n.isLt; have := k.isLt; omega⟩ ⟨k.val % 128, Nat.mod_lt _ (by decide)⟩) := by
  have e : (ix2 n k : S128x2048.Idx) = ix2 n k := rfl
  refine (cat_eq (fun r => strd arg1 harg1 x0 ![r.val, 0] (by intro a; fin_cases a <;> simp <;> omega)) _ n k).trans ?_
  exact strd_eq arg1 harg1 x0 ⟨k.val / 128, by have := k.isLt; omega⟩ _ rfl _ _ _
theorem rows2_eq (n : Fin 128) (k : Fin 2048) : rows2 arg2 harg2 x1 (ix2 n k)
    = x1 (ix2 ⟨k.val / 128 + 16 * n.val, by have := n.isLt; have := k.isLt; omega⟩ ⟨k.val % 128, Nat.mod_lt _ (by decide)⟩) := rows1_eq arg2 harg2 x1 n k

/-- One kind's weights, -/
abbrev wr (off : Fin 3 → ℕ) (inb : ∀ a, off a + S1x2048x512.size a ≤ S2x2048x512.size a) : Vec Ideal S1x2048x512 .bf16 :=
  arg3.view.readAt (Elt Ideal) (Rect.unit (s := S2x2048x512) off S1x2048x512.size inb).toLoadRect (harg3.unread x2)
abbrev w2 (off : Fin 3 → ℕ) (inb : ∀ a, off a + S1x128x128.size a ≤ S2x128x128.size a) : Vec Ideal S1x128x128 .bf16 :=
  arg6.view.readAt (Elt Ideal) (Rect.unit (s := S2x128x128) off S1x128x128.size inb).toLoadRect (harg6.unread x5)
/-- the positions, and both kinds' first layer. -/
abbrev pe : FVec Ideal S16x2048 .bf16 :=
  k0_pay6 (arg4.view.readAt (Elt Ideal) (Rect.unit (s := S16x2048) ![0, 0] S16x2048.size inb_S16x2048_S16x2048_0_0).toLoadRect (harg4.unread x3))
abbrev w1 : Vec Ideal S2048x256 .bf16 :=
  arg5.view.readAt (Elt Ideal) (Rect.unit (s := S2048x256) ![0, 0] S2048x256.size inb_S2048x256_S2048x256_0_0).toLoadRect (harg5.unread x4)
/-- The parts of every chunk. -/
abbrev parts : FVec Ideal S128x1024 .f32 :=
  k0_pay5 (k0_pay4 (wr arg3 harg3 x2 ![0, 0, 0] inb_S2x2048x512_S1x2048x512_0_0_0) (rows1 arg1 harg1 x0)) (wr arg3 harg3 x2 ![1, 0, 0] inb_S2x2048x512_S1x2048x512_1_0_0) (rows2 arg2 harg2 x1)

theorem run6 : (kernelRun0_A (F := Ideal) c i arg1 harg1 arg2 harg2 arg3 harg3 arg4 harg4 arg5 harg5 arg6 harg6 arg7 harg7 arg8 harg8 x0 x1 x2 x3 x4 x5).1
    = [⟨Rect.unit (s := S1x4x128x128) ![0, 3, 0, 0] S1x1x128x128.size inb_S1x4x128x128_S1x1x128x128_0_3_0_0, k0_pay2 (k0_pay17 (parts arg1 harg1 arg2 harg2 arg3 harg3 x0 x1 x2) (k0_pay7 (pe arg4 harg4 x3) (w1 arg5 harg5 x4))) (w2 arg6 harg6 x5 ![1, 0, 0] inb_S2x128x128_S1x128x128_1_0_0)⟩,
       ⟨Rect.unit (s := S1x4x128x128) ![0, 2, 0, 0] S1x1x128x128.size inb_S1x4x128x128_S1x1x128x128_0_2_0_0, k0_pay15 (k0_pay13 (parts arg1 harg1 arg2 harg2 arg3 harg3 x0 x1 x2) (k0_pay7 (pe arg4 harg4 x3) (w1 arg5 harg5 x4))) (w2 arg6 harg6 x5 ![1, 0, 0] inb_S2x128x128_S1x128x128_1_0_0)⟩,
       ⟨Rect.unit (s := S1x4x128x128) ![0, 1, 0, 0] S1x1x128x128.size inb_S1x4x128x128_S1x1x128x128_0_1_0_0, k0_pay12 (k0_pay9 (parts arg1 harg1 arg2 harg2 arg3 harg3 x0 x1 x2) (pe arg4 harg4 x3) (w1 arg5 harg5 x4)) (k0_pay10 (parts arg1 harg1 arg2 harg2 arg3 harg3 x0 x1 x2) (pe arg4 harg4 x3) (w1 arg5 harg5 x4)) (k0_pay11 (parts arg1 harg1 arg2 harg2 arg3 harg3 x0 x1 x2) (pe arg4 harg4 x3) (w1 arg5 harg5 x4)) (w2 arg6 harg6 x5 ![0, 0, 0] inb_S2x128x128_S1x128x128_0_0_0)⟩,
       ⟨Rect.unit (s := S1x4x128x128) ![0, 0, 0, 0] S1x1x128x128.size inb_S1x4x128x128_S1x1x128x128_0_0_0_0, k0_pay8 (parts arg1 harg1 arg2 harg2 arg3 harg3 x0 x1 x2) (pe arg4 harg4 x3) (w1 arg5 harg5 x4) (w2 arg6 harg6 x5 ![0, 0, 0] inb_S2x128x128_S1x128x128_0_0_0)⟩] := by
  rfl

theorem run7 : (kernelRun0_A (F := Ideal) c i arg1 harg1 arg2 harg2 arg3 harg3 arg4 harg4 arg5 harg5 arg6 harg6 arg7 harg7 arg8 harg8 x0 x1 x2 x3 x4 x5).2.1
    = [⟨Rect.unit (s := S1x2x80x128) ![0, 1, 0, 0] S1x1x80x128.size inb_S1x2x80x128_S1x1x80x128_0_1_0_0, k0_pay3 (k0_pay17 (parts arg1 harg1 arg2 harg2 arg3 harg3 x0 x1 x2) (k0_pay7 (pe arg4 harg4 x3) (w1 arg5 harg5 x4))) (w2 arg6 harg6 x5 ![1, 0, 0] inb_S2x128x128_S1x128x128_1_0_0)⟩,
       ⟨Rect.unit (s := S1x2x80x128) ![0, 0, 0, 0] S1x1x80x128.size inb_S1x2x80x128_S1x1x80x128_0_0_0_0, k0_pay16 (k0_pay13 (parts arg1 harg1 arg2 harg2 arg3 harg3 x0 x1 x2) (k0_pay7 (pe arg4 harg4 x3) (w1 arg5 harg5 x4))) (w2 arg6 harg6 x5 ![1, 0, 0] inb_S2x128x128_S1x128x128_1_0_0)⟩] := by
  rfl

end Cert.CompressRun

end
-- ==== Proof.CompressHost.lean ====
module

public import proofs.«01_k».proof.Proof.CompressPay
public import proofs.«01_k».proof.Proof.Gen.CompressKernelIdeal.Frame
public import Idealize.ShloMosaic.Lib.Pipeline.ValueKit

@[expose] public section

set_option maxRecDepth 16384

noncomputable section

namespace Cert.CompressHost

open Cert.CompressPay
open Cert.CompressKernelIdeal Cert.CompressKernelIdeal.Gen Idealize.ShloMosaic Idealize.ShloMosaic.TcCoe Idealize.SL.Sem

/-- The zeros beside a head's weights. -/
abbrev zr : S16x64x256.Idx → EReal := broadcastInDim S16x64x256 ![] bcast_S_S16x64x256 (constant (F := Ideal) S_ .f32 0x00000000#32)

/-- A kind's weights row by row, both halves of the blocks beside each other, -/
def blk (w : S2048x128.Idx → EReal) : S16x64x256.Idx → EReal :=
  shapeCast S16x64x256 (transpose S16x64x2x128 [1, 2, 0, 3] (shapeCast S2x16x64x128 w shapeCasts_S2048x128_S2x16x64x128) transposes_S2x16x64x128_S16x64x2x128_1_2_0_3) shapeCasts_S16x64x2x128_S16x64x256

/-- and placed for both heads. -/
def kd (w : S2048x128.Idx → EReal) : S2048x512.Idx → EReal :=
  shapeCast S2048x512 (concatenate (α := EReal) S16x2x64x512 1
    [⟨S16x1x64x512, broadcastInDim S16x1x64x512 ![0, 2, 3] bcast_S16x64x512_S16x1x64x512_0_2_3 (concatenate (α := EReal) S16x64x512 2 [⟨S16x64x256, blk w⟩, ⟨S16x64x256, zr⟩] concatenates_S16x64x256_S16x64x256_S16x64x512_d2)⟩,
     ⟨S16x1x64x512, broadcastInDim S16x1x64x512 ![0, 2, 3] bcast_S16x64x512_S16x1x64x512_0_2_3 (concatenate (α := EReal) S16x64x512 2 [⟨S16x64x256, zr⟩, ⟨S16x64x256, blk w⟩] concatenates_S16x64x256_S16x64x256_S16x64x512_d2)⟩]
    concatenates_S16x1x64x512_S16x1x64x512_S16x2x64x512_d1) shapeCasts_S16x2x64x512_S2048x512

theorem blk_eq (w : S2048x128.Idx → EReal) (r : Fin 16) (d : Fin 64) (m : Fin 2) (h : Fin 128) :
    blk w (ix3 r d ⟨m.val * 128 + h.val, by have := h.isLt; have := m.isLt; omega⟩)
      = w (ix2 ⟨m.val * 1024 + r.val * 64 + d.val, by have := m.isLt; have := r.isLt; have := d.isLt; omega⟩ h) := by
  unfold blk
  simp only [pointwise]

theorem kd_eq (w : S2048x128.Idx → EReal) (r : Fin 16) (g' g : Fin 2) (d : Fin 64) (e : Fin 256) :
    kd w (ix2 ⟨r.val * 128 + g'.val * 64 + d.val, by have := g'.isLt; have := r.isLt; have := d.isLt; omega⟩ ⟨g.val * 256 + e.val, by have := g.isLt; have := e.isLt; omega⟩)
      = if g' = g then blk w (ix3 r d e) else 0 := by
  have he := e.isLt
  unfold kd
  simp only [pointwise]
  fin_cases g' <;> fin_cases g <;> simp

/-- Both kinds' weights. -/
def hwr (w w' : S2048x128.Idx → EReal) : S2x2048x512.Idx → EReal :=
  truncf (F := Ideal) .bf16 (concatenate (α := EReal) S2x2048x512 0 [⟨S1x2048x512, broadcastInDim S1x2048x512 ![1, 2] bcast_S2048x512_S1x2048x512_1_2 (kd w)⟩,
    ⟨S1x2048x512, broadcastInDim S1x2048x512 ![1, 2] bcast_S2048x512_S1x2048x512_1_2 (kd w')⟩] concatenates_S1x2048x512_S1x2048x512_S2x2048x512_d0 : FVec Ideal S2x2048x512 .f32) bitsLt_bf16_f32

theorem hwr_eq (w w' : S2048x128.Idx → EReal) (j : Fin 2) (k : Fin 2048) (c : Fin 512) :
    hwr w w' (ix3 j k c) = if j.val < 1 then kd w (ix2 k c) else kd w' (ix2 k c) := by
  unfold hwr; simp only [pointwise]; rfl

/-- The positions in two rows, -/
def hpe (p p' : S32x64.Idx → EReal) : S16x2048.Idx → EReal :=
  truncf (F := Ideal) .bf16 (concatenate (α := EReal) S16x2048 0 [⟨S1x2048, shapeCast S1x2048 p shapeCasts_S32x64_S1x2048⟩, ⟨S1x2048, shapeCast S1x2048 p' shapeCasts_S32x64_S1x2048⟩,
    ⟨S14x2048, broadcastInDim S14x2048 ![] bcast_S_S14x2048 (constant (F := Ideal) S_ .f32 0x00000000#32)⟩] concatenates_S1x2048_S1x2048_S14x2048_S16x2048_d0 : FVec Ideal S16x2048 .f32) bitsLt_bf16_f32

theorem hpe_eq (p p' : S32x64.Idx → EReal) (j : Fin 2) (k : Fin 2048) :
    hpe p p' (ix2 ⟨j.val, by have := j.isLt; omega⟩ k) = if j.val < 1 then p (ix2 ⟨k.val / 64, by have := k.isLt; omega⟩ ⟨k.val % 64, by omega⟩)
      else p' (ix2 ⟨k.val / 64, by have := k.isLt; omega⟩ ⟨k.val % 64, by omega⟩) := by
  have hj := j.isLt
  unfold hpe; simp only [pointwise]
  by_cases h : j.val < 1
  · simp [h]
  · have h1 : j.val - 1 < 1 := by omega
    simp [h, h1]

/-- the first layers of both kinds beside each other, -/
def hw1 (w w' : S2048x128.Idx → EReal) : S2048x256.Idx → EReal :=
  truncf (F := Ideal) .bf16 (concatenate (α := EReal) S2048x256 1 [⟨S2048x128, w⟩, ⟨S2048x128, w'⟩] concatenates_S2048x128_S2048x128_S2048x256_d1 : FVec Ideal S2048x256 .f32) bitsLt_bf16_f32
theorem hw10 (w w' : S2048x128.Idx → EReal) (k : Fin 2048) (h : Fin 128) : hw1 w w' (ix2 k (bcol 0 (by decide) h)) = w (ix2 k h) := by
  have := h.isLt
  unfold hw1 bcol; simp only [pointwise]
  simp [this]
theorem hw11 (w w' : S2048x128.Idx → EReal) (k : Fin 2048) (h : Fin 128) : hw1 w w' (ix2 k (bcol 128 (by decide) h)) = w' (ix2 k h) := by
  have := h.isLt
  unfold hw1 bcol; simp only [pointwise]
  simp

/-- and the second layers with columns of zeros. -/
def hw2 (w w' : S128x64.Idx → EReal) : S2x128x128.Idx → EReal :=
  truncf (F := Ideal) .bf16 (concatenate (α := EReal) S2x128x128 0
    [⟨S1x128x128, broadcastInDim S1x128x128 ![1, 2] bcast_S128x128_S1x128x128_1_2 (concatenate (α := EReal) S128x128 1 [⟨S128x64, w⟩, ⟨S128x64, broadcastInDim S128x64 ![] bcast_S_S128x64 (constant (F := Ideal) S_ .f32 0x00000000#32)⟩] concatenates_S128x64_S128x64_S128x128_d1)⟩,
     ⟨S1x128x128, broadcastInDim S1x128x128 ![1, 2] bcast_S128x128_S1x128x128_1_2 (concatenate (α := EReal) S128x128 1 [⟨S128x64, w'⟩, ⟨S128x64, broadcastInDim S128x64 ![] bcast_S_S128x64 (constant (F := Ideal) S_ .f32 0x00000000#32)⟩] concatenates_S128x64_S128x64_S128x128_d1)⟩]
    concatenates_S1x128x128_S1x128x128_S2x128x128_d0 : FVec Ideal S2x128x128 .f32) bitsLt_bf16_f32

theorem hw2_eq (w w' : S128x64.Idx → EReal) (j : Fin 2) (h c : Fin 128) :
    hw2 w w' (ix3 j h c) = if j.val < 1 then (if hc : c.val < 64 then w (ix2 h ⟨c.val, hc⟩) else 0)
      else (if hc : c.val < 64 then w' (ix2 h ⟨c.val, hc⟩) else 0) := by
  unfold hw2; simp only [pointwise]; rfl

variable (m : (ℓ : Loc nD τ sig) → Buf (Elt Ideal) ℓ) (c : Dev nD)

theorem V_v23 : V m c main_v23 = hwr (m ((c : Thread nD τ).loc main_arg2)) (m ((c : Thread nD τ).loc main_arg5)) := by
  unfold hwr kd blk
  unfold_abbrev_sides
  after_results
  rfl
theorem V_v37 : V m c main_v37 = hpe (m ((c : Thread nD τ).loc main_arg1)) (m ((c : Thread nD τ).loc main_arg4)) := by
  unfold hpe
  unfold_abbrev_sides
  after_results
  rfl
theorem V_v29 : V m c main_v29 = hw1 (m ((c : Thread nD τ).loc main_arg2)) (m ((c : Thread nD τ).loc main_arg5)) := by
  unfold hw1
  unfold_abbrev_sides
  after_results
theorem V_v36 : V m c main_v36 = hw2 (m ((c : Thread nD τ).loc main_arg3)) (m ((c : Thread nD τ).loc main_arg6)) := by
  unfold hw2
  unfold_abbrev_sides
  after_results

/-- A row of the products is a chunk's: the other head's columns are zero. -/
theorem kd_at (w : S2048x128.Idx → EReal) (k : Fin 2048) (g m : Fin 2) (h : Fin 128) :
    kd w (ix2 k ⟨g.val * 256 + m.val * 128 + h.val, by have := g.isLt; have := m.isLt; have := h.isLt; omega⟩)
      = if (k.val / 64) % 2 = g.val then w (ix2 ⟨m.val * 1024 + k.val / 128 * 64 + k.val % 64, by have := k.isLt; have := m.isLt; omega⟩ h) else 0 := by
  have hk := k.isLt; have hg := g.isLt; have hm := m.isLt; have hh := h.isLt
  have e := kd_eq w ⟨k.val / 128, by omega⟩ ⟨(k.val / 64) % 2, by omega⟩ g ⟨k.val % 64, by omega⟩ ⟨m.val * 128 + h.val, by omega⟩
  have e1 : (⟨k.val / 128 * 128 + (k.val / 64) % 2 * 64 + k.val % 64, by omega⟩ : Fin 2048) = k := Fin.ext (by show k.val / 128 * 128 + (k.val / 64) % 2 * 64 + k.val % 64 = k.val; omega)
  have e2 : (⟨g.val * 256 + (m.val * 128 + h.val), by omega⟩ : Fin 512) = ⟨g.val * 256 + m.val * 128 + h.val, by omega⟩ := Fin.ext (by show g.val * 256 + (m.val * 128 + h.val) = g.val * 256 + m.val * 128 + h.val; omega)
  have e' : kd w (ix2 k ⟨g.val * 256 + m.val * 128 + h.val, by omega⟩) = _ := (congrArg (kd w) (congrArg₂ ix2 e1.symm e2.symm)).trans e
  rw [e']
  by_cases c : (k.val / 64) % 2 = g.val
  · rw [if_pos (Fin.ext c), if_pos c]
    exact blk_eq w ⟨k.val / 128, by omega⟩ ⟨k.val % 64, by omega⟩ m h
  · rw [if_neg (fun c' => c (congrArg Fin.val c')), if_neg c]

/-- Where a chunk's entry stands in its row of both heads. -/
def pos (g : Fin 2) (q : Fin 1024) : Fin 2048 := ⟨q.val / 64 * 128 + g.val * 64 + q.val % 64, by have := g.isLt; have := q.isLt; omega⟩

theorem fold (X : Fin 2048 → EReal) (w : S2048x128.Idx → EReal) (g m : Fin 2) (h : Fin 128) :
    ∑ k, X k * kd w (ix2 k ⟨g.val * 256 + m.val * 128 + h.val, by have := g.isLt; have := m.isLt; have := h.isLt; omega⟩)
      = ∑ q : Fin 1024, X (pos g q) * w (ix2 ⟨m.val * 1024 + q.val, by have := q.isLt; have := m.isLt; omega⟩ h) := by
  have hg := g.isLt; have hm := m.isLt
  refine (Finset.sum_of_injOn (pos g) ?_ (fun _ _ => Finset.mem_coe.2 (Finset.mem_univ _)) ?_ ?_).symm
  · intro a _ b _ e
    have e := congrArg Fin.val e
    have ha := a.isLt; have hb := b.isLt
    simp only [pos] at e
    exact Fin.ext (by omega)
  · intro k _ hk
    rw [kd_at, if_neg, mul_zero]
    intro c
    refine hk ⟨⟨k.val / 128 * 64 + k.val % 64, by have := k.isLt; omega⟩, Finset.mem_coe.2 (Finset.mem_univ _), Fin.ext ?_⟩
    show (k.val / 128 * 64 + k.val % 64) / 64 * 128 + g.val * 64 + (k.val / 128 * 64 + k.val % 64) % 64 = k.val
    omega
  · intro q _
    have hq := q.isLt
    have e : (pos g q).val = q.val / 64 * 128 + g.val * 64 + q.val % 64 := rfl
    rw [kd_at, if_pos (by rw [e]; omega)]
    refine congrArg (X (pos g q) * ·) (congrArg w (congrArg₂ ix2 (Fin.ext ?_) rfl))
    show m.val * 1024 + q.val = m.val * 1024 + (pos g q).val / 128 * 64 + (pos g q).val % 64
    rw [e]; omega

/-- Entry `q` of chunk `n` of a head. -/
def src (x : S32768x256.Idx → EReal) (t : Fin 16) (kind g : Fin 2) (n : Fin 128) (q : Fin 1024) : EReal :=
  x (ix2 ⟨t.val * 2048 + 16 * n.val + q.val / 64, by have := t.isLt; have := n.isLt; have := q.isLt; omega⟩ ⟨kind.val * 128 + g.val * 64 + q.val % 64, by have := kind.isLt; have := g.isLt; omega⟩)
/-- A chunk's part of the first layer, -/
def prt (x : S32768x256.Idx → EReal) (w : S2048x128.Idx → EReal) (t : Fin 16) (kind g m : Fin 2) (n h : Fin 128) : EReal :=
  ∑ q, src x t kind g n q * w (ix2 ⟨m.val * 1024 + q.val, by have := q.isLt; have := m.isLt; omega⟩ h)
/-- the positions' part, -/
def bia (p : S32x64.Idx → EReal) (w : S2048x128.Idx → EReal) (h : Fin 128) : EReal :=
  ∑ k : Fin 2048, p (ix2 ⟨k.val / 64, by have := k.isLt; omega⟩ ⟨k.val % 64, by omega⟩) * w (ix2 k h)
/-- the hidden row of a block, of its own chunk and the next, -/
def hid (x : S32768x256.Idx → EReal) (p : S32x64.Idx → EReal) (w : S2048x128.Idx → EReal) (t : Fin 16) (kind g : Fin 2) (n h : Fin 128) : EReal :=
  gl (bia p w h + prt x w t kind g 0 n h + prt x w t kind g 1 (nxt n) h)
/-- and the compressed entry. -/
def val (x : S32768x256.Idx → EReal) (p : S32x64.Idx → EReal) (w : S2048x128.Idx → EReal) (v : S128x64.Idx → EReal) (t : Fin 16) (kind g : Fin 2) (n : Fin 128) (d : Fin 64) : EReal :=
  ∑ h : Fin 128, hid x p w t kind g n h * v (ix2 h d)

/-- The first result: keys then values, a head after the other, zeros in the other half of a row. -/
def outK (x : S32768x256.Idx → EReal) (p : S32x64.Idx → EReal) (w : S2048x128.Idx → EReal) (v : S128x64.Idx → EReal) (p' : S32x64.Idx → EReal) (w' : S2048x128.Idx → EReal) (v' : S128x64.Idx → EReal)
    (i : S16x4x128x128.Idx) : EReal :=
  if hd : (i 3).val < 64 then
    (if hg : (i 1).val < 2 then val x p w v (i 0) 0 ⟨(i 1).val, hg⟩ (i 2) ⟨(i 3).val, hd⟩
      else val x p' w' v' (i 0) 1 ⟨(i 1).val - 2, by have h : (i 1).val < 4 := (i 1).isLt; omega⟩ (i 2) ⟨(i 3).val, hd⟩)
  else 0
/-- The second: the values with a column per block, a row of ones below. -/
def outV (x : S32768x256.Idx → EReal) (p' : S32x64.Idx → EReal) (w' : S2048x128.Idx → EReal) (v' : S128x64.Idx → EReal) (i : S16x2x80x128.Idx) : EReal :=
  vrows (val x p' w' v' (i 0) 1 (i 1) (i 3)) (i 2)

end Cert.CompressHost

end
-- ==== Proof.CompressKer.lean ====
module

public import proofs.«01_k».proof.Proof.CompressRun
public import proofs.«01_k».proof.Proof.CompressHost
public import proofs.«01_k».proof.Proof.Gen.CompressKernelIdeal.Frame
public import Idealize.ShloMosaic.Lib.Pipeline.ValueKit

@[expose] public section

set_option maxRecDepth 16384

noncomputable section

namespace Cert.CompressKer

open Cert.CompressPay Cert.CompressRun Cert.CompressHost
open Cert.CompressKernelIdeal Cert.CompressKernelIdeal.Gen Idealize.ShloMosaic Idealize.ShloMosaic.TcCoe Idealize.SL.Sem

/-- The piece written last decides an index inside it; -/
theorem on_piece {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  subst hy
  exact View.canon_cons_emb _ w L x

/-- an index beside it is for the pieces before. -/
theorem off_piece {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y :=
  View.canon_cons_of_not_mem _ L fun h => by
    have := Rect.mem_set_unit.mp (show y ∈ (Rect.unit off size inb).set from h) a
    omega

theorem zeros : (![0, 0] : Fin 2 → Nat) = fun _ => 0 := funext fun a => by fin_cases a <;> rfl

section point
variable (cd : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x2048x512 .bf16) (harg3 : arg3.IsWhole) (arg4 : Memref sig .tc .vmem S16x2048 .bf16) (harg4 : arg4.IsWhole) (arg5 : Memref sig .tc .vmem S2048x256 .bf16) (harg5 : arg5.IsWhole) (arg6 : Memref sig .tc .vmem S2x128x128 .bf16) (harg6 : arg6.IsWhole) (arg7 : Memref sig .tc .vmem S1x4x128x128 .bf16) (harg7 : arg7.IsWhole) (arg8 : Memref sig .tc .vmem S1x2x80x128 .bf16) (harg8 : arg8.IsWhole)
  (x0 : Vec Ideal S2048x128 .f32) (x1 : Vec Ideal S2048x128 .f32) (x2 : Vec Ideal S2x2048x512 .bf16) (x3 : Vec Ideal S16x2048 .bf16) (x4 : Vec Ideal S2048x256 .bf16) (x5 : Vec Ideal S2x128x128 .bf16)

theorem wr_eq (j : Fin 2) (off : Fin 3 → ℕ) (ho : off = ![j.val, 0, 0]) (inb) (k : Fin 2048) (c : Fin 512) : wr arg3 harg3 x2 off inb (ix3 0 k c) = x2 (ix3 j k c) := by
  subst ho
  exact (congrFun (harg3.read_unread x2) _).trans (congrArg x2 (funext fun a => by fin_cases a <;> exact Fin.ext (by simp [ix3])))
theorem w2_eq (j : Fin 2) (off : Fin 3 → ℕ) (ho : off = ![j.val, 0, 0]) (inb) (k : Fin 128) (c : Fin 128) : w2 arg6 harg6 x5 off inb (ix3 0 k c) = x5 (ix3 j k c) := by
  subst ho
  exact (congrFun (harg6.read_unread x5) _).trans (congrArg x5 (funext fun a => by fin_cases a <;> exact Fin.ext (by simp [ix3])))
theorem pe_eq (a : Fin 16) (k : Fin 2048) : pe arg4 harg4 x3 (ix2 a k) = x3 (ix2 a k) :=
  (congrFun (harg4.read_unread x3) _).trans (congrArg x3 (funext fun a => by fin_cases a <;> exact Fin.ext (by simp [ix2])))
theorem w1_eq (k : Fin 2048) (c : Fin 256) : w1 arg5 harg5 x4 (ix2 k c) = x4 (ix2 k c) :=
  (congrFun (harg5.read_unread x4) _).trans (congrArg x4 (funext fun a => by fin_cases a <;> exact Fin.ext (by simp [ix2])))

variable (x : S32768x256.Idx → EReal) (p : S32x64.Idx → EReal) (w : S2048x128.Idx → EReal) (v : S128x64.Idx → EReal) (p' : S32x64.Idx → EReal) (w' : S2048x128.Idx → EReal) (v' : S128x64.Idx → EReal) (t : Fin 16)
  (h0 : ∀ (r : Fin 2048) (l : Fin 128), x0 (ix2 r l) = x (ix2 ⟨t.val * 2048 + r.val, by have := t.isLt; have := r.isLt; omega⟩ ⟨l.val, by have := l.isLt; omega⟩))
  (h1 : ∀ (r : Fin 2048) (l : Fin 128), x1 (ix2 r l) = x (ix2 ⟨t.val * 2048 + r.val, by have := t.isLt; have := r.isLt; omega⟩ ⟨128 + l.val, by have := l.isLt; omega⟩))
  (h2 : x2 = hwr w w') (h3 : x3 = hpe p p') (h4 : x4 = hw1 w w') (h5 : x5 = hw2 v v')
include h0 h1 h2 in
theorem parts0 (g m : Fin 2) (n h : Fin 128) (c : Fin 1024) (hc : c.val = g.val * 256 + m.val * 128 + h.val) :
    parts arg1 harg1 arg2 harg2 arg3 harg3 x0 x1 x2 (ix2 n c) = prt x w t 0 g m n h := by
  have hg := g.isLt; have hm := m.isLt; have hh := h.isLt
  refine (pay5 ..).trans ?_
  rw [dif_pos (by omega : c.val < 512), pay4]
  have e : (⟨c.val, by omega⟩ : Fin 512) = ⟨g.val * 256 + m.val * 128 + h.val, by omega⟩ := Fin.ext hc
  rw [e]
  refine (Finset.sum_congr rfl fun k _ => congrArg (_ * ·) ((wr_eq arg3 harg3 x2 0 _ rfl _ k _).trans ((congrFun h2 _).trans ((hwr_eq w w' 0 k _).trans (if_pos Nat.zero_lt_one))))).trans ?_
  refine (fold (fun k => rows1 arg1 harg1 x0 (ix2 n k)) w g m h).trans (Finset.sum_congr rfl fun q _ => ?_)
  refine congrArg (· * _) ((rows1_eq arg1 harg1 x0 n (pos g q)).trans ((h0 _ _).trans (congrArg x (congrArg₂ ix2 (Fin.ext ?_) (Fin.ext ?_)))))
  · have hq := q.isLt
    show t.val * 2048 + ((q.val / 64 * 128 + g.val * 64 + q.val % 64) / 128 + 16 * n.val) = t.val * 2048 + 16 * n.val + q.val / 64
    omega
  · show (q.val / 64 * 128 + g.val * 64 + q.val % 64) % 128 = 0 * 128 + g.val * 64 + q.val % 64
    omega

include h0 h1 h2 in
theorem parts1 (g m : Fin 2) (n h : Fin 128) (c : Fin 1024) (hc : c.val = 512 + (g.val * 256 + m.val * 128 + h.val)) :
    parts arg1 harg1 arg2 harg2 arg3 harg3 x0 x1 x2 (ix2 n c) = prt x w' t 1 g m n h := by
  have hg := g.isLt; have hm := m.isLt; have hh := h.isLt
  refine (pay5 ..).trans ?_
  rw [dif_neg (by omega : ¬ c.val < 512)]
  have e : (⟨c.val - 512, by omega⟩ : Fin 512) = ⟨g.val * 256 + m.val * 128 + h.val, by omega⟩ := Fin.ext (by show c.val - 512 = g.val * 256 + m.val * 128 + h.val; omega)
  rw [e]
  refine (Finset.sum_congr rfl fun k _ => congrArg (_ * ·) ((wr_eq arg3 harg3 x2 1 _ rfl _ k _).trans ((congrFun h2 _).trans ((hwr_eq w w' 1 k _).trans (if_neg (by decide)))))).trans ?_
  refine (fold (fun k => rows2 arg2 harg2 x1 (ix2 n k)) w' g m h).trans (Finset.sum_congr rfl fun q _ => ?_)
  refine congrArg (· * _) ((rows2_eq arg2 harg2 x1 n (pos g q)).trans ((h1 _ _).trans (congrArg x (congrArg₂ ix2 (Fin.ext ?_) (Fin.ext ?_)))))
  · have hq := q.isLt
    show t.val * 2048 + ((q.val / 64 * 128 + g.val * 64 + q.val % 64) / 128 + 16 * n.val) = t.val * 2048 + 16 * n.val + q.val / 64
    omega
  · show 128 + (q.val / 64 * 128 + g.val * 64 + q.val % 64) % 128 = 1 * 128 + g.val * 64 + q.val % 64
    omega

include h3 h4 in
theorem bias0 (h : Fin 128) : k0_pay7 (pe arg4 harg4 x3) (w1 arg5 harg5 x4) (ix2 0 (bcol 0 (by decide) h)) = bia p w h := by
  rw [pay7]
  refine Finset.sum_congr rfl fun k _ => congrArg₂ (· * ·) ?_ ?_
  · rw [pe_eq, h3]; exact (hpe_eq p p' 0 k).trans (if_pos Nat.zero_lt_one)
  · rw [w1_eq, h4]; exact hw10 w w' k h
include h3 h4 in
theorem bias1 (h : Fin 128) : k0_pay7 (pe arg4 harg4 x3) (w1 arg5 harg5 x4) (ix2 1 (bcol 128 (by decide) h)) = bia p' w' h := by
  rw [pay7]
  refine Finset.sum_congr rfl fun k _ => congrArg₂ (· * ·) ?_ ?_
  · rw [pe_eq, h3]; exact (hpe_eq p p' 1 k).trans (if_neg (by decide))
  · rw [w1_eq, h4]; exact hw11 w w' k h

include h0 h1 h2 h3 h4 in
theorem hid0 (g : Fin 2) (o : ℕ) (ho : o ≤ 768) (e : o = g.val * 256) (n h : Fin 128) :
    gl (pre (parts arg1 harg1 arg2 harg2 arg3 harg3 x0 x1 x2) (k0_pay7 (pe arg4 harg4 x3) (w1 arg5 harg5 x4)) 0 0 (by decide) o ho n h) = hid x p w t 0 g n h := by
  have a := parts0 arg1 harg1 arg2 harg2 arg3 harg3 x0 x1 x2 x w w' t h0 h1 h2
  have b := bias0 arg4 harg4 arg5 harg5 x3 x4 p w p' w' h3 h4 h
  refine congrArg gl (congrArg₂ (· + ·) (congrArg₂ (· + ·) b (a g 0 n h _ ?_)) (a g 1 (nxt n) h _ ?_))
  · show o + h.val = g.val * 256 + 0 * 128 + h.val; omega
  · show o + 128 + h.val = g.val * 256 + 1 * 128 + h.val; omega
include h0 h1 h2 h3 h4 in
theorem hid1 (g : Fin 2) (o : ℕ) (ho : o ≤ 768) (e : o = 512 + g.val * 256) (n h : Fin 128) :
    gl (pre (parts arg1 harg1 arg2 harg2 arg3 harg3 x0 x1 x2) (k0_pay7 (pe arg4 harg4 x3) (w1 arg5 harg5 x4)) 1 128 (by decide) o ho n h) = hid x p' w' t 1 g n h := by
  have a := parts1 arg1 harg1 arg2 harg2 arg3 harg3 x0 x1 x2 x w w' t h0 h1 h2
  have b := bias1 arg4 harg4 arg5 harg5 x3 x4 p w p' w' h3 h4 h
  refine congrArg gl (congrArg₂ (· + ·) (congrArg₂ (· + ·) b (a g 0 n h _ ?_)) (a g 1 (nxt n) h _ ?_))
  · show o + h.val = 512 + (g.val * 256 + 0 * 128 + h.val); omega
  · show o + 128 + h.val = 512 + (g.val * 256 + 1 * 128 + h.val); omega

include h5 in
/-- A row against the second layer and its zeros. -/
theorem row0 (f : Fin 128 → EReal) (c : Fin 128) (inb) : ∑ h, f h * w2 arg6 harg6 x5 ![0, 0, 0] inb (ix3 0 h c)
    = if hd : c.val < 64 then ∑ h, f h * v (ix2 h ⟨c.val, hd⟩) else 0 := by
  refine (Finset.sum_congr rfl fun k _ => congrArg (_ * ·) ((w2_eq arg6 harg6 x5 0 _ rfl _ k _).trans ((congrFun h5 _).trans ((hw2_eq v v' 0 k _).trans (if_pos Nat.zero_lt_one))))).trans ?_
  by_cases hd : c.val < 64
  · simp only [dif_pos hd]
  · simp only [dif_neg hd, mul_zero, Finset.sum_const_zero]
include h5 in
theorem row1 (f : Fin 128 → EReal) (c : Fin 128) (inb) : ∑ h, f h * w2 arg6 harg6 x5 ![1, 0, 0] inb (ix3 0 h c)
    = if hd : c.val < 64 then ∑ h, f h * v' (ix2 h ⟨c.val, hd⟩) else 0 := by
  refine (Finset.sum_congr rfl fun k _ => congrArg (_ * ·) ((w2_eq arg6 harg6 x5 1 _ rfl _ k _).trans ((congrFun h5 _).trans ((hw2_eq v v' 1 k _).trans (if_neg (by decide)))))).trans ?_
  by_cases hd : c.val < 64
  · simp only [dif_pos hd]
  · simp only [dif_neg hd, mul_zero, Finset.sum_const_zero]

include h0 h1 h2 h3 h4 h5 in
theorem point6 (k : Fin 4) (n c : Fin 128) : out0_A_6 cd i arg1 harg1 arg2 harg2 arg3 harg3 arg4 harg4 arg5 harg5 arg6 harg6 arg7 harg7 arg8 harg8 x0 x1 x2 x3 x4 x5 (ix4 0 k n c)
    = outK x p w v p' w' v' (ix4 t k n c) := by
  have H0 := hid0 arg1 harg1 arg2 harg2 arg3 harg3 arg4 harg4 arg5 harg5 x0 x1 x2 x3 x4 x p w p' w' t h0 h1 h2 h3 h4
  have H1 := hid1 arg1 harg1 arg2 harg2 arg3 harg3 arg4 harg4 arg5 harg5 x0 x1 x2 x3 x4 x p w p' w' t h0 h1 h2 h3 h4
  have R0 := row0 arg6 harg6 x5 v v' h5
  have R1 := row1 arg6 harg6 x5 v v' h5
  unfold out0_A_6
  rw [View.read_writes_junk_eq_canon, run6]
  fin_cases k
  · refine (off_piece _ _ _ _ 1 (Or.inl (by simp [ix4]))).trans ((off_piece _ _ _ _ 1 (Or.inl (by simp [ix4]))).trans ((off_piece _ _ _ _ 1 (Or.inl (by simp [ix4]))).trans
      ((on_piece _ _ _ _ (ix4 0 0 n c) (fun a => by fin_cases a <;> simp [ix4])).trans ?_)))
    rw [pay8]
    simp only [H0 0 0 (by decide) rfl, R0]
    rfl
  · refine (off_piece _ _ _ _ 1 (Or.inl (by simp [ix4]))).trans ((off_piece _ _ _ _ 1 (Or.inl (by simp [ix4]))).trans
      ((on_piece _ _ _ _ (ix4 0 0 n c) (fun a => by fin_cases a <;> simp [ix4])).trans ?_))
    rw [pay12]
    simp only [H0 1 256 (by decide) rfl, R0]
    rfl
  · refine (off_piece _ _ _ _ 1 (Or.inl (by simp [ix4]))).trans
      ((on_piece _ _ _ _ (ix4 0 0 n c) (fun a => by fin_cases a <;> simp [ix4])).trans ?_)
    rw [pay15]
    simp only [pay13, H1 0 512 (by decide) rfl, R1]
    rfl
  · refine (on_piece _ _ _ _ (ix4 0 0 n c) (fun a => by fin_cases a <;> simp [ix4])).trans ?_
    rw [pay2]
    simp only [pay17, H1 1 768 (by decide) rfl, R1]
    rfl

include h0 h1 h2 h3 h4 h5 in
theorem point7 (g : Fin 2) (d : Fin 80) (n : Fin 128) : out0_A_7 cd i arg1 harg1 arg2 harg2 arg3 harg3 arg4 harg4 arg5 harg5 arg6 harg6 arg7 harg7 arg8 harg8 x0 x1 x2 x3 x4 x5 (ix4 0 g d n)
    = outV x p' w' v' (ix4 t g d n) := by
  have H1 := hid1 arg1 harg1 arg2 harg2 arg3 harg3 arg4 harg4 arg5 harg5 x0 x1 x2 x3 x4 x p w p' w' t h0 h1 h2 h3 h4
  have R1 := row1 arg6 harg6 x5 v v' h5
  unfold out0_A_7
  rw [View.read_writes_junk_eq_canon, run7]
  fin_cases g
  · refine (off_piece _ _ _ _ 1 (Or.inl (by simp [ix4]))).trans
      ((on_piece _ _ _ _ (ix4 0 0 d n) (fun a => by fin_cases a <;> simp [ix4])).trans ?_)
    rw [pay16]
    simp only [pay13, H1 0 512 (by decide) rfl, R1]
    exact congrArg (vrows · d) (funext fun e => dif_pos e.isLt)
  · refine (on_piece _ _ _ _ (ix4 0 0 d n) (fun a => by fin_cases a <;> simp [ix4])).trans ?_
    rw [pay3]
    simp only [pay17, H1 1 768 (by decide) rfl, R1]
    exact congrArg (vrows · d) (funext fun e => dif_pos e.isLt)

end point

variable (m : (ℓ : Loc nD τ sig) → Buf (Elt Ideal) ℓ) (c : Dev nD)

theorem index_all : ∀ t : Fin cfg0.N, win0_0.index t = ![t.val, 0] ∧ win0_1.index t = ![t.val, 1] ∧ win0_2.index t = ![0, 0, 0]
    ∧ win0_3.index t = ![0, 0] ∧ win0_4.index t = ![0, 0] ∧ win0_5.index t = ![0, 0, 0] ∧ win0_6.index t = ![t.val, 0, 0, 0]
    ∧ win0_7.index t = ![t.val, 0, 0, 0] := by
  decide +kernel

/-- The part of the rows a point takes. -/
def tt (t : Fin cfg0.N) : Fin 16 := ⟨t.val, by
  have : cfg0.N = 16 := N_0
  have := t.isLt; omega⟩

theorem blk0 (t : Fin cfg0.N) (r : Fin 2048) (l : Fin 128) : (iblk m c 0 t : S2048x128.Idx → EReal) (ix2 r l)
    = (m ((c : Thread nD τ).loc main_arg0) : S32768x256.Idx → EReal) (ix2 ⟨(tt t).val * 2048 + r.val, by have := (tt t).isLt; have := r.isLt; omega⟩ ⟨l.val, by have := l.isLt; omega⟩) := by
  rw [← V_main_arg0 m c]
  unfold tt
  blk_ext [iblk, (index_all t).1]
theorem blk1 (t : Fin cfg0.N) (r : Fin 2048) (l : Fin 128) : (iblk m c 1 t : S2048x128.Idx → EReal) (ix2 r l)
    = (m ((c : Thread nD τ).loc main_arg0) : S32768x256.Idx → EReal) (ix2 ⟨(tt t).val * 2048 + r.val, by have := (tt t).isLt; have := r.isLt; omega⟩ ⟨128 + l.val, by have := l.isLt; omega⟩) := by
  rw [← V_main_arg0 m c]
  unfold tt
  blk_ext [iblk, (index_all t).2.1]

theorem blk2 (t : Fin cfg0.N) : (iblk m c 2 t : S2x2048x512.Idx → EReal) = hwr (m ((c : Thread nD τ).loc main_arg2)) (m ((c : Thread nD τ).loc main_arg5)) := by
  rw [← V_v23 m c]
  funext y
  obtain ⟨a, b, d, rfl⟩ : ∃ (a : Fin 2) (b : Fin 2048) (d : Fin 512), y = ix3 a b d := ⟨y 0, y 1, y 2, funext fun a => by fin_cases a <;> rfl⟩
  blk_ext [iblk, (index_all t).2.2.1]
theorem blk3 (t : Fin cfg0.N) : (iblk m c 3 t : S16x2048.Idx → EReal) = hpe (m ((c : Thread nD τ).loc main_arg1)) (m ((c : Thread nD τ).loc main_arg4)) := by
  rw [← V_v37 m c]
  funext y
  obtain ⟨a, b, rfl⟩ : ∃ (a : Fin 16) (b : Fin 2048), y = ix2 a b := ⟨y 0, y 1, funext fun a => by fin_cases a <;> rfl⟩
  blk_ext [iblk, (index_all t).2.2.2.1]
theorem blk4 (t : Fin cfg0.N) : (iblk m c 4 t : S2048x256.Idx → EReal) = hw1 (m ((c : Thread nD τ).loc main_arg2)) (m ((c : Thread nD τ).loc main_arg5)) := by
  rw [← V_v29 m c]
  funext y
  obtain ⟨a, b, rfl⟩ : ∃ (a : Fin 2048) (b : Fin 256), y = ix2 a b := ⟨y 0, y 1, funext fun a => by fin_cases a <;> rfl⟩
  blk_ext [iblk, (index_all t).2.2.2.2.1]
theorem blk5 (t : Fin cfg0.N) : (iblk m c 5 t : S2x128x128.Idx → EReal) = hw2 (m ((c : Thread nD τ).loc main_arg3)) (m ((c : Thread nD τ).loc main_arg6)) := by
  rw [← V_v36 m c]
  funext y
  obtain ⟨a, b, d, rfl⟩ : ∃ (a : Fin 2) (b : Fin 128) (d : Fin 128), y = ix3 a b d := ⟨y 0, y 1, y 2, funext fun a => by fin_cases a <;> rfl⟩
  blk_ext [iblk, (index_all t).2.2.2.2.2.1]

/-- The first result array, -/
theorem arr6 : (Gen.dats m 0 c).arrAt 6 cfg0.N = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Gen.dats m 0 c).arrAt_eq_of_covers 6 _ (by decide +kernel) fun t hf y => ?_
  blk_simp
  rw [after0_6]
  obtain ⟨a, k, n, q, rfl⟩ : ∃ (a : Fin 1) (k : Fin 4) (n q : Fin 128), y = ix4 a k n q := ⟨y 0, y 1, y 2, y 3, funext fun a => by fin_cases a <;> rfl⟩
  obtain rfl : a = 0 := Subsingleton.elim _ _
  have e : ((win0_6.blk t).view.emb (ix4 0 k n q) : S16x4x128x128.Idx) = ix4 (tt t) k n q := by
    unfold tt
    blk_ext [(index_all t).2.2.2.2.2.2.1]
  refine Eq.trans ?_ (congrArg (outK _ _ _ _ _ _ _) e).symm
  unfold outsAt0
  dsimp only
  exact point6 _ _ _ _ _ _ _ _ _ _ _ _ _ _ _ _ _ _ _ _ _ _ _ _ _ _ _ _ _ _ _ (tt t) (blk0 m c t) (blk1 m c t) (blk2 m c t) (blk3 m c t) (blk4 m c t) (blk5 m c t) k n q

/-- and the second. -/
theorem arr7 : (Gen.dats m 0 c).arrAt 7 cfg0.N = outV (m ((c : Thread nD τ).loc main_arg0)) (m ((c : Thread nD τ).loc main_arg4)) (m ((c : Thread nD τ).loc main_arg5)) (m ((c : Thread nD τ).loc main_arg6)) := by
  refine (Gen.dats m 0 c).arrAt_eq_of_covers 7 _ (by decide +kernel) fun t hf y => ?_
  blk_simp
  rw [after0_7]
  obtain ⟨a, k, n, q, rfl⟩ : ∃ (a : Fin 1) (k : Fin 2) (n : Fin 80) (q : Fin 128), y = ix4 a k n q := ⟨y 0, y 1, y 2, y 3, funext fun a => by fin_cases a <;> rfl⟩
  obtain rfl : a = 0 := Subsingleton.elim _ _
  have e : ((win0_7.blk t).view.emb (ix4 0 k n q) : S16x2x80x128.Idx) = ix4 (tt t) k n q := by
    unfold tt
    blk_ext [(index_all t).2.2.2.2.2.2.2]
  refine Eq.trans ?_ (congrArg (outV _ _ _ _) e).symm
  unfold outsAt0
  dsimp only
  exact point7 _ _ _ _ _ _ _ _ _ _ _ _ _ _ _ _ _ _ _ _ _ _ _ _ _ _ _ _ _ _ _ (tt t) (blk0 m c t) (blk1 m c t) (blk2 m c t) (blk3 m c t) (blk4 m c t) (blk5 m c t) k n q

end Cert.CompressKer

end
-- ==== Proof.CompressRef.lean ====
module

public import proofs.«01_k».proof.Proof.CompressHost
public import proofs.«01_k».proof.Proof.Gen.CompressReferenceIdeal.Read
public import Idealize.ShloMosaic.Lib.Pipeline.ValueKit

@[expose] public section

set_option maxRecDepth 16384

noncomputable section

namespace Cert.CompressRef

open Cert.CompressPay Cert.CompressHost
open Cert.CompressReferenceIdeal Cert.CompressReferenceIdeal.Read Idealize.ShloMosaic Idealize.ShloMosaic.TcCoe

variable (x : S32768x256.Idx → EReal)

theorem rows_at (t : Fin 16) (r : Fin 2048) (kind g : Fin 2) (d : Fin 64) : val_main_v0 (F := Ideal) x (ix5 t r kind g d)
    = x (ix2 ⟨t.val * 2048 + r.val, by have := t.isLt; have := r.isLt; omega⟩ ⟨kind.val * 128 + g.val * 64 + d.val, by have := kind.isLt; have := g.isLt; have := d.isLt; omega⟩) := by
  have hr := r.isLt; have hk := kind.isLt; have hg := g.isLt; have hd := d.isLt
  rw [val_main_v0_apply]
  refine congrArg x (funext fun a => Fin.ext ?_)
  fin_cases a
  · show ((((t.val * 2048 + r.val) * 2 + kind.val) * 2 + g.val) * 64 + d.val) / 256 = t.val * 2048 + r.val; omega
  · show ((((t.val * 2048 + r.val) * 2 + kind.val) * 2 + g.val) * 64 + d.val) % 256 = kind.val * 128 + g.val * 64 + d.val; omega

/-- The rows and the first sixteen of them again. -/
theorem ext_at (t : Fin 16) (r : Fin 2064) (kind g : Fin 2) (d : Fin 64) : val_main_v2 (F := Ideal) x (ix5 t r kind g d)
    = x (ix2 ⟨t.val * 2048 + r.val % 2048, by have := t.isLt; omega⟩ ⟨kind.val * 128 + g.val * 64 + d.val, by have := kind.isLt; have := g.isLt; have := d.isLt; omega⟩) := by
  have hr := r.isLt
  unfold val_main_v2
  by_cases h : r.val < 2048
  · refine (concatenate_pair_apply_left (t := S16x2064x2x2x64) (s₁ := S16x2048x2x2x64) (s₂ := S16x16x2x2x64) 1 _ _ _ _ rfl (ix5 t ⟨r.val, h⟩ kind g d) fun b => by fin_cases b <;> rfl).trans ?_
    refine (rows_at x t ⟨r.val, h⟩ kind g d).trans (congrArg x (congrArg₂ ix2 (Fin.ext ?_) rfl))
    show t.val * 2048 + r.val = t.val * 2048 + r.val % 2048; omega
  · refine (concatenate_pair_apply_right (t := S16x2064x2x2x64) (s₁ := S16x2048x2x2x64) (s₂ := S16x16x2x2x64) 1 _ _ _ _ rfl rfl (ix5 t ⟨r.val - 2048, by omega⟩ kind g d)
      (fun b hb => by fin_cases b <;> first | rfl | exact absurd rfl hb) (by show r.val - 2048 + 2048 = r.val; omega)).trans ?_
    rw [val_main_v1_apply]
    have e : idx_main_v1 (ix5 t ⟨r.val - 2048, by omega⟩ kind g d) = ix5 t ⟨r.val - 2048, by omega⟩ kind g d := funext fun a => by fin_cases a <;> rfl
    refine (congrArg (val_main_v0 (F := Ideal) x) e).trans ((rows_at x t ⟨r.val - 2048, by omega⟩ kind g d).trans (congrArg x (congrArg₂ ix2 (Fin.ext ?_) rfl)))
    show t.val * 2048 + (r.val - 2048) = t.val * 2048 + r.val % 2048; omega

/-- The call's form of the activation. -/
theorem gl_eq (y : EReal) : y * (Ideal.ofBits FTy.f32 0x3F000000#32 * (1 + Ideal.tanh
    (Ideal.ofBits FTy.f32 0x3F4C422A#32 * (y + Ideal.ofBits FTy.f32 0x3D372713#32 * (y * y * y))))) = gl y := by
  unfold gl
  rw [← mul_assoc, mul_comm y]

theorem one_eq : (FloatOps.ofBits (F := Ideal) .f32 0x3F800000#32) = 1 := by simp only [pointwise]

section kind0
variable (p : S32x64.Idx → EReal) (w : S2048x128.Idx → EReal) (v : S128x64.Idx → EReal)

theorem flat0 (t : Fin 16) (r : Fin 2064) (g : Fin 2) (d : Fin 64) : val_main_v4 (F := Ideal) x (ix4 t r g d)
    = x (ix2 ⟨t.val * 2048 + r.val % 2048, by have := t.isLt; omega⟩ ⟨0 * 128 + g.val * 64 + d.val, by have := g.isLt; have := d.isLt; omega⟩) := by
  have hr := r.isLt; have hg := g.isLt; have hd := d.isLt; have ht := t.isLt
  rw [val_main_v4_apply, val_main_v3_apply]
  have e : idx_main_v3 (idx_main_v4 (ix4 t r g d)) = ix5 t r 0 g d := funext fun a => Fin.ext (by
    fin_cases a
    · show (((t.val * 2064 + r.val) * 2 + g.val) * 64 + d.val) / 264192 = t.val; omega
    · show (((t.val * 2064 + r.val) * 2 + g.val) * 64 + d.val) / 128 % 2064 = r.val; omega
    · rfl
    · show (((t.val * 2064 + r.val) * 2 + g.val) * 64 + d.val) / 64 % 2 = g.val; omega
    · show (((t.val * 2064 + r.val) * 2 + g.val) * 64 + d.val) % 64 = d.val; omega)
  rw [e]
  exact ext_at x t r 0 g d

theorem chunk0 (t : Fin 16) (N : Fin 129) (g : Fin 2) (q : Fin 1024) (n : Fin 128) (hn : n.val = N.val % 128) :
    val_main_v7 (F := Ideal) x (ix4 t N g q) = src x t 0 g n q := by
  have hN := N.isLt; have hg := g.isLt; have hq := q.isLt; have ht := t.isLt
  rw [val_main_v7_apply, val_main_v6_apply]
  have e : idx_main_v6 (idx_main_v7 (ix4 t N g q)) = ix5 t N ⟨q.val / 64, by omega⟩ g ⟨q.val % 64, by omega⟩ := funext fun a => Fin.ext (by
    fin_cases a
    · show (((t.val * 129 + N.val) * 2 + g.val) * 1024 + q.val) / 264192 = t.val; omega
    · show (((t.val * 129 + N.val) * 2 + g.val) * 1024 + q.val) / 2048 % 129 = N.val; omega
    · show (((t.val * 129 + N.val) * 2 + g.val) * 1024 + q.val) / 64 % 16 = q.val / 64; omega
    · show (((t.val * 129 + N.val) * 2 + g.val) * 1024 + q.val) / 1024 % 2 = g.val; omega
    · show (((t.val * 129 + N.val) * 2 + g.val) * 1024 + q.val) % 64 = q.val % 64; omega)
  rw [e, val_main_v5_apply]
  have e' : idx_main_v5 (ix5 t N ⟨q.val / 64, by omega⟩ g ⟨q.val % 64, by omega⟩) = ix4 t ⟨N.val * 16 + q.val / 64, by omega⟩ g ⟨q.val % 64, by omega⟩ := funext fun a => Fin.ext (by
    have h1 : q.val / 64 < 16 := by omega
    have h2 : q.val % 64 < 64 := by omega
    fin_cases a
    · show ((((t.val * 129 + N.val) * 16 + q.val / 64) * 2 + g.val) * 64 + q.val % 64) / 264192 = t.val; omega
    · show ((((t.val * 129 + N.val) * 16 + q.val / 64) * 2 + g.val) * 64 + q.val % 64) / 128 % 2064 = N.val * 16 + q.val / 64; omega
    · show ((((t.val * 129 + N.val) * 16 + q.val / 64) * 2 + g.val) * 64 + q.val % 64) / 64 % 2 = g.val; omega
    · show ((((t.val * 129 + N.val) * 16 + q.val / 64) * 2 + g.val) * 64 + q.val % 64) % 64 = q.val % 64; omega)
  rw [e']
  refine (flat0 x t _ g _).trans (congrArg x (congrArg₂ ix2 (Fin.ext ?_) rfl))
  show t.val * 2048 + (N.val * 16 + q.val / 64) % 2048 = t.val * 2048 + 16 * n.val + q.val / 64
  omega

theorem part0 (t : Fin 16) (m : Fin 2) (N : Fin 129) (g : Fin 2) (h : Fin 128) (n : Fin 128) (hn : n.val = N.val % 128) :
    val_main_v10 (F := Ideal) x w (ix5 t m N g h) = prt x w t 0 g m n h := by
  rw [val_main_v10_apply, val_main_v9_apply]
  refine Finset.sum_congr rfl fun q _ => ?_
  have el : ridx_main_v9 (idx_main_v10 (ix5 t m N g h)) q = ix4 t N g q := funext fun a => by fin_cases a <;> rfl
  rw [el, chunk0 x t N g q n hn, val_main_v8_apply, mul_comm]
  refine congrArg (src x t 0 g n q * ·) (congrArg w (funext fun a => Fin.ext ?_))
  have hq := q.isLt; have hm := m.isLt; have hh := h.isLt
  fin_cases a
  · show ((m.val * 1024 + q.val) * 128 + h.val) / 128 = m.val * 1024 + q.val; omega
  · show ((m.val * 1024 + q.val) * 128 + h.val) % 128 = h.val; omega

theorem bias0 (h : Fin 128) : val_main_v12 (F := Ideal) p w (ix1 h) = bia p w h := by
  rw [val_main_v12_apply]
  refine Finset.sum_congr rfl fun k _ => ?_
  rw [val_main_v11_apply]
  refine congrArg₂ (· * ·) (congrArg p (funext fun a => ?_)) (congrArg w (funext fun a => ?_))
  · fin_cases a <;> rfl
  · fin_cases a <;> rfl

theorem pre0 (t : Fin 16) (n : Fin 128) (g : Fin 2) (h : Fin 128) : val_main_v20 (F := Ideal) x p w (ix4 t n g h)
    = bia p w h + prt x w t 0 g 0 n h + prt x w t 0 g 1 (nxt n) h := by
  have hn := n.isLt; have hg := g.isLt; have hh := h.isLt; have ht := t.isLt
  have e0 : idx_main_v13 (idx_main_v14 (ix4 t n g h)) = ix5 t 0 ⟨n.val, by omega⟩ g h := funext fun a => Fin.ext (by
    fin_cases a
    · show (((t.val * 128 + n.val) * 2 + g.val) * 128 + h.val) / 32768 = t.val; omega
    · rfl
    · show (((t.val * 128 + n.val) * 2 + g.val) * 128 + h.val) / 256 % 128 = n.val; omega
    · show (((t.val * 128 + n.val) * 2 + g.val) * 128 + h.val) / 128 % 2 = g.val; omega
    · show (((t.val * 128 + n.val) * 2 + g.val) * 128 + h.val) % 128 = h.val; omega)
  have e1 : idx_main_v18 (idx_main_v19 (ix4 t n g h)) = ix5 t 1 ⟨1 + n.val, by omega⟩ g h := funext fun a => Fin.ext (by
    fin_cases a
    · show (((t.val * 128 + n.val) * 2 + g.val) * 128 + h.val) / 32768 = t.val; omega
    · rfl
    · show 1 + (((t.val * 128 + n.val) * 2 + g.val) * 128 + h.val) / 256 % 128 = 1 + n.val; omega
    · show (((t.val * 128 + n.val) * 2 + g.val) * 128 + h.val) / 128 % 2 = g.val; omega
    · show (((t.val * 128 + n.val) * 2 + g.val) * 128 + h.val) % 128 = h.val; omega)
  have eb : idx_main_v15 (idx_main_v16 (ix4 t n g h)) = ix1 h := funext fun a => by fin_cases a <;> rfl
  rw [val_main_v20_apply, val_main_v17_apply, val_main_v16_apply, val_main_v15_apply, val_main_v14_apply, val_main_v13_apply, val_main_v19_apply, val_main_v18_apply,
    e0, e1, eb, bias0, part0 x w t 0 ⟨n.val, by omega⟩ g h n (by show n.val = n.val % 128; omega),
    part0 x w t 1 ⟨1 + n.val, by omega⟩ g h (nxt n) (by show (n.val + 1) % 128 = (1 + n.val) % 128; rw [Nat.add_comm])]
  rfl

theorem hid0 (t : Fin 16) (n : Fin 128) (g : Fin 2) (h : Fin 128) : val_main_v33 (F := Ideal) x p w (ix4 t n g h) = hid x p w t 0 g n h := by
  unfold hid
  rw [← pre0, ← gl_eq]
  simp only [val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v21_apply, val_main_cst_apply, val_main_cst_0_apply, val_main_cst_1_apply, val_main_cst_2_apply, one_eq]
  rfl

theorem val0 (t : Fin 16) (g : Fin 2) (n : Fin 128) (d : Fin 64) : val_main_v35 (F := Ideal) x p w v (ix4 t g n d) = val x p w v t 0 g n d := by
  rw [val_main_v35_apply, val_main_v34_apply]
  refine Finset.sum_congr rfl fun h _ => ?_
  have el : lidx_main_v34 (idx_main_v35 (ix4 t g n d)) h = ix4 t n g h := funext fun a => by fin_cases a <;> rfl
  rw [el, hid0]
  exact congrArg (_ * ·) (congrArg v (funext fun a => by fin_cases a <;> rfl))

end kind0

section kind1
variable (p : S32x64.Idx → EReal) (w : S2048x128.Idx → EReal) (v : S128x64.Idx → EReal)

theorem flat1 (t : Fin 16) (r : Fin 2064) (g : Fin 2) (d : Fin 64) : val_main_v37 (F := Ideal) x (ix4 t r g d)
    = x (ix2 ⟨t.val * 2048 + r.val % 2048, by have := t.isLt; omega⟩ ⟨1 * 128 + g.val * 64 + d.val, by have := g.isLt; have := d.isLt; omega⟩) := by
  have hr := r.isLt; have hg := g.isLt; have hd := d.isLt; have ht := t.isLt
  rw [val_main_v37_apply, val_main_v36_apply]
  have e : idx_main_v36 (idx_main_v37 (ix4 t r g d)) = ix5 t r 1 g d := funext fun a => Fin.ext (by
    fin_cases a
    · show (((t.val * 2064 + r.val) * 2 + g.val) * 64 + d.val) / 264192 = t.val; omega
    · show (((t.val * 2064 + r.val) * 2 + g.val) * 64 + d.val) / 128 % 2064 = r.val; omega
    · rfl
    · show (((t.val * 2064 + r.val) * 2 + g.val) * 64 + d.val) / 64 % 2 = g.val; omega
    · show (((t.val * 2064 + r.val) * 2 + g.val) * 64 + d.val) % 64 = d.val; omega)
  rw [e]
  exact ext_at x t r 1 g d

theorem chunk1 (t : Fin 16) (N : Fin 129) (g : Fin 2) (q : Fin 1024) (n : Fin 128) (hn : n.val = N.val % 128) :
    val_main_v40 (F := Ideal) x (ix4 t N g q) = src x t 1 g n q := by
  have hN := N.isLt; have hg := g.isLt; have hq := q.isLt; have ht := t.isLt
  rw [val_main_v40_apply, val_main_v39_apply]
  have e : idx_main_v39 (idx_main_v40 (ix4 t N g q)) = ix5 t N ⟨q.val / 64, by omega⟩ g ⟨q.val % 64, by omega⟩ := funext fun a => Fin.ext (by
    fin_cases a
    · show (((t.val * 129 + N.val) * 2 + g.val) * 1024 + q.val) / 264192 = t.val; omega
    · show (((t.val * 129 + N.val) * 2 + g.val) * 1024 + q.val) / 2048 % 129 = N.val; omega
    · show (((t.val * 129 + N.val) * 2 + g.val) * 1024 + q.val) / 64 % 16 = q.val / 64; omega
    · show (((t.val * 129 + N.val) * 2 + g.val) * 1024 + q.val) / 1024 % 2 = g.val; omega
    · show (((t.val * 129 + N.val) * 2 + g.val) * 1024 + q.val) % 64 = q.val % 64; omega)
  rw [e, val_main_v38_apply]
  have e' : idx_main_v38 (ix5 t N ⟨q.val / 64, by omega⟩ g ⟨q.val % 64, by omega⟩) = ix4 t ⟨N.val * 16 + q.val / 64, by omega⟩ g ⟨q.val % 64, by omega⟩ := funext fun a => Fin.ext (by
    have h1 : q.val / 64 < 16 := by omega
    have h2 : q.val % 64 < 64 := by omega
    fin_cases a
    · show ((((t.val * 129 + N.val) * 16 + q.val / 64) * 2 + g.val) * 64 + q.val % 64) / 264192 = t.val; omega
    · show ((((t.val * 129 + N.val) * 16 + q.val / 64) * 2 + g.val) * 64 + q.val % 64) / 128 % 2064 = N.val * 16 + q.val / 64; omega
    · show ((((t.val * 129 + N.val) * 16 + q.val / 64) * 2 + g.val) * 64 + q.val % 64) / 64 % 2 = g.val; omega
    · show ((((t.val * 129 + N.val) * 16 + q.val / 64) * 2 + g.val) * 64 + q.val % 64) % 64 = q.val % 64; omega)
  rw [e']
  refine (flat1 x t _ g _).trans (congrArg x (congrArg₂ ix2 (Fin.ext ?_) rfl))
  show t.val * 2048 + (N.val * 16 + q.val / 64) % 2048 = t.val * 2048 + 16 * n.val + q.val / 64
  omega

theorem part1 (t : Fin 16) (m : Fin 2) (N : Fin 129) (g : Fin 2) (h : Fin 128) (n : Fin 128) (hn : n.val = N.val % 128) :
    val_main_v43 (F := Ideal) x w (ix5 t m N g h) = prt x w t 1 g m n h := by
  rw [val_main_v43_apply, val_main_v42_apply]
  refine Finset.sum_congr rfl fun q _ => ?_
  have el : ridx_main_v42 (idx_main_v43 (ix5 t m N g h)) q = ix4 t N g q := funext fun a => by fin_cases a <;> rfl
  rw [el, chunk1 x t N g q n hn, val_main_v41_apply, mul_comm]
  refine congrArg (src x t 1 g n q * ·) (congrArg w (funext fun a => Fin.ext ?_))
  have hq := q.isLt; have hm := m.isLt; have hh := h.isLt
  fin_cases a
  · show ((m.val * 1024 + q.val) * 128 + h.val) / 128 = m.val * 1024 + q.val; omega
  · show ((m.val * 1024 + q.val) * 128 + h.val) % 128 = h.val; omega

theorem bias1 (h : Fin 128) : val_main_v45 (F := Ideal) p w (ix1 h) = bia p w h := by
  rw [val_main_v45_apply]
  refine Finset.sum_congr rfl fun k _ => ?_
  rw [val_main_v44_apply]
  refine congrArg₂ (· * ·) (congrArg p (funext fun a => ?_)) (congrArg w (funext fun a => ?_))
  · fin_cases a <;> rfl
  · fin_cases a <;> rfl

theorem pre1 (t : Fin 16) (n : Fin 128) (g : Fin 2) (h : Fin 128) : val_main_v53 (F := Ideal) x p w (ix4 t n g h)
    = bia p w h + prt x w t 1 g 0 n h + prt x w t 1 g 1 (nxt n) h := by
  have hn := n.isLt; have hg := g.isLt; have hh := h.isLt; have ht := t.isLt
  have e0 : idx_main_v46 (idx_main_v47 (ix4 t n g h)) = ix5 t 0 ⟨n.val, by omega⟩ g h := funext fun a => Fin.ext (by
    fin_cases a
    · show (((t.val * 128 + n.val) * 2 + g.val) * 128 + h.val) / 32768 = t.val; omega
    · rfl
    · show (((t.val * 128 + n.val) * 2 + g.val) * 128 + h.val) / 256 % 128 = n.val; omega
    · show (((t.val * 128 + n.val) * 2 + g.val) * 128 + h.val) / 128 % 2 = g.val; omega
    · show (((t.val * 128 + n.val) * 2 + g.val) * 128 + h.val) % 128 = h.val; omega)
  have e1 : idx_main_v51 (idx_main_v52 (ix4 t n g h)) = ix5 t 1 ⟨1 + n.val, by omega⟩ g h := funext fun a => Fin.ext (by
    fin_cases a
    · show (((t.val * 128 + n.val) * 2 + g.val) * 128 + h.val) / 32768 = t.val; omega
    · rfl
    · show 1 + (((t.val * 128 + n.val) * 2 + g.val) * 128 + h.val) / 256 % 128 = 1 + n.val; omega
    · show (((t.val * 128 + n.val) * 2 + g.val) * 128 + h.val) / 128 % 2 = g.val; omega
    · show (((t.val * 128 + n.val) * 2 + g.val) * 128 + h.val) % 128 = h.val; omega)
  have eb : idx_main_v48 (idx_main_v49 (ix4 t n g h)) = ix1 h := funext fun a => by fin_cases a <;> rfl
  rw [val_main_v53_apply, val_main_v50_apply, val_main_v49_apply, val_main_v48_apply, val_main_v47_apply, val_main_v46_apply, val_main_v52_apply, val_main_v51_apply,
    e0, e1, eb, bias1, part1 x w t 0 ⟨n.val, by omega⟩ g h n (by show n.val = n.val % 128; omega),
    part1 x w t 1 ⟨1 + n.val, by omega⟩ g h (nxt n) (by show (n.val + 1) % 128 = (1 + n.val) % 128; rw [Nat.add_comm])]
  rfl

theorem hid1 (t : Fin 16) (n : Fin 128) (g : Fin 2) (h : Fin 128) : val_main_v66 (F := Ideal) x p w (ix4 t n g h) = hid x p w t 1 g n h := by
  unfold hid
  rw [← pre1, ← gl_eq]
  simp only [val_main_v66_apply, val_main_v65_apply, val_main_v64_apply, val_main_v63_apply, val_main_v62_apply, val_main_v61_apply, val_main_v60_apply,
    val_main_v59_apply, val_main_v58_apply, val_main_v57_apply, val_main_v56_apply, val_main_v55_apply, val_main_v54_apply, val_main_cst_3_apply, val_main_cst_4_apply, val_main_cst_5_apply, val_main_cst_6_apply, one_eq]
  rfl

theorem val1 (t : Fin 16) (g : Fin 2) (n : Fin 128) (d : Fin 64) : val_main_v68 (F := Ideal) x p w v (ix4 t g n d) = val x p w v t 1 g n d := by
  rw [val_main_v68_apply, val_main_v67_apply]
  refine Finset.sum_congr rfl fun h _ => ?_
  have el : lidx_main_v67 (idx_main_v68 (ix4 t g n d)) h = ix4 t n g h := funext fun a => by fin_cases a <;> rfl
  rw [el, hid1]
  exact congrArg (_ * ·) (congrArg v (funext fun a => by fin_cases a <;> rfl))

end kind1

variable (p : S32x64.Idx → EReal) (w : S2048x128.Idx → EReal) (v : S128x64.Idx → EReal) (p' : S32x64.Idx → EReal) (w' : S2048x128.Idx → EReal) (v' : S128x64.Idx → EReal)

theorem cat_at (t : Fin 16) (k : Fin 4) (n : Fin 128) (d : Fin 64) : val_main_v69 (F := Ideal) x p w v p' w' v' (ix4 t k n d)
    = if hg : k.val < 2 then val x p w v t 0 ⟨k.val, hg⟩ n d else val x p' w' v' t 1 ⟨k.val - 2, by have := k.isLt; omega⟩ n d := by
  have hk := k.isLt
  unfold val_main_v69
  by_cases h : k.val < 2
  · rw [dif_pos h]
    exact (concatenate_pair_apply_left (t := S16x4x128x64) (s₁ := S16x2x128x64) (s₂ := S16x2x128x64) 1 _ _ _ _ rfl (ix4 t ⟨k.val, h⟩ n d) fun b => by fin_cases b <;> rfl).trans
      (val0 x p w v t ⟨k.val, h⟩ n d)
  · rw [dif_neg h]
    exact (concatenate_pair_apply_right (t := S16x4x128x64) (s₁ := S16x2x128x64) (s₂ := S16x2x128x64) 1 _ _ _ _ rfl rfl (ix4 t ⟨k.val - 2, by omega⟩ n d)
      (fun b hb => by fin_cases b <;> first | rfl | exact absurd rfl hb) (by show k.val - 2 + 2 = k.val; omega)).trans (val1 x p' w' v' t _ n d)

theorem none_eq : (FloatOps.sitofp (F := Ideal) .f32 (0#32) : EReal) = 0 := by
  show (((0#32 : BitVec 32).toInt : ℝ) : EReal) = 0
  simp

theorem resK (i : S16x4x128x128.Idx) : val_main_v75 (F := Ideal) x p w v p' w' v' i = outK x p w v p' w' v' i := by
  obtain ⟨t, k, n, d, rfl⟩ : ∃ (t : Fin 16) (k : Fin 4) (n d : Fin 128), i = ix4 t k n d := ⟨i 0, i 1, i 2, i 3, funext fun a => by fin_cases a <;> rfl⟩
  rw [val_main_v75_apply]
  show val_main_v70 (F := Ideal) x p w v p' w' v' (ix4 t k n d) = _
  unfold outK val_main_v70 pad
  by_cases hd : d.val < 64
  · rw [dif_pos (by
      intro a
      fin_cases a
      · exact ⟨Nat.zero_le _, by show (t.val - 0) % (0 + 1) = 0; omega, by have := t.isLt; show (t.val - 0) / (0 + 1) < 16; omega⟩
      · exact ⟨Nat.zero_le _, by show (k.val - 0) % (0 + 1) = 0; omega, by have := k.isLt; show (k.val - 0) / (0 + 1) < 4; omega⟩
      · exact ⟨Nat.zero_le _, by show (n.val - 0) % (0 + 1) = 0; omega, by have := n.isLt; show (n.val - 0) / (0 + 1) < 128; omega⟩
      · exact ⟨Nat.zero_le _, by show (d.val - 0) % (0 + 1) = 0; omega, by show (d.val - 0) / (0 + 1) < 64; omega⟩)]
    rw [dif_pos (show ((ix4 t k n d : S16x4x128x128.Idx) 3).val < 64 from hd)]
    refine Eq.trans (congrArg (val_main_v69 (F := Ideal) x p w v p' w' v') (funext fun a => Fin.ext ?_)) (cat_at x p w v p' w' v' t k n ⟨d.val, hd⟩)
    fin_cases a
    · show (t.val - 0) / (0 + 1) = t.val; omega
    · show (k.val - 0) / (0 + 1) = k.val; omega
    · show (n.val - 0) / (0 + 1) = n.val; omega
    · show (d.val - 0) / (0 + 1) = d.val; omega
  · rw [dif_neg (fun e => hd (by
      have e0 := (e 3).2.2
      have e1 : (d.val - 0) / (0 + 1) < 64 := e0
      omega)), dif_neg (show ¬ ((ix4 t k n d : S16x4x128x128.Idx) 3).val < 64 from hd)]
    exact none_eq

theorem ones_at (t : Fin 16) (g : Fin 2) (d : Fin 65) (n : Fin 128) : val_main_v73 (F := Ideal) x p' w' v' (ix4 t g d n)
    = vrows (val x p' w' v' t 1 g n) ⟨d.val, by have := d.isLt; omega⟩ := by
  have hd := d.isLt
  unfold val_main_v73 vrows
  by_cases h : d.val < 64
  · rw [dif_pos h]
    refine (concatenate_pair_apply_left (t := S16x2x65x128) (s₁ := S16x2x64x128) (s₂ := S16x2x1x128) 2 _ _ _ _ rfl (ix4 t g ⟨d.val, h⟩ n) fun b => by fin_cases b <;> rfl).trans ?_
    rw [val_main_v72_apply]
    have e : idx_main_v72 (ix4 t g ⟨d.val, h⟩ n) = ix4 t g n ⟨d.val, h⟩ := funext fun a => by fin_cases a <;> rfl
    rw [e]
    exact val1 x p' w' v' t g n ⟨d.val, h⟩
  · rw [dif_neg h, if_pos (by show d.val = 64; omega)]
    refine (concatenate_pair_apply_right (t := S16x2x65x128) (s₁ := S16x2x64x128) (s₂ := S16x2x1x128) 2 _ _ _ _ rfl rfl (ix4 t g 0 n)
      (fun b hb => by fin_cases b <;> first | rfl | exact absurd rfl hb) (by show 0 + 64 = d.val; omega)).trans ?_
    rw [val_main_v71_apply, val_main_cst_7_apply, one_eq]

theorem resV (i : S16x2x80x128.Idx) : val_main_v76 (F := Ideal) x p' w' v' i = outV x p' w' v' i := by
  obtain ⟨t, g, d, n, rfl⟩ : ∃ (t : Fin 16) (g : Fin 2) (d : Fin 80) (n : Fin 128), i = ix4 t g d n := ⟨i 0, i 1, i 2, i 3, funext fun a => by fin_cases a <;> rfl⟩
  rw [val_main_v76_apply]
  show val_main_v74 (F := Ideal) x p' w' v' (ix4 t g d n) = vrows (val x p' w' v' t 1 g n) d
  unfold val_main_v74 pad
  by_cases hd : d.val < 65
  · rw [dif_pos (by
      intro a
      fin_cases a
      · exact ⟨Nat.zero_le _, by show (t.val - 0) % (0 + 1) = 0; omega, by have := t.isLt; show (t.val - 0) / (0 + 1) < 16; omega⟩
      · exact ⟨Nat.zero_le _, by show (g.val - 0) % (0 + 1) = 0; omega, by have := g.isLt; show (g.val - 0) / (0 + 1) < 2; omega⟩
      · exact ⟨Nat.zero_le _, by show (d.val - 0) % (0 + 1) = 0; omega, by show (d.val - 0) / (0 + 1) < 65; omega⟩
      · exact ⟨Nat.zero_le _, by show (n.val - 0) % (0 + 1) = 0; omega, by have := n.isLt; show (n.val - 0) / (0 + 1) < 128; omega⟩)]
    refine Eq.trans (congrArg (val_main_v73 (F := Ideal) x p' w' v') (funext fun a => Fin.ext ?_)) (ones_at x p' w' v' t g ⟨d.val, hd⟩ n)
    fin_cases a
    · show (t.val - 0) / (0 + 1) = t.val; omega
    · show (g.val - 0) / (0 + 1) = g.val; omega
    · show (d.val - 0) / (0 + 1) = d.val; omega
    · show (n.val - 0) / (0 + 1) = n.val; omega
  · rw [dif_neg (fun e => hd (by
      have e0 := (e 2).2.2
      have e1 : (d.val - 0) / (0 + 1) < 65 := e0
      omega))]
    unfold vrows
    rw [dif_neg (by omega), if_neg (by omega)]
    exact none_eq

end Cert.CompressRef

end
-- ==== Proof.Compress.lean ====
module

public import proofs.«01_k».proof.Proof.Gen.CompressKernelIdeal
public import proofs.«01_k».proof.Proof.Gen.CompressKernelIdeal.Skeleton
public import proofs.«01_k».proof.Proof.Gen.CompressKernelIdeal.Launch
public import proofs.«01_k».proof.Proof.Gen.CompressKernelIdeal.Points
public import proofs.«01_k».proof.Proof.Gen.CompressKernelIdeal.Frame
public import proofs.«01_k».proof.Proof.Gen.CompressKernel
public import proofs.«01_k».proof.Proof.Gen.CompressKernel.Skeleton
public import proofs.«01_k».proof.Proof.Gen.CompressKernel.Launch
public import proofs.«01_k».proof.Proof.Gen.CompressKernel.Points
public import proofs.«01_k».proof.Proof.Gen.CompressKernel.Frame
public import proofs.«01_k».proof.Proof.Gen.CompressKernelIdeal.Value
public import proofs.«01_k».proof.Proof.Gen.CompressReferenceIdeal
public import proofs.«01_k».proof.Proof.Gen.CompressReferenceIdeal.Run
public import proofs.«01_k».proof.Proof.Gen.CompressReferenceIdeal.Read
public import proofs.«01_k».proof.Proof.CompressKer
public import proofs.«01_k».proof.Proof.CompressRef
public import proofs.«01_k».proof.Defs

@[expose] public section

set_option maxRecDepth 16384

noncomputable section

namespace Cert.CompressProof

open Cert.CompressHost
open Idealize.ShloMosaic Idealize.ShloMosaic.TcCoe Idealize.SL.Sem

/-- The compression's two results are the reference's, on every argument. -/
theorem algebraic : algebraic_CompressKernelIdeal_CompressReferenceIdeal (hCompressKernelIdeal := Cert.CompressKernelIdeal.Gen.facts)
    (hCompressReferenceIdeal := Cert.CompressReferenceIdeal.Gen.facts) := by
  intro m g m' g' _ hargs
  refine ⟨fun c => outK
    (m ((c.tc : Thread Cert.CompressKernelIdeal.nD Cert.CompressKernelIdeal.τ).loc Cert.CompressKernelIdeal.main_arg0))
    (m ((c.tc : Thread Cert.CompressKernelIdeal.nD Cert.CompressKernelIdeal.τ).loc Cert.CompressKernelIdeal.main_arg1))
    (m ((c.tc : Thread Cert.CompressKernelIdeal.nD Cert.CompressKernelIdeal.τ).loc Cert.CompressKernelIdeal.main_arg2))
    (m ((c.tc : Thread Cert.CompressKernelIdeal.nD Cert.CompressKernelIdeal.τ).loc Cert.CompressKernelIdeal.main_arg3))
    (m ((c.tc : Thread Cert.CompressKernelIdeal.nD Cert.CompressKernelIdeal.τ).loc Cert.CompressKernelIdeal.main_arg4))
    (m ((c.tc : Thread Cert.CompressKernelIdeal.nD Cert.CompressKernelIdeal.τ).loc Cert.CompressKernelIdeal.main_arg5))
    (m ((c.tc : Thread Cert.CompressKernelIdeal.nD Cert.CompressKernelIdeal.τ).loc Cert.CompressKernelIdeal.main_arg6)),
    fun c => outV
    (m ((c.tc : Thread Cert.CompressKernelIdeal.nD Cert.CompressKernelIdeal.τ).loc Cert.CompressKernelIdeal.main_arg0))
    (m ((c.tc : Thread Cert.CompressKernelIdeal.nD Cert.CompressKernelIdeal.τ).loc Cert.CompressKernelIdeal.main_arg4))
    (m ((c.tc : Thread Cert.CompressKernelIdeal.nD Cert.CompressKernelIdeal.τ).loc Cert.CompressKernelIdeal.main_arg5))
    (m ((c.tc : Thread Cert.CompressKernelIdeal.nD Cert.CompressKernelIdeal.τ).loc Cert.CompressKernelIdeal.main_arg6)), ?_, ?_⟩
  · exact (θ_run _ _ _).mono (fun r h c => ⟨(h c).1.trans (CompressKer.arr6 m c), (h c).2.1.trans (CompressKer.arr7 m c), (h c).2.2⟩)
      (Cert.CompressKernelIdeal.Value.run_blocks m g)
  · refine (θ_run _ _ _).mono (fun r h c => ⟨(h c).1.trans ?_, (h c).2.1.trans ?_, (h c).2.2⟩) (Cert.CompressReferenceIdeal.Value.run (F := Ideal) m' g')
    · obtain ⟨e0, e1, e2, e3, e4, e5, e6⟩ := hargs c
      rw [Cert.CompressReferenceIdeal.Read.val_main_v75_eq, e0, e1, e2, e3, e4, e5, e6]
      exact funext fun i => CompressRef.resK _ _ _ _ _ _ _ i
    · obtain ⟨e0, e1, e2, e3, e4, e5, e6⟩ := hargs c
      rw [Cert.CompressReferenceIdeal.Read.val_main_v76_eq, e0, e4, e5, e6]
      exact funext fun i => CompressRef.resV _ _ _ _ i

end Cert.CompressProof

end
-- ==== Proof.lean ====
module

public import proofs.«01_k».proof.Defs
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.ReferenceIdeal
public import proofs.«01_k».proof.Proof.Gen.FfnReferenceIdeal
public import proofs.«01_k».proof.Proof.Gen.MergeReferenceIdeal
public import proofs.«01_k».proof.Proof.Gen.Kernel.Loops
public import proofs.«01_k».proof.Proof.Gen.KernelIdeal.Loops
public import proofs.«01_k».proof.Proof.Ffn
public import proofs.«01_k».proof.Proof.Merge
public import proofs.«01_k».proof.Proof.Gen.Pre_finite
public import proofs.«01_k».proof.Proof.Fox
public import proofs.«01_k».proof.Proof.Proj
public import proofs.«01_k».proof.Proof.FfnSample
public import proofs.«01_k».proof.Proof.ProjSample
public import proofs.«01_k».proof.Proof.MergeSample
public import proofs.«01_k».proof.Proof.Compress
public import proofs.«01_k».proof.Proof.Gen.ReferenceIdeal.Run

@[expose] public section

noncomputable section

namespace Cert.Proof

open Idealize.ShloMosaic Idealize.ShloMosaic.TcCoe Idealize.SL.Sem

theorem frame_ReferenceIdeal : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)
theorem frame_FfnReferenceIdeal : Cert.quiescent_FfnReferenceIdeal (hFfnReferenceIdeal := Cert.FfnReferenceIdeal.Gen.facts) := fun m ρ _ =>
  (θ_run _ _ _).mono (fun r h => ⟨fun c => (h c).2, Idealize.ShloMosaic.sem_eq_zero_of_no_sems (by decide) r.2⟩)
    (Cert.FfnReferenceIdeal.Value.run (F := Ideal) m ρ)
theorem frame_MergeReferenceIdeal : Cert.quiescent_MergeReferenceIdeal (hMergeReferenceIdeal := Cert.MergeReferenceIdeal.Gen.facts) := fun m ρ _ =>
  (θ_run _ _ _).mono (fun r h => ⟨fun c => (h c).2, Idealize.ShloMosaic.sem_eq_zero_of_no_sems (by decide) r.2⟩)
    (Cert.MergeReferenceIdeal.Value.run (F := Ideal) m ρ)
theorem frame_ProjReferenceIdeal : Cert.quiescent_ProjReferenceIdeal (hProjReferenceIdeal := Cert.ProjReferenceIdeal.Gen.facts) := fun m ρ _ =>
  (θ_run _ _ _).mono (fun r h => ⟨fun c => (h c).2.2.2.2.2.2.2.2.2, Idealize.ShloMosaic.sem_eq_zero_of_no_sems (by decide) r.2⟩)
    (Cert.ProjReferenceIdeal.Value.run (F := Ideal) m ρ)
theorem frame_FfnSampleReferenceIdeal : Cert.quiescent_FfnSampleReferenceIdeal (hFfnSampleReferenceIdeal := Cert.FfnSampleReferenceIdeal.Gen.facts) :=
  fun m ρ _ => (θ_run _ _ _).mono (fun r h => ⟨fun c => (h c).2, Idealize.ShloMosaic.sem_eq_zero_of_no_sems (by decide) r.2⟩)
    (Cert.FfnSampleReferenceIdeal.Value.run (F := Ideal) m ρ)
theorem frame_ProjSampleReferenceIdeal : Cert.quiescent_ProjSampleReferenceIdeal (hProjSampleReferenceIdeal := Cert.ProjSampleReferenceIdeal.Gen.facts) :=
  fun m ρ _ => (θ_run _ _ _).mono
    (fun r h => ⟨fun c => (h c).2.2.2.2.2.2.2.2.2, Idealize.ShloMosaic.sem_eq_zero_of_no_sems (by decide) r.2⟩)
    (Cert.ProjSampleReferenceIdeal.Value.run (F := Ideal) m ρ)

theorem frame_MergeSampleReferenceIdeal : Cert.quiescent_MergeSampleReferenceIdeal (hMergeSampleReferenceIdeal := Cert.MergeSampleReferenceIdeal.Gen.facts) :=
  fun m ρ _ => (θ_run _ _ _).mono (fun r h => ⟨fun c => (h c).2, Idealize.ShloMosaic.sem_eq_zero_of_no_sems (by decide) r.2⟩)
    (Cert.MergeSampleReferenceIdeal.Value.run (F := Ideal) m ρ)
theorem frame_CompressReferenceIdeal : Cert.quiescent_CompressReferenceIdeal (hCompressReferenceIdeal := Cert.CompressReferenceIdeal.Gen.facts) :=
  fun m ρ _ => (θ_run _ _ _).mono (fun r h => ⟨fun c => (h c).2.2, Idealize.ShloMosaic.sem_eq_zero_of_no_sems (by decide) r.2⟩)
    (Cert.CompressReferenceIdeal.Value.run (F := Ideal) m ρ)

/-- The claims. -/
theorem claim : Cert.Claim :=
  ⟨Cert.Kernel.Gen.facts, Cert.KernelIdeal.Gen.facts, Cert.ReferenceIdeal.Gen.facts, Cert.FfnKernel.Gen.facts, Cert.FfnKernelIdeal.Gen.facts,
    Cert.FfnReferenceIdeal.Gen.facts, Cert.MergeKernel.Gen.facts, Cert.MergeKernelIdeal.Gen.facts, Cert.MergeReferenceIdeal.Gen.facts,
    Cert.ProjKernel.Gen.facts, Cert.ProjKernelIdeal.Gen.facts, Cert.ProjReferenceIdeal.Gen.facts,
    Cert.FfnSampleKernel.Gen.facts, Cert.FfnSampleKernelIdeal.Gen.facts, Cert.FfnSampleReferenceIdeal.Gen.facts,
    Cert.ProjSampleKernel.Gen.facts, Cert.ProjSampleKernelIdeal.Gen.facts, Cert.ProjSampleReferenceIdeal.Gen.facts,
    Cert.MergeSampleKernel.Gen.facts, Cert.MergeSampleKernelIdeal.Gen.facts, Cert.MergeSampleReferenceIdeal.Gen.facts,
    Cert.CompressKernel.Gen.facts, Cert.CompressKernelIdeal.Gen.facts, Cert.CompressReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial,
    fun m ρ _ => Cert.FfnKernel.Gen.frame m ρ, fun m ρ _ => Cert.FfnKernelIdeal.Gen.frame m ρ, frame_FfnReferenceIdeal,
    fun m ρ _ => Cert.MergeKernel.Gen.frame m ρ, fun m ρ _ => Cert.MergeKernelIdeal.Gen.frame m ρ, frame_MergeReferenceIdeal,
    fun m ρ _ => Cert.ProjKernel.Gen.frame m ρ, fun m ρ _ => Cert.ProjKernelIdeal.Gen.frame m ρ, frame_ProjReferenceIdeal,
    fun m ρ _ => Cert.FfnSampleKernel.Gen.frame m ρ, fun m ρ _ => Cert.FfnSampleKernelIdeal.Gen.frame m ρ, frame_FfnSampleReferenceIdeal,
    fun m ρ _ => Cert.ProjSampleKernel.Gen.frame m ρ, fun m ρ _ => Cert.ProjSampleKernelIdeal.Gen.frame m ρ, frame_ProjSampleReferenceIdeal,
    fun m ρ _ => Cert.MergeSampleKernel.Gen.frame m ρ, fun m ρ _ => Cert.MergeSampleKernelIdeal.Gen.frame m ρ, frame_MergeSampleReferenceIdeal,
    fun m ρ _ => Cert.CompressKernel.Gen.frame m ρ, fun m ρ _ => Cert.CompressKernelIdeal.Gen.frame m ρ, frame_CompressReferenceIdeal,
    IdealRules.named_const.statement _ _ _ _ _ rfl, Cert.FoxProof.algebraic, trivial, Cert.FfnProof.algebraic, trivial,
    Cert.MergeProof.algebraic, trivial, Cert.ProjProof.algebraic, trivial, Cert.FfnSampleProof.algebraic, trivial,
    Cert.ProjSampleProof.algebraic, trivial, Cert.MergeSampleProof.algebraic, trivial, Cert.CompressProof.algebraic⟩

end Cert.Proof

end
